-- ==== Defs.lean ====
def Pre_Kernel (m : (ℓ : Loc Cert.Kernel.nD Cert.Kernel.τ Cert.Kernel.sig) → Buf (Elt Bits) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelHalf (m : (ℓ : Loc Cert.KernelHalf.nD Cert.KernelHalf.τ Cert.KernelHalf.sig) → Buf (Elt Bits) ℓ) : Prop :=
  True

def Pre_KernelHalfIdeal (m : (ℓ : Loc Cert.KernelHalfIdeal.nD Cert.KernelHalfIdeal.τ Cert.KernelHalfIdeal.sig) → Buf (Elt Ideal) ℓ) : Prop :=
  True

def Pre_ReferenceHalfIdeal (m : (ℓ : Loc Cert.ReferenceHalfIdeal.nD Cert.ReferenceHalfIdeal.τ Cert.ReferenceHalfIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelRes (m : (ℓ : Loc Cert.KernelRes.nD Cert.KernelRes.τ Cert.KernelRes.sig) → Buf (Elt Bits) ℓ) : Prop :=
  True

def Pre_KernelResIdeal (m : (ℓ : Loc Cert.KernelResIdeal.nD Cert.KernelResIdeal.τ Cert.KernelResIdeal.sig) → Buf (Elt Ideal) ℓ) : Prop :=
  True

def Pre_ReferenceResIdeal (m : (ℓ : Loc Cert.ReferenceResIdeal.nD Cert.ReferenceResIdeal.τ Cert.ReferenceResIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_ReferenceFoxIdeal (m : (ℓ : Loc Cert.ReferenceFoxIdeal.nD Cert.ReferenceFoxIdeal.τ Cert.ReferenceFoxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelHalf [hKernelHalf : Cert.KernelHalf.Facts] : Prop :=
  ∀ (m : (ℓ : Loc Cert.KernelHalf.nD Cert.KernelHalf.τ Cert.KernelHalf.sig) → Buf (Elt Bits) ℓ) (g : Dev Cert.KernelHalf.nD → PrngReg), Pre_KernelHalf m →
    θ_run (Cert.KernelHalf.defs (F := Bits)) (onTc (τ := Cert.KernelHalf.τ) (Cert.KernelHalf.main (F := Bits))) ⟨m, fun _ => 0, g⟩ (fun r => (∀ c : Dev Cert.KernelHalf.nD,
      r.2.mem ((c.tc : Thread Cert.KernelHalf.nD Cert.KernelHalf.τ).loc Cert.KernelHalf.main_arg0) = m ((c.tc : Thread Cert.KernelHalf.nD Cert.KernelHalf.τ).loc Cert.KernelHalf.main_arg0)
      ∧ r.2.mem ((c.tc : Thread Cert.KernelHalf.nD Cert.KernelHalf.τ).loc Cert.KernelHalf.main_arg1) = m ((c.tc : Thread Cert.KernelHalf.nD Cert.KernelHalf.τ).loc Cert.KernelHalf.main_arg1)
      ∧ r.2.mem ((c.tc : Thread Cert.KernelHalf.nD Cert.KernelHalf.τ).loc Cert.KernelHalf.main_arg2) = m ((c.tc : Thread Cert.KernelHalf.nD Cert.KernelHalf.τ).loc Cert.KernelHalf.main_arg2)
      ∧ r.2.mem ((c.tc : Thread Cert.KernelHalf.nD Cert.KernelHalf.τ).loc Cert.KernelHalf.main_arg3) = m ((c.tc : Thread Cert.KernelHalf.nD Cert.KernelHalf.τ).loc Cert.KernelHalf.main_arg3)
      ∧ r.2.mem ((c.tc : Thread Cert.KernelHalf.nD Cert.KernelHalf.τ).loc Cert.KernelHalf.main_arg4) = m ((c.tc : Thread Cert.KernelHalf.nD Cert.KernelHalf.τ).loc Cert.KernelHalf.main_arg4))
      ∧ r.2.sem = fun _ => 0)

def quiescent_KernelHalfIdeal [hKernelHalfIdeal : Cert.KernelHalfIdeal.Facts] : Prop :=
  ∀ (m : (ℓ : Loc Cert.KernelHalfIdeal.nD Cert.KernelHalfIdeal.τ Cert.KernelHalfIdeal.sig) → Buf (Elt Ideal) ℓ) (g : Dev Cert.KernelHalfIdeal.nD → PrngReg), Pre_KernelHalfIdeal m →
    θ_run (Cert.KernelHalfIdeal.defs (F := Ideal)) (onTc (τ := Cert.KernelHalfIdeal.τ) (Cert.KernelHalfIdeal.main (F := Ideal))) ⟨m, fun _ => 0, g⟩ (fun r => (∀ c : Dev Cert.KernelHalfIdeal.nD,
      r.2.mem ((c.tc : Thread Cert.KernelHalfIdeal.nD Cert.KernelHalfIdeal.τ).loc Cert.KernelHalfIdeal.main_arg0) = m ((c.tc : Thread Cert.KernelHalfIdeal.nD Cert.KernelHalfIdeal.τ).loc Cert.KernelHalfIdeal.main_arg0)
      ∧ r.2.mem ((c.tc : Thread Cert.KernelHalfIdeal.nD Cert.KernelHalfIdeal.τ).loc Cert.KernelHalfIdeal.main_arg1) = m ((c.tc : Thread Cert.KernelHalfIdeal.nD Cert.KernelHalfIdeal.τ).loc Cert.KernelHalfIdeal.main_arg1)
      ∧ r.2.mem ((c.tc : Thread Cert.KernelHalfIdeal.nD Cert.KernelHalfIdeal.τ).loc Cert.KernelHalfIdeal.main_arg2) = m ((c.tc : Thread Cert.KernelHalfIdeal.nD Cert.KernelHalfIdeal.τ).loc Cert.KernelHalfIdeal.main_arg2)
      ∧ r.2.mem ((c.tc : Thread Cert.KernelHalfIdeal.nD Cert.KernelHalfIdeal.τ).loc Cert.KernelHalfIdeal.main_arg3) = m ((c.tc : Thread Cert.KernelHalfIdeal.nD Cert.KernelHalfIdeal.τ).loc Cert.KernelHalfIdeal.main_arg3)
      ∧ r.2.mem ((c.tc : Thread Cert.KernelHalfIdeal.nD Cert.KernelHalfIdeal.τ).loc Cert.KernelHalfIdeal.main_arg4) = m ((c.tc : Thread Cert.KernelHalfIdeal.nD Cert.KernelHalfIdeal.τ).loc Cert.KernelHalfIdeal.main_arg4))
      ∧ r.2.sem = fun _ => 0)

def quiescent_ReferenceHalfIdeal [hReferenceHalfIdeal : Cert.ReferenceHalfIdeal.Facts] : Prop :=
  ∀ (m : (ℓ : Loc Cert.ReferenceHalfIdeal.nD Cert.ReferenceHalfIdeal.τ Cert.ReferenceHalfIdeal.sig) → Buf (Elt Ideal) ℓ) (g : Dev Cert.ReferenceHalfIdeal.nD → PrngReg), Pre_ReferenceHalfIdeal m →
    θ_run (Cert.ReferenceHalfIdeal.defs (F := Ideal)) (onTc (τ := Cert.ReferenceHalfIdeal.τ) (Cert.ReferenceHalfIdeal.main (F := Ideal))) ⟨m, fun _ => 0, g⟩ (fun r => (∀ c : Dev Cert.ReferenceHalfIdeal.nD,
      r.2.mem ((c.tc : Thread Cert.ReferenceHalfIdeal.nD Cert.ReferenceHalfIdeal.τ).loc Cert.ReferenceHalfIdeal.main_arg0) = m ((c.tc : Thread Cert.ReferenceHalfIdeal.nD Cert.ReferenceHalfIdeal.τ).loc Cert.ReferenceHalfIdeal.main_arg0)
      ∧ r.2.mem ((c.tc : Thread Cert.ReferenceHalfIdeal.nD Cert.ReferenceHalfIdeal.τ).loc Cert.ReferenceHalfIdeal.main_arg1) = m ((c.tc : Thread Cert.ReferenceHalfIdeal.nD Cert.ReferenceHalfIdeal.τ).loc Cert.ReferenceHalfIdeal.main_arg1)
      ∧ r.2.mem ((c.tc : Thread Cert.ReferenceHalfIdeal.nD Cert.ReferenceHalfIdeal.τ).loc Cert.ReferenceHalfIdeal.main_arg2) = m ((c.tc : Thread Cert.ReferenceHalfIdeal.nD Cert.ReferenceHalfIdeal.τ).loc Cert.ReferenceHalfIdeal.main_arg2)
      ∧ r.2.mem ((c.tc : Thread Cert.ReferenceHalfIdeal.nD Cert.ReferenceHalfIdeal.τ).loc Cert.ReferenceHalfIdeal.main_arg3) = m ((c.tc : Thread Cert.ReferenceHalfIdeal.nD Cert.ReferenceHalfIdeal.τ).loc Cert.ReferenceHalfIdeal.main_arg3)
      ∧ r.2.mem ((c.tc : Thread Cert.ReferenceHalfIdeal.nD Cert.ReferenceHalfIdeal.τ).loc Cert.ReferenceHalfIdeal.main_arg4) = m ((c.tc : Thread Cert.ReferenceHalfIdeal.nD Cert.ReferenceHalfIdeal.τ).loc Cert.ReferenceHalfIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelRes [hKernelRes : Cert.KernelRes.Facts] : Prop :=
  ∀ (m : (ℓ : Loc Cert.KernelRes.nD Cert.KernelRes.τ Cert.KernelRes.sig) → Buf (Elt Bits) ℓ) (g : Dev Cert.KernelRes.nD → PrngReg), Pre_KernelRes m →
    θ_run (Cert.KernelRes.defs (F := Bits)) (onTc (τ := Cert.KernelRes.τ) (Cert.KernelRes.main (F := Bits))) ⟨m, fun _ => 0, g⟩ (fun r => (∀ c : Dev Cert.KernelRes.nD,
      r.2.mem ((c.tc : Thread Cert.KernelRes.nD Cert.KernelRes.τ).loc Cert.KernelRes.main_arg0) = m ((c.tc : Thread Cert.KernelRes.nD Cert.KernelRes.τ).loc Cert.KernelRes.main_arg0)
      ∧ r.2.mem ((c.tc : Thread Cert.KernelRes.nD Cert.KernelRes.τ).loc Cert.KernelRes.main_arg1) = m ((c.tc : Thread Cert.KernelRes.nD Cert.KernelRes.τ).loc Cert.KernelRes.main_arg1)
      ∧ r.2.mem ((c.tc : Thread Cert.KernelRes.nD Cert.KernelRes.τ).loc Cert.KernelRes.main_arg2) = m ((c.tc : Thread Cert.KernelRes.nD Cert.KernelRes.τ).loc Cert.KernelRes.main_arg2))
      ∧ r.2.sem = fun _ => 0)

def quiescent_KernelResIdeal [hKernelResIdeal : Cert.KernelResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg), Pre_KernelResIdeal m →
    θ_run (Cert.KernelResIdeal.defs (F := Ideal)) (onTc (τ := Cert.KernelResIdeal.τ) (Cert.KernelResIdeal.main (F := Ideal))) ⟨m, fun _ => 0, g⟩ (fun r => (∀ c : Dev Cert.KernelResIdeal.nD,
      r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
      ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
      ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2))
      ∧ r.2.sem = fun _ => 0)

def quiescent_ReferenceResIdeal [hReferenceResIdeal : Cert.ReferenceResIdeal.Facts] : Prop :=
  ∀ (m : (ℓ : Loc Cert.ReferenceResIdeal.nD Cert.ReferenceResIdeal.τ Cert.ReferenceResIdeal.sig) → Buf (Elt Ideal) ℓ) (g : Dev Cert.ReferenceResIdeal.nD → PrngReg), Pre_ReferenceResIdeal m →
    θ_run (Cert.ReferenceResIdeal.defs (F := Ideal)) (onTc (τ := Cert.ReferenceResIdeal.τ) (Cert.ReferenceResIdeal.main (F := Ideal))) ⟨m, fun _ => 0, g⟩ (fun r => (∀ c : Dev Cert.ReferenceResIdeal.nD,
      r.2.mem ((c.tc : Thread Cert.ReferenceResIdeal.nD Cert.ReferenceResIdeal.τ).loc Cert.ReferenceResIdeal.main_arg0) = m ((c.tc : Thread Cert.ReferenceResIdeal.nD Cert.ReferenceResIdeal.τ).loc Cert.ReferenceResIdeal.main_arg0)
      ∧ r.2.mem ((c.tc : Thread Cert.ReferenceResIdeal.nD Cert.ReferenceResIdeal.τ).loc Cert.ReferenceResIdeal.main_arg1) = m ((c.tc : Thread Cert.ReferenceResIdeal.nD Cert.ReferenceResIdeal.τ).loc Cert.ReferenceResIdeal.main_arg1)
      ∧ r.2.mem ((c.tc : Thread Cert.ReferenceResIdeal.nD Cert.ReferenceResIdeal.τ).loc Cert.ReferenceResIdeal.main_arg2) = m ((c.tc : Thread Cert.ReferenceResIdeal.nD Cert.ReferenceResIdeal.τ).loc Cert.ReferenceResIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2))
      ∧ r.2.sem = fun _ => 0)

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v5)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v33) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelHalf_KernelHalfIdeal : Prop :=
  True

def algebraic_KernelHalfIdeal_ReferenceHalfIdeal [hKernelHalfIdeal : Cert.KernelHalfIdeal.Facts] [hReferenceHalfIdeal : Cert.ReferenceHalfIdeal.Facts] : Prop :=
  ∀ (m : (ℓ : Loc Cert.KernelHalfIdeal.nD Cert.KernelHalfIdeal.τ Cert.KernelHalfIdeal.sig) → Buf (Elt Ideal) ℓ) (g : Dev Cert.KernelHalfIdeal.nD → PrngReg)
    (m' : (ℓ : Loc Cert.ReferenceHalfIdeal.nD Cert.ReferenceHalfIdeal.τ Cert.ReferenceHalfIdeal.sig) → Buf (Elt Ideal) ℓ) (g' : Dev Cert.ReferenceHalfIdeal.nD → PrngReg), Pre_KernelHalfIdeal m →
    (∀ c : Dev Cert.KernelHalfIdeal.nD,
      m' ((c.tc : Thread Cert.ReferenceHalfIdeal.nD Cert.ReferenceHalfIdeal.τ).loc Cert.ReferenceHalfIdeal.main_arg0) = m ((c.tc : Thread Cert.KernelHalfIdeal.nD Cert.KernelHalfIdeal.τ).loc Cert.KernelHalfIdeal.main_arg0)
      ∧ m' ((c.tc : Thread Cert.ReferenceHalfIdeal.nD Cert.ReferenceHalfIdeal.τ).loc Cert.ReferenceHalfIdeal.main_arg1) = m ((c.tc : Thread Cert.KernelHalfIdeal.nD Cert.KernelHalfIdeal.τ).loc Cert.KernelHalfIdeal.main_arg1)
      ∧ m' ((c.tc : Thread Cert.ReferenceHalfIdeal.nD Cert.ReferenceHalfIdeal.τ).loc Cert.ReferenceHalfIdeal.main_arg2) = m ((c.tc : Thread Cert.KernelHalfIdeal.nD Cert.KernelHalfIdeal.τ).loc Cert.KernelHalfIdeal.main_arg2)
      ∧ m' ((c.tc : Thread Cert.ReferenceHalfIdeal.nD Cert.ReferenceHalfIdeal.τ).loc Cert.ReferenceHalfIdeal.main_arg3) = m ((c.tc : Thread Cert.KernelHalfIdeal.nD Cert.KernelHalfIdeal.τ).loc Cert.KernelHalfIdeal.main_arg3)
      ∧ m' ((c.tc : Thread Cert.ReferenceHalfIdeal.nD Cert.ReferenceHalfIdeal.τ).loc Cert.ReferenceHalfIdeal.main_arg4) = m ((c.tc : Thread Cert.KernelHalfIdeal.nD Cert.KernelHalfIdeal.τ).loc Cert.KernelHalfIdeal.main_arg4)) →
    ∃ (v0 : (c : Dev Cert.KernelHalfIdeal.nD) → Buf (Elt Ideal) ((c.tc : Thread Cert.KernelHalfIdeal.nD Cert.KernelHalfIdeal.τ).loc Cert.KernelHalfIdeal.main_v4)),
      θ_run (Cert.KernelHalfIdeal.defs (F := Ideal)) (onTc (τ := Cert.KernelHalfIdeal.τ) (Cert.KernelHalfIdeal.main (F := Ideal))) ⟨m, fun _ => 0, g⟩ (fun r => ∀ c : Dev Cert.KernelHalfIdeal.nD,
          r.2.mem ((c.tc : Thread Cert.KernelHalfIdeal.nD Cert.KernelHalfIdeal.τ).loc Cert.KernelHalfIdeal.main_v4) = v0 c
          ∧ r.2.mem ((c.tc : Thread Cert.KernelHalfIdeal.nD Cert.KernelHalfIdeal.τ).loc Cert.KernelHalfIdeal.main_arg0) = m ((c.tc : Thread Cert.KernelHalfIdeal.nD Cert.KernelHalfIdeal.τ).loc Cert.KernelHalfIdeal.main_arg0)
          ∧ r.2.mem ((c.tc : Thread Cert.KernelHalfIdeal.nD Cert.KernelHalfIdeal.τ).loc Cert.KernelHalfIdeal.main_arg1) = m ((c.tc : Thread Cert.KernelHalfIdeal.nD Cert.KernelHalfIdeal.τ).loc Cert.KernelHalfIdeal.main_arg1)
          ∧ r.2.mem ((c.tc : Thread Cert.KernelHalfIdeal.nD Cert.KernelHalfIdeal.τ).loc Cert.KernelHalfIdeal.main_arg2) = m ((c.tc : Thread Cert.KernelHalfIdeal.nD Cert.KernelHalfIdeal.τ).loc Cert.KernelHalfIdeal.main_arg2)
          ∧ r.2.mem ((c.tc : Thread Cert.KernelHalfIdeal.nD Cert.KernelHalfIdeal.τ).loc Cert.KernelHalfIdeal.main_arg3) = m ((c.tc : Thread Cert.KernelHalfIdeal.nD Cert.KernelHalfIdeal.τ).loc Cert.KernelHalfIdeal.main_arg3)
          ∧ r.2.mem ((c.tc : Thread Cert.KernelHalfIdeal.nD Cert.KernelHalfIdeal.τ).loc Cert.KernelHalfIdeal.main_arg4) = m ((c.tc : Thread Cert.KernelHalfIdeal.nD Cert.KernelHalfIdeal.τ).loc Cert.KernelHalfIdeal.main_arg4))
      ∧ θ_run (Cert.ReferenceHalfIdeal.defs (F := Ideal)) (onTc (τ := Cert.ReferenceHalfIdeal.τ) (Cert.ReferenceHalfIdeal.main (F := Ideal))) ⟨m', fun _ => 0, g'⟩ (fun r => ∀ c : Dev Cert.ReferenceHalfIdeal.nD,
          r.2.mem ((c.tc : Thread Cert.ReferenceHalfIdeal.nD Cert.ReferenceHalfIdeal.τ).loc Cert.ReferenceHalfIdeal.main_v20) = v0 c
          ∧ r.2.mem ((c.tc : Thread Cert.ReferenceHalfIdeal.nD Cert.ReferenceHalfIdeal.τ).loc Cert.ReferenceHalfIdeal.main_arg0) = m' ((c.tc : Thread Cert.ReferenceHalfIdeal.nD Cert.ReferenceHalfIdeal.τ).loc Cert.ReferenceHalfIdeal.main_arg0)
          ∧ r.2.mem ((c.tc : Thread Cert.ReferenceHalfIdeal.nD Cert.ReferenceHalfIdeal.τ).loc Cert.ReferenceHalfIdeal.main_arg1) = m' ((c.tc : Thread Cert.ReferenceHalfIdeal.nD Cert.ReferenceHalfIdeal.τ).loc Cert.ReferenceHalfIdeal.main_arg1)
          ∧ r.2.mem ((c.tc : Thread Cert.ReferenceHalfIdeal.nD Cert.ReferenceHalfIdeal.τ).loc Cert.ReferenceHalfIdeal.main_arg2) = m' ((c.tc : Thread Cert.ReferenceHalfIdeal.nD Cert.ReferenceHalfIdeal.τ).loc Cert.ReferenceHalfIdeal.main_arg2)
          ∧ r.2.mem ((c.tc : Thread Cert.ReferenceHalfIdeal.nD Cert.ReferenceHalfIdeal.τ).loc Cert.ReferenceHalfIdeal.main_arg3) = m' ((c.tc : Thread Cert.ReferenceHalfIdeal.nD Cert.ReferenceHalfIdeal.τ).loc Cert.ReferenceHalfIdeal.main_arg3)
          ∧ r.2.mem ((c.tc : Thread Cert.ReferenceHalfIdeal.nD Cert.ReferenceHalfIdeal.τ).loc Cert.ReferenceHalfIdeal.main_arg4) = m' ((c.tc : Thread Cert.ReferenceHalfIdeal.nD Cert.ReferenceHalfIdeal.τ).loc Cert.ReferenceHalfIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v44) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelRes_KernelResIdeal : Prop :=
  True

def algebraic_KernelResIdeal_ReferenceResIdeal [hKernelResIdeal : Cert.KernelResIdeal.Facts] [hReferenceResIdeal : Cert.ReferenceResIdeal.Facts] : Prop :=
  ∀ (m : (ℓ : Loc Cert.KernelResIdeal.nD Cert.KernelResIdeal.τ Cert.KernelResIdeal.sig) → Buf (Elt Ideal) ℓ) (g : Dev Cert.KernelResIdeal.nD → PrngReg)
    (m' : (ℓ : Loc Cert.ReferenceResIdeal.nD Cert.ReferenceResIdeal.τ Cert.ReferenceResIdeal.sig) → Buf (Elt Ideal) ℓ) (g' : Dev Cert.ReferenceResIdeal.nD → PrngReg), Pre_KernelResIdeal m →
    (∀ c : Dev Cert.KernelResIdeal.nD,
      m' ((c.tc : Thread Cert.ReferenceResIdeal.nD Cert.ReferenceResIdeal.τ).loc Cert.ReferenceResIdeal.main_arg0) = m ((c.tc : Thread Cert.KernelResIdeal.nD Cert.KernelResIdeal.τ).loc Cert.KernelResIdeal.main_arg0)
      ∧ m' ((c.tc : Thread Cert.ReferenceResIdeal.nD Cert.ReferenceResIdeal.τ).loc Cert.ReferenceResIdeal.main_arg1) = m ((c.tc : Thread Cert.KernelResIdeal.nD Cert.KernelResIdeal.τ).loc Cert.KernelResIdeal.main_arg1)
      ∧ m' ((c.tc : Thread Cert.ReferenceResIdeal.nD Cert.ReferenceResIdeal.τ).loc Cert.ReferenceResIdeal.main_arg2) = m ((c.tc : Thread Cert.KernelResIdeal.nD Cert.KernelResIdeal.τ).loc Cert.KernelResIdeal.main_arg2)) →
    ∃ (v0 : (c : Dev Cert.KernelResIdeal.nD) → Buf (Elt Ideal) ((c.tc : Thread Cert.KernelResIdeal.nD Cert.KernelResIdeal.τ).loc Cert.KernelResIdeal.main_v1)),
      θ_run (Cert.KernelResIdeal.defs (F := Ideal)) (onTc (τ := Cert.KernelResIdeal.τ) (Cert.KernelResIdeal.main (F := Ideal))) ⟨m, fun _ => 0, g⟩ (fun r => ∀ c : Dev Cert.KernelResIdeal.nD,
          r.2.mem ((c.tc : Thread Cert.KernelResIdeal.nD Cert.KernelResIdeal.τ).loc Cert.KernelResIdeal.main_v1) = v0 c
          ∧ r.2.mem ((c.tc : Thread Cert.KernelResIdeal.nD Cert.KernelResIdeal.τ).loc Cert.KernelResIdeal.main_arg0) = m ((c.tc : Thread Cert.KernelResIdeal.nD Cert.KernelResIdeal.τ).loc Cert.KernelResIdeal.main_arg0)
          ∧ r.2.mem ((c.tc : Thread Cert.KernelResIdeal.nD Cert.KernelResIdeal.τ).loc Cert.KernelResIdeal.main_arg1) = m ((c.tc : Thread Cert.KernelResIdeal.nD Cert.KernelResIdeal.τ).loc Cert.KernelResIdeal.main_arg1)
          ∧ r.2.mem ((c.tc : Thread Cert.KernelResIdeal.nD Cert.KernelResIdeal.τ).loc Cert.KernelResIdeal.main_arg2) = m ((c.tc : Thread Cert.KernelResIdeal.nD Cert.KernelResIdeal.τ).loc Cert.KernelResIdeal.main_arg2))
      ∧ θ_run (Cert.ReferenceResIdeal.defs (F := Ideal)) (onTc (τ := Cert.ReferenceResIdeal.τ) (Cert.ReferenceResIdeal.main (F := Ideal))) ⟨m', fun _ => 0, g'⟩ (fun r => ∀ c : Dev Cert.ReferenceResIdeal.nD,
          r.2.mem ((c.tc : Thread Cert.ReferenceResIdeal.nD Cert.ReferenceResIdeal.τ).loc Cert.ReferenceResIdeal.main_v2) = v0 c
          ∧ r.2.mem ((c.tc : Thread Cert.ReferenceResIdeal.nD Cert.ReferenceResIdeal.τ).loc Cert.ReferenceResIdeal.main_arg0) = m' ((c.tc : Thread Cert.ReferenceResIdeal.nD Cert.ReferenceResIdeal.τ).loc Cert.ReferenceResIdeal.main_arg0)
          ∧ r.2.mem ((c.tc : Thread Cert.ReferenceResIdeal.nD Cert.ReferenceResIdeal.τ).loc Cert.ReferenceResIdeal.main_arg1) = m' ((c.tc : Thread Cert.ReferenceResIdeal.nD Cert.ReferenceResIdeal.τ).loc Cert.ReferenceResIdeal.main_arg1)
          ∧ r.2.mem ((c.tc : Thread Cert.ReferenceResIdeal.nD Cert.ReferenceResIdeal.τ).loc Cert.ReferenceResIdeal.main_arg2) = m' ((c.tc : Thread Cert.ReferenceResIdeal.nD Cert.ReferenceResIdeal.τ).loc Cert.ReferenceResIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v29_0)) (v1 : (c : Dev Cert.KernelProjIdeal.nD) → Buf (Elt Ideal) ((c.tc : Thread Cert.KernelProjIdeal.nD Cert.KernelProjIdeal.τ).loc Cert.KernelProjIdeal.main_v29_1)) (v2 : (c : Dev Cert.KernelProjIdeal.nD) → Buf (Elt Ideal) ((c.tc : Thread Cert.KernelProjIdeal.nD Cert.KernelProjIdeal.τ).loc Cert.KernelProjIdeal.main_v29_2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v29_0) = v0 c
          ∧ r.2.mem ((c.tc : Thread Cert.KernelProjIdeal.nD Cert.KernelProjIdeal.τ).loc Cert.KernelProjIdeal.main_v29_1) = v1 c
          ∧ r.2.mem ((c.tc : Thread Cert.KernelProjIdeal.nD Cert.KernelProjIdeal.τ).loc Cert.KernelProjIdeal.main_v29_2) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v40) = v0 c
          ∧ r.2.mem ((c.tc : Thread Cert.ReferenceProjIdeal.nD Cert.ReferenceProjIdeal.τ).loc Cert.ReferenceProjIdeal.main_v39) = v1 c
          ∧ r.2.mem ((c.tc : Thread Cert.ReferenceProjIdeal.nD Cert.ReferenceProjIdeal.τ).loc Cert.ReferenceProjIdeal.main_v54) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelFox_KernelFoxIdeal : Prop :=
  IdealRules.named_const.Statement Cert.KernelFoxIdeal.κ "mask" .f32 0xF149F2CA#32 ⊥

def algebraic_KernelFoxIdeal_ReferenceFoxIdeal [hKernelFoxIdeal : Cert.KernelFoxIdeal.Facts] [hReferenceFoxIdeal : Cert.ReferenceFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)) →
    ∃ (v0 : (c : Dev Cert.KernelFoxIdeal.nD) → Buf (Elt Ideal) ((c.tc : Thread Cert.KernelFoxIdeal.nD Cert.KernelFoxIdeal.τ).loc Cert.KernelFoxIdeal.main_v0)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v0) = v0 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v44) = v0 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2))

def Claim : Prop :=
  ∃ (hKernel : Cert.Kernel.Facts) (hKernelFfn : Cert.KernelFfn.Facts) (hKernelFfnIdeal : Cert.KernelFfnIdeal.Facts) (hReferenceFfnIdeal : Cert.ReferenceFfnIdeal.Facts) (hKernelHalf : Cert.KernelHalf.Facts) (hKernelHalfIdeal : Cert.KernelHalfIdeal.Facts) (hReferenceHalfIdeal : Cert.ReferenceHalfIdeal.Facts) (hKernelMerge : Cert.KernelMerge.Facts) (hKernelMergeIdeal : Cert.KernelMergeIdeal.Facts) (hReferenceMergeIdeal : Cert.ReferenceMergeIdeal.Facts) (hKernelRes : Cert.KernelRes.Facts) (hKernelResIdeal : Cert.KernelResIdeal.Facts) (hReferenceResIdeal : Cert.ReferenceResIdeal.Facts) (hKernelProj : Cert.KernelProj.Facts) (hKernelProjIdeal : Cert.KernelProjIdeal.Facts) (hReferenceProjIdeal : Cert.ReferenceProjIdeal.Facts) (hKernelFox : Cert.KernelFox.Facts) (hKernelFoxIdeal : Cert.KernelFoxIdeal.Facts) (hReferenceFoxIdeal : Cert.ReferenceFoxIdeal.Facts),
    quiescent_Kernel (hKernel := hKernel)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelHalf (hKernelHalf := hKernelHalf)
    ∧ quiescent_KernelHalfIdeal (hKernelHalfIdeal := hKernelHalfIdeal)
    ∧ quiescent_ReferenceHalfIdeal (hReferenceHalfIdeal := hReferenceHalfIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelRes (hKernelRes := hKernelRes)
    ∧ quiescent_KernelResIdeal (hKernelResIdeal := hKernelResIdeal)
    ∧ quiescent_ReferenceResIdeal (hReferenceResIdeal := hReferenceResIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFox (hKernelFox := hKernelFox)
    ∧ quiescent_KernelFoxIdeal (hKernelFoxIdeal := hKernelFoxIdeal)
    ∧ quiescent_ReferenceFoxIdeal (hReferenceFoxIdeal := hReferenceFoxIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelHalf_KernelHalfIdeal
    ∧ algebraic_KernelHalfIdeal_ReferenceHalfIdeal (hKernelHalfIdeal := hKernelHalfIdeal) (hReferenceHalfIdeal := hReferenceHalfIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelRes_KernelResIdeal
    ∧ algebraic_KernelResIdeal_ReferenceResIdeal (hKernelResIdeal := hKernelResIdeal) (hReferenceResIdeal := hReferenceResIdeal)
    ∧ preserves_KernelProj_KernelProjIdeal
    ∧ algebraic_KernelProjIdeal_ReferenceProjIdeal (hKernelProjIdeal := hKernelProjIdeal) (hReferenceProjIdeal := hReferenceProjIdeal)
    ∧ preserves_KernelFox_KernelFoxIdeal
    ∧ algebraic_KernelFoxIdeal_ReferenceFoxIdeal (hKernelFoxIdeal := hKernelFoxIdeal) (hReferenceFoxIdeal := hReferenceFoxIdeal)
-- ==== Kernel.lean ====
abbrev S2x8320x6272 : Shape := ⟨3, ![2, 8320, 6272]⟩
abbrev S2x8320x2560 : Shape := ⟨3, ![2, 8320, 2560]⟩
abbrev S2x8320x256 : Shape := ⟨3, ![2, 8320, 256]⟩
abbrev S2x264x8320 : Shape := ⟨3, ![2, 264, 8320]⟩
abbrev S8x256x128 : Shape := ⟨3, ![8, 256, 128]⟩
abbrev S8x384x128 : Shape := ⟨3, ![8, 384, 128]⟩
abbrev S2x8320x1024 : Shape := ⟨3, ![2, 8320, 1024]⟩
abbrev S1x128x1024 : Shape := ⟨3, ![1, 128, 1024]⟩
abbrev S1x128x128 : Shape := ⟨3, ![1, 128, 128]⟩
abbrev S1x8320x128 : Shape := ⟨3, ![1, 8320, 128]⟩
abbrev S1x8320x256 : Shape := ⟨3, ![1, 8320, 256]⟩
abbrev S1x264x8320 : Shape := ⟨3, ![1, 264, 8320]⟩
abbrev S72x128x128 : Shape := ⟨3, ![72, 128, 128]⟩
abbrev S256x1024 : Shape := ⟨2, ![256, 1024]⟩
abbrev S512x1024 : Shape := ⟨2, ![512, 1024]⟩
abbrev S8x128 : Shape := ⟨2, ![8, 128]⟩
abbrev S264x1024 : Shape := ⟨2, ![264, 1024]⟩
abbrev S128x2048 : Shape := ⟨2, ![128, 2048]⟩
abbrev S16x128 : Shape := ⟨2, ![16, 128]⟩
abbrev S36x33x8x128 : Shape := ⟨4, ![36, 33, 8, 128]⟩
abbrev S36x8x128 : Shape := ⟨3, ![36, 8, 128]⟩
abbrev S128x128 : Shape := ⟨2, ![128, 128]⟩
abbrev S128x1024 : Shape := ⟨2, ![128, 1024]⟩
abbrev S1024x128 : Shape := ⟨2, ![1024, 128]⟩
abbrev S64x128 : Shape := ⟨2, ![64, 128]⟩
abbrev S64x2048 : Shape := ⟨2, ![64, 2048]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x2048 : Shape := ⟨2, ![512, 2048]⟩
abbrev S1x128 : Shape := ⟨2, ![1, 128]⟩
abbrev S1x1x8x128 : Shape := ⟨4, ![1, 1, 8, 128]⟩
abbrev S1x8x128 : Shape := ⟨3, ![1, 8, 128]⟩
abbrev S128 : Shape := ⟨1, ![128]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S1x264x512 : Shape := ⟨3, ![1, 264, 512]⟩
abbrev S264x512 : Shape := ⟨2, ![264, 512]⟩
abbrev S4x128x128 : Shape := ⟨3, ![4, 128, 128]⟩
abbrev S264x128 : Shape := ⟨2, ![264, 128]⟩
abbrev S1x128x256 : Shape := ⟨3, ![1, 128, 256]⟩
abbrev S128x256 : Shape := ⟨2, ![128, 256]⟩
abbrev S1x264x128 : Shape := ⟨3, ![1, 264, 128]⟩
abbrev S1x264x256 : Shape := ⟨3, ![1, 264, 256]⟩
abbrev S264x256 : Shape := ⟨2, ![264, 256]⟩
abbrev S2x128x128 : Shape := ⟨3, ![2, 128, 128]⟩

abbrev nBuf : Space → Nat
  | .hbm => 8
  | .vmem => 30
  | .smem => 0
  | _ => 0

abbrev bufTy : (tb : Table) → Fin (tcTables nBuf tb) → BufTy
  | .hbm, ⟨0, _⟩ => ⟨S2x8320x6272, .bf16⟩
  | .hbm, ⟨1, _⟩ => ⟨S2x8320x2560, .f32⟩
  | .hbm, ⟨2, _⟩ => ⟨S2x8320x256, .bf16⟩
  | .hbm, ⟨3, _⟩ => ⟨S2x264x8320, .bf16⟩
  | .hbm, ⟨4, _⟩ => ⟨S8x256x128, .bf16⟩
  | .hbm, ⟨5, _⟩ => ⟨S8x256x128, .bf16⟩
  | .hbm, ⟨6, _⟩ => ⟨S8x384x128, .f32⟩
  | .hbm, ⟨7, _⟩ => ⟨S2x8320x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x8320x128, .bf16⟩
  | .local _ .vmem, ⟨7, _⟩ => ⟨S1x8320x128, .bf16⟩
  | .local _ .vmem, ⟨8, _⟩ => ⟨S1x8320x256, .bf16⟩
  | .local _ .vmem, ⟨9, _⟩ => ⟨S1x8320x256, .bf16⟩
  | .local _ .vmem, ⟨10, _⟩ => ⟨S1x264x8320, .bf16⟩
  | .local _ .vmem, ⟨11, _⟩ => ⟨S1x264x8320, .bf16⟩
  | .local _ .vmem, ⟨12, _⟩ => ⟨S8x256x128, .bf16⟩
  | .local _ .vmem, ⟨13, _⟩ => ⟨S8x256x128, .bf16⟩
  | .local _ .vmem, ⟨14, _⟩ => ⟨S8x384x128, .f32⟩
  | .local _ .vmem, ⟨15, _⟩ => ⟨S1x128x1024, .bf16⟩
  | .local _ .vmem, ⟨16, _⟩ => ⟨S1x128x1024, .bf16⟩
  | .local _ .vmem, ⟨17, _⟩ => ⟨S72x128x128, .i32⟩
  | .local _ .vmem, ⟨18, _⟩ => ⟨S256x1024, .bf16⟩
  | .local _ .vmem, ⟨19, _⟩ => ⟨S512x1024, .bf16⟩
  | .local _ .vmem, ⟨20, _⟩ => ⟨S8x128, .f32⟩
  | .local _ .vmem, ⟨21, _⟩ => ⟨S264x1024, .f32⟩
  | .local _ .vmem, ⟨22, _⟩ => ⟨S512x1024, .f32⟩
  | .local _ .vmem, ⟨23, _⟩ => ⟨S512x1024, .f32⟩
  | .local _ .vmem, ⟨24, _⟩ => ⟨S256x1024, .f32⟩
  | .local _ .vmem, ⟨25, _⟩ => ⟨S128x2048, .bf16⟩
  | .local _ .vmem, ⟨26, _⟩ => ⟨S16x128, .f32⟩
  | .local _ .vmem, ⟨27, _⟩ => ⟨S36x33x8x128, .i32⟩
  | .local _ .vmem, ⟨28, _⟩ => ⟨S36x8x128, .i32⟩
  | .local _ .vmem, ⟨29, _⟩ => ⟨S512x1024, .bf16⟩
  | _, _ => ⟨S2x8320x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨2, ![2, 65], ![false, false]⟩

def k0_off1 (i : grid0.Coords) (c1_i32_111 : BitVec 32) : Fin 3 → Nat :=
  let arg1 : BitVec 32 := BitVec.ofNat 32 (i 1).val
  let v209 : BitVec 32 := Scalar.addi arg1 c1_i32_111
  let v210 : Index := Scalar.indexCast v209
  let c0_112 : Index := 0#32
  let c0_113 : Index := 0#32
  ![v210.toNat, 0, 0]
@[reducible] def k0_t1_loop (i : grid0.Coords) : Scf.Loop 32 :=
  let c0_i32_134 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let v250 : BitVec 32 := Scalar.subi v189 c0_i32_134
  let c1_i32_136 : BitVec 32 := 1#32
  let v252 : BitVec 32 := Scalar.divsi v250 c1_i32_136
  let v253 : BitVec 32 := Scalar.muli v252 c1_i32_136
  let v254 : BitVec 32 := Scalar.addi c0_i32_134 v253
  let c1_i32_137 : BitVec 32 := 1#32
  ⟨c0_i32_134, v254, c1_i32_137⟩
def k0_mult1 (i : grid0.Coords) (k0_t1 : Fin (k0_t1_loop i).trips) : BitVec 32 :=
  let c0_i32_134 : BitVec 32 := 0#32
  let c1_i32_137 : BitVec 32 := 1#32
  let arg25 : BitVec 32 := Scf.iv c0_i32_134 c1_i32_137 k0_t1
  let c4_i32_413 : BitVec 32 := 4#32
  let v698 : BitVec 32 := Scalar.muli arg25 c4_i32_413
  let c61_i32 : BitVec 32 := 61#32
  let v699 : BitVec 32 := Scalar.minsi v698 c61_i32
  let c128_i32_414 : BitVec 32 := 128#32
  let v700 : BitVec 32 := Scalar.muli v699 c128_i32_414
  v700
def k0_off2 (i : grid0.Coords) (k0_t1 : Fin (k0_t1_loop i).trips) : Fin 3 → Nat :=
  let c0_415 : Index := 0#32
  let c0_i32_134 : BitVec 32 := 0#32
  let c1_i32_137 : BitVec 32 := 1#32
  let arg25 : BitVec 32 := Scf.iv c0_i32_134 c1_i32_137 k0_t1
  let c4_i32_413 : BitVec 32 := 4#32
  let v698 : BitVec 32 := Scalar.muli arg25 c4_i32_413
  let c61_i32 : BitVec 32 := 61#32
  let v699 : BitVec 32 := Scalar.minsi v698 c61_i32
  let c128_i32_414 : BitVec 32 := 128#32
  let v700 : BitVec 32 := Scalar.muli v699 c128_i32_414
  let v701 : BitVec 32 := v700
  let v702 : Index := Scalar.indexCast v701
  let c0_416 : Index := 0#32
  ![0, v702.toNat, 0]
def k0_off3 (i : grid0.Coords) (k0_t1 : Fin (k0_t1_loop i).trips) (c0_i32_467 : BitVec 32) : Fin 3 → Nat :=
  let c0_i32_134 : BitVec 32 := 0#32
  let c1_i32_137 : BitVec 32 := 1#32
  let arg25 : BitVec 32 := Scf.iv c0_i32_134 c1_i32_137 k0_t1
  let c4_i32_413 : BitVec 32 := 4#32
  let v698 : BitVec 32 := Scalar.muli arg25 c4_i32_413
  let c61_i32 : BitVec 32 := 61#32
  let v699 : BitVec 32 := Scalar.minsi v698 c61_i32
  let v845 : BitVec 32 := Scalar.addi v699 c0_i32_467
  let v846 : Index := Scalar.indexCast v845
  let c0_468 : Index := 0#32
  let c0_469 : Index := 0#32
  ![v846.toNat, 0, 0]
@[reducible] def k0_t2_loop (i : grid0.Coords) : Scf.Loop 32 :=
  let c0_i32_134 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let v250 : BitVec 32 := Scalar.subi v189 c0_i32_134
  let c1_i32_136 : BitVec 32 := 1#32
  let v252 : BitVec 32 := Scalar.divsi v250 c1_i32_136
  let v253 : BitVec 32 := Scalar.muli v252 c1_i32_136
  let v254 : BitVec 32 := Scalar.addi c0_i32_134 v253
  let v251 : BitVec 32 := Scalar.addi c0_i32_134 v250
  let c1_i32_138 : BitVec 32 := 1#32
  ⟨v254, v251, c1_i32_138⟩
def k0_mult2 (i : grid0.Coords) (k0_t2 : Fin (k0_t2_loop i).trips) : BitVec 32 :=
  let c0_i32_134 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let v250 : BitVec 32 := Scalar.subi v189 c0_i32_134
  let c1_i32_136 : BitVec 32 := 1#32
  let v252 : BitVec 32 := Scalar.divsi v250 c1_i32_136
  let v253 : BitVec 32 := Scalar.muli v252 c1_i32_136
  let v254 : BitVec 32 := Scalar.addi c0_i32_134 v253
  let c1_i32_138 : BitVec 32 := 1#32
  let arg25 : BitVec 32 := Scf.iv v254 c1_i32_138 k0_t2
  let c4_i32_413 : BitVec 32 := 4#32
  let v698 : BitVec 32 := Scalar.muli arg25 c4_i32_413
  let c61_i32 : BitVec 32 := 61#32
  let v699 : BitVec 32 := Scalar.minsi v698 c61_i32
  let c128_i32_414 : BitVec 32 := 128#32
  let v700 : BitVec 32 := Scalar.muli v699 c128_i32_414
  v700
def k0_off4 (i : grid0.Coords) (k0_t2 : Fin (k0_t2_loop i).trips) : Fin 3 → Nat :=
  let c0_415 : Index := 0#32
  let c0_i32_134 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let v250 : BitVec 32 := Scalar.subi v189 c0_i32_134
  let c1_i32_136 : BitVec 32 := 1#32
  let v252 : BitVec 32 := Scalar.divsi v250 c1_i32_136
  let v253 : BitVec 32 := Scalar.muli v252 c1_i32_136
  let v254 : BitVec 32 := Scalar.addi c0_i32_134 v253
  let c1_i32_138 : BitVec 32 := 1#32
  let arg25 : BitVec 32 := Scf.iv v254 c1_i32_138 k0_t2
  let c4_i32_413 : BitVec 32 := 4#32
  let v698 : BitVec 32 := Scalar.muli arg25 c4_i32_413
  let c61_i32 : BitVec 32 := 61#32
  let v699 : BitVec 32 := Scalar.minsi v698 c61_i32
  let c128_i32_414 : BitVec 32 := 128#32
  let v700 : BitVec 32 := Scalar.muli v699 c128_i32_414
  let v701 : BitVec 32 := v700
  let v702 : Index := Scalar.indexCast v701
  let c0_416 : Index := 0#32
  ![0, v702.toNat, 0]
def k0_off5 (i : grid0.Coords) (k0_t2 : Fin (k0_t2_loop i).trips) (c0_i32_467 : BitVec 32) : Fin 3 → Nat :=
  let c0_i32_134 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let v250 : BitVec 32 := Scalar.subi v189 c0_i32_134
  let c1_i32_136 : BitVec 32 := 1#32
  let v252 : BitVec 32 := Scalar.divsi v250 c1_i32_136
  let v253 : BitVec 32 := Scalar.muli v252 c1_i32_136
  let v254 : BitVec 32 := Scalar.addi c0_i32_134 v253
  let c1_i32_138 : BitVec 32 := 1#32
  let arg25 : BitVec 32 := Scf.iv v254 c1_i32_138 k0_t2
  let c4_i32_413 : BitVec 32 := 4#32
  let v698 : BitVec 32 := Scalar.muli arg25 c4_i32_413
  let c61_i32 : BitVec 32 := 61#32
  let v699 : BitVec 32 := Scalar.minsi v698 c61_i32
  let v845 : BitVec 32 := Scalar.addi v699 c0_i32_467
  let v846 : Index := Scalar.indexCast v845
  let c0_468 : Index := 0#32
  let c0_469 : Index := 0#32
  ![v846.toNat, 0, 0]
@[reducible] def k0_t3_loop (i : grid0.Coords) : Scf.Loop 32 :=
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_143 : BitVec 32 := 1#32
  ⟨c0_i32_140, v262, c1_i32_143⟩
def k0_off6 (i : grid0.Coords) (k0_t3 : Fin (k0_t3_loop i).trips) (c0_i32_414 : BitVec 32) : Fin 3 → Nat :=
  let c0_i32_140 : BitVec 32 := 0#32
  let c1_i32_143 : BitVec 32 := 1#32
  let arg25 : BitVec 32 := Scf.iv c0_i32_140 c1_i32_143 k0_t3
  let c4_i32_413 : BitVec 32 := 4#32
  let v698 : BitVec 32 := Scalar.muli arg25 c4_i32_413
  let v699 : BitVec 32 := Scalar.addi v698 c0_i32_414
  let v700 : Index := Scalar.indexCast v699
  let c0_415 : Index := 0#32
  let c0_416 : Index := 0#32
  ![v700.toNat, 0, 0]
def k0_off7 (i : grid0.Coords) (k0_t3 : Fin (k0_t3_loop i).trips) (c0_i32_657 : BitVec 32) : Fin 4 → Nat :=
  let c2_i32_656 : BitVec 32 := 2#32
  let c0_i32_140 : BitVec 32 := 0#32
  let c1_i32_143 : BitVec 32 := 1#32
  let arg25 : BitVec 32 := Scf.iv c0_i32_140 c1_i32_143 k0_t3
  let v1464 : BitVec 32 := Scalar.muli c2_i32_656 arg25
  let v1465 : BitVec 32 := Scalar.addi v1464 c0_i32_657
  let v1466 : Index := Scalar.indexCast v1465
  let c0_658 : Index := 0#32
  let c0_659 : Index := 0#32
  let c0_660 : Index := 0#32
  ![v1466.toNat, 0, 0, 0]
def k0_off8 (i : grid0.Coords) (k0_t3 : Fin (k0_t3_loop i).trips) (c0_i32_662 : BitVec 32) : Fin 4 → Nat :=
  let c2_i32_661 : BitVec 32 := 2#32
  let c0_i32_140 : BitVec 32 := 0#32
  let c1_i32_143 : BitVec 32 := 1#32
  let arg25 : BitVec 32 := Scf.iv c0_i32_140 c1_i32_143 k0_t3
  let v1470 : BitVec 32 := Scalar.muli c2_i32_661 arg25
  let v1471 : BitVec 32 := Scalar.addi v1470 c0_i32_662
  let v1472 : Index := Scalar.indexCast v1471
  let c1_663 : Index := 1#32
  let c0_664 : Index := 0#32
  let c0_665 : Index := 0#32
  ![v1472.toNat, 1, 0, 0]
def k0_off9 (i : grid0.Coords) (k0_t3 : Fin (k0_t3_loop i).trips) (c0_i32_667 : BitVec 32) : Fin 4 → Nat :=
  let c2_i32_666 : BitVec 32 := 2#32
  let c0_i32_140 : BitVec 32 := 0#32
  let c1_i32_143 : BitVec 32 := 1#32
  let arg25 : BitVec 32 := Scf.iv c0_i32_140 c1_i32_143 k0_t3
  let v1476 : BitVec 32 := Scalar.muli c2_i32_666 arg25
  let v1477 : BitVec 32 := Scalar.addi v1476 c0_i32_667
  let v1478 : Index := Scalar.indexCast v1477
  let c2_668 : Index := 2#32
  let c0_669 : Index := 0#32
  let c0_670 : Index := 0#32
  ![v1478.toNat, 2, 0, 0]
def k0_off10 (i : grid0.Coords) (k0_t3 : Fin (k0_t3_loop i).trips) (c0_i32_672 : BitVec 32) : Fin 4 → Nat :=
  let c2_i32_671 : BitVec 32 := 2#32
  let c0_i32_140 : BitVec 32 := 0#32
  let c1_i32_143 : BitVec 32 := 1#32
  let arg25 : BitVec 32 := Scf.iv c0_i32_140 c1_i32_143 k0_t3
  let v1482 : BitVec 32 := Scalar.muli c2_i32_671 arg25
  let v1483 : BitVec 32 := Scalar.addi v1482 c0_i32_672
  let v1484 : Index := Scalar.indexCast v1483
  let c3_673 : Index := 3#32
  let c0_674 : Index := 0#32
  let c0_675 : Index := 0#32
  ![v1484.toNat, 3, 0, 0]
def k0_off11 (i : grid0.Coords) (k0_t3 : Fin (k0_t3_loop i).trips) (c0_i32_677 : BitVec 32) : Fin 4 → Nat :=
  let c2_i32_676 : BitVec 32 := 2#32
  let c0_i32_140 : BitVec 32 := 0#32
  let c1_i32_143 : BitVec 32 := 1#32
  let arg25 : BitVec 32 := Scf.iv c0_i32_140 c1_i32_143 k0_t3
  let v1488 : BitVec 32 := Scalar.muli c2_i32_676 arg25
  let v1489 : BitVec 32 := Scalar.addi v1488 c0_i32_677
  let v1490 : Index := Scalar.indexCast v1489
  let c4_678 : Index := 4#32
  let c0_679 : Index := 0#32
  let c0_680 : Index := 0#32
  ![v1490.toNat, 4, 0, 0]
def k0_off12 (i : grid0.Coords) (k0_t3 : Fin (k0_t3_loop i).trips) (c0_i32_682 : BitVec 32) : Fin 4 → Nat :=
  let c2_i32_681 : BitVec 32 := 2#32
  let c0_i32_140 : BitVec 32 := 0#32
  let c1_i32_143 : BitVec 32 := 1#32
  let arg25 : BitVec 32 := Scf.iv c0_i32_140 c1_i32_143 k0_t3
  let v1494 : BitVec 32 := Scalar.muli c2_i32_681 arg25
  let v1495 : BitVec 32 := Scalar.addi v1494 c0_i32_682
  let v1496 : Index := Scalar.indexCast v1495
  let c5_683 : Index := 5#32
  let c0_684 : Index := 0#32
  let c0_685 : Index := 0#32
  ![v1496.toNat, 5, 0, 0]
def k0_off13 (i : grid0.Coords) (k0_t3 : Fin (k0_t3_loop i).trips) (c0_i32_687 : BitVec 32) : Fin 4 → Nat :=
  let c2_i32_686 : BitVec 32 := 2#32
  let c0_i32_140 : BitVec 32 := 0#32
  let c1_i32_143 : BitVec 32 := 1#32
  let arg25 : BitVec 32 := Scf.iv c0_i32_140 c1_i32_143 k0_t3
  let v1500 : BitVec 32 := Scalar.muli c2_i32_686 arg25
  let v1501 : BitVec 32 := Scalar.addi v1500 c0_i32_687
  let v1502 : Index := Scalar.indexCast v1501
  let c6_688 : Index := 6#32
  let c0_689 : Index := 0#32
  let c0_690 : Index := 0#32
  ![v1502.toNat, 6, 0, 0]
def k0_off14 (i : grid0.Coords) (k0_t3 : Fin (k0_t3_loop i).trips) (c0_i32_692 : BitVec 32) : Fin 4 → Nat :=
  let c2_i32_691 : BitVec 32 := 2#32
  let c0_i32_140 : BitVec 32 := 0#32
  let c1_i32_143 : BitVec 32 := 1#32
  let arg25 : BitVec 32 := Scf.iv c0_i32_140 c1_i32_143 k0_t3
  let v1506 : BitVec 32 := Scalar.muli c2_i32_691 arg25
  let v1507 : BitVec 32 := Scalar.addi v1506 c0_i32_692
  let v1508 : Index := Scalar.indexCast v1507
  let c7_693 : Index := 7#32
  let c0_694 : Index := 0#32
  let c0_695 : Index := 0#32
  ![v1508.toNat, 7, 0, 0]
def k0_off15 (i : grid0.Coords) (k0_t3 : Fin (k0_t3_loop i).trips) (c0_i32_697 : BitVec 32) : Fin 4 → Nat :=
  let c2_i32_696 : BitVec 32 := 2#32
  let c0_i32_140 : BitVec 32 := 0#32
  let c1_i32_143 : BitVec 32 := 1#32
  let arg25 : BitVec 32 := Scf.iv c0_i32_140 c1_i32_143 k0_t3
  let v1512 : BitVec 32 := Scalar.muli c2_i32_696 arg25
  let v1513 : BitVec 32 := Scalar.addi v1512 c0_i32_697
  let v1514 : Index := Scalar.indexCast v1513
  let c8 : Index := 8#32
  let c0_698 : Index := 0#32
  let c0_699 : Index := 0#32
  ![v1514.toNat, 8, 0, 0]
def k0_off16 (i : grid0.Coords) (k0_t3 : Fin (k0_t3_loop i).trips) (c0_i32_701 : BitVec 32) : Fin 4 → Nat :=
  let c2_i32_700 : BitVec 32 := 2#32
  let c0_i32_140 : BitVec 32 := 0#32
  let c1_i32_143 : BitVec 32 := 1#32
  let arg25 : BitVec 32 := Scf.iv c0_i32_140 c1_i32_143 k0_t3
  let v1518 : BitVec 32 := Scalar.muli c2_i32_700 arg25
  let v1519 : BitVec 32 := Scalar.addi v1518 c0_i32_701
  let v1520 : Index := Scalar.indexCast v1519
  let c9 : Index := 9#32
  let c0_702 : Index := 0#32
  let c0_703 : Index := 0#32
  ![v1520.toNat, 9, 0, 0]
def k0_off17 (i : grid0.Coords) (k0_t3 : Fin (k0_t3_loop i).trips) (c0_i32_705 : BitVec 32) : Fin 4 → Nat :=
  let c2_i32_704 : BitVec 32 := 2#32
  let c0_i32_140 : BitVec 32 := 0#32
  let c1_i32_143 : BitVec 32 := 1#32
  let arg25 : BitVec 32 := Scf.iv c0_i32_140 c1_i32_143 k0_t3
  let v1524 : BitVec 32 := Scalar.muli c2_i32_704 arg25
  let v1525 : BitVec 32 := Scalar.addi v1524 c0_i32_705
  let v1526 : Index := Scalar.indexCast v1525
  let c10 : Index := 10#32
  let c0_706 : Index := 0#32
  let c0_707 : Index := 0#32
  ![v1526.toNat, 10, 0, 0]
def k0_off18 (i : grid0.Coords) (k0_t3 : Fin (k0_t3_loop i).trips) (c0_i32_709 : BitVec 32) : Fin 4 → Nat :=
  let c2_i32_708 : BitVec 32 := 2#32
  let c0_i32_140 : BitVec 32 := 0#32
  let c1_i32_143 : BitVec 32 := 1#32
  let arg25 : BitVec 32 := Scf.iv c0_i32_140 c1_i32_143 k0_t3
  let v1530 : BitVec 32 := Scalar.muli c2_i32_708 arg25
  let v1531 : BitVec 32 := Scalar.addi v1530 c0_i32_709
  let v1532 : Index := Scalar.indexCast v1531
  let c11 : Index := 11#32
  let c0_710 : Index := 0#32
  let c0_711 : Index := 0#32
  ![v1532.toNat, 11, 0, 0]
def k0_off19 (i : grid0.Coords) (k0_t3 : Fin (k0_t3_loop i).trips) (c0_i32_713 : BitVec 32) : Fin 4 → Nat :=
  let c2_i32_712 : BitVec 32 := 2#32
  let c0_i32_140 : BitVec 32 := 0#32
  let c1_i32_143 : BitVec 32 := 1#32
  let arg25 : BitVec 32 := Scf.iv c0_i32_140 c1_i32_143 k0_t3
  let v1536 : BitVec 32 := Scalar.muli c2_i32_712 arg25
  let v1537 : BitVec 32 := Scalar.addi v1536 c0_i32_713
  let v1538 : Index := Scalar.indexCast v1537
  let c12 : Index := 12#32
  let c0_714 : Index := 0#32
  let c0_715 : Index := 0#32
  ![v1538.toNat, 12, 0, 0]
def k0_off20 (i : grid0.Coords) (k0_t3 : Fin (k0_t3_loop i).trips) (c0_i32_717 : BitVec 32) : Fin 4 → Nat :=
  let c2_i32_716 : BitVec 32 := 2#32
  let c0_i32_140 : BitVec 32 := 0#32
  let c1_i32_143 : BitVec 32 := 1#32
  let arg25 : BitVec 32 := Scf.iv c0_i32_140 c1_i32_143 k0_t3
  let v1542 : BitVec 32 := Scalar.muli c2_i32_716 arg25
  let v1543 : BitVec 32 := Scalar.addi v1542 c0_i32_717
  let v1544 : Index := Scalar.indexCast v1543
  let c13 : Index := 13#32
  let c0_718 : Index := 0#32
  let c0_719 : Index := 0#32
  ![v1544.toNat, 13, 0, 0]
def k0_off21 (i : grid0.Coords) (k0_t3 : Fin (k0_t3_loop i).trips) (c0_i32_721 : BitVec 32) : Fin 4 → Nat :=
  let c2_i32_720 : BitVec 32 := 2#32
  let c0_i32_140 : BitVec 32 := 0#32
  let c1_i32_143 : BitVec 32 := 1#32
  let arg25 : BitVec 32 := Scf.iv c0_i32_140 c1_i32_143 k0_t3
  let v1548 : BitVec 32 := Scalar.muli c2_i32_720 arg25
  let v1549 : BitVec 32 := Scalar.addi v1548 c0_i32_721
  let v1550 : Index := Scalar.indexCast v1549
  let c14 : Index := 14#32
  let c0_722 : Index := 0#32
  let c0_723 : Index := 0#32
  ![v1550.toNat, 14, 0, 0]
def k0_off22 (i : grid0.Coords) (k0_t3 : Fin (k0_t3_loop i).trips) (c0_i32_725 : BitVec 32) : Fin 4 → Nat :=
  let c2_i32_724 : BitVec 32 := 2#32
  let c0_i32_140 : BitVec 32 := 0#32
  let c1_i32_143 : BitVec 32 := 1#32
  let arg25 : BitVec 32 := Scf.iv c0_i32_140 c1_i32_143 k0_t3
  let v1554 : BitVec 32 := Scalar.muli c2_i32_724 arg25
  let v1555 : BitVec 32 := Scalar.addi v1554 c0_i32_725
  let v1556 : Index := Scalar.indexCast v1555
  let c15 : Index := 15#32
  let c0_726 : Index := 0#32
  let c0_727 : Index := 0#32
  ![v1556.toNat, 15, 0, 0]
def k0_off23 (i : grid0.Coords) (k0_t3 : Fin (k0_t3_loop i).trips) (c0_i32_729 : BitVec 32) : Fin 4 → Nat :=
  let c2_i32_728 : BitVec 32 := 2#32
  let c0_i32_140 : BitVec 32 := 0#32
  let c1_i32_143 : BitVec 32 := 1#32
  let arg25 : BitVec 32 := Scf.iv c0_i32_140 c1_i32_143 k0_t3
  let v1560 : BitVec 32 := Scalar.muli c2_i32_728 arg25
  let v1561 : BitVec 32 := Scalar.addi v1560 c0_i32_729
  let v1562 : Index := Scalar.indexCast v1561
  let c16 : Index := 16#32
  let c0_730 : Index := 0#32
  let c0_731 : Index := 0#32
  ![v1562.toNat, 16, 0, 0]
def k0_off24 (i : grid0.Coords) (k0_t3 : Fin (k0_t3_loop i).trips) (c0_i32_733 : BitVec 32) : Fin 4 → Nat :=
  let c2_i32_732 : BitVec 32 := 2#32
  let c0_i32_140 : BitVec 32 := 0#32
  let c1_i32_143 : BitVec 32 := 1#32
  let arg25 : BitVec 32 := Scf.iv c0_i32_140 c1_i32_143 k0_t3
  let v1566 : BitVec 32 := Scalar.muli c2_i32_732 arg25
  let v1567 : BitVec 32 := Scalar.addi v1566 c0_i32_733
  let v1568 : Index := Scalar.indexCast v1567
  let c17 : Index := 17#32
  let c0_734 : Index := 0#32
  let c0_735 : Index := 0#32
  ![v1568.toNat, 17, 0, 0]
def k0_off25 (i : grid0.Coords) (k0_t3 : Fin (k0_t3_loop i).trips) (c0_i32_737 : BitVec 32) : Fin 4 → Nat :=
  let c2_i32_736 : BitVec 32 := 2#32
  let c0_i32_140 : BitVec 32 := 0#32
  let c1_i32_143 : BitVec 32 := 1#32
  let arg25 : BitVec 32 := Scf.iv c0_i32_140 c1_i32_143 k0_t3
  let v1572 : BitVec 32 := Scalar.muli c2_i32_736 arg25
  let v1573 : BitVec 32 := Scalar.addi v1572 c0_i32_737
  let v1574 : Index := Scalar.indexCast v1573
  let c18 : Index := 18#32
  let c0_738 : Index := 0#32
  let c0_739 : Index := 0#32
  ![v1574.toNat, 18, 0, 0]
def k0_off26 (i : grid0.Coords) (k0_t3 : Fin (k0_t3_loop i).trips) (c0_i32_741 : BitVec 32) : Fin 4 → Nat :=
  let c2_i32_740 : BitVec 32 := 2#32
  let c0_i32_140 : BitVec 32 := 0#32
  let c1_i32_143 : BitVec 32 := 1#32
  let arg25 : BitVec 32 := Scf.iv c0_i32_140 c1_i32_143 k0_t3
  let v1578 : BitVec 32 := Scalar.muli c2_i32_740 arg25
  let v1579 : BitVec 32 := Scalar.addi v1578 c0_i32_741
  let v1580 : Index := Scalar.indexCast v1579
  let c19 : Index := 19#32
  let c0_742 : Index := 0#32
  let c0_743 : Index := 0#32
  ![v1580.toNat, 19, 0, 0]
def k0_off27 (i : grid0.Coords) (k0_t3 : Fin (k0_t3_loop i).trips) (c0_i32_745 : BitVec 32) : Fin 4 → Nat :=
  let c2_i32_744 : BitVec 32 := 2#32
  let c0_i32_140 : BitVec 32 := 0#32
  let c1_i32_143 : BitVec 32 := 1#32
  let arg25 : BitVec 32 := Scf.iv c0_i32_140 c1_i32_143 k0_t3
  let v1584 : BitVec 32 := Scalar.muli c2_i32_744 arg25
  let v1585 : BitVec 32 := Scalar.addi v1584 c0_i32_745
  let v1586 : Index := Scalar.indexCast v1585
  let c20 : Index := 20#32
  let c0_746 : Index := 0#32
  let c0_747 : Index := 0#32
  ![v1586.toNat, 20, 0, 0]
def k0_off28 (i : grid0.Coords) (k0_t3 : Fin (k0_t3_loop i).trips) (c0_i32_749 : BitVec 32) : Fin 4 → Nat :=
  let c2_i32_748 : BitVec 32 := 2#32
  let c0_i32_140 : BitVec 32 := 0#32
  let c1_i32_143 : BitVec 32 := 1#32
  let arg25 : BitVec 32 := Scf.iv c0_i32_140 c1_i32_143 k0_t3
  let v1590 : BitVec 32 := Scalar.muli c2_i32_748 arg25
  let v1591 : BitVec 32 := Scalar.addi v1590 c0_i32_749
  let v1592 : Index := Scalar.indexCast v1591
  let c21 : Index := 21#32
  let c0_750 : Index := 0#32
  let c0_751 : Index := 0#32
  ![v1592.toNat, 21, 0, 0]
def k0_off29 (i : grid0.Coords) (k0_t3 : Fin (k0_t3_loop i).trips) (c0_i32_753 : BitVec 32) : Fin 4 → Nat :=
  let c2_i32_752 : BitVec 32 := 2#32
  let c0_i32_140 : BitVec 32 := 0#32
  let c1_i32_143 : BitVec 32 := 1#32
  let arg25 : BitVec 32 := Scf.iv c0_i32_140 c1_i32_143 k0_t3
  let v1596 : BitVec 32 := Scalar.muli c2_i32_752 arg25
  let v1597 : BitVec 32 := Scalar.addi v1596 c0_i32_753
  let v1598 : Index := Scalar.indexCast v1597
  let c22 : Index := 22#32
  let c0_754 : Index := 0#32
  let c0_755 : Index := 0#32
  ![v1598.toNat, 22, 0, 0]
def k0_off30 (i : grid0.Coords) (k0_t3 : Fin (k0_t3_loop i).trips) (c0_i32_757 : BitVec 32) : Fin 4 → Nat :=
  let c2_i32_756 : BitVec 32 := 2#32
  let c0_i32_140 : BitVec 32 := 0#32
  let c1_i32_143 : BitVec 32 := 1#32
  let arg25 : BitVec 32 := Scf.iv c0_i32_140 c1_i32_143 k0_t3
  let v1602 : BitVec 32 := Scalar.muli c2_i32_756 arg25
  let v1603 : BitVec 32 := Scalar.addi v1602 c0_i32_757
  let v1604 : Index := Scalar.indexCast v1603
  let c23 : Index := 23#32
  let c0_758 : Index := 0#32
  let c0_759 : Index := 0#32
  ![v1604.toNat, 23, 0, 0]
def k0_off31 (i : grid0.Coords) (k0_t3 : Fin (k0_t3_loop i).trips) (c0_i32_761 : BitVec 32) : Fin 4 → Nat :=
  let c2_i32_760 : BitVec 32 := 2#32
  let c0_i32_140 : BitVec 32 := 0#32
  let c1_i32_143 : BitVec 32 := 1#32
  let arg25 : BitVec 32 := Scf.iv c0_i32_140 c1_i32_143 k0_t3
  let v1608 : BitVec 32 := Scalar.muli c2_i32_760 arg25
  let v1609 : BitVec 32 := Scalar.addi v1608 c0_i32_761
  let v1610 : Index := Scalar.indexCast v1609
  let c24 : Index := 24#32
  let c0_762 : Index := 0#32
  let c0_763 : Index := 0#32
  ![v1610.toNat, 24, 0, 0]
def k0_off32 (i : grid0.Coords) (k0_t3 : Fin (k0_t3_loop i).trips) (c0_i32_765 : BitVec 32) : Fin 4 → Nat :=
  let c2_i32_764 : BitVec 32 := 2#32
  let c0_i32_140 : BitVec 32 := 0#32
  let c1_i32_143 : BitVec 32 := 1#32
  let arg25 : BitVec 32 := Scf.iv c0_i32_140 c1_i32_143 k0_t3
  let v1614 : BitVec 32 := Scalar.muli c2_i32_764 arg25
  let v1615 : BitVec 32 := Scalar.addi v1614 c0_i32_765
  let v1616 : Index := Scalar.indexCast v1615
  let c25 : Index := 25#32
  let c0_766 : Index := 0#32
  let c0_767 : Index := 0#32
  ![v1616.toNat, 25, 0, 0]
def k0_off33 (i : grid0.Coords) (k0_t3 : Fin (k0_t3_loop i).trips) (c0_i32_769 : BitVec 32) : Fin 4 → Nat :=
  let c2_i32_768 : BitVec 32 := 2#32
  let c0_i32_140 : BitVec 32 := 0#32
  let c1_i32_143 : BitVec 32 := 1#32
  let arg25 : BitVec 32 := Scf.iv c0_i32_140 c1_i32_143 k0_t3
  let v1620 : BitVec 32 := Scalar.muli c2_i32_768 arg25
  let v1621 : BitVec 32 := Scalar.addi v1620 c0_i32_769
  let v1622 : Index := Scalar.indexCast v1621
  let c26 : Index := 26#32
  let c0_770 : Index := 0#32
  let c0_771 : Index := 0#32
  ![v1622.toNat, 26, 0, 0]
def k0_off34 (i : grid0.Coords) (k0_t3 : Fin (k0_t3_loop i).trips) (c0_i32_773 : BitVec 32) : Fin 4 → Nat :=
  let c2_i32_772 : BitVec 32 := 2#32
  let c0_i32_140 : BitVec 32 := 0#32
  let c1_i32_143 : BitVec 32 := 1#32
  let arg25 : BitVec 32 := Scf.iv c0_i32_140 c1_i32_143 k0_t3
  let v1626 : BitVec 32 := Scalar.muli c2_i32_772 arg25
  let v1627 : BitVec 32 := Scalar.addi v1626 c0_i32_773
  let v1628 : Index := Scalar.indexCast v1627
  let c27 : Index := 27#32
  let c0_774 : Index := 0#32
  let c0_775 : Index := 0#32
  ![v1628.toNat, 27, 0, 0]
def k0_off35 (i : grid0.Coords) (k0_t3 : Fin (k0_t3_loop i).trips) (c0_i32_777 : BitVec 32) : Fin 4 → Nat :=
  let c2_i32_776 : BitVec 32 := 2#32
  let c0_i32_140 : BitVec 32 := 0#32
  let c1_i32_143 : BitVec 32 := 1#32
  let arg25 : BitVec 32 := Scf.iv c0_i32_140 c1_i32_143 k0_t3
  let v1632 : BitVec 32 := Scalar.muli c2_i32_776 arg25
  let v1633 : BitVec 32 := Scalar.addi v1632 c0_i32_777
  let v1634 : Index := Scalar.indexCast v1633
  let c28 : Index := 28#32
  let c0_778 : Index := 0#32
  let c0_779 : Index := 0#32
  ![v1634.toNat, 28, 0, 0]
def k0_off36 (i : grid0.Coords) (k0_t3 : Fin (k0_t3_loop i).trips) (c0_i32_781 : BitVec 32) : Fin 4 → Nat :=
  let c2_i32_780 : BitVec 32 := 2#32
  let c0_i32_140 : BitVec 32 := 0#32
  let c1_i32_143 : BitVec 32 := 1#32
  let arg25 : BitVec 32 := Scf.iv c0_i32_140 c1_i32_143 k0_t3
  let v1638 : BitVec 32 := Scalar.muli c2_i32_780 arg25
  let v1639 : BitVec 32 := Scalar.addi v1638 c0_i32_781
  let v1640 : Index := Scalar.indexCast v1639
  let c29 : Index := 29#32
  let c0_782 : Index := 0#32
  let c0_783 : Index := 0#32
  ![v1640.toNat, 29, 0, 0]
def k0_off37 (i : grid0.Coords) (k0_t3 : Fin (k0_t3_loop i).trips) (c0_i32_785 : BitVec 32) : Fin 4 → Nat :=
  let c2_i32_784 : BitVec 32 := 2#32
  let c0_i32_140 : BitVec 32 := 0#32
  let c1_i32_143 : BitVec 32 := 1#32
  let arg25 : BitVec 32 := Scf.iv c0_i32_140 c1_i32_143 k0_t3
  let v1644 : BitVec 32 := Scalar.muli c2_i32_784 arg25
  let v1645 : BitVec 32 := Scalar.addi v1644 c0_i32_785
  let v1646 : Index := Scalar.indexCast v1645
  let c30 : Index := 30#32
  let c0_786 : Index := 0#32
  let c0_787 : Index := 0#32
  ![v1646.toNat, 30, 0, 0]
def k0_off38 (i : grid0.Coords) (k0_t3 : Fin (k0_t3_loop i).trips) (c0_i32_789 : BitVec 32) : Fin 4 → Nat :=
  let c2_i32_788 : BitVec 32 := 2#32
  let c0_i32_140 : BitVec 32 := 0#32
  let c1_i32_143 : BitVec 32 := 1#32
  let arg25 : BitVec 32 := Scf.iv c0_i32_140 c1_i32_143 k0_t3
  let v1650 : BitVec 32 := Scalar.muli c2_i32_788 arg25
  let v1651 : BitVec 32 := Scalar.addi v1650 c0_i32_789
  let v1652 : Index := Scalar.indexCast v1651
  let c31 : Index := 31#32
  let c0_790 : Index := 0#32
  let c0_791 : Index := 0#32
  ![v1652.toNat, 31, 0, 0]
def k0_off39 (i : grid0.Coords) (k0_t3 : Fin (k0_t3_loop i).trips) (c0_i32_794 : BitVec 32) : Fin 4 → Nat :=
  let c2_i32_793 : BitVec 32 := 2#32
  let c0_i32_140 : BitVec 32 := 0#32
  let c1_i32_143 : BitVec 32 := 1#32
  let arg25 : BitVec 32 := Scf.iv c0_i32_140 c1_i32_143 k0_t3
  let v1657 : BitVec 32 := Scalar.muli c2_i32_793 arg25
  let v1658 : BitVec 32 := Scalar.addi v1657 c0_i32_794
  let v1659 : Index := Scalar.indexCast v1658
  let c32 : Index := 32#32
  let c0_795 : Index := 0#32
  let c0_796 : Index := 0#32
  ![v1659.toNat, 32, 0, 0]
@[reducible] def k0_t4_loop (i : grid0.Coords) : Scf.Loop 32 :=
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let v259 : BitVec 32 := Scalar.addi c0_i32_140 v258
  let c1_i32_144 : BitVec 32 := 1#32
  ⟨v262, v259, c1_i32_144⟩
def k0_off40 (i : grid0.Coords) (k0_t4 : Fin (k0_t4_loop i).trips) (c0_i32_414 : BitVec 32) : Fin 3 → Nat :=
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let c4_i32_413 : BitVec 32 := 4#32
  let v698 : BitVec 32 := Scalar.muli arg25 c4_i32_413
  let v699 : BitVec 32 := Scalar.addi v698 c0_i32_414
  let v700 : Index := Scalar.indexCast v699
  let c0_415 : Index := 0#32
  let c0_416 : Index := 0#32
  ![v700.toNat, 0, 0]
def k0_off41 (i : grid0.Coords) (k0_t4 : Fin (k0_t4_loop i).trips) (c0_i32_657 : BitVec 32) : Fin 4 → Nat :=
  let c2_i32_656 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1464 : BitVec 32 := Scalar.muli c2_i32_656 arg25
  let v1465 : BitVec 32 := Scalar.addi v1464 c0_i32_657
  let v1466 : Index := Scalar.indexCast v1465
  let c0_658 : Index := 0#32
  let c0_659 : Index := 0#32
  let c0_660 : Index := 0#32
  ![v1466.toNat, 0, 0, 0]
def k0_off42 (i : grid0.Coords) (k0_t4 : Fin (k0_t4_loop i).trips) (c0_i32_662 : BitVec 32) : Fin 4 → Nat :=
  let c2_i32_661 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1470 : BitVec 32 := Scalar.muli c2_i32_661 arg25
  let v1471 : BitVec 32 := Scalar.addi v1470 c0_i32_662
  let v1472 : Index := Scalar.indexCast v1471
  let c1_663 : Index := 1#32
  let c0_664 : Index := 0#32
  let c0_665 : Index := 0#32
  ![v1472.toNat, 1, 0, 0]
def k0_off43 (i : grid0.Coords) (k0_t4 : Fin (k0_t4_loop i).trips) (c0_i32_667 : BitVec 32) : Fin 4 → Nat :=
  let c2_i32_666 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1476 : BitVec 32 := Scalar.muli c2_i32_666 arg25
  let v1477 : BitVec 32 := Scalar.addi v1476 c0_i32_667
  let v1478 : Index := Scalar.indexCast v1477
  let c2_668 : Index := 2#32
  let c0_669 : Index := 0#32
  let c0_670 : Index := 0#32
  ![v1478.toNat, 2, 0, 0]
def k0_off44 (i : grid0.Coords) (k0_t4 : Fin (k0_t4_loop i).trips) (c0_i32_672 : BitVec 32) : Fin 4 → Nat :=
  let c2_i32_671 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1482 : BitVec 32 := Scalar.muli c2_i32_671 arg25
  let v1483 : BitVec 32 := Scalar.addi v1482 c0_i32_672
  let v1484 : Index := Scalar.indexCast v1483
  let c3_673 : Index := 3#32
  let c0_674 : Index := 0#32
  let c0_675 : Index := 0#32
  ![v1484.toNat, 3, 0, 0]
def k0_off45 (i : grid0.Coords) (k0_t4 : Fin (k0_t4_loop i).trips) (c0_i32_677 : BitVec 32) : Fin 4 → Nat :=
  let c2_i32_676 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1488 : BitVec 32 := Scalar.muli c2_i32_676 arg25
  let v1489 : BitVec 32 := Scalar.addi v1488 c0_i32_677
  let v1490 : Index := Scalar.indexCast v1489
  let c4_678 : Index := 4#32
  let c0_679 : Index := 0#32
  let c0_680 : Index := 0#32
  ![v1490.toNat, 4, 0, 0]
def k0_off46 (i : grid0.Coords) (k0_t4 : Fin (k0_t4_loop i).trips) (c0_i32_682 : BitVec 32) : Fin 4 → Nat :=
  let c2_i32_681 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1494 : BitVec 32 := Scalar.muli c2_i32_681 arg25
  let v1495 : BitVec 32 := Scalar.addi v1494 c0_i32_682
  let v1496 : Index := Scalar.indexCast v1495
  let c5_683 : Index := 5#32
  let c0_684 : Index := 0#32
  let c0_685 : Index := 0#32
  ![v1496.toNat, 5, 0, 0]
def k0_off47 (i : grid0.Coords) (k0_t4 : Fin (k0_t4_loop i).trips) (c0_i32_687 : BitVec 32) : Fin 4 → Nat :=
  let c2_i32_686 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1500 : BitVec 32 := Scalar.muli c2_i32_686 arg25
  let v1501 : BitVec 32 := Scalar.addi v1500 c0_i32_687
  let v1502 : Index := Scalar.indexCast v1501
  let c6_688 : Index := 6#32
  let c0_689 : Index := 0#32
  let c0_690 : Index := 0#32
  ![v1502.toNat, 6, 0, 0]
def k0_off48 (i : grid0.Coords) (k0_t4 : Fin (k0_t4_loop i).trips) (c0_i32_692 : BitVec 32) : Fin 4 → Nat :=
  let c2_i32_691 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1506 : BitVec 32 := Scalar.muli c2_i32_691 arg25
  let v1507 : BitVec 32 := Scalar.addi v1506 c0_i32_692
  let v1508 : Index := Scalar.indexCast v1507
  let c7_693 : Index := 7#32
  let c0_694 : Index := 0#32
  let c0_695 : Index := 0#32
  ![v1508.toNat, 7, 0, 0]
def k0_off49 (i : grid0.Coords) (k0_t4 : Fin (k0_t4_loop i).trips) (c0_i32_697 : BitVec 32) : Fin 4 → Nat :=
  let c2_i32_696 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1512 : BitVec 32 := Scalar.muli c2_i32_696 arg25
  let v1513 : BitVec 32 := Scalar.addi v1512 c0_i32_697
  let v1514 : Index := Scalar.indexCast v1513
  let c8 : Index := 8#32
  let c0_698 : Index := 0#32
  let c0_699 : Index := 0#32
  ![v1514.toNat, 8, 0, 0]
def k0_off50 (i : grid0.Coords) (k0_t4 : Fin (k0_t4_loop i).trips) (c0_i32_701 : BitVec 32) : Fin 4 → Nat :=
  let c2_i32_700 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1518 : BitVec 32 := Scalar.muli c2_i32_700 arg25
  let v1519 : BitVec 32 := Scalar.addi v1518 c0_i32_701
  let v1520 : Index := Scalar.indexCast v1519
  let c9 : Index := 9#32
  let c0_702 : Index := 0#32
  let c0_703 : Index := 0#32
  ![v1520.toNat, 9, 0, 0]
def k0_off51 (i : grid0.Coords) (k0_t4 : Fin (k0_t4_loop i).trips) (c0_i32_705 : BitVec 32) : Fin 4 → Nat :=
  let c2_i32_704 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1524 : BitVec 32 := Scalar.muli c2_i32_704 arg25
  let v1525 : BitVec 32 := Scalar.addi v1524 c0_i32_705
  let v1526 : Index := Scalar.indexCast v1525
  let c10 : Index := 10#32
  let c0_706 : Index := 0#32
  let c0_707 : Index := 0#32
  ![v1526.toNat, 10, 0, 0]
def k0_off52 (i : grid0.Coords) (k0_t4 : Fin (k0_t4_loop i).trips) (c0_i32_709 : BitVec 32) : Fin 4 → Nat :=
  let c2_i32_708 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1530 : BitVec 32 := Scalar.muli c2_i32_708 arg25
  let v1531 : BitVec 32 := Scalar.addi v1530 c0_i32_709
  let v1532 : Index := Scalar.indexCast v1531
  let c11 : Index := 11#32
  let c0_710 : Index := 0#32
  let c0_711 : Index := 0#32
  ![v1532.toNat, 11, 0, 0]
def k0_off53 (i : grid0.Coords) (k0_t4 : Fin (k0_t4_loop i).trips) (c0_i32_713 : BitVec 32) : Fin 4 → Nat :=
  let c2_i32_712 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1536 : BitVec 32 := Scalar.muli c2_i32_712 arg25
  let v1537 : BitVec 32 := Scalar.addi v1536 c0_i32_713
  let v1538 : Index := Scalar.indexCast v1537
  let c12 : Index := 12#32
  let c0_714 : Index := 0#32
  let c0_715 : Index := 0#32
  ![v1538.toNat, 12, 0, 0]
def k0_off54 (i : grid0.Coords) (k0_t4 : Fin (k0_t4_loop i).trips) (c0_i32_717 : BitVec 32) : Fin 4 → Nat :=
  let c2_i32_716 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1542 : BitVec 32 := Scalar.muli c2_i32_716 arg25
  let v1543 : BitVec 32 := Scalar.addi v1542 c0_i32_717
  let v1544 : Index := Scalar.indexCast v1543
  let c13 : Index := 13#32
  let c0_718 : Index := 0#32
  let c0_719 : Index := 0#32
  ![v1544.toNat, 13, 0, 0]
def k0_off55 (i : grid0.Coords) (k0_t4 : Fin (k0_t4_loop i).trips) (c0_i32_721 : BitVec 32) : Fin 4 → Nat :=
  let c2_i32_720 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1548 : BitVec 32 := Scalar.muli c2_i32_720 arg25
  let v1549 : BitVec 32 := Scalar.addi v1548 c0_i32_721
  let v1550 : Index := Scalar.indexCast v1549
  let c14 : Index := 14#32
  let c0_722 : Index := 0#32
  let c0_723 : Index := 0#32
  ![v1550.toNat, 14, 0, 0]
def k0_off56 (i : grid0.Coords) (k0_t4 : Fin (k0_t4_loop i).trips) (c0_i32_725 : BitVec 32) : Fin 4 → Nat :=
  let c2_i32_724 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1554 : BitVec 32 := Scalar.muli c2_i32_724 arg25
  let v1555 : BitVec 32 := Scalar.addi v1554 c0_i32_725
  let v1556 : Index := Scalar.indexCast v1555
  let c15 : Index := 15#32
  let c0_726 : Index := 0#32
  let c0_727 : Index := 0#32
  ![v1556.toNat, 15, 0, 0]
def k0_off57 (i : grid0.Coords) (k0_t4 : Fin (k0_t4_loop i).trips) (c0_i32_729 : BitVec 32) : Fin 4 → Nat :=
  let c2_i32_728 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1560 : BitVec 32 := Scalar.muli c2_i32_728 arg25
  let v1561 : BitVec 32 := Scalar.addi v1560 c0_i32_729
  let v1562 : Index := Scalar.indexCast v1561
  let c16 : Index := 16#32
  let c0_730 : Index := 0#32
  let c0_731 : Index := 0#32
  ![v1562.toNat, 16, 0, 0]
def k0_off58 (i : grid0.Coords) (k0_t4 : Fin (k0_t4_loop i).trips) (c0_i32_733 : BitVec 32) : Fin 4 → Nat :=
  let c2_i32_732 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1566 : BitVec 32 := Scalar.muli c2_i32_732 arg25
  let v1567 : BitVec 32 := Scalar.addi v1566 c0_i32_733
  let v1568 : Index := Scalar.indexCast v1567
  let c17 : Index := 17#32
  let c0_734 : Index := 0#32
  let c0_735 : Index := 0#32
  ![v1568.toNat, 17, 0, 0]
def k0_off59 (i : grid0.Coords) (k0_t4 : Fin (k0_t4_loop i).trips) (c0_i32_737 : BitVec 32) : Fin 4 → Nat :=
  let c2_i32_736 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1572 : BitVec 32 := Scalar.muli c2_i32_736 arg25
  let v1573 : BitVec 32 := Scalar.addi v1572 c0_i32_737
  let v1574 : Index := Scalar.indexCast v1573
  let c18 : Index := 18#32
  let c0_738 : Index := 0#32
  let c0_739 : Index := 0#32
  ![v1574.toNat, 18, 0, 0]
def k0_off60 (i : grid0.Coords) (k0_t4 : Fin (k0_t4_loop i).trips) (c0_i32_741 : BitVec 32) : Fin 4 → Nat :=
  let c2_i32_740 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1578 : BitVec 32 := Scalar.muli c2_i32_740 arg25
  let v1579 : BitVec 32 := Scalar.addi v1578 c0_i32_741
  let v1580 : Index := Scalar.indexCast v1579
  let c19 : Index := 19#32
  let c0_742 : Index := 0#32
  let c0_743 : Index := 0#32
  ![v1580.toNat, 19, 0, 0]
def k0_off61 (i : grid0.Coords) (k0_t4 : Fin (k0_t4_loop i).trips) (c0_i32_745 : BitVec 32) : Fin 4 → Nat :=
  let c2_i32_744 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1584 : BitVec 32 := Scalar.muli c2_i32_744 arg25
  let v1585 : BitVec 32 := Scalar.addi v1584 c0_i32_745
  let v1586 : Index := Scalar.indexCast v1585
  let c20 : Index := 20#32
  let c0_746 : Index := 0#32
  let c0_747 : Index := 0#32
  ![v1586.toNat, 20, 0, 0]
def k0_off62 (i : grid0.Coords) (k0_t4 : Fin (k0_t4_loop i).trips) (c0_i32_749 : BitVec 32) : Fin 4 → Nat :=
  let c2_i32_748 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1590 : BitVec 32 := Scalar.muli c2_i32_748 arg25
  let v1591 : BitVec 32 := Scalar.addi v1590 c0_i32_749
  let v1592 : Index := Scalar.indexCast v1591
  let c21 : Index := 21#32
  let c0_750 : Index := 0#32
  let c0_751 : Index := 0#32
  ![v1592.toNat, 21, 0, 0]
def k0_off63 (i : grid0.Coords) (k0_t4 : Fin (k0_t4_loop i).trips) (c0_i32_753 : BitVec 32) : Fin 4 → Nat :=
  let c2_i32_752 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1596 : BitVec 32 := Scalar.muli c2_i32_752 arg25
  let v1597 : BitVec 32 := Scalar.addi v1596 c0_i32_753
  let v1598 : Index := Scalar.indexCast v1597
  let c22 : Index := 22#32
  let c0_754 : Index := 0#32
  let c0_755 : Index := 0#32
  ![v1598.toNat, 22, 0, 0]
def k0_off64 (i : grid0.Coords) (k0_t4 : Fin (k0_t4_loop i).trips) (c0_i32_757 : BitVec 32) : Fin 4 → Nat :=
  let c2_i32_756 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1602 : BitVec 32 := Scalar.muli c2_i32_756 arg25
  let v1603 : BitVec 32 := Scalar.addi v1602 c0_i32_757
  let v1604 : Index := Scalar.indexCast v1603
  let c23 : Index := 23#32
  let c0_758 : Index := 0#32
  let c0_759 : Index := 0#32
  ![v1604.toNat, 23, 0, 0]
def k0_off65 (i : grid0.Coords) (k0_t4 : Fin (k0_t4_loop i).trips) (c0_i32_761 : BitVec 32) : Fin 4 → Nat :=
  let c2_i32_760 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1608 : BitVec 32 := Scalar.muli c2_i32_760 arg25
  let v1609 : BitVec 32 := Scalar.addi v1608 c0_i32_761
  let v1610 : Index := Scalar.indexCast v1609
  let c24 : Index := 24#32
  let c0_762 : Index := 0#32
  let c0_763 : Index := 0#32
  ![v1610.toNat, 24, 0, 0]
def k0_off66 (i : grid0.Coords) (k0_t4 : Fin (k0_t4_loop i).trips) (c0_i32_765 : BitVec 32) : Fin 4 → Nat :=
  let c2_i32_764 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1614 : BitVec 32 := Scalar.muli c2_i32_764 arg25
  let v1615 : BitVec 32 := Scalar.addi v1614 c0_i32_765
  let v1616 : Index := Scalar.indexCast v1615
  let c25 : Index := 25#32
  let c0_766 : Index := 0#32
  let c0_767 : Index := 0#32
  ![v1616.toNat, 25, 0, 0]
def k0_off67 (i : grid0.Coords) (k0_t4 : Fin (k0_t4_loop i).trips) (c0_i32_769 : BitVec 32) : Fin 4 → Nat :=
  let c2_i32_768 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1620 : BitVec 32 := Scalar.muli c2_i32_768 arg25
  let v1621 : BitVec 32 := Scalar.addi v1620 c0_i32_769
  let v1622 : Index := Scalar.indexCast v1621
  let c26 : Index := 26#32
  let c0_770 : Index := 0#32
  let c0_771 : Index := 0#32
  ![v1622.toNat, 26, 0, 0]
def k0_off68 (i : grid0.Coords) (k0_t4 : Fin (k0_t4_loop i).trips) (c0_i32_773 : BitVec 32) : Fin 4 → Nat :=
  let c2_i32_772 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1626 : BitVec 32 := Scalar.muli c2_i32_772 arg25
  let v1627 : BitVec 32 := Scalar.addi v1626 c0_i32_773
  let v1628 : Index := Scalar.indexCast v1627
  let c27 : Index := 27#32
  let c0_774 : Index := 0#32
  let c0_775 : Index := 0#32
  ![v1628.toNat, 27, 0, 0]
def k0_off69 (i : grid0.Coords) (k0_t4 : Fin (k0_t4_loop i).trips) (c0_i32_777 : BitVec 32) : Fin 4 → Nat :=
  let c2_i32_776 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1632 : BitVec 32 := Scalar.muli c2_i32_776 arg25
  let v1633 : BitVec 32 := Scalar.addi v1632 c0_i32_777
  let v1634 : Index := Scalar.indexCast v1633
  let c28 : Index := 28#32
  let c0_778 : Index := 0#32
  let c0_779 : Index := 0#32
  ![v1634.toNat, 28, 0, 0]
def k0_off70 (i : grid0.Coords) (k0_t4 : Fin (k0_t4_loop i).trips) (c0_i32_781 : BitVec 32) : Fin 4 → Nat :=
  let c2_i32_780 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1638 : BitVec 32 := Scalar.muli c2_i32_780 arg25
  let v1639 : BitVec 32 := Scalar.addi v1638 c0_i32_781
  let v1640 : Index := Scalar.indexCast v1639
  let c29 : Index := 29#32
  let c0_782 : Index := 0#32
  let c0_783 : Index := 0#32
  ![v1640.toNat, 29, 0, 0]
def k0_off71 (i : grid0.Coords) (k0_t4 : Fin (k0_t4_loop i).trips) (c0_i32_785 : BitVec 32) : Fin 4 → Nat :=
  let c2_i32_784 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1644 : BitVec 32 := Scalar.muli c2_i32_784 arg25
  let v1645 : BitVec 32 := Scalar.addi v1644 c0_i32_785
  let v1646 : Index := Scalar.indexCast v1645
  let c30 : Index := 30#32
  let c0_786 : Index := 0#32
  let c0_787 : Index := 0#32
  ![v1646.toNat, 30, 0, 0]
def k0_off72 (i : grid0.Coords) (k0_t4 : Fin (k0_t4_loop i).trips) (c0_i32_789 : BitVec 32) : Fin 4 → Nat :=
  let c2_i32_788 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1650 : BitVec 32 := Scalar.muli c2_i32_788 arg25
  let v1651 : BitVec 32 := Scalar.addi v1650 c0_i32_789
  let v1652 : Index := Scalar.indexCast v1651
  let c31 : Index := 31#32
  let c0_790 : Index := 0#32
  let c0_791 : Index := 0#32
  ![v1652.toNat, 31, 0, 0]
def k0_off73 (i : grid0.Coords) (k0_t4 : Fin (k0_t4_loop i).trips) (c0_i32_794 : BitVec 32) : Fin 4 → Nat :=
  let c2_i32_793 : BitVec 32 := 2#32
  let c0_i32_140 : BitVec 32 := 0#32
  let c2_i32_139 : BitVec 32 := 2#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v257 : BitVec 32 := Scalar.muli c2_i32_139 v207
  let v258 : BitVec 32 := Scalar.subi v257 c0_i32_140
  let c1_i32_142 : BitVec 32 := 1#32
  let v260 : BitVec 32 := Scalar.divsi v258 c1_i32_142
  let v261 : BitVec 32 := Scalar.muli v260 c1_i32_142
  let v262 : BitVec 32 := Scalar.addi c0_i32_140 v261
  let c1_i32_144 : BitVec 32 := 1#32
  let arg25 : BitVec 32 := Scf.iv v262 c1_i32_144 k0_t4
  let v1657 : BitVec 32 := Scalar.muli c2_i32_793 arg25
  let v1658 : BitVec 32 := Scalar.addi v1657 c0_i32_794
  let v1659 : Index := Scalar.indexCast v1658
  let c32 : Index := 32#32
  let c0_795 : Index := 0#32
  let c0_796 : Index := 0#32
  ![v1659.toNat, 32, 0, 0]
@[reducible] def k0_t5_loop : Scf.Loop 32 :=
  let c0_i32_149 : BitVec 32 := 0#32
  let c32_i32 : BitVec 32 := 32#32
  let v272 : BitVec 32 := Scalar.addi c0_i32_149 c32_i32
  let c1_i32_150 : BitVec 32 := 1#32
  ⟨c0_i32_149, v272, c1_i32_150⟩
@[reducible] def k0_t6_loop (i : grid0.Coords) : Scf.Loop 32 :=
  let c0_i32_414 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v700 : BitVec 32 := Scalar.subi v207 c0_i32_414
  let c1_i32_415 : BitVec 32 := 1#32
  let v702 : BitVec 32 := Scalar.divsi v700 c1_i32_415
  let v703 : BitVec 32 := Scalar.muli v702 c1_i32_415
  let v704 : BitVec 32 := Scalar.addi c0_i32_414 v703
  let c1_i32_416 : BitVec 32 := 1#32
  ⟨c0_i32_414, v704, c1_i32_416⟩
def k0_off74 (i : grid0.Coords) (k0_t6 : Fin (k0_t6_loop i).trips) (c0_i32_424 : BitVec 32) : Fin 3 → Nat :=
  let c4_i32_423 : BitVec 32 := 4#32
  let c0_i32_414 : BitVec 32 := 0#32
  let c1_i32_416 : BitVec 32 := 1#32
  let arg29 : BitVec 32 := Scf.iv c0_i32_414 c1_i32_416 k0_t6
  let v725 : BitVec 32 := Scalar.muli c4_i32_423 arg29
  let v726 : BitVec 32 := Scalar.addi v725 c0_i32_424
  let v727 : Index := Scalar.indexCast v726
  let c0_425 : Index := 0#32
  let c0_426 : Index := 0#32
  ![v727.toNat, 0, 0]
def k0_off75 (i : grid0.Coords) (k0_t5 : Fin k0_t5_loop.trips) (k0_t6 : Fin (k0_t6_loop i).trips) (c0_i32_424 : BitVec 32) : Fin 4 → Nat :=
  let c4_i32_423 : BitVec 32 := 4#32
  let c0_i32_414 : BitVec 32 := 0#32
  let c1_i32_416 : BitVec 32 := 1#32
  let arg29 : BitVec 32 := Scf.iv c0_i32_414 c1_i32_416 k0_t6
  let v725 : BitVec 32 := Scalar.muli c4_i32_423 arg29
  let v726 : BitVec 32 := Scalar.addi v725 c0_i32_424
  let v731 : Index := Scalar.indexCast v726
  let c31_i32 : BitVec 32 := 31#32
  let c0_i32_149 : BitVec 32 := 0#32
  let c1_i32_150 : BitVec 32 := 1#32
  let arg25 : BitVec 32 := Scf.iv c0_i32_149 c1_i32_150 k0_t5
  let v698 : BitVec 32 := Scalar.subi c31_i32 arg25
  let c1_i32_427 : BitVec 32 := 1#32
  let v730 : BitVec 32 := Scalar.addi v698 c1_i32_427
  let v732 : Index := Scalar.indexCast v730
  let c0_428 : Index := 0#32
  let c0_429 : Index := 0#32
  ![v731.toNat, v732.toNat, 0, 0]
def k0_off76 (i : grid0.Coords) (k0_t5 : Fin k0_t5_loop.trips) (k0_t6 : Fin (k0_t6_loop i).trips) (c0_i32_424 : BitVec 32) : Fin 4 → Nat :=
  let c4_i32_423 : BitVec 32 := 4#32
  let c0_i32_414 : BitVec 32 := 0#32
  let c1_i32_416 : BitVec 32 := 1#32
  let arg29 : BitVec 32 := Scf.iv c0_i32_414 c1_i32_416 k0_t6
  let v725 : BitVec 32 := Scalar.muli c4_i32_423 arg29
  let v726 : BitVec 32 := Scalar.addi v725 c0_i32_424
  let v742 : Index := Scalar.indexCast v726
  let c31_i32 : BitVec 32 := 31#32
  let c0_i32_149 : BitVec 32 := 0#32
  let c1_i32_150 : BitVec 32 := 1#32
  let arg25 : BitVec 32 := Scf.iv c0_i32_149 c1_i32_150 k0_t5
  let v698 : BitVec 32 := Scalar.subi c31_i32 arg25
  let v743 : Index := Scalar.indexCast v698
  let c0_432 : Index := 0#32
  let c0_433 : Index := 0#32
  ![v742.toNat, v743.toNat, 0, 0]
@[reducible] def k0_t7_loop (i : grid0.Coords) : Scf.Loop 32 :=
  let c0_i32_414 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v700 : BitVec 32 := Scalar.subi v207 c0_i32_414
  let c1_i32_415 : BitVec 32 := 1#32
  let v702 : BitVec 32 := Scalar.divsi v700 c1_i32_415
  let v703 : BitVec 32 := Scalar.muli v702 c1_i32_415
  let v704 : BitVec 32 := Scalar.addi c0_i32_414 v703
  let v701 : BitVec 32 := Scalar.addi c0_i32_414 v700
  let c1_i32_417 : BitVec 32 := 1#32
  ⟨v704, v701, c1_i32_417⟩
def k0_off77 (i : grid0.Coords) (k0_t7 : Fin (k0_t7_loop i).trips) (c0_i32_424 : BitVec 32) : Fin 3 → Nat :=
  let c4_i32_423 : BitVec 32 := 4#32
  let c0_i32_414 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v700 : BitVec 32 := Scalar.subi v207 c0_i32_414
  let c1_i32_415 : BitVec 32 := 1#32
  let v702 : BitVec 32 := Scalar.divsi v700 c1_i32_415
  let v703 : BitVec 32 := Scalar.muli v702 c1_i32_415
  let v704 : BitVec 32 := Scalar.addi c0_i32_414 v703
  let c1_i32_417 : BitVec 32 := 1#32
  let arg29 : BitVec 32 := Scf.iv v704 c1_i32_417 k0_t7
  let v725 : BitVec 32 := Scalar.muli c4_i32_423 arg29
  let v726 : BitVec 32 := Scalar.addi v725 c0_i32_424
  let v727 : Index := Scalar.indexCast v726
  let c0_425 : Index := 0#32
  let c0_426 : Index := 0#32
  ![v727.toNat, 0, 0]
def k0_off78 (i : grid0.Coords) (k0_t5 : Fin k0_t5_loop.trips) (k0_t7 : Fin (k0_t7_loop i).trips) (c0_i32_424 : BitVec 32) : Fin 4 → Nat :=
  let c4_i32_423 : BitVec 32 := 4#32
  let c0_i32_414 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v700 : BitVec 32 := Scalar.subi v207 c0_i32_414
  let c1_i32_415 : BitVec 32 := 1#32
  let v702 : BitVec 32 := Scalar.divsi v700 c1_i32_415
  let v703 : BitVec 32 := Scalar.muli v702 c1_i32_415
  let v704 : BitVec 32 := Scalar.addi c0_i32_414 v703
  let c1_i32_417 : BitVec 32 := 1#32
  let arg29 : BitVec 32 := Scf.iv v704 c1_i32_417 k0_t7
  let v725 : BitVec 32 := Scalar.muli c4_i32_423 arg29
  let v726 : BitVec 32 := Scalar.addi v725 c0_i32_424
  let v731 : Index := Scalar.indexCast v726
  let c31_i32 : BitVec 32 := 31#32
  let c0_i32_149 : BitVec 32 := 0#32
  let c1_i32_150 : BitVec 32 := 1#32
  let arg25 : BitVec 32 := Scf.iv c0_i32_149 c1_i32_150 k0_t5
  let v698 : BitVec 32 := Scalar.subi c31_i32 arg25
  let c1_i32_427 : BitVec 32 := 1#32
  let v730 : BitVec 32 := Scalar.addi v698 c1_i32_427
  let v732 : Index := Scalar.indexCast v730
  let c0_428 : Index := 0#32
  let c0_429 : Index := 0#32
  ![v731.toNat, v732.toNat, 0, 0]
def k0_off79 (i : grid0.Coords) (k0_t5 : Fin k0_t5_loop.trips) (k0_t7 : Fin (k0_t7_loop i).trips) (c0_i32_424 : BitVec 32) : Fin 4 → Nat :=
  let c4_i32_423 : BitVec 32 := 4#32
  let c0_i32_414 : BitVec 32 := 0#32
  let arg1 : BitVec 32 := BitVec.ofNat 32 (i 1).val
  let c4_i32 : BitVec 32 := 4#32
  let v172 : BitVec 32 := Scalar.addi arg1 c4_i32
  let c0_i32 : BitVec 32 := 0#32
  let v174 : BitVec 1 := Scalar.cmpi .sgt v172 c0_i32
  let v175 : BitVec 32 := Scalar.extui v174
  let c0_i32_100 : BitVec 32 := 0#32
  let v176 : BitVec 1 := Scalar.cmpi .slt v172 c0_i32_100
  let v177 : BitVec 32 := Scalar.extui v176
  let v178 : BitVec 32 := Scalar.subi v175 v177
  let c4_i32_99 : BitVec 32 := 4#32
  let c0_i32_101 : BitVec 32 := 0#32
  let v179 : BitVec 1 := Scalar.cmpi .sgt c4_i32_99 c0_i32_101
  let v180 : BitVec 32 := Scalar.extui v179
  let c0_i32_102 : BitVec 32 := 0#32
  let v181 : BitVec 1 := Scalar.cmpi .slt c4_i32_99 c0_i32_102
  let v182 : BitVec 32 := Scalar.extui v181
  let v183 : BitVec 32 := Scalar.subi v180 v182
  let v184 : BitVec 1 := Scalar.cmpi .ne v178 v183
  let v185 : BitVec 32 := Scalar.remsi v172 c4_i32_99
  let c0_i32_103 : BitVec 32 := 0#32
  let v186 : BitVec 1 := Scalar.cmpi .ne v185 c0_i32_103
  let v187 : BitVec 1 := Scalar.andi v184 v186
  let v173 : BitVec 32 := Scalar.divsi v172 c4_i32_99
  let c1_i32 : BitVec 32 := 1#32
  let v188 : BitVec 32 := Scalar.subi v173 c1_i32
  let v189 : BitVec 32 := Scalar.select v187 v188 v173
  let c1_i32_104 : BitVec 32 := 1#32
  let v190 : BitVec 32 := Scalar.addi v189 c1_i32_104
  let c0_i32_105 : BitVec 32 := 0#32
  let v192 : BitVec 1 := Scalar.cmpi .sgt v190 c0_i32_105
  let v193 : BitVec 32 := Scalar.extui v192
  let c0_i32_106 : BitVec 32 := 0#32
  let v194 : BitVec 1 := Scalar.cmpi .slt v190 c0_i32_106
  let v195 : BitVec 32 := Scalar.extui v194
  let v196 : BitVec 32 := Scalar.subi v193 v195
  let c2_i32 : BitVec 32 := 2#32
  let c0_i32_107 : BitVec 32 := 0#32
  let v197 : BitVec 1 := Scalar.cmpi .sgt c2_i32 c0_i32_107
  let v198 : BitVec 32 := Scalar.extui v197
  let c0_i32_108 : BitVec 32 := 0#32
  let v199 : BitVec 1 := Scalar.cmpi .slt c2_i32 c0_i32_108
  let v200 : BitVec 32 := Scalar.extui v199
  let v201 : BitVec 32 := Scalar.subi v198 v200
  let v202 : BitVec 1 := Scalar.cmpi .ne v196 v201
  let v203 : BitVec 32 := Scalar.remsi v190 c2_i32
  let c0_i32_109 : BitVec 32 := 0#32
  let v204 : BitVec 1 := Scalar.cmpi .ne v203 c0_i32_109
  let v205 : BitVec 1 := Scalar.andi v202 v204
  let v191 : BitVec 32 := Scalar.divsi v190 c2_i32
  let c1_i32_110 : BitVec 32 := 1#32
  let v206 : BitVec 32 := Scalar.subi v191 c1_i32_110
  let v207 : BitVec 32 := Scalar.select v205 v206 v191
  let v700 : BitVec 32 := Scalar.subi v207 c0_i32_414
  let c1_i32_415 : BitVec 32 := 1#32
  let v702 : BitVec 32 := Scalar.divsi v700 c1_i32_415
  let v703 : BitVec 32 := Scalar.muli v702 c1_i32_415
  let v704 : BitVec 32 := Scalar.addi c0_i32_414 v703
  let c1_i32_417 : BitVec 32 := 1#32
  let arg29 : BitVec 32 := Scf.iv v704 c1_i32_417 k0_t7
  let v725 : BitVec 32 := Scalar.muli c4_i32_423 arg29
  let v726 : BitVec 32 := Scalar.addi v725 c0_i32_424
  let v742 : Index := Scalar.indexCast v726
  let c31_i32 : BitVec 32 := 31#32
  let c0_i32_149 : BitVec 32 := 0#32
  let c1_i32_150 : BitVec 32 := 1#32
  let arg25 : BitVec 32 := Scf.iv c0_i32_149 c1_i32_150 k0_t5
  let v698 : BitVec 32 := Scalar.subi c31_i32 arg25
  let v743 : Index := Scalar.indexCast v698
  let c0_432 : Index := 0#32
  let c0_433 : Index := 0#32
  ![v742.toNat, v743.toNat, 0, 0]
def k0_mult3 (i : grid0.Coords) : BitVec 32 :=
  let arg1 : BitVec 32 := BitVec.ofNat 32 (i 1).val
  let c1_i32_159 : BitVec 32 := 1#32
  let v286 : BitVec 32 := Scalar.subi arg1 c1_i32_159
  let c0_i32_160 : BitVec 32 := 0#32
  let v287 : BitVec 32 := Scalar.maxsi v286 c0_i32_160
  let c128_i32 : BitVec 32 := 128#32
  let v288 : BitVec 32 := Scalar.muli v287 c128_i32
  v288
def k0_off80 (i : grid0.Coords) : Fin 3 → Nat :=
  let c0_161 : Index := 0#32
  let arg1 : BitVec 32 := BitVec.ofNat 32 (i 1).val
  let c1_i32_159 : BitVec 32 := 1#32
  let v286 : BitVec 32 := Scalar.subi arg1 c1_i32_159
  let c0_i32_160 : BitVec 32 := 0#32
  let v287 : BitVec 32 := Scalar.maxsi v286 c0_i32_160
  let c128_i32 : BitVec 32 := 128#32
  let v288 : BitVec 32 := Scalar.muli v287 c128_i32
  let v289 : BitVec 32 := v288
  let v290 : Index := Scalar.indexCast v289
  let c0_162 : Index := 0#32
  ![0, v290.toNat, 0]
def k0_cond1 (i : grid0.Coords) : BitVec 1 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_177 : BitVec 32 := 0#32
  let v317 : BitVec 1 := Scalar.cmpi .sgt v316 c0_i32_177
  let v318 : BitVec 32 := Scalar.extui v317
  let c0_i32_178 : BitVec 32 := 0#32
  let v319 : BitVec 1 := Scalar.cmpi .ne v318 c0_i32_178
  v319

def k0_mult4 : BitVec 32 :=
  let c0_i32_413 : BitVec 32 := 0#32
  c0_i32_413
@[reducible] def k0_t8_loop (i : grid0.Coords) : Scf.Loop 32 :=
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_431 : BitVec 32 := 1#32
  ⟨c0_i32_428, v728, c1_i32_431⟩
def k0_mult5 (i : grid0.Coords) (k0_t8 : Fin (k0_t8_loop i).trips) : BitVec 32 :=
  let c2_i32_441 : BitVec 32 := 2#32
  let c0_i32_428 : BitVec 32 := 0#32
  let c1_i32_431 : BitVec 32 := 1#32
  let arg25 : BitVec 32 := Scf.iv c0_i32_428 c1_i32_431 k0_t8
  let v744 : BitVec 32 := Scalar.muli c2_i32_441 arg25
  let c1_i32_442 : BitVec 32 := 1#32
  let v745 : BitVec 32 := Scalar.addi v744 c1_i32_442
  let c4_i32_443 : BitVec 32 := 4#32
  let v746 : BitVec 32 := Scalar.muli v745 c4_i32_443
  let c128_i32_444 : BitVec 32 := 128#32
  let v747 : BitVec 32 := Scalar.muli v746 c128_i32_444
  v747
def k0_off81 (i : grid0.Coords) (k0_t8 : Fin (k0_t8_loop i).trips) : Fin 3 → Nat :=
  let c0_445 : Index := 0#32
  let c2_i32_441 : BitVec 32 := 2#32
  let c0_i32_428 : BitVec 32 := 0#32
  let c1_i32_431 : BitVec 32 := 1#32
  let arg25 : BitVec 32 := Scf.iv c0_i32_428 c1_i32_431 k0_t8
  let v744 : BitVec 32 := Scalar.muli c2_i32_441 arg25
  let c1_i32_442 : BitVec 32 := 1#32
  let v745 : BitVec 32 := Scalar.addi v744 c1_i32_442
  let c4_i32_443 : BitVec 32 := 4#32
  let v746 : BitVec 32 := Scalar.muli v745 c4_i32_443
  let c128_i32_444 : BitVec 32 := 128#32
  let v747 : BitVec 32 := Scalar.muli v746 c128_i32_444
  let v748 : BitVec 32 := v747
  let v749 : Index := Scalar.indexCast v748
  let c0_446 : Index := 0#32
  ![0, v749.toNat, 0]
def k0_mult6 (i : grid0.Coords) (k0_t8 : Fin (k0_t8_loop i).trips) : BitVec 32 :=
  let c2_i32_452 : BitVec 32 := 2#32
  let c0_i32_428 : BitVec 32 := 0#32
  let c1_i32_431 : BitVec 32 := 1#32
  let arg25 : BitVec 32 := Scf.iv c0_i32_428 c1_i32_431 k0_t8
  let v757 : BitVec 32 := Scalar.muli c2_i32_452 arg25
  let c4_i32_453 : BitVec 32 := 4#32
  let v758 : BitVec 32 := Scalar.muli v757 c4_i32_453
  let c128_i32_454 : BitVec 32 := 128#32
  let v759 : BitVec 32 := Scalar.muli v758 c128_i32_454
  v759
def k0_off82 (i : grid0.Coords) (k0_t8 : Fin (k0_t8_loop i).trips) : Fin 3 → Nat :=
  let c0_455 : Index := 0#32
  let c0_456 : Index := 0#32
  let c2_i32_452 : BitVec 32 := 2#32
  let c0_i32_428 : BitVec 32 := 0#32
  let c1_i32_431 : BitVec 32 := 1#32
  let arg25 : BitVec 32 := Scf.iv c0_i32_428 c1_i32_431 k0_t8
  let v757 : BitVec 32 := Scalar.muli c2_i32_452 arg25
  let c4_i32_453 : BitVec 32 := 4#32
  let v758 : BitVec 32 := Scalar.muli v757 c4_i32_453
  let c128_i32_454 : BitVec 32 := 128#32
  let v759 : BitVec 32 := Scalar.muli v758 c128_i32_454
  let v760 : BitVec 32 := v759
  let v761 : Index := Scalar.indexCast v760
  ![0, 0, v761.toNat]
def k0_off83 (i : grid0.Coords) (k0_t8 : Fin (k0_t8_loop i).trips) : Fin 3 → Nat :=
  let c2_i32_452 : BitVec 32 := 2#32
  let c0_i32_428 : BitVec 32 := 0#32
  let c1_i32_431 : BitVec 32 := 1#32
  let arg25 : BitVec 32 := Scf.iv c0_i32_428 c1_i32_431 k0_t8
  let v757 : BitVec 32 := Scalar.muli c2_i32_452 arg25
  let c4_i32_453 : BitVec 32 := 4#32
  let v758 : BitVec 32 := Scalar.muli v757 c4_i32_453
  let v764 : Index := Scalar.indexCast v758
  let c0_457 : Index := 0#32
  let c0_458 : Index := 0#32
  ![v764.toNat, 0, 0]
def k0_mult7 (i : grid0.Coords) (k0_t8 : Fin (k0_t8_loop i).trips) : BitVec 32 :=
  let c2_i32_568 : BitVec 32 := 2#32
  let c0_i32_428 : BitVec 32 := 0#32
  let c1_i32_431 : BitVec 32 := 1#32
  let arg25 : BitVec 32 := Scf.iv c0_i32_428 c1_i32_431 k0_t8
  let v982 : BitVec 32 := Scalar.muli c2_i32_568 arg25
  let c2_i32_569 : BitVec 32 := 2#32
  let v983 : BitVec 32 := Scalar.addi v982 c2_i32_569
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c1_i32_570 : BitVec 32 := 1#32
  let v984 : BitVec 32 := Scalar.subi v316 c1_i32_570
  let v985 : BitVec 32 := Scalar.minsi v983 v984
  let c4_i32_571 : BitVec 32 := 4#32
  let v986 : BitVec 32 := Scalar.muli v985 c4_i32_571
  let c128_i32_572 : BitVec 32 := 128#32
  let v987 : BitVec 32 := Scalar.muli v986 c128_i32_572
  v987
def k0_off84 (i : grid0.Coords) (k0_t8 : Fin (k0_t8_loop i).trips) : Fin 3 → Nat :=
  let c0_573 : Index := 0#32
  let c2_i32_568 : BitVec 32 := 2#32
  let c0_i32_428 : BitVec 32 := 0#32
  let c1_i32_431 : BitVec 32 := 1#32
  let arg25 : BitVec 32 := Scf.iv c0_i32_428 c1_i32_431 k0_t8
  let v982 : BitVec 32 := Scalar.muli c2_i32_568 arg25
  let c2_i32_569 : BitVec 32 := 2#32
  let v983 : BitVec 32 := Scalar.addi v982 c2_i32_569
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c1_i32_570 : BitVec 32 := 1#32
  let v984 : BitVec 32 := Scalar.subi v316 c1_i32_570
  let v985 : BitVec 32 := Scalar.minsi v983 v984
  let c4_i32_571 : BitVec 32 := 4#32
  let v986 : BitVec 32 := Scalar.muli v985 c4_i32_571
  let c128_i32_572 : BitVec 32 := 128#32
  let v987 : BitVec 32 := Scalar.muli v986 c128_i32_572
  let v988 : BitVec 32 := v987
  let v989 : Index := Scalar.indexCast v988
  let c0_574 : Index := 0#32
  ![0, v989.toNat, 0]
def k0_mult8 (i : grid0.Coords) (k0_t8 : Fin (k0_t8_loop i).trips) : BitVec 32 :=
  let c2_i32_580 : BitVec 32 := 2#32
  let c0_i32_428 : BitVec 32 := 0#32
  let c1_i32_431 : BitVec 32 := 1#32
  let arg25 : BitVec 32 := Scf.iv c0_i32_428 c1_i32_431 k0_t8
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let c128_i32_583 : BitVec 32 := 128#32
  let v1000 : BitVec 32 := Scalar.muli v999 c128_i32_583
  v1000
def k0_off85 (i : grid0.Coords) (k0_t8 : Fin (k0_t8_loop i).trips) : Fin 3 → Nat :=
  let c0_584 : Index := 0#32
  let c0_585 : Index := 0#32
  let c2_i32_580 : BitVec 32 := 2#32
  let c0_i32_428 : BitVec 32 := 0#32
  let c1_i32_431 : BitVec 32 := 1#32
  let arg25 : BitVec 32 := Scf.iv c0_i32_428 c1_i32_431 k0_t8
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let c128_i32_583 : BitVec 32 := 128#32
  let v1000 : BitVec 32 := Scalar.muli v999 c128_i32_583
  let v1001 : BitVec 32 := v1000
  let v1002 : Index := Scalar.indexCast v1001
  ![0, 0, v1002.toNat]
def k0_off86 (i : grid0.Coords) (k0_t8 : Fin (k0_t8_loop i).trips) : Fin 3 → Nat :=
  let c2_i32_580 : BitVec 32 := 2#32
  let c0_i32_428 : BitVec 32 := 0#32
  let c1_i32_431 : BitVec 32 := 1#32
  let arg25 : BitVec 32 := Scf.iv c0_i32_428 c1_i32_431 k0_t8
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let v1005 : Index := Scalar.indexCast v999
  let c0_586 : Index := 0#32
  let c0_587 : Index := 0#32
  ![v1005.toNat, 0, 0]
@[reducible] def k0_t9_loop (i : grid0.Coords) : Scf.Loop 32 :=
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let v725 : BitVec 32 := Scalar.addi c0_i32_428 v724
  let c1_i32_432 : BitVec 32 := 1#32
  ⟨v728, v725, c1_i32_432⟩
def k0_mult9 (i : grid0.Coords) (k0_t9 : Fin (k0_t9_loop i).trips) : BitVec 32 :=
  let c2_i32_441 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v744 : BitVec 32 := Scalar.muli c2_i32_441 arg25
  let c1_i32_442 : BitVec 32 := 1#32
  let v745 : BitVec 32 := Scalar.addi v744 c1_i32_442
  let c4_i32_443 : BitVec 32 := 4#32
  let v746 : BitVec 32 := Scalar.muli v745 c4_i32_443
  let c128_i32_444 : BitVec 32 := 128#32
  let v747 : BitVec 32 := Scalar.muli v746 c128_i32_444
  v747
def k0_off87 (i : grid0.Coords) (k0_t9 : Fin (k0_t9_loop i).trips) : Fin 3 → Nat :=
  let c0_445 : Index := 0#32
  let c2_i32_441 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v744 : BitVec 32 := Scalar.muli c2_i32_441 arg25
  let c1_i32_442 : BitVec 32 := 1#32
  let v745 : BitVec 32 := Scalar.addi v744 c1_i32_442
  let c4_i32_443 : BitVec 32 := 4#32
  let v746 : BitVec 32 := Scalar.muli v745 c4_i32_443
  let c128_i32_444 : BitVec 32 := 128#32
  let v747 : BitVec 32 := Scalar.muli v746 c128_i32_444
  let v748 : BitVec 32 := v747
  let v749 : Index := Scalar.indexCast v748
  let c0_446 : Index := 0#32
  ![0, v749.toNat, 0]
def k0_mult10 (i : grid0.Coords) (k0_t9 : Fin (k0_t9_loop i).trips) : BitVec 32 :=
  let c2_i32_452 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v757 : BitVec 32 := Scalar.muli c2_i32_452 arg25
  let c4_i32_453 : BitVec 32 := 4#32
  let v758 : BitVec 32 := Scalar.muli v757 c4_i32_453
  let c128_i32_454 : BitVec 32 := 128#32
  let v759 : BitVec 32 := Scalar.muli v758 c128_i32_454
  v759
def k0_off88 (i : grid0.Coords) (k0_t9 : Fin (k0_t9_loop i).trips) : Fin 3 → Nat :=
  let c0_455 : Index := 0#32
  let c0_456 : Index := 0#32
  let c2_i32_452 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v757 : BitVec 32 := Scalar.muli c2_i32_452 arg25
  let c4_i32_453 : BitVec 32 := 4#32
  let v758 : BitVec 32 := Scalar.muli v757 c4_i32_453
  let c128_i32_454 : BitVec 32 := 128#32
  let v759 : BitVec 32 := Scalar.muli v758 c128_i32_454
  let v760 : BitVec 32 := v759
  let v761 : Index := Scalar.indexCast v760
  ![0, 0, v761.toNat]
def k0_off89 (i : grid0.Coords) (k0_t9 : Fin (k0_t9_loop i).trips) : Fin 3 → Nat :=
  let c2_i32_452 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v757 : BitVec 32 := Scalar.muli c2_i32_452 arg25
  let c4_i32_453 : BitVec 32 := 4#32
  let v758 : BitVec 32 := Scalar.muli v757 c4_i32_453
  let v764 : Index := Scalar.indexCast v758
  let c0_457 : Index := 0#32
  let c0_458 : Index := 0#32
  ![v764.toNat, 0, 0]
def k0_mult11 (i : grid0.Coords) (k0_t9 : Fin (k0_t9_loop i).trips) : BitVec 32 :=
  let c2_i32_568 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v982 : BitVec 32 := Scalar.muli c2_i32_568 arg25
  let c2_i32_569 : BitVec 32 := 2#32
  let v983 : BitVec 32 := Scalar.addi v982 c2_i32_569
  let c1_i32_570 : BitVec 32 := 1#32
  let v984 : BitVec 32 := Scalar.subi v316 c1_i32_570
  let v985 : BitVec 32 := Scalar.minsi v983 v984
  let c4_i32_571 : BitVec 32 := 4#32
  let v986 : BitVec 32 := Scalar.muli v985 c4_i32_571
  let c128_i32_572 : BitVec 32 := 128#32
  let v987 : BitVec 32 := Scalar.muli v986 c128_i32_572
  v987
def k0_off90 (i : grid0.Coords) (k0_t9 : Fin (k0_t9_loop i).trips) : Fin 3 → Nat :=
  let c0_573 : Index := 0#32
  let c2_i32_568 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v982 : BitVec 32 := Scalar.muli c2_i32_568 arg25
  let c2_i32_569 : BitVec 32 := 2#32
  let v983 : BitVec 32 := Scalar.addi v982 c2_i32_569
  let c1_i32_570 : BitVec 32 := 1#32
  let v984 : BitVec 32 := Scalar.subi v316 c1_i32_570
  let v985 : BitVec 32 := Scalar.minsi v983 v984
  let c4_i32_571 : BitVec 32 := 4#32
  let v986 : BitVec 32 := Scalar.muli v985 c4_i32_571
  let c128_i32_572 : BitVec 32 := 128#32
  let v987 : BitVec 32 := Scalar.muli v986 c128_i32_572
  let v988 : BitVec 32 := v987
  let v989 : Index := Scalar.indexCast v988
  let c0_574 : Index := 0#32
  ![0, v989.toNat, 0]
def k0_mult12 (i : grid0.Coords) (k0_t9 : Fin (k0_t9_loop i).trips) : BitVec 32 :=
  let c2_i32_580 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let c128_i32_583 : BitVec 32 := 128#32
  let v1000 : BitVec 32 := Scalar.muli v999 c128_i32_583
  v1000
def k0_off91 (i : grid0.Coords) (k0_t9 : Fin (k0_t9_loop i).trips) : Fin 3 → Nat :=
  let c0_584 : Index := 0#32
  let c0_585 : Index := 0#32
  let c2_i32_580 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let c128_i32_583 : BitVec 32 := 128#32
  let v1000 : BitVec 32 := Scalar.muli v999 c128_i32_583
  let v1001 : BitVec 32 := v1000
  let v1002 : Index := Scalar.indexCast v1001
  ![0, 0, v1002.toNat]
def k0_off92 (i : grid0.Coords) (k0_t9 : Fin (k0_t9_loop i).trips) : Fin 3 → Nat :=
  let c2_i32_580 : BitVec 32 := 2#32
  let c0_i32_428 : BitVec 32 := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c0_i32_422 : BitVec 32 := 0#32
  let v708 : BitVec 1 := Scalar.cmpi .sgt v316 c0_i32_422
  let v709 : BitVec 32 := Scalar.extui v708
  let c0_i32_423 : BitVec 32 := 0#32
  let v710 : BitVec 1 := Scalar.cmpi .slt v316 c0_i32_423
  let v711 : BitVec 32 := Scalar.extui v710
  let v712 : BitVec 32 := Scalar.subi v709 v711
  let c2_i32_421 : BitVec 32 := 2#32
  let c0_i32_424 : BitVec 32 := 0#32
  let v713 : BitVec 1 := Scalar.cmpi .sgt c2_i32_421 c0_i32_424
  let v714 : BitVec 32 := Scalar.extui v713
  let c0_i32_425 : BitVec 32 := 0#32
  let v715 : BitVec 1 := Scalar.cmpi .slt c2_i32_421 c0_i32_425
  let v716 : BitVec 32 := Scalar.extui v715
  let v717 : BitVec 32 := Scalar.subi v714 v716
  let v718 : BitVec 1 := Scalar.cmpi .ne v712 v717
  let v719 : BitVec 32 := Scalar.remsi v316 c2_i32_421
  let c0_i32_426 : BitVec 32 := 0#32
  let v720 : BitVec 1 := Scalar.cmpi .ne v719 c0_i32_426
  let v721 : BitVec 1 := Scalar.andi v718 v720
  let v707 : BitVec 32 := Scalar.divsi v316 c2_i32_421
  let c1_i32_427 : BitVec 32 := 1#32
  let v722 : BitVec 32 := Scalar.subi v707 c1_i32_427
  let v723 : BitVec 32 := Scalar.select v721 v722 v707
  let v724 : BitVec 32 := Scalar.subi v723 c0_i32_428
  let c1_i32_430 : BitVec 32 := 1#32
  let v726 : BitVec 32 := Scalar.divsi v724 c1_i32_430
  let v727 : BitVec 32 := Scalar.muli v726 c1_i32_430
  let v728 : BitVec 32 := Scalar.addi c0_i32_428 v727
  let c1_i32_432 : BitVec 32 := 1#32
  let arg25 : BitVec 32 := Scf.iv v728 c1_i32_432 k0_t9
  let v997 : BitVec 32 := Scalar.muli c2_i32_580 arg25
  let c1_i32_581 : BitVec 32 := 1#32
  let v998 : BitVec 32 := Scalar.addi v997 c1_i32_581
  let c4_i32_582 : BitVec 32 := 4#32
  let v999 : BitVec 32 := Scalar.muli v998 c4_i32_582
  let v1005 : Index := Scalar.indexCast v999
  let c0_586 : Index := 0#32
  let c0_587 : Index := 0#32
  ![v1005.toNat, 0, 0]
def k0_cond2 (i : grid0.Coords) : BitVec 1 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c2_i32_433 : BitVec 32 := 2#32
  let c0_i32_434 : BitVec 32 := 0#32
  let v731 : BitVec 1 := Scalar.cmpi .eq c2_i32_433 c0_i32_434
  let c1_i32_435 : BitVec 32 := 1#32
  let v732 : BitVec 32 := Scalar.select v731 c1_i32_435 c2_i32_433
  let v733 : BitVec 32 := Scalar.remsi v316 v732
  let c0_i32_437 : BitVec 32 := 0#32
  let v735 : BitVec 1 := Scalar.cmpi .slt v733 c0_i32_437
  let c0_i32_438 : BitVec 32 := 0#32
  let v736 : BitVec 1 := Scalar.cmpi .slt v732 c0_i32_438
  let v737 : BitVec 1 := Scalar.xori v735 v736
  let c0_i32_436 : BitVec 32 := 0#32
  let v734 : BitVec 1 := Scalar.cmpi .ne v733 c0_i32_436
  let v738 : BitVec 1 := Scalar.andi v737 v734
  let v739 : BitVec 32 := Scalar.addi v733 v732
  let v740 : BitVec 32 := Scalar.select v738 v739 v733
  let c1_i32_439 : BitVec 32 := 1#32
  let v741 : BitVec 1 := Scalar.cmpi .eq v740 c1_i32_439
  let v742 : BitVec 32 := Scalar.extui v741
  let c0_i32_440 : BitVec 32 := 0#32
  let v743 : BitVec 1 := Scalar.cmpi .ne v742 c0_i32_440
  v743

def k0_mult13 (i : grid0.Coords) : BitVec 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c1_i32_441 : BitVec 32 := 1#32
  let v744 : BitVec 32 := Scalar.subi v316 c1_i32_441
  let c4_i32_442 : BitVec 32 := 4#32
  let v745 : BitVec 32 := Scalar.muli v744 c4_i32_442
  let c128_i32_443 : BitVec 32 := 128#32
  let v746 : BitVec 32 := Scalar.muli v745 c128_i32_443
  v746
def k0_off93 (i : grid0.Coords) : Fin 3 → Nat :=
  let c0_444 : Index := 0#32
  let c0_445 : Index := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c1_i32_441 : BitVec 32 := 1#32
  let v744 : BitVec 32 := Scalar.subi v316 c1_i32_441
  let c4_i32_442 : BitVec 32 := 4#32
  let v745 : BitVec 32 := Scalar.muli v744 c4_i32_442
  let c128_i32_443 : BitVec 32 := 128#32
  let v746 : BitVec 32 := Scalar.muli v745 c128_i32_443
  let v747 : BitVec 32 := v746
  let v748 : Index := Scalar.indexCast v747
  ![0, 0, v748.toNat]
def k0_off94 (i : grid0.Coords) : Fin 3 → Nat :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c1_i32_441 : BitVec 32 := 1#32
  let v744 : BitVec 32 := Scalar.subi v316 c1_i32_441
  let c4_i32_442 : BitVec 32 := 4#32
  let v745 : BitVec 32 := Scalar.muli v744 c4_i32_442
  let v751 : Index := Scalar.indexCast v745
  let c0_446 : Index := 0#32
  let c0_447 : Index := 0#32
  ![v751.toNat, 0, 0]
@[reducible] def k0_t10_loop (i : grid0.Coords) : Scf.Loop 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_182 : BitVec 32 := 1#32
  ⟨v320, v325, c1_i32_182⟩
def k0_mult14 (i : grid0.Coords) (k0_t10 : Fin (k0_t10_loop i).trips) : BitVec 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let c1_i32_182 : BitVec 32 := 1#32
  let arg25 : BitVec 32 := Scf.iv v320 c1_i32_182 k0_t10
  let c128_i32_413 : BitVec 32 := 128#32
  let v698 : BitVec 32 := Scalar.muli arg25 c128_i32_413
  v698
def k0_off95 (i : grid0.Coords) (k0_t10 : Fin (k0_t10_loop i).trips) : Fin 3 → Nat :=
  let c0_414 : Index := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let c1_i32_182 : BitVec 32 := 1#32
  let arg25 : BitVec 32 := Scf.iv v320 c1_i32_182 k0_t10
  let c128_i32_413 : BitVec 32 := 128#32
  let v698 : BitVec 32 := Scalar.muli arg25 c128_i32_413
  let v699 : BitVec 32 := v698
  let v700 : Index := Scalar.indexCast v699
  let c0_415 : Index := 0#32
  ![0, v700.toNat, 0]
def k0_mult15 (i : grid0.Coords) (k0_t10 : Fin (k0_t10_loop i).trips) : BitVec 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let c1_i32_182 : BitVec 32 := 1#32
  let arg25 : BitVec 32 := Scf.iv v320 c1_i32_182 k0_t10
  let c128_i32_421 : BitVec 32 := 128#32
  let v708 : BitVec 32 := Scalar.muli arg25 c128_i32_421
  v708
def k0_off96 (i : grid0.Coords) (k0_t10 : Fin (k0_t10_loop i).trips) : Fin 3 → Nat :=
  let c0_422 : Index := 0#32
  let c0_423 : Index := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let c1_i32_182 : BitVec 32 := 1#32
  let arg25 : BitVec 32 := Scf.iv v320 c1_i32_182 k0_t10
  let c128_i32_421 : BitVec 32 := 128#32
  let v708 : BitVec 32 := Scalar.muli arg25 c128_i32_421
  let v709 : BitVec 32 := v708
  let v710 : Index := Scalar.indexCast v709
  ![0, 0, v710.toNat]
def k0_off97 (i : grid0.Coords) (k0_t10 : Fin (k0_t10_loop i).trips) : Fin 3 → Nat :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let c1_i32_182 : BitVec 32 := 1#32
  let arg25 : BitVec 32 := Scf.iv v320 c1_i32_182 k0_t10
  let v713 : Index := Scalar.indexCast arg25
  let c0_424 : Index := 0#32
  let c0_425 : Index := 0#32
  ![v713.toNat, 0, 0]
@[reducible] def k0_t11_loop (i : grid0.Coords) : Scf.Loop 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let v322 : BitVec 32 := Scalar.addi v320 v321
  let c1_i32_183 : BitVec 32 := 1#32
  ⟨v325, v322, c1_i32_183⟩
def k0_mult16 (i : grid0.Coords) (k0_t11 : Fin (k0_t11_loop i).trips) : BitVec 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_183 : BitVec 32 := 1#32
  let arg25 : BitVec 32 := Scf.iv v325 c1_i32_183 k0_t11
  let c128_i32_413 : BitVec 32 := 128#32
  let v698 : BitVec 32 := Scalar.muli arg25 c128_i32_413
  v698
def k0_off98 (i : grid0.Coords) (k0_t11 : Fin (k0_t11_loop i).trips) : Fin 3 → Nat :=
  let c0_414 : Index := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_183 : BitVec 32 := 1#32
  let arg25 : BitVec 32 := Scf.iv v325 c1_i32_183 k0_t11
  let c128_i32_413 : BitVec 32 := 128#32
  let v698 : BitVec 32 := Scalar.muli arg25 c128_i32_413
  let v699 : BitVec 32 := v698
  let v700 : Index := Scalar.indexCast v699
  let c0_415 : Index := 0#32
  ![0, v700.toNat, 0]
def k0_mult17 (i : grid0.Coords) (k0_t11 : Fin (k0_t11_loop i).trips) : BitVec 32 :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_183 : BitVec 32 := 1#32
  let arg25 : BitVec 32 := Scf.iv v325 c1_i32_183 k0_t11
  let c128_i32_421 : BitVec 32 := 128#32
  let v708 : BitVec 32 := Scalar.muli arg25 c128_i32_421
  v708
def k0_off99 (i : grid0.Coords) (k0_t11 : Fin (k0_t11_loop i).trips) : Fin 3 → Nat :=
  let c0_422 : Index := 0#32
  let c0_423 : Index := 0#32
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_183 : BitVec 32 := 1#32
  let arg25 : BitVec 32 := Scf.iv v325 c1_i32_183 k0_t11
  let c128_i32_421 : BitVec 32 := 128#32
  let v708 : BitVec 32 := Scalar.muli arg25 c128_i32_421
  let v709 : BitVec 32 := v708
  let v710 : Index := Scalar.indexCast v709
  ![0, 0, v710.toNat]
def k0_off100 (i : grid0.Coords) (k0_t11 : Fin (k0_t11_loop i).trips) : Fin 3 → Nat :=
  let arg1 : BitVec 32 := BitVec.ofNat 32 (i 1).val
  let c1_i32_168 : BitVec 32 := 1#32
  let v298 : BitVec 32 := Scalar.subi arg1 c1_i32_168
  let c0_i32_169 : BitVec 32 := 0#32
  let v299 : BitVec 32 := Scalar.maxsi v298 c0_i32_169
  let c0_i32_171 : BitVec 32 := 0#32
  let v301 : BitVec 1 := Scalar.cmpi .sgt v299 c0_i32_171
  let v302 : BitVec 32 := Scalar.extui v301
  let c0_i32_172 : BitVec 32 := 0#32
  let v303 : BitVec 1 := Scalar.cmpi .slt v299 c0_i32_172
  let v304 : BitVec 32 := Scalar.extui v303
  let v305 : BitVec 32 := Scalar.subi v302 v304
  let c4_i32_170 : BitVec 32 := 4#32
  let c0_i32_173 : BitVec 32 := 0#32
  let v306 : BitVec 1 := Scalar.cmpi .sgt c4_i32_170 c0_i32_173
  let v307 : BitVec 32 := Scalar.extui v306
  let c0_i32_174 : BitVec 32 := 0#32
  let v308 : BitVec 1 := Scalar.cmpi .slt c4_i32_170 c0_i32_174
  let v309 : BitVec 32 := Scalar.extui v308
  let v310 : BitVec 32 := Scalar.subi v307 v309
  let v311 : BitVec 1 := Scalar.cmpi .ne v305 v310
  let v312 : BitVec 32 := Scalar.remsi v299 c4_i32_170
  let c0_i32_175 : BitVec 32 := 0#32
  let v313 : BitVec 1 := Scalar.cmpi .ne v312 c0_i32_175
  let v314 : BitVec 1 := Scalar.andi v311 v313
  let v300 : BitVec 32 := Scalar.divsi v299 c4_i32_170
  let c1_i32_176 : BitVec 32 := 1#32
  let v315 : BitVec 32 := Scalar.subi v300 c1_i32_176
  let v316 : BitVec 32 := Scalar.select v314 v315 v300
  let c4_i32_179 : BitVec 32 := 4#32
  let v320 : BitVec 32 := Scalar.muli v316 c4_i32_179
  let v321 : BitVec 32 := Scalar.subi v299 v320
  let c1_i32_181 : BitVec 32 := 1#32
  let v323 : BitVec 32 := Scalar.divsi v321 c1_i32_181
  let v324 : BitVec 32 := Scalar.muli v323 c1_i32_181
  let v325 : BitVec 32 := Scalar.addi v320 v324
  let c1_i32_183 : BitVec 32 := 1#32
  let arg25 : BitVec 32 := Scf.iv v325 c1_i32_183 k0_t11
  let v713 : Index := Scalar.indexCast arg25
  let c0_424 : Index := 0#32
  let c0_425 : Index := 0#32
  ![v713.toNat, 0, 0]
def k0_mult18 (i : grid0.Coords) : BitVec 32 :=
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  v329
def k0_mult19 (i : grid0.Coords) : BitVec 32 :=
  let arg1 : BitVec 32 := BitVec.ofNat 32 (i 1).val
  let c1_i32_159 : BitVec 32 := 1#32
  let v286 : BitVec 32 := Scalar.subi arg1 c1_i32_159
  let c0_i32_160 : BitVec 32 := 0#32
  let v287 : BitVec 32 := Scalar.maxsi v286 c0_i32_160
  let c128_i32_187 : BitVec 32 := 128#32
  let v331 : BitVec 32 := Scalar.muli v287 c128_i32_187
  v331
def k0_off101 (i : grid0.Coords) : Fin 3 → Nat :=
  let c0_188 : Index := 0#32
  let c0_189 : Index := 0#32
  let arg1 : BitVec 32 := BitVec.ofNat 32 (i 1).val
  let c1_i32_159 : BitVec 32 := 1#32
  let v286 : BitVec 32 := Scalar.subi arg1 c1_i32_159
  let c0_i32_160 : BitVec 32 := 0#32
  let v287 : BitVec 32 := Scalar.maxsi v286 c0_i32_160
  let c128_i32_187 : BitVec 32 := 128#32
  let v331 : BitVec 32 := Scalar.muli v287 c128_i32_187
  let v332 : BitVec 32 := v331
  let v333 : Index := Scalar.indexCast v332
  ![0, 0, v333.toNat]
def k0_off102 (i : grid0.Coords) : Fin 3 → Nat :=
  let arg1 : BitVec 32 := BitVec.ofNat 32 (i 1).val
  let c1_i32_159 : BitVec 32 := 1#32
  let v286 : BitVec 32 := Scalar.subi arg1 c1_i32_159
  let c0_i32_160 : BitVec 32 := 0#32
  let v287 : BitVec 32 := Scalar.maxsi v286 c0_i32_160
  let v336 : Index := Scalar.indexCast v287
  let c0_190 : Index := 0#32
  let c0_191 : Index := 0#32
  ![v336.toNat, 0, 0]
def k0_off103 (i : grid0.Coords) : Fin 3 → Nat :=
  let c0_196 : Index := 0#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v346 : Index := Scalar.indexCast v330
  let c0_197 : Index := 0#32
  ![0, v346.toNat, 0]
def k0_off104 (i : grid0.Coords) : Fin 3 → Nat :=
  let c1_207 : Index := 1#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v368 : Index := Scalar.indexCast v330
  let c0_208 : Index := 0#32
  ![1, v368.toNat, 0]
def k0_off105 (i : grid0.Coords) : Fin 3 → Nat :=
  let c2_218 : Index := 2#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v390 : Index := Scalar.indexCast v330
  let c0_219 : Index := 0#32
  ![2, v390.toNat, 0]
def k0_off106 (i : grid0.Coords) : Fin 3 → Nat :=
  let c3_229 : Index := 3#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v412 : Index := Scalar.indexCast v330
  let c0_230 : Index := 0#32
  ![3, v412.toNat, 0]
def k0_off107 (i : grid0.Coords) : Fin 3 → Nat :=
  let c4_240 : Index := 4#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v434 : Index := Scalar.indexCast v330
  let c0_241 : Index := 0#32
  ![4, v434.toNat, 0]
def k0_off108 (i : grid0.Coords) : Fin 3 → Nat :=
  let c5_251 : Index := 5#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v456 : Index := Scalar.indexCast v330
  let c0_252 : Index := 0#32
  ![5, v456.toNat, 0]
def k0_off109 (i : grid0.Coords) : Fin 3 → Nat :=
  let c6_262 : Index := 6#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v478 : Index := Scalar.indexCast v330
  let c0_263 : Index := 0#32
  ![6, v478.toNat, 0]
def k0_off110 (i : grid0.Coords) : Fin 3 → Nat :=
  let c7_273 : Index := 7#32
  let arg1 : BitVec 32 := BitVec.ofNat 32 (i 1).val
  let c1_i32_184 : BitVec 32 := 1#32
  let v328 : BitVec 1 := Scalar.cmpi .sge arg1 c1_i32_184
  let c0_i32_185 : BitVec 32 := 0#32
  let c128_i32_186 : BitVec 32 := 128#32
  let v329 : BitVec 32 := Scalar.select v328 c0_i32_185 c128_i32_186
  let v330 : BitVec 32 := v329
  let v500 : Index := Scalar.indexCast v330
  let c0_274 : Index := 0#32
  ![7, v500.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c48_i32 : BitVec 32 := 48#32
  let c0_i32_0 : BitVec 32 := 0#32
  ![arg0.toNat, c0_i32.toNat, c48_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8320x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x264x8320 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelFfn.lean ====
abbrev S16640x2048 : Shape := ⟨2, ![16640, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S640x2048 : Shape := ⟨2, ![640, 2048]⟩
abbrev S2048x512 : Shape := ⟨2, ![2048, 512]⟩
abbrev S512x2048 : Shape := ⟨2, ![512, 2048]⟩
abbrev S640 : Shape := ⟨1, ![640]⟩
abbrev S640x1 : Shape := ⟨2, ![640, 1]⟩
abbrev S640x512 : Shape := ⟨2, ![640, 512]⟩

abbrev nBuf : Space → Nat
  | .hbm => 12
  | .vmem => 14
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16640x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S640x2048, .f32⟩
  | .local _ .vmem, ⟨11, _⟩ => ⟨S640x2048, .f32⟩
  | .local _ .vmem, ⟨12, _⟩ => ⟨S640x2048, .bf16⟩
  | .local _ .vmem, ⟨13, _⟩ => ⟨S640x2048, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![26, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S640x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFfnIdeal.lean ====
abbrev S16640x2048 : Shape := ⟨2, ![16640, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S16640x5632 : Shape := ⟨2, ![16640, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16640x2048, .f32⟩
  | .hbm, ⟨7, _⟩ => ⟨S_, .f32⟩
  | .hbm, ⟨8, _⟩ => ⟨S16640, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S16640x1, .f32⟩
  | .hbm, ⟨17, _⟩ => ⟨S16640x2048, .f32⟩
  | .hbm, ⟨18, _⟩ => ⟨S16640x2048, .f32⟩
  | .hbm, ⟨19, _⟩ => ⟨S1x2048, .f32⟩
  | .hbm, ⟨20, _⟩ => ⟨S16640x2048, .f32⟩
  | .hbm, ⟨21, _⟩ => ⟨S16640x2048, .f32⟩
  | .hbm, ⟨22, _⟩ => ⟨S16640x5632, .f32⟩
  | .hbm, ⟨23, _⟩ => ⟨S16640x5632, .f32⟩
  | .hbm, ⟨24, _⟩ => ⟨S16640x5632, .f32⟩
  | .hbm, ⟨25, _⟩ => ⟨S_, .f32⟩
  | .hbm, ⟨26, _⟩ => ⟨S16640x5632, .f32⟩
  | .hbm, ⟨27, _⟩ => ⟨S16640x5632, .f32⟩
  | .hbm, ⟨28, _⟩ => ⟨S_, .f32⟩
  | .hbm, ⟨29, _⟩ => ⟨S16640x5632, .f32⟩
  | .hbm, ⟨30, _⟩ => ⟨S16640x5632, .f32⟩
  | .hbm, ⟨31, _⟩ => ⟨S16640x5632, .f32⟩
  | .hbm, ⟨32, _⟩ => ⟨S16640x5632, .f32⟩
  | .hbm, ⟨33, _⟩ => ⟨S16640x5632, .f32⟩
  | .hbm, ⟨34, _⟩ => ⟨S16640x2048, .f32⟩
  | .hbm, ⟨35, _⟩ => ⟨S_, .f32⟩
  | .hbm, ⟨36, _⟩ => ⟨S16640x2048, .f32⟩
  | .hbm, ⟨37, _⟩ => ⟨S16640x2048, .f32⟩
  | .hbm, ⟨38, _⟩ => ⟨S16640x2048, .f32⟩
  | .hbm, ⟨39, _⟩ => ⟨S16640x2048, .f32⟩
  | .hbm, ⟨40, _⟩ => ⟨S_, .f32⟩
  | .hbm, ⟨41, _⟩ => ⟨S16640, .f32⟩
  | .hbm, ⟨42, _⟩ => ⟨S16640x1, .f32⟩
  | .hbm, ⟨43, _⟩ => ⟨S_, .f32⟩
  | .hbm, ⟨44, _⟩ => ⟨S16640x1, .f32⟩
  | .hbm, ⟨45, _⟩ => ⟨S16640x1, .f32⟩
  | .hbm, ⟨46, _⟩ => ⟨S_, .f32⟩
  | .hbm, ⟨47, _⟩ => ⟨S16640x1, .f32⟩
  | .hbm, ⟨48, _⟩ => ⟨S16640x1, .f32⟩
  | .hbm, ⟨49, _⟩ => ⟨S16640x1, .f32⟩
  | .hbm, ⟨50, _⟩ => ⟨S16640x2048, .f32⟩
  | .hbm, ⟨51, _⟩ => ⟨S16640x2048, .f32⟩
  | .hbm, ⟨52, _⟩ => ⟨S1x2048, .f32⟩
  | .hbm, ⟨53, _⟩ => ⟨S16640x2048, .f32⟩
  | .hbm, ⟨54, _⟩ => ⟨S16640x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== KernelHalf.lean ====
abbrev S16640x2048 : Shape := ⟨2, ![16640, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S640x2048 : Shape := ⟨2, ![640, 2048]⟩
abbrev S2048x512 : Shape := ⟨2, ![2048, 512]⟩
abbrev S512x2048 : Shape := ⟨2, ![512, 2048]⟩
abbrev S640 : Shape := ⟨1, ![640]⟩
abbrev S640x1 : Shape := ⟨2, ![640, 1]⟩
abbrev S640x512 : Shape := ⟨2, ![640, 512]⟩

abbrev nBuf : Space → Nat
  | .hbm => 10
  | .vmem => 13
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S16640x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S640x2048, .f32⟩
  | .local _ .vmem, ⟨10, _⟩ => ⟨S640x2048, .f32⟩
  | .local _ .vmem, ⟨11, _⟩ => ⟨S640x2048, .bf16⟩
  | .local _ .vmem, ⟨12, _⟩ => ⟨S640x2048, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![26, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceHalfIdeal.lean ====
abbrev S16640x2048 : Shape := ⟨2, ![16640, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S16640x5632 : Shape := ⟨2, ![16640, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16640x2048, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x2048, .f32⟩
  | .hbm, ⟨17, _⟩ => ⟨S16640x2048, .f32⟩
  | .hbm, ⟨18, _⟩ => ⟨S1x2048, .f32⟩
  | .hbm, ⟨19, _⟩ => ⟨S16640x2048, .f32⟩
  | .hbm, ⟨20, _⟩ => ⟨S16640x2048, .f32⟩
  | .hbm, ⟨21, _⟩ => ⟨S16640x5632, .f32⟩
  | .hbm, ⟨22, _⟩ => ⟨S16640x5632, .f32⟩
  | .hbm, ⟨23, _⟩ => ⟨S16640x5632, .f32⟩
  | .hbm, ⟨24, _⟩ => ⟨S_, .f32⟩
  | .hbm, ⟨25, _⟩ => ⟨S16640x5632, .f32⟩
  | .hbm, ⟨26, _⟩ => ⟨S16640x5632, .f32⟩
  | .hbm, ⟨27, _⟩ => ⟨S_, .f32⟩
  | .hbm, ⟨28, _⟩ => ⟨S16640x5632, .f32⟩
  | .hbm, ⟨29, _⟩ => ⟨S16640x5632, .f32⟩
  | .hbm, ⟨30, _⟩ => ⟨S16640x5632, .f32⟩
  | .hbm, ⟨31, _⟩ => ⟨S16640x5632, .f32⟩
  | .hbm, ⟨32, _⟩ => ⟨S16640x5632, .f32⟩
  | .hbm, ⟨33, _⟩ => ⟨S16640x2048, .f32⟩
  | .hbm, ⟨34, _⟩ => ⟨S_, .f32⟩
  | .hbm, ⟨35, _⟩ => ⟨S16640x2048, .f32⟩
  | .hbm, ⟨36, _⟩ => ⟨S16640x2048, .f32⟩
  | .hbm, ⟨37, _⟩ => ⟨S16640x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== KernelMerge.lean ====
abbrev S16640x2048 : Shape := ⟨2, ![16640, 2048]⟩
abbrev S2048 : Shape := ⟨1, ![2048]⟩
abbrev S16640x1024 : Shape := ⟨2, ![16640, 1024]⟩
abbrev S2048x6144 : Shape := ⟨2, ![2048, 6144]⟩
abbrev S3x1024x2048 : Shape := ⟨3, ![3, 1024, 2048]⟩
abbrev S1x2048 : Shape := ⟨2, ![1, 2048]⟩
abbrev S640x2048 : Shape := ⟨2, ![640, 2048]⟩
abbrev S640x1024 : Shape := ⟨2, ![640, 1024]⟩
abbrev S2048x512 : Shape := ⟨2, ![2048, 512]⟩
abbrev S3x1024x512 : Shape := ⟨3, ![3, 1024, 512]⟩
abbrev S640x512 : Shape := ⟨2, ![640, 512]⟩
abbrev S640 : Shape := ⟨1, ![640]⟩
abbrev S640x1 : Shape := ⟨2, ![640, 1]⟩
abbrev S1x1024x512 : Shape := ⟨3, ![1, 1024, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S16640x1024, .bf16⟩
  | .hbm, ⟨3, _⟩ => ⟨S16640x1024, .bf16⟩
  | .hbm, ⟨4, _⟩ => ⟨S16640x1024, .bf16⟩
  | .hbm, ⟨5, _⟩ => ⟨S2048x6144, .f32⟩
  | .hbm, ⟨6, _⟩ => ⟨S3x1024x2048, .f32⟩
  | .hbm, ⟨7, _⟩ => ⟨S2048x6144, .bf16⟩
  | .hbm, ⟨8, _⟩ => ⟨S3x1024x2048, .bf16⟩
  | .hbm, ⟨9, _⟩ => ⟨S1x2048, .f32⟩
  | .hbm, ⟨10, _⟩ => ⟨S16640x2048, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S3x1024x512, .bf16⟩
  | .local _ .vmem, ⟨16, _⟩ => ⟨S3x1024x512, .bf16⟩
  | .local _ .vmem, ⟨17, _⟩ => ⟨S640x512, .bf16⟩
  | .local _ .vmem, ⟨18, _⟩ => ⟨S640x512, .bf16⟩
  | .local _ .vmem, ⟨19, _⟩ => ⟨S640x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![26, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMergeIdeal.lean ====
abbrev S16640x2048 : Shape := ⟨2, ![16640, 2048]⟩
abbrev S2048 : Shape := ⟨1, ![2048]⟩
abbrev S16640x1024 : Shape := ⟨2, ![16640, 1024]⟩
abbrev S2048x6144 : Shape := ⟨2, ![2048, 6144]⟩
abbrev S3x1024x2048 : Shape := ⟨3, ![3, 1024, 2048]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S16640x6144 : Shape := ⟨2, ![16640, 6144]⟩
abbrev S16640x3x2048 : Shape := ⟨3, ![16640, 3, 2048]⟩
abbrev S16640x1x2048 : Shape := ⟨3, ![16640, 1, 2048]⟩
abbrev S1x1024x2048 : Shape := ⟨3, ![1, 1024, 2048]⟩
abbrev S1024x2048 : Shape := ⟨2, ![1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S16640x1024, .bf16⟩
  | .hbm, ⟨3, _⟩ => ⟨S16640x1024, .bf16⟩
  | .hbm, ⟨4, _⟩ => ⟨S16640x1024, .bf16⟩
  | .hbm, ⟨5, _⟩ => ⟨S2048x6144, .f32⟩
  | .hbm, ⟨6, _⟩ => ⟨S3x1024x2048, .f32⟩
  | .hbm, ⟨7, _⟩ => ⟨S16640x2048, .f32⟩
  | .hbm, ⟨8, _⟩ => ⟨S_, .f32⟩
  | .hbm, ⟨9, _⟩ => ⟨S16640, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S16640x1, .f32⟩
  | .hbm, ⟨18, _⟩ => ⟨S16640x2048, .f32⟩
  | .hbm, ⟨19, _⟩ => ⟨S16640x2048, .f32⟩
  | .hbm, ⟨20, _⟩ => ⟨S1x2048, .f32⟩
  | .hbm, ⟨21, _⟩ => ⟨S16640x2048, .f32⟩
  | .hbm, ⟨22, _⟩ => ⟨S16640x2048, .f32⟩
  | .hbm, ⟨23, _⟩ => ⟨S16640x6144, .f32⟩
  | .hbm, ⟨24, _⟩ => ⟨S16640x3x2048, .f32⟩
  | .hbm, ⟨25, _⟩ => ⟨S16640x3x2048, .f32⟩
  | .hbm, ⟨26, _⟩ => ⟨S16640x3x2048, .f32⟩
  | .hbm, ⟨27, _⟩ => ⟨S_, .f32⟩
  | .hbm, ⟨28, _⟩ => ⟨S16640x3x2048, .f32⟩
  | .hbm, ⟨29, _⟩ => ⟨S16640x3x2048, .f32⟩
  | .hbm, ⟨30, _⟩ => ⟨S_, .f32⟩
  | .hbm, ⟨31, _⟩ => ⟨S16640x3x2048, .f32⟩
  | .hbm, ⟨32, _⟩ => ⟨S16640x3x2048, .f32⟩
  | .hbm, ⟨33, _⟩ => ⟨S16640x1x2048, .f32⟩
  | .hbm, ⟨34, _⟩ => ⟨S16640x2048, .f32⟩
  | .hbm, ⟨35, _⟩ => ⟨S16640x1024, .f32⟩
  | .hbm, ⟨36, _⟩ => ⟨S1x1024x2048, .f32⟩
  | .hbm, ⟨37, _⟩ => ⟨S1024x2048, .f32⟩
  | .hbm, ⟨38, _⟩ => ⟨S16640x2048, .f32⟩
  | .hbm, ⟨39, _⟩ => ⟨S16640x2048, .f32⟩
  | .hbm, ⟨40, _⟩ => ⟨S16640x1x2048, .f32⟩
  | .hbm, ⟨41, _⟩ => ⟨S16640x2048, .f32⟩
  | .hbm, ⟨42, _⟩ => ⟨S16640x1024, .f32⟩
  | .hbm, ⟨43, _⟩ => ⟨S1x1024x2048, .f32⟩
  | .hbm, ⟨44, _⟩ => ⟨S1024x2048, .f32⟩
  | .hbm, ⟨45, _⟩ => ⟨S16640x2048, .f32⟩
  | .hbm, ⟨46, _⟩ => ⟨S16640x2048, .f32⟩
  | .hbm, ⟨47, _⟩ => ⟨S16640x2048, .f32⟩
  | .hbm, ⟨48, _⟩ => ⟨S16640x1x2048, .f32⟩
  | .hbm, ⟨49, _⟩ => ⟨S16640x2048, .f32⟩
  | .hbm, ⟨50, _⟩ => ⟨S16640x1024, .f32⟩
  | .hbm, ⟨51, _⟩ => ⟨S1x1024x2048, .f32⟩
  | .hbm, ⟨52, _⟩ => ⟨S1024x2048, .f32⟩
  | .hbm, ⟨53, _⟩ => ⟨S16640x2048, .f32⟩
  | .hbm, ⟨54, _⟩ => ⟨S16640x2048, .f32⟩
  | .hbm, ⟨55, _⟩ => ⟨S16640x2048, .f32⟩
  | .hbm, ⟨56, _⟩ => ⟨S16640x2048, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== KernelRes.lean ====
abbrev S16640x2048 : Shape := ⟨2, ![16640, 2048]⟩
abbrev S2048x2048 : Shape := ⟨2, ![2048, 2048]⟩
abbrev S1280x2048 : Shape := ⟨2, ![1280, 2048]⟩
abbrev S2048x1024 : Shape := ⟨2, ![2048, 1024]⟩
abbrev S1280x1024 : Shape := ⟨2, ![1280, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16640x2048, .bf16⟩
  | .hbm, ⟨1, _⟩ => ⟨S2048x2048, .f32⟩
  | .hbm, ⟨2, _⟩ => ⟨S16640x2048, .f32⟩
  | .hbm, ⟨3, _⟩ => ⟨S2048x2048, .bf16⟩
  | .hbm, ⟨4, _⟩ => ⟨S16640x2048, .f32⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | .local _ .vmem, ⟨7, _⟩ => ⟨S1280x1024, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceResIdeal.lean ====
abbrev S16640x2048 : Shape := ⟨2, ![16640, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2048x2048, .f32⟩
  | .hbm, ⟨2, _⟩ => ⟨S16640x2048, .f32⟩
  | .hbm, ⟨3, _⟩ => ⟨S16640x2048, .f32⟩
  | .hbm, ⟨4, _⟩ => ⟨S16640x2048, .f32⟩
  | .hbm, ⟨5, _⟩ => ⟨S16640x2048, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelProj.lean ====
abbrev S16640x2048 : Shape := ⟨2, ![16640, 2048]⟩
abbrev S2048 : Shape := ⟨1, ![2048]⟩
abbrev S2048x14680 : Shape := ⟨2, ![2048, 14680]⟩
abbrev S256 : Shape := ⟨1, ![256]⟩
abbrev S6272 : Shape := ⟨1, ![6272]⟩
abbrev S2048x1024 : Shape := ⟨2, ![2048, 1024]⟩
abbrev S2048x64 : Shape := ⟨2, ![2048, 64]⟩
abbrev S_ : Shape := ⟨0, ![]⟩
abbrev S2048x6272 : Shape := ⟨2, ![2048, 6272]⟩
abbrev S2048x512 : Shape := ⟨2, ![2048, 512]⟩
abbrev S2048x8x2x32 : Shape := ⟨4, ![2048, 8, 2, 32]⟩
abbrev S2048x2x8x32 : Shape := ⟨4, ![2048, 2, 8, 32]⟩
abbrev S2048x256 : Shape := ⟨2, ![2048, 256]⟩
abbrev S2048x16 : Shape := ⟨2, ![2048, 16]⟩
abbrev S2048x8 : Shape := ⟨2, ![2048, 8]⟩
abbrev S2048x104 : Shape := ⟨2, ![2048, 104]⟩
abbrev S2048x128 : Shape := ⟨2, ![2048, 128]⟩
abbrev S2048x2560 : Shape := ⟨2, ![2048, 2560]⟩
abbrev S2048x6144 : Shape := ⟨2, ![2048, 6144]⟩
abbrev S1x2048 : Shape := ⟨2, ![1, 2048]⟩
abbrev S1x6272 : Shape := ⟨2, ![1, 6272]⟩
abbrev S1x256 : Shape := ⟨2, ![1, 256]⟩
abbrev S16640x6272 : Shape := ⟨2, ![16640, 6272]⟩
abbrev S16640x2560 : Shape := ⟨2, ![16640, 2560]⟩
abbrev S16640x256 : Shape := ⟨2, ![16640, 256]⟩
abbrev S1280x2048 : Shape := ⟨2, ![1280, 2048]⟩
abbrev S2048x896 : Shape := ⟨2, ![2048, 896]⟩
abbrev S1x896 : Shape := ⟨2, ![1, 896]⟩
abbrev S1280x896 : Shape := ⟨2, ![1280, 896]⟩
abbrev S1280x512 : Shape := ⟨2, ![1280, 512]⟩
abbrev S1280x256 : Shape := ⟨2, ![1280, 256]⟩
abbrev S1280 : Shape := ⟨1, ![1280]⟩
abbrev S1280x1 : Shape := ⟨2, ![1280, 1]⟩

abbrev nBuf : Space → Nat
  | .hbm => 40
  | .vmem => 17
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x14680, .f32⟩
  | .hbm, ⟨3, _⟩ => ⟨S256, .f32⟩
  | .hbm, ⟨4, _⟩ => ⟨S6272, .f32⟩
  | .hbm, ⟨5, _⟩ => ⟨S2048x14680, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x64, .bf16⟩
  | .hbm, ⟨13, _⟩ => ⟨S_, .bf16⟩
  | .hbm, ⟨14, _⟩ => ⟨S2048x64, .bf16⟩
  | .hbm, ⟨15, _⟩ => ⟨S2048x6272, .bf16⟩
  | .hbm, ⟨16, _⟩ => ⟨S2048x512, .bf16⟩
  | .hbm, ⟨17, _⟩ => ⟨S2048x8x2x32, .bf16⟩
  | .hbm, ⟨18, _⟩ => ⟨S2048x2x8x32, .bf16⟩
  | .hbm, ⟨19, _⟩ => ⟨S2048x512, .bf16⟩
  | .hbm, ⟨20, _⟩ => ⟨S2048x512, .bf16⟩
  | .hbm, ⟨21, _⟩ => ⟨S2048x8x2x32, .bf16⟩
  | .hbm, ⟨22, _⟩ => ⟨S2048x2x8x32, .bf16⟩
  | .hbm, ⟨23, _⟩ => ⟨S2048x512, .bf16⟩
  | .hbm, ⟨24, _⟩ => ⟨S2048x1024, .bf16⟩
  | .hbm, ⟨25, _⟩ => ⟨S2048x256, .bf16⟩
  | .hbm, ⟨26, _⟩ => ⟨S2048x16, .bf16⟩
  | .hbm, ⟨27, _⟩ => ⟨S2048x8, .bf16⟩
  | .hbm, ⟨28, _⟩ => ⟨S_, .bf16⟩
  | .hbm, ⟨29, _⟩ => ⟨S2048x104, .bf16⟩
  | .hbm, ⟨30, _⟩ => ⟨S_, .bf16⟩
  | .hbm, ⟨31, _⟩ => ⟨S2048x128, .bf16⟩
  | .hbm, ⟨32, _⟩ => ⟨S2048x2560, .bf16⟩
  | .hbm, ⟨33, _⟩ => ⟨S2048x6144, .bf16⟩
  | .hbm, ⟨34, _⟩ => ⟨S1x2048, .f32⟩
  | .hbm, ⟨35, _⟩ => ⟨S1x6272, .f32⟩
  | .hbm, ⟨36, _⟩ => ⟨S1x256, .f32⟩
  | .hbm, ⟨37, _⟩ => ⟨S16640x6272, .bf16⟩
  | .hbm, ⟨38, _⟩ => ⟨S16640x2560, .f32⟩
  | .hbm, ⟨39, _⟩ => ⟨S16640x256, .bf16⟩
  | .local _ .vmem, ⟨0, _⟩ => ⟨S1280x2048, .f32⟩
  | .local _ .vmem, ⟨1, _⟩ => ⟨S1280x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1x896, .f32⟩
  | .local _ .vmem, ⟨6, _⟩ => ⟨S1x896, .f32⟩
  | .local _ .vmem, ⟨7, _⟩ => ⟨S2048x512, .bf16⟩
  | .local _ .vmem, ⟨8, _⟩ => ⟨S2048x512, .bf16⟩
  | .local _ .vmem, ⟨9, _⟩ => ⟨S1x256, .f32⟩
  | .local _ .vmem, ⟨10, _⟩ => ⟨S1280x896, .bf16⟩
  | .local _ .vmem, ⟨11, _⟩ => ⟨S1280x896, .bf16⟩
  | .local _ .vmem, ⟨12, _⟩ => ⟨S1280x512, .f32⟩
  | .local _ .vmem, ⟨13, _⟩ => ⟨S1280x512, .f32⟩
  | .local _ .vmem, ⟨14, _⟩ => ⟨S1280x256, .bf16⟩
  | .local _ .vmem, ⟨15, _⟩ => ⟨S1280x256, .bf16⟩
  | .local _ .vmem, ⟨16, _⟩ => ⟨S1280x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![13, 12], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  ![arg0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1280x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1280x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1280x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceProjIdeal.lean ====
abbrev S16640x2048 : Shape := ⟨2, ![16640, 2048]⟩
abbrev S2048 : Shape := ⟨1, ![2048]⟩
abbrev S2048x14680 : Shape := ⟨2, ![2048, 14680]⟩
abbrev S256 : Shape := ⟨1, ![256]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S16640x14680 : Shape := ⟨2, ![16640, 14680]⟩
abbrev S16640x1024 : Shape := ⟨2, ![16640, 1024]⟩
abbrev S16640x256 : Shape := ⟨2, ![16640, 256]⟩
abbrev S16640x64 : Shape := ⟨2, ![16640, 64]⟩
abbrev S16640x16 : Shape := ⟨2, ![16640, 16]⟩
abbrev S16640x8 : Shape := ⟨2, ![16640, 8]⟩
abbrev S16640x512 : Shape := ⟨2, ![16640, 512]⟩
abbrev S16640x6144 : Shape := ⟨2, ![16640, 6144]⟩
abbrev S16640x6272 : Shape := ⟨2, ![16640, 6272]⟩
abbrev S16640x8x2x32 : Shape := ⟨4, ![16640, 8, 2, 32]⟩
abbrev S16640x2x8x32 : Shape := ⟨4, ![16640, 2, 8, 32]⟩
abbrev S16640x232 : Shape := ⟨2, ![16640, 232]⟩
abbrev S16640x2560 : Shape := ⟨2, ![16640, 2560]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S2048x14680, .f32⟩
  | .hbm, ⟨3, _⟩ => ⟨S256, .f32⟩
  | .hbm, ⟨4, _⟩ => ⟨S16640x2048, .f32⟩
  | .hbm, ⟨5, _⟩ => ⟨S_, .f32⟩
  | .hbm, ⟨6, _⟩ => ⟨S16640, .f32⟩
  | .hbm, ⟨7, _⟩ => ⟨S16640x1, .f32⟩
  | .hbm, ⟨8, _⟩ => ⟨S_, .f32⟩
  | .hbm, ⟨9, _⟩ => ⟨S16640x1, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S16640x1, .f32⟩
  | .hbm, ⟨15, _⟩ => ⟨S16640x2048, .f32⟩
  | .hbm, ⟨16, _⟩ => ⟨S16640x2048, .f32⟩
  | .hbm, ⟨17, _⟩ => ⟨S1x2048, .f32⟩
  | .hbm, ⟨18, _⟩ => ⟨S16640x2048, .f32⟩
  | .hbm, ⟨19, _⟩ => ⟨S16640x2048, .f32⟩
  | .hbm, ⟨20, _⟩ => ⟨S16640x14680, .f32⟩
  | .hbm, ⟨21, _⟩ => ⟨S16640x1024, .f32⟩
  | .hbm, ⟨22, _⟩ => ⟨S16640x256, .f32⟩
  | .hbm, ⟨23, _⟩ => ⟨S16640x1024, .f32⟩
  | .hbm, ⟨24, _⟩ => ⟨S16640x64, .f32⟩
  | .hbm, ⟨25, _⟩ => ⟨S16640x16, .f32⟩
  | .hbm, ⟨26, _⟩ => ⟨S16640x1024, .f32⟩
  | .hbm, ⟨27, _⟩ => ⟨S16640x1024, .f32⟩
  | .hbm, ⟨28, _⟩ => ⟨S16640x1024, .f32⟩
  | .hbm, ⟨29, _⟩ => ⟨S16640x8, .f32⟩
  | .hbm, ⟨30, _⟩ => ⟨S16640x512, .f32⟩
  | .hbm, ⟨31, _⟩ => ⟨S16640x512, .f32⟩
  | .hbm, ⟨32, _⟩ => ⟨S16640x1024, .f32⟩
  | .hbm, ⟨33, _⟩ => ⟨S16640x1024, .f32⟩
  | .hbm, ⟨34, _⟩ => ⟨S16640x6144, .f32⟩
  | .hbm, ⟨35, _⟩ => ⟨S_, .f32⟩
  | .hbm, ⟨36, _⟩ => ⟨S16640x1024, .f32⟩
  | .hbm, ⟨37, _⟩ => ⟨S16640x1024, .f32⟩
  | .hbm, ⟨38, _⟩ => ⟨S_, .f32⟩
  | .hbm, ⟨39, _⟩ => ⟨S16640x64, .f32⟩
  | .hbm, ⟨40, _⟩ => ⟨S16640x6272, .f32⟩
  | .hbm, ⟨41, _⟩ => ⟨S16640x8x2x32, .f32⟩
  | .hbm, ⟨42, _⟩ => ⟨S16640x2x8x32, .f32⟩
  | .hbm, ⟨43, _⟩ => ⟨S16640x512, .f32⟩
  | .hbm, ⟨44, _⟩ => ⟨S16640x8x2x32, .f32⟩
  | .hbm, ⟨45, _⟩ => ⟨S16640x2x8x32, .f32⟩
  | .hbm, ⟨46, _⟩ => ⟨S16640x512, .f32⟩
  | .hbm, ⟨47, _⟩ => ⟨S_, .f32⟩
  | .hbm, ⟨48, _⟩ => ⟨S16640x232, .f32⟩
  | .hbm, ⟨49, _⟩ => ⟨S16640x2560, .f32⟩
  | .hbm, ⟨50, _⟩ => ⟨S16640x6272, .bf16⟩
  | .hbm, ⟨51, _⟩ => ⟨S16640x256, .f32⟩
  | .hbm, ⟨52, _⟩ => ⟨S_, .f32⟩
  | .hbm, ⟨53, _⟩ => ⟨S16640, .f32⟩
  | .hbm, ⟨54, _⟩ => ⟨S16640x1, .f32⟩
  | .hbm, ⟨55, _⟩ => ⟨S_, .f32⟩
  | .hbm, ⟨56, _⟩ => ⟨S16640x1, .f32⟩
  | .hbm, ⟨57, _⟩ => ⟨S16640x1, .f32⟩
  | .hbm, ⟨58, _⟩ => ⟨S_, .f32⟩
  | .hbm, ⟨59, _⟩ => ⟨S16640x1, .f32⟩
  | .hbm, ⟨60, _⟩ => ⟨S16640x1, .f32⟩
  | .hbm, ⟨61, _⟩ => ⟨S16640x1, .f32⟩
  | .hbm, ⟨62, _⟩ => ⟨S16640x256, .f32⟩
  | .hbm, ⟨63, _⟩ => ⟨S16640x256, .f32⟩
  | .hbm, ⟨64, _⟩ => ⟨S1x256, .f32⟩
  | .hbm, ⟨65, _⟩ => ⟨S16640x256, .f32⟩
  | .hbm, ⟨66, _⟩ => ⟨S16640x256, .f32⟩
  | .hbm, ⟨67, _⟩ => ⟨S16640x256, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== KernelFox.lean ====
abbrev S2x8320x6272 : Shape := ⟨3, ![2, 8320, 6272]⟩
abbrev S2x8320x1024 : Shape := ⟨3, ![2, 8320, 1024]⟩
abbrev S1x640x128 : Shape := ⟨3, ![1, 640, 128]⟩
abbrev S1x8320x128 : Shape := ⟨3, ![1, 8320, 128]⟩
abbrev S1x640 : Shape := ⟨2, ![1, 640]⟩
abbrev S128x640 : Shape := ⟨2, ![128, 640]⟩
abbrev S3x640x640 : Shape := ⟨3, ![3, 640, 640]⟩
abbrev S640x640 : Shape := ⟨2, ![640, 640]⟩
abbrev S640x128 : Shape := ⟨2, ![640, 128]⟩
abbrev S640x256 : Shape := ⟨2, ![640, 256]⟩
abbrev S1x640x640 : Shape := ⟨3, ![1, 640, 640]⟩
abbrev S8x640 : Shape := ⟨2, ![8, 640]⟩
abbrev S1x64x640 : Shape := ⟨3, ![1, 64, 640]⟩
abbrev S64x640 : Shape := ⟨2, ![64, 640]⟩
abbrev S64x1 : Shape := ⟨2, ![64, 1]⟩
abbrev S8x8x640 : Shape := ⟨3, ![8, 8, 640]⟩
abbrev S640 : Shape := ⟨1, ![640]⟩

abbrev nBuf : Space → Nat
  | .hbm => 4
  | .vmem => 17
  | .smem => 0
  | _ => 0

abbrev bufTy : (tb : Table) → Fin (tcTables nBuf tb) → BufTy
  | .hbm, ⟨0, _⟩ => ⟨S2x8320x6272, .bf16⟩
  | .hbm, ⟨1, _⟩ => ⟨S2x8320x1024, .bf16⟩
  | .hbm, ⟨2, _⟩ => ⟨S2x8320x1024, .bf16⟩
  | .hbm, ⟨3, _⟩ => ⟨S2x8320x1024, .bf16⟩
  | .local _ .vmem, ⟨0, _⟩ => ⟨S1x640x128, .bf16⟩
  | .local _ .vmem, ⟨1, _⟩ => ⟨S1x640x128, .bf16⟩
  | .local _ .vmem, ⟨2, _⟩ => ⟨S1x640x128, .bf16⟩
  | .local _ .vmem, ⟨3, _⟩ => ⟨S1x640x128, .bf16⟩
  | .local _ .vmem, ⟨4, _⟩ => ⟨S1x8320x128, .bf16⟩
  | .local _ .vmem, ⟨5, _⟩ => ⟨S1x8320x128, .bf16⟩
  | .local _ .vmem, ⟨6, _⟩ => ⟨S1x8320x128, .bf16⟩
  | .local _ .vmem, ⟨7, _⟩ => ⟨S1x8320x128, .bf16⟩
  | .local _ .vmem, ⟨8, _⟩ => ⟨S1x8320x128, .bf16⟩
  | .local _ .vmem, ⟨9, _⟩ => ⟨S1x8320x128, .bf16⟩
  | .local _ .vmem, ⟨10, _⟩ => ⟨S1x640x128, .bf16⟩
  | .local _ .vmem, ⟨11, _⟩ => ⟨S1x640x128, .bf16⟩
  | .local _ .vmem, ⟨12, _⟩ => ⟨S1x640, .f32⟩
  | .local _ .vmem, ⟨13, _⟩ => ⟨S1x640, .f32⟩
  | .local _ .vmem, ⟨14, _⟩ => ⟨S128x640, .f32⟩
  | .local _ .vmem, ⟨15, _⟩ => ⟨S3x640x640, .f32⟩
  | .local _ .vmem, ⟨16, _⟩ => ⟨S640x640, .bf16⟩
  | _, _ => ⟨S2x8320x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 13], ![false, false, false]⟩

def k0_mult1 (i : grid0.Coords) : BitVec 32 :=
  let arg2 : BitVec 32 := BitVec.ofNat 32 (i 2).val
  let c640_i32 : BitVec 32 := 640#32
  let v17 : BitVec 32 := Scalar.muli arg2 c640_i32
  v17
def k0_off1 (i : grid0.Coords) : Fin 3 → Nat :=
  let c0_13 : Index := 0#32
  let arg2 : BitVec 32 := BitVec.ofNat 32 (i 2).val
  let c640_i32 : BitVec 32 := 640#32
  let v17 : BitVec 32 := Scalar.muli arg2 c640_i32
  let v18 : BitVec 32 := v17
  let v19 : Index := Scalar.indexCast v18
  let c0_14 : Index := 0#32
  ![0, v19.toNat, 0]
def k0_cond1 (i : grid0.Coords) : BitVec 1 :=
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_20 : BitVec 32 := 0#32
  let v32 : BitVec 1 := Scalar.cmpi .ne v31 c0_i32_20
  v32

def k0_mult2 : BitVec 32 :=
  let c0_i32_212 : BitVec 32 := 0#32
  c0_i32_212
def k0_mult3 (i : grid0.Coords) : BitVec 32 :=
  let c1_i32 : BitVec 32 := 1#32
  let arg2 : BitVec 32 := BitVec.ofNat 32 (i 2).val
  let v659 : BitVec 32 := Scalar.minsi c1_i32 arg2
  let c640_i32_221 : BitVec 32 := 640#32
  let v660 : BitVec 32 := Scalar.muli v659 c640_i32_221
  v660
def k0_off2 (i : grid0.Coords) : Fin 3 → Nat :=
  let c0_222 : Index := 0#32
  let c1_i32 : BitVec 32 := 1#32
  let arg2 : BitVec 32 := BitVec.ofNat 32 (i 2).val
  let v659 : BitVec 32 := Scalar.minsi c1_i32 arg2
  let c640_i32_221 : BitVec 32 := 640#32
  let v660 : BitVec 32 := Scalar.muli v659 c640_i32_221
  let v661 : BitVec 32 := v660
  let v662 : Index := Scalar.indexCast v661
  let c0_223 : Index := 0#32
  ![0, v662.toNat, 0]
def k0_mult4 : BitVec 32 :=
  let c0_i32_399 : BitVec 32 := 0#32
  c0_i32_399
@[reducible] def k0_t1_loop (i : grid0.Coords) : Scf.Loop 32 :=
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_421 : BitVec 32 := 1#32
  ⟨c0_i32_418, v1077, c1_i32_421⟩
def k0_mult5 (i : grid0.Coords) (k0_t1 : Fin (k0_t1_loop i).trips) : BitVec 32 :=
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c1_i32_433 : BitVec 32 := 1#32
  let v1095 : BitVec 32 := Scalar.addi v1094 c1_i32_433
  let arg2 : BitVec 32 := BitVec.ofNat 32 (i 2).val
  let v1096 : BitVec 32 := Scalar.minsi v1095 arg2
  let c640_i32_434 : BitVec 32 := 640#32
  let v1097 : BitVec 32 := Scalar.muli v1096 c640_i32_434
  v1097
def k0_off3 (i : grid0.Coords) (k0_t1 : Fin (k0_t1_loop i).trips) (c1_i32_433 : BitVec 32) : Fin 3 → Nat :=
  let c0_435 : Index := 0#32
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let v1095 : BitVec 32 := Scalar.addi v1094 c1_i32_433
  let arg2 : BitVec 32 := BitVec.ofNat 32 (i 2).val
  let v1096 : BitVec 32 := Scalar.minsi v1095 arg2
  let c640_i32_434 : BitVec 32 := 640#32
  let v1097 : BitVec 32 := Scalar.muli v1096 c640_i32_434
  let v1098 : BitVec 32 := v1097
  let v1099 : Index := Scalar.indexCast v1098
  let c0_436 : Index := 0#32
  ![0, v1099.toNat, 0]
def k0_mult6 (i : grid0.Coords) (k0_t1 : Fin (k0_t1_loop i).trips) : BitVec 32 :=
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c640_i32_553 : BitVec 32 := 640#32
  let v1296 : BitVec 32 := Scalar.muli v1094 c640_i32_553
  v1296
def k0_off4 (i : grid0.Coords) (k0_t1 : Fin (k0_t1_loop i).trips) : Fin 3 → Nat :=
  let c0_556 : Index := 0#32
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c640_i32_553 : BitVec 32 := 640#32
  let v1296 : BitVec 32 := Scalar.muli v1094 c640_i32_553
  let v1297 : BitVec 32 := v1296
  let v1301 : Index := Scalar.indexCast v1297
  let c0_557 : Index := 0#32
  ![0, v1301.toNat, 0]
def k0_mult7 (i : grid0.Coords) (k0_t1 : Fin (k0_t1_loop i).trips) : BitVec 32 :=
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c2_i32_565 : BitVec 32 := 2#32
  let v1313 : BitVec 32 := Scalar.addi v1094 c2_i32_565
  let arg2 : BitVec 32 := BitVec.ofNat 32 (i 2).val
  let v1314 : BitVec 32 := Scalar.minsi v1313 arg2
  let c640_i32_566 : BitVec 32 := 640#32
  let v1315 : BitVec 32 := Scalar.muli v1314 c640_i32_566
  v1315
def k0_mult8 (i : grid0.Coords) (k0_t1 : Fin (k0_t1_loop i).trips) : BitVec 32 :=
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c1_i32_575 : BitVec 32 := 1#32
  let v1328 : BitVec 32 := Scalar.addi v1094 c1_i32_575
  let c640_i32_686 : BitVec 32 := 640#32
  let v1515 : BitVec 32 := Scalar.muli v1328 c640_i32_686
  v1515
def k0_off5 (i : grid0.Coords) (k0_t1 : Fin (k0_t1_loop i).trips) : Fin 3 → Nat :=
  let c0_689 : Index := 0#32
  let c2_i32_431 : BitVec 32 := 2#32
  let c0_i32_418 : BitVec 32 := 0#32
  let c1_i32_421 : BitVec 32 := 1#32
  let arg14 : BitVec 32 := Scf.iv c0_i32_418 c1_i32_421 k0_t1
  let v1093 : BitVec 32 := Scalar.muli c2_i32_431 arg14
  let c1_i32_432 : BitVec 32 := 1#32
  let v1094 : BitVec 32 := Scalar.addi v1093 c1_i32_432
  let c1_i32_575 : BitVec 32 := 1#32
  let v1328 : BitVec 32 := Scalar.addi v1094 c1_i32_575
  let c640_i32_686 : BitVec 32 := 640#32
  let v1515 : BitVec 32 := Scalar.muli v1328 c640_i32_686
  let v1516 : BitVec 32 := v1515
  let v1520 : Index := Scalar.indexCast v1516
  let c0_690 : Index := 0#32
  ![0, v1520.toNat, 0]
@[reducible] def k0_t2_loop (i : grid0.Coords) : Scf.Loop 32 :=
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let v1074 : BitVec 32 := Scalar.addi c0_i32_418 v1073
  let c1_i32_422 : BitVec 32 := 1#32
  ⟨v1077, v1074, c1_i32_422⟩
def k0_mult9 (i : grid0.Coords) (k0_t2 : Fin (k0_t2_loop i).trips) : BitVec 32 :=
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c1_i32_433 : BitVec 32 := 1#32
  let v1095 : BitVec 32 := Scalar.addi v1094 c1_i32_433
  let v1096 : BitVec 32 := Scalar.minsi v1095 arg2
  let c640_i32_434 : BitVec 32 := 640#32
  let v1097 : BitVec 32 := Scalar.muli v1096 c640_i32_434
  v1097
def k0_off6 (i : grid0.Coords) (k0_t2 : Fin (k0_t2_loop i).trips) (c1_i32_433 : BitVec 32) : Fin 3 → Nat :=
  let c0_435 : Index := 0#32
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let v1095 : BitVec 32 := Scalar.addi v1094 c1_i32_433
  let v1096 : BitVec 32 := Scalar.minsi v1095 arg2
  let c640_i32_434 : BitVec 32 := 640#32
  let v1097 : BitVec 32 := Scalar.muli v1096 c640_i32_434
  let v1098 : BitVec 32 := v1097
  let v1099 : Index := Scalar.indexCast v1098
  let c0_436 : Index := 0#32
  ![0, v1099.toNat, 0]
def k0_mult10 (i : grid0.Coords) (k0_t2 : Fin (k0_t2_loop i).trips) : BitVec 32 :=
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c640_i32_553 : BitVec 32 := 640#32
  let v1296 : BitVec 32 := Scalar.muli v1094 c640_i32_553
  v1296
def k0_off7 (i : grid0.Coords) (k0_t2 : Fin (k0_t2_loop i).trips) : Fin 3 → Nat :=
  let c0_556 : Index := 0#32
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c640_i32_553 : BitVec 32 := 640#32
  let v1296 : BitVec 32 := Scalar.muli v1094 c640_i32_553
  let v1297 : BitVec 32 := v1296
  let v1301 : Index := Scalar.indexCast v1297
  let c0_557 : Index := 0#32
  ![0, v1301.toNat, 0]
def k0_mult11 (i : grid0.Coords) (k0_t2 : Fin (k0_t2_loop i).trips) : BitVec 32 :=
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c2_i32_565 : BitVec 32 := 2#32
  let v1313 : BitVec 32 := Scalar.addi v1094 c2_i32_565
  let v1314 : BitVec 32 := Scalar.minsi v1313 arg2
  let c640_i32_566 : BitVec 32 := 640#32
  let v1315 : BitVec 32 := Scalar.muli v1314 c640_i32_566
  v1315
def k0_mult12 (i : grid0.Coords) (k0_t2 : Fin (k0_t2_loop i).trips) : BitVec 32 :=
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c1_i32_575 : BitVec 32 := 1#32
  let v1328 : BitVec 32 := Scalar.addi v1094 c1_i32_575
  let c640_i32_686 : BitVec 32 := 640#32
  let v1515 : BitVec 32 := Scalar.muli v1328 c640_i32_686
  v1515
def k0_off8 (i : grid0.Coords) (k0_t2 : Fin (k0_t2_loop i).trips) : Fin 3 → Nat :=
  let c0_689 : Index := 0#32
  let c2_i32_431 : BitVec 32 := 2#32
  let c0_i32_418 : BitVec 32 := 0#32
  let arg2 : BitVec 32 := BitVec.ofNat 32 (i 2).val
  let c1_i32_411 : BitVec 32 := 1#32
  let v1055 : BitVec 32 := Scalar.subi arg2 c1_i32_411
  let c0_i32_412 : BitVec 32 := 0#32
  let v1057 : BitVec 1 := Scalar.cmpi .sgt v1055 c0_i32_412
  let v1058 : BitVec 32 := Scalar.extui v1057
  let c0_i32_413 : BitVec 32 := 0#32
  let v1059 : BitVec 1 := Scalar.cmpi .slt v1055 c0_i32_413
  let v1060 : BitVec 32 := Scalar.extui v1059
  let v1061 : BitVec 32 := Scalar.subi v1058 v1060
  let c2_i32 : BitVec 32 := 2#32
  let c0_i32_414 : BitVec 32 := 0#32
  let v1062 : BitVec 1 := Scalar.cmpi .sgt c2_i32 c0_i32_414
  let v1063 : BitVec 32 := Scalar.extui v1062
  let c0_i32_415 : BitVec 32 := 0#32
  let v1064 : BitVec 1 := Scalar.cmpi .slt c2_i32 c0_i32_415
  let v1065 : BitVec 32 := Scalar.extui v1064
  let v1066 : BitVec 32 := Scalar.subi v1063 v1065
  let v1067 : BitVec 1 := Scalar.cmpi .ne v1061 v1066
  let v1068 : BitVec 32 := Scalar.remsi v1055 c2_i32
  let c0_i32_416 : BitVec 32 := 0#32
  let v1069 : BitVec 1 := Scalar.cmpi .ne v1068 c0_i32_416
  let v1070 : BitVec 1 := Scalar.andi v1067 v1069
  let v1056 : BitVec 32 := Scalar.divsi v1055 c2_i32
  let c1_i32_417 : BitVec 32 := 1#32
  let v1071 : BitVec 32 := Scalar.subi v1056 c1_i32_417
  let v1072 : BitVec 32 := Scalar.select v1070 v1071 v1056
  let v1073 : BitVec 32 := Scalar.subi v1072 c0_i32_418
  let c1_i32_420 : BitVec 32 := 1#32
  let v1075 : BitVec 32 := Scalar.divsi v1073 c1_i32_420
  let v1076 : BitVec 32 := Scalar.muli v1075 c1_i32_420
  let v1077 : BitVec 32 := Scalar.addi c0_i32_418 v1076
  let c1_i32_422 : BitVec 32 := 1#32
  let arg14 : BitVec 32 := Scf.iv v1077 c1_i32_422 k0_t2
  let v1093 : BitVec 32 := Scalar.muli c2_i32_431 arg14
  let c1_i32_432 : BitVec 32 := 1#32
  let v1094 : BitVec 32 := Scalar.addi v1093 c1_i32_432
  let c1_i32_575 : BitVec 32 := 1#32
  let v1328 : BitVec 32 := Scalar.addi v1094 c1_i32_575
  let c640_i32_686 : BitVec 32 := 640#32
  let v1515 : BitVec 32 := Scalar.muli v1328 c640_i32_686
  let v1516 : BitVec 32 := v1515
  let v1520 : Index := Scalar.indexCast v1516
  let c0_690 : Index := 0#32
  ![0, v1520.toNat, 0]
def k0_cond2 (i : grid0.Coords) : BitVec 1 :=
  let arg2 : BitVec 32 := BitVec.ofNat 32 (i 2).val
  let c1_i32_411 : BitVec 32 := 1#32
  let v1055 : BitVec 32 := Scalar.subi arg2 c1_i32_411
  let c2_i32_423 : BitVec 32 := 2#32
  let c0_i32_424 : BitVec 32 := 0#32
  let v1080 : BitVec 1 := Scalar.cmpi .eq c2_i32_423 c0_i32_424
  let c1_i32_425 : BitVec 32 := 1#32
  let v1081 : BitVec 32 := Scalar.select v1080 c1_i32_425 c2_i32_423
  let v1082 : BitVec 32 := Scalar.remsi v1055 v1081
  let c0_i32_427 : BitVec 32 := 0#32
  let v1084 : BitVec 1 := Scalar.cmpi .slt v1082 c0_i32_427
  let c0_i32_428 : BitVec 32 := 0#32
  let v1085 : BitVec 1 := Scalar.cmpi .slt v1081 c0_i32_428
  let v1086 : BitVec 1 := Scalar.xori v1084 v1085
  let c0_i32_426 : BitVec 32 := 0#32
  let v1083 : BitVec 1 := Scalar.cmpi .ne v1082 c0_i32_426
  let v1087 : BitVec 1 := Scalar.andi v1086 v1083
  let v1088 : BitVec 32 := Scalar.addi v1082 v1081
  let v1089 : BitVec 32 := Scalar.select v1087 v1088 v1082
  let c1_i32_429 : BitVec 32 := 1#32
  let v1090 : BitVec 1 := Scalar.cmpi .eq v1089 c1_i32_429
  let v1091 : BitVec 32 := Scalar.extui v1090
  let c0_i32_430 : BitVec 32 := 0#32
  let v1092 : BitVec 1 := Scalar.cmpi .ne v1091 c0_i32_430
  v1092

def k0_mult13 (i : grid0.Coords) : BitVec 32 :=
  let arg2 : BitVec 32 := BitVec.ofNat 32 (i 2).val
  let c1_i32_431 : BitVec 32 := 1#32
  let v1093 : BitVec 32 := Scalar.subi arg2 c1_i32_431
  let c640_i32_542 : BitVec 32 := 640#32
  let v1280 : BitVec 32 := Scalar.muli v1093 c640_i32_542
  v1280
def k0_off9 (i : grid0.Coords) : Fin 3 → Nat :=
  let c0_545 : Index := 0#32
  let arg2 : BitVec 32 := BitVec.ofNat 32 (i 2).val
  let c1_i32_431 : BitVec 32 := 1#32
  let v1093 : BitVec 32 := Scalar.subi arg2 c1_i32_431
  let c640_i32_542 : BitVec 32 := 640#32
  let v1280 : BitVec 32 := Scalar.muli v1093 c640_i32_542
  let v1281 : BitVec 32 := v1280
  let v1285 : Index := Scalar.indexCast v1281
  let c0_546 : Index := 0#32
  ![0, v1285.toNat, 0]
def k0_mult14 (i : grid0.Coords) : BitVec 32 :=
  let arg2 : BitVec 32 := BitVec.ofNat 32 (i 2).val
  let c640_i32_192 : BitVec 32 := 640#32
  let v619 : BitVec 32 := Scalar.muli arg2 c640_i32_192
  v619
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8320x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelFoxIdeal.lean ====
variable {F : FTy → Type} [FloatOps F] [Named F]
def κ : String → Option EReal := fun
  | "mask" => some ⊥
  | _ => none
-- ==== ReferenceFoxIdeal.lean ====
abbrev S2x8320x6272 : Shape := ⟨3, ![2, 8320, 6272]⟩
abbrev S2x8320x1024 : Shape := ⟨3, ![2, 8320, 1024]⟩
abbrev S2x8320x8x128 : Shape := ⟨4, ![2, 8320, 8, 128]⟩
abbrev S2x8x8320x8320 : Shape := ⟨4, ![2, 8, 8320, 8320]⟩
abbrev S8320 : Shape := ⟨1, ![8320]⟩
abbrev S8320x1 : Shape := ⟨2, ![8320, 1]⟩
abbrev S1x8320 : Shape := ⟨2, ![1, 8320]⟩
abbrev S8320x8320 : Shape := ⟨2, ![8320, 8320]⟩
abbrev S_ : Shape := ⟨0, ![]⟩
abbrev S2x8x8320 : Shape := ⟨3, ![2, 8, 8320]⟩
abbrev S2x8x8320x1 : Shape := ⟨4, ![2, 8, 8320, 1]⟩
abbrev S2x8x8320x128 : Shape := ⟨4, ![2, 8, 8320, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x8320x6272, .bf16⟩
  | .hbm, ⟨1, _⟩ => ⟨S2x8320x1024, .bf16⟩
  | .hbm, ⟨2, _⟩ => ⟨S2x8320x1024, .bf16⟩
  | .hbm, ⟨3, _⟩ => ⟨S2x8320x1024, .bf16⟩
  | .hbm, ⟨4, _⟩ => ⟨S2x8320x8x128, .bf16⟩
  | .hbm, ⟨5, _⟩ => ⟨S2x8320x1024, .bf16⟩
  | .hbm, ⟨6, _⟩ => ⟨S2x8320x8x128, .bf16⟩
  | .hbm, ⟨7, _⟩ => ⟨S2x8320x1024, .bf16⟩
  | .hbm, ⟨8, _⟩ => ⟨S2x8320x8x128, .bf16⟩
  | .hbm, ⟨9, _⟩ => ⟨S2x8x8320x8320, .f32⟩
  | .hbm, ⟨10, _⟩ => ⟨S2x8320x8x128, .bf16⟩
  | .hbm, ⟨11, _⟩ => ⟨S2x8320x8x128, .bf16⟩
  | .hbm, ⟨12, _⟩ => ⟨S2x8x8320x8320, .f32⟩
  | .hbm, ⟨13, _⟩ => ⟨S2x8x8320x8320, .f32⟩
  | .hbm, ⟨14, _⟩ => ⟨S8320, .i32⟩
  | .hbm, ⟨15, _⟩ => ⟨S8320x1, .i32⟩
  | .hbm, ⟨16, _⟩ => ⟨S1x8320, .i32⟩
  | .hbm, ⟨17, _⟩ => ⟨S8320x8320, .i32⟩
  | .hbm, ⟨18, _⟩ => ⟨S8320x8320, .i32⟩
  | .hbm, ⟨19, _⟩ => ⟨S8320x8320, .i1⟩
  | .hbm, ⟨20, _⟩ => ⟨S_, .i32⟩
  | .hbm, ⟨21, _⟩ => ⟨S1x8320, .i32⟩
  | .hbm, ⟨22, _⟩ => ⟨S1x8320, .i1⟩
  | .hbm, ⟨23, _⟩ => ⟨S8320x8320, .i32⟩
  | .hbm, ⟨24, _⟩ => ⟨S8320x8320, .i32⟩
  | .hbm, ⟨25, _⟩ => ⟨S8320x8320, .i1⟩
  | .hbm, ⟨26, _⟩ => ⟨S8320x8320, .i1⟩
  | .hbm, ⟨27, _⟩ => ⟨S8320x8320, .i1⟩
  | .hbm, ⟨28, _⟩ => ⟨S8320x8320, .i1⟩
  | .hbm, ⟨29, _⟩ => ⟨S_, .f32⟩
  | .hbm, ⟨30, _⟩ => ⟨S_, .f32⟩
  | .hbm, ⟨31, _⟩ => ⟨S2x8x8320x8320, .i1⟩
  | .hbm, ⟨32, _⟩ => ⟨S2x8x8320x8320, .f32⟩
  | .hbm, ⟨33, _⟩ => ⟨S2x8x8320x8320, .f32⟩
  | .hbm, ⟨34, _⟩ => ⟨S_, .f32⟩
  | .hbm, ⟨35, _⟩ => ⟨S2x8x8320, .f32⟩
  | .hbm, ⟨36, _⟩ => ⟨S2x8x8320x1, .f32⟩
  | .hbm, ⟨37, _⟩ => ⟨S2x8x8320x8320, .f32⟩
  | .hbm, ⟨38, _⟩ => ⟨S2x8x8320x8320, .f32⟩
  | .hbm, ⟨39, _⟩ => ⟨S_, .f32⟩
  | .hbm, ⟨40, _⟩ => ⟨S_, .f32⟩
  | .hbm, ⟨41, _⟩ => ⟨S2x8x8320x8320, .f32⟩
  | .hbm, ⟨42, _⟩ => ⟨S2x8x8320x8320, .f32⟩
  | .hbm, ⟨43, _⟩ => ⟨S2x8x8320x8320, .f32⟩
  | .hbm, ⟨44, _⟩ => ⟨S2x8x8320x8320, .bf16⟩
  | .hbm, ⟨45, _⟩ => ⟨S2x8x8320x128, .f32⟩
  | .hbm, ⟨46, _⟩ => ⟨S_, .f32⟩
  | .hbm, ⟨47, _⟩ => ⟨S2x8x8320, .f32⟩
  | .hbm, ⟨48, _⟩ => ⟨S2x8x8320x1, .f32⟩
  | .hbm, ⟨49, _⟩ => ⟨S_, .f32⟩
  | .hbm, ⟨50, _⟩ => ⟨S2x8x8320x1, .f32⟩
  | .hbm, ⟨51, _⟩ => ⟨S2x8x8320x1, .f32⟩
  | .hbm, ⟨52, _⟩ => ⟨S2x8x8320x128, .f32⟩
  | .hbm, ⟨53, _⟩ => ⟨S2x8x8320x128, .f32⟩
  | .hbm, ⟨54, _⟩ => ⟨S2x8x8320x128, .bf16⟩
  | .hbm, ⟨55, _⟩ => ⟨S2x8320x8x128, .bf16⟩
  | .hbm, ⟨56, _⟩ => ⟨S2x8320x1024, .bf16⟩
  | _, _ => ⟨S2x8320x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.DsaHeld.lean ====
/- Holding a memref whole, at given contents or at some. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384
set_option warn.classDefReducibility false

noncomputable section

namespace Cert.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A memref held whole at the contents `X`. -/
abbrev Held (c : Dev nD) {sp : Space} {s : Shape} {e : EltTy} (a : Memref sig .tc sp s e) (X : Buf (Elt F) (a.view.loc (c : Thread nD τ))) : sProp 𝕄 :=
  iprop(a.view.loc (c : Thread nD τ) ↦[a.view.set]{fullShare} X)
/-- A memref held whole at some contents. -/
abbrev Own (c : Dev nD) {sp : Space} {s : Shape} {e : EltTy} (a : Memref sig .tc sp s e) : sProp 𝕄 :=
  iprop(∃ f, a.view.loc (c : Thread nD τ) ↦[a.view.set]{fullShare} f)

end Cert.Dsa

end
-- ==== Proof.DsaSelect.lean ====
/- The loops of the selection: scores, bit planes, and the threshold found bit by bit. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.LoopRemainder
public import Idealize.ShloMosaic.Lib.Pipeline.Kit
public import proofs.«01_k».proof.Proof.DsaHeld

@[expose] public section

set_option maxRecDepth 16384
set_option warn.classDefReducibility false

noncomputable section

namespace Cert.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x8320x128 .bf16) (harg5 : arg5.IsWhole) (arg6 : Memref sig .tc .vmem S1x8320x256 .bf16) (harg6 : arg6.IsWhole) (arg7 : Memref sig .tc .vmem S1x264x8320 .bf16) (harg7 : arg7.IsWhole) (arg8 : Memref sig .tc .vmem S8x256x128 .bf16) (harg8 : arg8.IsWhole) (arg9 : Memref sig .tc .vmem S8x256x128 .bf16) (harg9 : arg9.IsWhole) (arg10 : Memref sig .tc .vmem S8x384x128 .f32) (harg10 : arg10.IsWhole) (arg11 : Memref sig .tc .vmem S1x128x1024 .bf16) (harg11 : arg11.IsWhole) (arg12 : Memref sig .tc .vmem S72x128x128 .i32) (harg12 : arg12.IsWhole) (arg13 : Memref sig .tc .vmem S256x1024 .bf16) (harg13 : arg13.IsWhole) (arg14 : Memref sig .tc .vmem S512x1024 .bf16) (harg14 : arg14.IsWhole) (arg15 : Memref sig .tc .vmem S8x128 .f32) (harg15 : arg15.IsWhole) (arg16 : Memref sig .tc .vmem S264x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S256x1024 .f32) (harg19 : arg19.IsWhole) (arg20 : Memref sig .tc .vmem S128x2048 .bf16) (harg20 : arg20.IsWhole) (arg21 : Memref sig .tc .vmem S16x128 .f32) (harg21 : arg21.IsWhole) (arg22 : Memref sig .tc .vmem S36x33x8x128 .i32) (harg22 : arg22.IsWhole) (arg23 : Memref sig .tc .vmem S36x8x128 .i32) (harg23 : arg23.IsWhole) (arg24 : Memref sig .tc .vmem S512x1024 .bf16) (harg24 : arg24.IsWhole)

/-- One group of four key tiles: its scores, written to the score scratch. Nothing is said of what the trips leave: the buffers written are owned at some contents. -/
@[sl_loop] def loop_1 (arg1 : BitVec 32) (v0 : IVec S128x128 32) (v1 : IVec S128x128 32) (v189 : BitVec 32) (v207 : BitVec 32) (init : BitVec 32) (X5 : Buf (Elt F) (arg5.view.loc (c : Thread nD τ))) :
    LoopInv (M := 𝕄) Idealize.ShloMosaic.frame (wpE (defs₀ (F := F)) Variants.none (c : Thread nD τ) none) Set.univ
      (k0_t1_loop i).lb (k0_t1_loop i).ub (k0_t1_loop i).st (Gen.k0_t1_ok i) init (Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v0 v1 v189 v207) where
  inv _ _ := iprop(Held c arg5 X5 ∗ Own c arg20 ∗ Own c arg21 ∗ Own c arg12)
  step k acc := by
    unfold Gen.k0_t1_body Own
    iintro ⟨H5, ⟨%f20, H20⟩, ⟨%f21, H21⟩, ⟨%f12, H12⟩⟩
    sl_exec_parts
    sl_step
    isplitl [H5]; · iexact H5
    isplitl [H20]; · iexists _; iexact H20
    isplitl [H21]; · iexists _; iexact H21
    iexists _; iexact H12

/-- One slice of four score tiles turned into bit planes. Nothing is said of what the trips leave: the buffers written are owned at some contents. -/
@[sl_loop] def loop_3 (arg1 : BitVec 32) (v0 : IVec S128x128 32) (v1 : IVec S128x128 32) (v189 : BitVec 32) (v207 : BitVec 32) (init : BitVec 32)  :
    LoopInv (M := 𝕄) Idealize.ShloMosaic.frame (wpE (defs₀ (F := F)) Variants.none (c : Thread nD τ) none) Set.univ
      (k0_t3_loop i).lb (k0_t3_loop i).ub (k0_t3_loop i).st (Gen.k0_t3_ok i) init (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v0 v1 v189 v207) where
  inv _ _ := iprop(Own c arg12 ∗ Own c arg22)
  step k acc := by
    unfold Gen.k0_t3_body Own
    iintro ⟨⟨%f12, H12⟩, ⟨%f22, H22⟩⟩
    sl_exec_parts
    sl_step
    isplitl [H12]; · iexists _; iexact H12
    iexists _; iexact H22

/-- One set of planes counted under the candidate bit. Nothing is said of what the trips leave: the buffers written are owned at some contents. -/
@[sl_loop] def loop_6 (arg1 : BitVec 32) (v207 : BitVec 32) (c_m1_i32 : BitVec 32) (k0_t5 : Fin k0_t5_loop.trips) (arg28 : IVec S1x128 32) (v698 : BitVec 32) (init : IVec S8x128 32 × IVec S8x128 32 × IVec S8x128 32 × IVec S8x128 32)  :
    LoopInv (M := 𝕄) Idealize.ShloMosaic.frame (wpE (defs₀ (F := F)) Variants.none (c : Thread nD τ) none) Set.univ
      (k0_t6_loop i).lb (k0_t6_loop i).ub (k0_t6_loop i).st (Gen.k0_t6_ok i) init (Gen.k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v207 c_m1_i32 k0_t5 arg28 v698) where
  inv _ _ := iprop(Own c arg22 ∗ Own c arg23)
  step k acc := by
    obtain ⟨a0, a1, a2, a3⟩ := acc
    unfold Gen.k0_t6_body Own
    iintro ⟨⟨%f22, H22⟩, ⟨%f23, H23⟩⟩
    sl_exec_parts
    sl_step
    isplitl [H22]; · iexists _; iexact H22
    iexists _; iexact H23

/-- One bit of the threshold: the sets of planes counted by the inner loop. Nothing is said of what the trips leave: the buffers written are owned at some contents. -/
@[sl_loop] def loop_5 (arg1 : BitVec 32) (v207 : BitVec 32) (c_m1_i32 : BitVec 32) (init : IVec S1x128 32 × IVec S1x128 32 × IVec S1x128 32)  :
    LoopInv (M := 𝕄) Idealize.ShloMosaic.frame (wpE (defs₀ (F := F)) Variants.none (c : Thread nD τ) none) Set.univ
      k0_t5_loop.lb k0_t5_loop.ub k0_t5_loop.st Gen.k0_t5_ok init (Gen.k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v207 c_m1_i32) where
  inv _ _ := iprop(Own c arg22 ∗ Own c arg23)
  step k acc := by
    obtain ⟨a0, a1, a2⟩ := acc
    unfold Gen.k0_t5_body Own
    iintro ⟨⟨%f22, H22⟩, ⟨%f23, H23⟩⟩
    sl_exec_parts
    sl_step
    isplitl [H22]; · iexists _; iexact H22
    iexists _; iexact H23

end Cert.Dsa

end
-- ==== Proof.DsaAttend.lean ====
/- The loops of the attention over the far key tiles. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.LoopRemainder
public import Idealize.ShloMosaic.Lib.Pipeline.Kit
public import proofs.«01_k».proof.Proof.DsaHeld

@[expose] public section

set_option maxRecDepth 16384
set_option warn.classDefReducibility false

noncomputable section

namespace Cert.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x8320x128 .bf16) (harg5 : arg5.IsWhole) (arg6 : Memref sig .tc .vmem S1x8320x256 .bf16) (harg6 : arg6.IsWhole) (arg7 : Memref sig .tc .vmem S1x264x8320 .bf16) (harg7 : arg7.IsWhole) (arg8 : Memref sig .tc .vmem S8x256x128 .bf16) (harg8 : arg8.IsWhole) (arg9 : Memref sig .tc .vmem S8x256x128 .bf16) (harg9 : arg9.IsWhole) (arg10 : Memref sig .tc .vmem S8x384x128 .f32) (harg10 : arg10.IsWhole) (arg11 : Memref sig .tc .vmem S1x128x1024 .bf16) (harg11 : arg11.IsWhole) (arg12 : Memref sig .tc .vmem S72x128x128 .i32) (harg12 : arg12.IsWhole) (arg13 : Memref sig .tc .vmem S256x1024 .bf16) (harg13 : arg13.IsWhole) (arg14 : Memref sig .tc .vmem S512x1024 .bf16) (harg14 : arg14.IsWhole) (arg15 : Memref sig .tc .vmem S8x128 .f32) (harg15 : arg15.IsWhole) (arg16 : Memref sig .tc .vmem S264x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S256x1024 .f32) (harg19 : arg19.IsWhole) (arg20 : Memref sig .tc .vmem S128x2048 .bf16) (harg20 : arg20.IsWhole) (arg21 : Memref sig .tc .vmem S16x128 .f32) (harg21 : arg21.IsWhole) (arg22 : Memref sig .tc .vmem S36x33x8x128 .i32) (harg22 : arg22.IsWhole) (arg23 : Memref sig .tc .vmem S36x8x128 .i32) (harg23 : arg23.IsWhole) (arg24 : Memref sig .tc .vmem S512x1024 .bf16) (harg24 : arg24.IsWhole)

/-- One pair of far key tiles of the attention. Nothing is said of what the trips leave: the buffers written are owned at some contents. -/
@[sl_loop] def loop_8 (v277 : IVec S1x128 32) (v316 : BitVec 32) (k0_h1 : k0_cond1 i = 1#1) (init : BitVec 32) (X6 : Buf (Elt F) (arg6.view.loc (c : Thread nD τ))) (X7 : Buf (Elt F) (arg7.view.loc (c : Thread nD τ))) :
    LoopInv (M := 𝕄) Idealize.ShloMosaic.frame (wpE (defs₀ (F := F)) Variants.none (c : Thread nD τ) none) Set.univ
      (k0_t8_loop i).lb (k0_t8_loop i).ub (k0_t8_loop i).st (Gen.k0_t8_ok i k0_h1) init (Gen.k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v277 v316 k0_h1) where
  inv _ _ := iprop(Held c arg6 X6 ∗ Held c arg7 X7 ∗ Own c arg12 ∗ Own c arg13 ∗ Own c arg14 ∗ Own c arg15 ∗ Own c arg16 ∗ Own c arg17 ∗ Own c arg18 ∗ Own c arg24)
  step k acc := by
    unfold Gen.k0_t8_body Own
    iintro ⟨H6, H7, ⟨%f12, H12⟩, ⟨%f13, H13⟩, ⟨%f14, H14⟩, ⟨%f15, H15⟩, ⟨%f16, H16⟩, ⟨%f17, H17⟩, ⟨%f18, H18⟩, ⟨%f24, H24⟩⟩
    sl_exec_parts
    sl_step
    isplitl [H6]; · iexact H6
    isplitl [H7]; · iexact H7
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H24

/-- One far key tile of the attention. Nothing is said of what the trips leave: the buffers written are owned at some contents. -/
@[sl_loop] def loop_10 (arg1 : BitVec 32) (v277 : IVec S1x128 32) (v287 : BitVec 32) (v294 : FVec F S256x1024 .f32) (v320 : BitVec 32) (init : BitVec 32) (X6 : Buf (Elt F) (arg6.view.loc (c : Thread nD τ))) (X7 : Buf (Elt F) (arg7.view.loc (c : Thread nD τ))) :
    LoopInv (M := 𝕄) Idealize.ShloMosaic.frame (wpE (defs₀ (F := F)) Variants.none (c : Thread nD τ) none) Set.univ
      (k0_t10_loop i).lb (k0_t10_loop i).ub (k0_t10_loop i).st (Gen.k0_t10_ok i) init (Gen.k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v277 v287 v294 v320) where
  inv _ _ := iprop(Held c arg6 X6 ∗ Held c arg7 X7 ∗ Own c arg12 ∗ Own c arg13 ∗ Own c arg14 ∗ Own c arg15 ∗ Own c arg16 ∗ Own c arg17)
  step k acc := by
    unfold Gen.k0_t10_body Own
    iintro ⟨H6, H7, ⟨%f12, H12⟩, ⟨%f13, H13⟩, ⟨%f14, H14⟩, ⟨%f15, H15⟩, ⟨%f16, H16⟩, ⟨%f17, H17⟩⟩
    sl_exec_parts
    sl_step
    isplitl [H6]; · iexact H6
    isplitl [H7]; · iexact H7
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Dsa

end
-- ==== Proof.DsaBody.lean ====
/- The body of the sparse attention call, run once over a symbolic grid point. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.LoopRemainder
public import Idealize.ShloMosaic.Lib.Pipeline.Kit
public import proofs.«01_k».proof.Proof.DsaSelect
public import proofs.«01_k».proof.Proof.DsaAttend

@[expose] public section

set_option maxRecDepth 16384
set_option warn.classDefReducibility false

noncomputable section

namespace Cert.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x8320x128 .bf16) (harg5 : arg5.IsWhole) (arg6 : Memref sig .tc .vmem S1x8320x256 .bf16) (harg6 : arg6.IsWhole) (arg7 : Memref sig .tc .vmem S1x264x8320 .bf16) (harg7 : arg7.IsWhole) (arg8 : Memref sig .tc .vmem S8x256x128 .bf16) (harg8 : arg8.IsWhole) (arg9 : Memref sig .tc .vmem S8x256x128 .bf16) (harg9 : arg9.IsWhole) (arg10 : Memref sig .tc .vmem S8x384x128 .f32) (harg10 : arg10.IsWhole) (arg11 : Memref sig .tc .vmem S1x128x1024 .bf16) (harg11 : arg11.IsWhole) (arg12 : Memref sig .tc .vmem S72x128x128 .i32) (harg12 : arg12.IsWhole) (arg13 : Memref sig .tc .vmem S256x1024 .bf16) (harg13 : arg13.IsWhole) (arg14 : Memref sig .tc .vmem S512x1024 .bf16) (harg14 : arg14.IsWhole) (arg15 : Memref sig .tc .vmem S8x128 .f32) (harg15 : arg15.IsWhole) (arg16 : Memref sig .tc .vmem S264x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S256x1024 .f32) (harg19 : arg19.IsWhole) (arg20 : Memref sig .tc .vmem S128x2048 .bf16) (harg20 : arg20.IsWhole) (arg21 : Memref sig .tc .vmem S16x128 .f32) (harg21 : arg21.IsWhole) (arg22 : Memref sig .tc .vmem S36x33x8x128 .i32) (harg22 : arg22.IsWhole) (arg23 : Memref sig .tc .vmem S36x8x128 .i32) (harg23 : arg23.IsWhole) (arg24 : Memref sig .tc .vmem S512x1024 .bf16) (harg24 : arg24.IsWhole)

/-- At every grid point the body terminates without a fault, its input blocks are as it found them, and the output
    block and the scratch are owned at some contents. -/
theorem body_run (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) :
    iprop(Held c arg2 X2 ∗ Held c arg3 X3 ∗ Held c arg4 X4 ∗ Held c arg5 X5 ∗ Held c arg6 X6 ∗ Held c arg7 X7 ∗ Held c arg8 X8 ∗ Held c arg9 X9 ∗ Held c arg10 X10 ∗ Own c arg11 ∗ Own c arg12 ∗ Own c arg13 ∗ Own c arg14 ∗ Own c arg15 ∗ Own c arg16 ∗ Own c arg17 ∗ Own c arg18 ∗ Own c arg19 ∗ Own c arg20 ∗ Own c arg21 ∗ Own c arg22 ∗ Own c arg23 ∗ Own c arg24) ⊢ wp (M := 𝕄) Idealize.ShloMosaic.frame (wpE (defs₀ (F := F)) Variants.none (c : Thread nD τ) none) Set.univ
      (cc0__dsa_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(Held c arg2 X2 ∗ Held c arg3 X3 ∗ Held c arg4 X4 ∗ Held c arg5 X5 ∗ Held c arg6 X6 ∗ Held c arg7 X7 ∗ Held c arg8 X8 ∗ Held c arg9 X9 ∗ Held c arg10 X10 ∗ Own c arg11 ∗ Own c arg12 ∗ Own c arg13 ∗ Own c arg14 ∗ Own c arg15 ∗ Own c arg16 ∗ Own c arg17 ∗ Own c arg18 ∗ Own c arg19 ∗ Own c arg20 ∗ Own c arg21 ∗ Own c arg22 ∗ Own c arg23 ∗ Own c arg24)) := by
  unfold Own
  by_cases h1 : k0_cond1 i = 1#1
  · by_cases h2 : k0_cond2 i = 1#1
    · iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
      sl_unfold [cc0__dsa_kernel]
      sl_exec_parts
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      iexists _; iexact H24
    · iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
      sl_unfold [cc0__dsa_kernel]
      sl_exec_parts
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      iexists _; iexact H24
  · iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
    sl_unfold [cc0__dsa_kernel]
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Dsa

end
-- ==== Proof.DsaLaunch.lean ====
/- The launch of the sparse attention call: its arguments unchanged and every counter at zero. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Exec
public import Idealize.ShloMosaic.Lib.Tactic
public import Idealize.ShloMosaic.Lib.LoopRemainder
public import Idealize.ShloMosaic.Lib.Pipeline.Kit
public import proofs.«01_k».proof.Proof.DsaBody
public import proofs.«01_k».proof.Proof.Gen.Kernel.Frame
public import Idealize.ShloMosaic.Lib.Pipeline.Frame

@[expose] public section

set_option maxRecDepth 16384
set_option warn.classDefReducibility false

noncomputable section

namespace Cert.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

open Cert.Kernel.Gen
open Idealize.ShloMosaic.Pipeline (RDat)

variable (m : (ℓ : Loc nD τ sig) → Buf (Elt F) ℓ) (ρ : Dev nD → PrngReg)

/-- The proof data: the arrays as the region finds them, nothing said of what the body leaves in a window. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- A window handed back at some contents. -/
theorem window_back (c : Dev nD) (t : Fin cfg0.N) (w : Fin cfg0.W) (Y) (f) :
    ((((cfg0.win w).stage (cfg0.slots t w)).view.loc (c : Thread nD τ) ↦[((cfg0.win w).stage (cfg0.slots t w)).view.set]{fullShare} f) : sProp 𝕄)
      ⊢ iprop(∃ X, ⌜(rdat m c).after w t Y X⌝ ∗ owns (c : Thread nD τ) ((cfg0.win w).stage (cfg0.slots t w)) fullShare X) := by
  iintro H
  iexists ((cfg0.win w).stage (cfg0.slots t w)).view.read (Elt F) f
  isplitr
  · ipureintro; exact trivial
  · unfold owns
    iexists f
    isplitr
    · ipureintro; rfl
    · iexact H

/-- A whole buffer at some contents is its whole memref owned at some contents. -/
theorem own_whole (c : Dev nD) (b : Ref sig .tc) :
    (iprop(∃ f : Buf (Elt F) ((c : Thread nD τ).loc b), ((c : Thread nD τ).loc b) ↦{fullShare} f) : sProp 𝕄) = Own c (Memref.whole b) := by
  show _ = iprop(∃ f : Buf (Elt F) ((c : Thread nD τ).loc b), ((c : Thread nD τ).loc b) ↦[(View.whole b : View sig .tc _ _ _).set]{fullShare} f)
  rw [View.set_whole]

set_option maxHeartbeats 1000000 in
/-- The body at a grid point, from its windows and the scratch. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
      ∗ bigSep Finset.univ fun w : Fin 10 => owns (c : Thread nD τ) ((cfg0.win w).stage (cfg0.slots t w)) fullShare (Y w))
    ⊢ wp frame (wpE (defs₀ (F := F)) Variants.none (c : Thread nD τ) none) Set.univ (bodyAt0 t) (fun _ =>
      iprop((rdat m c).Φ t.succ ∗ (rdat m c).owesAt () t.succ
        ∗ bigSep Finset.univ fun w : Fin 10 => iprop(∃ X, ⌜(rdat m c).after w t (Y w) X⌝ ∗ owns (c : Thread nD τ) ((cfg0.win w).stage (cfg0.slots t w)) fullShare X))) := by
  rw [bigSep_W0, bigSep_W0]
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA owns
  rw [scopedRest0_eq]
  simp only [own_whole]
  iintro ⟨⟨⟨S0, S1, S2, S3, S4, S5, S6, S7, S8, S9, S10, S11, S12⟩, HP⟩, HO, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  iapply (wp_wand_r Idealize.ShloMosaic.frame (wpE (defs₀ (F := F)) Variants.none (c : Thread nD τ) none) Set.univ)
  isplitl [H2 H3 H4 H5 H6 H7 H8 H9 H10 H11 S0 S1 S2 S3 S4 S5 S6 S7 S8 S9 S10 S11 S12]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) f2 f3 f4 f5 f6 f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  · iintro %_ ⟨H2, H3, H4, H5, H6, H7, H8, H9, H10, ⟨%g11, H11⟩, S0, S1, S2, S3, S4, S5, S6, S7, S8, S9, S10, S11, S12⟩
    isplitl [S0 S1 S2 S3 S4 S5 S6 S7 S8 S9 S10 S11 S12 HP]
    · isplitl [S0 S1 S2 S3 S4 S5 S6 S7 S8 S9 S10 S11 S12]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact S12
      · iexact HP
    isplitl [HO]; · iexact HO
    isplitl [H2]; · iapply (window_back m c t 0 (Y 0) _); iexact H2
    isplitl [H3]; · iapply (window_back m c t 1 (Y 1) _); iexact H3
    isplitl [H4]; · iapply (window_back m c t 2 (Y 2) _); iexact H4
    isplitl [H5]; · iapply (window_back m c t 3 (Y 3) _); iexact H5
    isplitl [H6]; · iapply (window_back m c t 4 (Y 4) _); iexact H6
    isplitl [H7]; · iapply (window_back m c t 5 (Y 5) _); iexact H7
    isplitl [H8]; · iapply (window_back m c t 6 (Y 6) _); iexact H8
    isplitl [H9]; · iapply (window_back m c t 7 (Y 7) _); iexact H9
    isplitl [H10]; · iapply (window_back m c t 8 (Y 8) _); iexact H10
    iapply (window_back m c t 9 (Y 9) _); iexact H11

theorem body_obligation (c : Dev nD) : (rdat (F := F) m c).BodyObligation (defs₀ (F := F)) Variants.none () Set.univ := fun t Y _ => by
  rw [show defs₀ (F := F) .tc cfg0.body (cfg0.bodyArgs t (cfg0.slots t)) = bodyAt0 t from by unfold defs₀; rw [Defs.onTc_tc]]
  exact sound_body m c t Y

set_option backward.isDefEq.respectTransparency.types false in
/-- The run: every array a window reads is as launched, and every counter is at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => body_obligation m c) (hq := fun _ _ _ => rfl) (howed := fun _ _ => rfl) (V := V m)
    (hmain := hmain m Variants.none) (hA := fun _ _ => rfl) (hin := fun _ => .rfl) (hout := fun _ => .rfl)

end Cert.Dsa

end
-- ==== Proof.FfnBlock.lean ====
module

public import proofs.«01_k».proof.Proof.Gen.KernelFfnIdeal.Value
public import Idealize.ShloMosaic.Lib.Tactic

/-!
# What one point of the feed-forward kernel leaves in its buffers

The grid walks 26 row blocks, and in each of them 11 blocks of the inner width. The first point of a row block
normalises the rows, every point adds its inner block's products to the accumulator, the last one adds half of the
accumulator to the rows and normalises again.
-/

@[expose] public section

noncomputable section

open Idealize.ShloMosaic Idealize.ShloMosaic.TcCoe Idealize.SL.Sem

namespace Cert.FfnK

open Cert.KernelFfnIdeal Cert.KernelFfnIdeal.Gen

variable {F : FTy → Type} [FloatOps F]

theorem hz : (![0, 0] : Fin 2 → Nat) = fun _ => 0 := funext fun a => by fin_cases a <;> rfl

/-- The first point of a row block leaves the normalised rows in the first scratch buffer. -/
theorem left_A_0 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S640x2048 .f32) (h8 : a8.IsWhole) (a9 : Memref sig .tc .vmem S640x2048 .bf16) (h9 : a9.IsWhole) (a10 : Memref sig .tc .vmem S640x2048 .f32) (h10 : a10.IsWhole) (hc0 : cond0_0 i) (hc1 : ¬cond0_1 i) (x0 : Vec F S640x2048 .f32) (x1 : Vec F S1x2048 .f32) (x2 : Vec F S2048x512 .bf16) (x3 : Vec F S2048x512 .bf16) (x4 : Vec F S512x2048 .bf16) (x5 : Vec F S1x2048 .f32) :
    sout0_A_0 c i a2 h2 a3 h3 a4 h4 a5 h5 a6 h6 a7 h7 a8 h8 a9 h9 a10 h10 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread, h10.read_unread,
    View.ld_unit_zero (S := S640x2048) hz, View.ld_unit_zero (S := S1x2048) hz, View.ld_unit_zero (S := S2048x512) hz, View.ld_unit_zero (S := S512x2048) hz]

/-- … and the first inner block's products, added to zero, in the second. -/
theorem left_A_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S640x2048 .f32) (h8 : a8.IsWhole) (a9 : Memref sig .tc .vmem S640x2048 .bf16) (h9 : a9.IsWhole) (a10 : Memref sig .tc .vmem S640x2048 .f32) (h10 : a10.IsWhole) (hc0 : cond0_0 i) (hc1 : ¬cond0_1 i) (x0 : Vec F S640x2048 .f32) (x1 : Vec F S1x2048 .f32) (x2 : Vec F S2048x512 .bf16) (x3 : Vec F S2048x512 .bf16) (x4 : Vec F S512x2048 .bf16) (x5 : Vec F S1x2048 .f32) :
    sout0_A_1 c i a2 h2 a3 h3 a4 h4 a5 h5 a6 h6 a7 h7 a8 h8 a9 h9 a10 h10 hc0 hc1 x0 x1 x2 x3 x4 x5 = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread, h10.read_unread,
    View.ld_unit_zero (S := S640x2048) hz, View.ld_unit_zero (S := S1x2048) hz, View.ld_unit_zero (S := S2048x512) hz, View.ld_unit_zero (S := S512x2048) hz]

/-- A middle point adds its inner block's products. -/
theorem left_B_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S640x2048 .f32) (h8 : a8.IsWhole) (a9 : Memref sig .tc .vmem S640x2048 .bf16) (h9 : a9.IsWhole) (a10 : Memref sig .tc .vmem S640x2048 .f32) (h10 : a10.IsWhole) (hc0 : ¬cond0_0 i) (hc1 : ¬cond0_1 i) (x0 : Vec F S640x2048 .f32) (x1 : Vec F S1x2048 .f32) (x2 : Vec F S2048x512 .bf16) (x3 : Vec F S2048x512 .bf16) (x4 : Vec F S512x2048 .bf16) (x5 : Vec F S1x2048 .f32) (s0 : Vec F S640x2048 .bf16) (s1 : Vec F S640x2048 .f32) :
    sout0_B_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 s0 s1)]
  unfold kernelRun0_B
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread, h10.read_unread,
    View.ld_unit_zero (S := S640x2048) hz, View.ld_unit_zero (S := S1x2048) hz, View.ld_unit_zero (S := S2048x512) hz, View.ld_unit_zero (S := S512x2048) hz]

/-- So does the last point … -/
theorem left_C_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S640x2048 .f32) (h8 : a8.IsWhole) (a9 : Memref sig .tc .vmem S640x2048 .bf16) (h9 : a9.IsWhole) (a10 : Memref sig .tc .vmem S640x2048 .f32) (h10 : a10.IsWhole) (hc0 : ¬cond0_0 i) (hc1 : cond0_1 i) (x0 : Vec F S640x2048 .f32) (x1 : Vec F S1x2048 .f32) (x2 : Vec F S2048x512 .bf16) (x3 : Vec F S2048x512 .bf16) (x4 : Vec F S512x2048 .bf16) (x5 : Vec F S1x2048 .f32) (s0 : Vec F S640x2048 .bf16) (s1 : Vec F S640x2048 .f32) :
    sout0_C_1 c i a2 h2 a3 h3 a4 h4 a5 h5 a6 h6 a7 h7 a8 h8 a9 h9 a10 h10 hc0 hc1 x0 x1 x2 x3 x4 x5 s0 s1 = k0_pay3 s0 x2 x3 s1 x4 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 x5 s0 s1)]
  unfold kernelRun0_C
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread, h10.read_unread,
    View.ld_unit_zero (S := S640x2048) hz, View.ld_unit_zero (S := S1x2048) hz, View.ld_unit_zero (S := S2048x512) hz, View.ld_unit_zero (S := S512x2048) hz]

/-- … which then writes the normalised half step to the output block. -/
theorem left_C_6 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S1x2048 .f32) (h7 : a7.IsWhole) (a8 : Memref sig .tc .vmem S640x2048 .f32) (h8 : a8.IsWhole) (a9 : Memref sig .tc .vmem S640x2048 .bf16) (h9 : a9.IsWhole) (a10 : Memref sig .tc .vmem S640x2048 .f32) (h10 : a10.IsWhole) (hc0 : ¬cond0_0 i) (hc1 : cond0_1 i) (x0 : Vec F S640x2048 .f32) (x1 : Vec F S1x2048 .f32) (x2 : Vec F S2048x512 .bf16) (x3 : Vec F S2048x512 .bf16) (x4 : Vec F S512x2048 .bf16) (x5 : Vec F S1x2048 .f32) (s0 : Vec F S640x2048 .bf16) (s1 : Vec F S640x2048 .f32) :
    out0_C_6 c i a2 h2 a3 h3 a4 h4 a5 h5 a6 h6 a7 h7 a8 h8 a9 h9 a10 h10 hc0 hc1 x0 x1 x2 x3 x4 x5 s0 s1 = k0_pay4 x0 (k0_pay3 s0 x2 x3 s1 x4) x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 s0 s1)]
  unfold kernelRun0_C
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread, h10.read_unread,
    View.ld_unit_zero (S := S640x2048) hz, View.ld_unit_zero (S := S1x2048) hz, View.ld_unit_zero (S := S2048x512) hz, View.ld_unit_zero (S := S512x2048) hz]

end Cert.FfnK
-- ==== Proof.FfnMath.lean ====
module

public import Idealize.ShloMosaic.Lib.Pointwise

/-!
# The feed-forward half step, in numbers

What both programs compute, row by row: a row `x` is scaled by the reciprocal of its root mean square (and a gain),
projected by two matrices, gated (`h₁ · logistic h₁ · h₃`), projected back, half of it is added to `x`, and the sum is
normalised again. The inner width is 5632; the kernel takes it 512 at a time, and `inner_blocks` puts those eleven
sums together.
-/

@[expose] public section

noncomputable section

open Idealize.ShloMosaic

namespace Cert.Ffn

/-- Entry `d` of the row `x` over its root mean square (with the programs' small constant), times the gain `g`. -/
def normed (x g : Fin 2048 → EReal) (d : Fin 2048) : EReal :=
  x d * Ideal.rsqrt (Ideal.div (∑ e, x e * x e) (Ideal.ofBits FTy.f32 0x45000000#32) + Ideal.ofBits FTy.f32 0x358637BD#32) * g d

/-- One inner unit: the gated product of the two projections of `x` on the columns `u` and `v`. -/
def gated (x u v : Fin 2048 → EReal) : EReal :=
  (∑ e, x e * u e) * Ideal.logistic (∑ e, x e * u e) * ∑ e, x e * v e

/-- The half step's sum `x + ½ y`. -/
def halfStep (x y : Fin 2048 → EReal) (d : Fin 2048) : EReal := x d + Ideal.ofBits FTy.f32 0x3F000000#32 * y d

/-- A sum over the first `512 · n` naturals is the sum of `n` blocks of 512. -/
theorem range_blocks (f : ℕ → EReal) (n : ℕ) :
    ∑ k ∈ Finset.range (512 * n), f k = ∑ s ∈ Finset.range n, ∑ k : Fin 512, f (512 * s + k) := by
  induction n with
  | zero => simp
  | succ n ih =>
    rw [Finset.sum_range_succ, ← ih, Nat.mul_succ, Finset.sum_range_add, Finset.sum_range (fun x => f (512 * n + x))]

/-- The inner units' sum, block by block. -/
theorem inner_blocks (f : ℕ → EReal) :
    ∑ k : Fin 5632, f k = ∑ s ∈ Finset.range 11, ∑ k : Fin 512, f (512 * s + k) := by
  rw [← range_blocks f 11, ← Finset.sum_range (n := 5632)]

end Cert.Ffn
-- ==== Proof.FfnArray.lean ====
module

public import proofs.«01_k».proof.Proof.FfnBlock
public import proofs.«01_k».proof.Proof.FfnMath
public import Idealize.ShloMosaic.Lib.StableHlo.ReadAt

/-!
# What the feed-forward kernel's result array holds

The points of one row block, put together: after point `n` the first scratch buffer holds the row block's normalised
rows, the second the sum over the inner blocks taken so far (`held`, by induction on the point). The last point of a
row block writes the result's rows (`result_at`).
-/

@[expose] public section

set_option maxRecDepth 16384

noncomputable section

open Idealize.ShloMosaic Idealize.ShloMosaic.TcCoe Idealize.SL.Sem

namespace Cert.FfnK

open Cert.KernelFfnIdeal Cert.KernelFfnIdeal.Gen Cert.KernelFfnIdeal.Value Cert.Ffn

/-! ## The three payloads, at an entry -/

theorem pay1_at (x : Vec Ideal S640x2048 .f32) (g : Vec Ideal S1x2048 .f32) (r : Fin 640) (d : Fin 2048) :
    k0_pay1 (F := Ideal) x g (ix2 r d) = normed (fun e => x (ix2 r e)) (fun e => g (ix2 0 e)) d := by
  pointwise [k0_pay1]
  rfl

theorem pay3_at (x : Vec Ideal S640x2048 .bf16) (u v : Vec Ideal S2048x512 .bf16) (a : Vec Ideal S640x2048 .f32)
    (w : Vec Ideal S512x2048 .bf16) (r : Fin 640) (d : Fin 2048) :
    k0_pay3 (F := Ideal) x u v a w (ix2 r d) = a (ix2 r d) +
      ∑ k : Fin 512, gated (fun e => x (ix2 r e)) (fun e => u (ix2 e k)) (fun e => v (ix2 e k)) * w (ix2 k d) := by
  pointwise [k0_pay3]
  rfl

theorem pay2_at (r : Fin 640) (d : Fin 2048) : k0_pay2 (F := Ideal) (ix2 r d) = (0 : EReal) := by
  pointwise [k0_pay2]

theorem pay4_at (x a : Vec Ideal S640x2048 .f32) (g : Vec Ideal S1x2048 .f32) (r : Fin 640) (d : Fin 2048) :
    k0_pay4 (F := Ideal) x a g (ix2 r d) =
      normed (halfStep (fun e => x (ix2 r e)) (fun e => a (ix2 r e))) (fun e => g (ix2 0 e)) d := by
  pointwise [k0_pay4]
  rfl

/-! ## The input blocks, at an entry of their arrays -/

variable (m : (ℓ : Loc nD τ sig) → Buf (Elt Ideal) ℓ) (c : Dev nD)

/-- The six argument arrays, as numbers. -/
abbrev argX : FVec Ideal S16640x2048 .f32 := m (c.tc.loc main_arg0)
abbrev argG : FVec Ideal S2048 .f32 := m (c.tc.loc main_arg1)
abbrev argW1 : FVec Ideal S2048x5632 .f32 := m (c.tc.loc main_arg2)
abbrev argW3 : FVec Ideal S2048x5632 .f32 := m (c.tc.loc main_arg3)
abbrev argW2 : FVec Ideal S5632x2048 .f32 := m (c.tc.loc main_arg4)
abbrev argF : FVec Ideal S2048 .f32 := m (c.tc.loc main_arg5)

theorem index_facts : ∀ t : Fin cfg0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0) :=
  (by decide +kernel : ∀ t : Fin grid0.N, _)

theorem rows_at (t : Fin cfg0.N) (r : Fin 640) (e : Fin 2048) (R : Fin 16640) (hR : R.val = 640 * (t.val / 11) + r.val) :
    (iblk m c 0 t : Vec Ideal S640x2048 .f32) (ix2 r e) = argX m c (ix2 R e) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 640 + 1 * r.val = R.val; rw [hi.1]; omega
  | ⟨1, _⟩ => show win0_0.index t 1 * 2048 + 1 * e.val = e.val; rw [hi.2]; omega

theorem gain_at (t : Fin cfg0.N) (e : Fin 2048) :
    (iblk m c 1 t : Vec Ideal S1x2048 .f32) (ix2 0 e) = argG m c (ix1 e) := by
  have hi := (index_facts t).2.1
  have hv : ∀ e : Fin 2048, (V m c main_v3 : FVec Ideal S1x2048 .f32) (ix2 0 e) = argG m c (ix1 e) := fun e => by
    unfold V; after_reads_at
  unfold iblk
  rw [View.read_apply, ← hv]
  show V m c main_v3 _ = V m c main_v3 _
  congr 1
  funext a
  apply Fin.ext
  match a with
  | ⟨0, _⟩ => show win0_1.index t 0 * 1 + 1 * 0 = 0; rw [hi.1]
  | ⟨1, _⟩ => show win0_1.index t 1 * 2048 + 1 * e.val = e.val; rw [hi.2]; omega

theorem last_gain_at (t : Fin cfg0.N) (e : Fin 2048) :
    (iblk m c 5 t : Vec Ideal S1x2048 .f32) (ix2 0 e) = argF m c (ix1 e) := by
  have hi := (index_facts t).2.2.2.2.2
  have hv : ∀ e : Fin 2048, (V m c main_v4 : FVec Ideal S1x2048 .f32) (ix2 0 e) = argF m c (ix1 e) := fun e => by
    unfold V; after_reads_at
  unfold iblk
  rw [View.read_apply, ← hv]
  show V m c main_v4 _ = V m c main_v4 _
  congr 1
  funext a
  apply Fin.ext
  match a with
  | ⟨0, _⟩ => show win0_5.index t 0 * 1 + 1 * 0 = 0; rw [hi.1]
  | ⟨1, _⟩ => show win0_5.index t 1 * 2048 + 1 * e.val = e.val; rw [hi.2]; omega

theorem w1_at (t : Fin cfg0.N) (e : Fin 2048) (k : Fin 512) (f : Fin 5632) (hf : f.val = 512 * (t.val % 11) + k.val) :
    (iblk m c 2 t : Vec Ideal S2048x512 .bf16) (ix2 e k) = argW1 m c (ix2 e f) := by
  have hi := (index_facts t).2.2.1
  have hv : ∀ (e : Fin 2048) (f : Fin 5632), (V m c main_v0 : FVec Ideal S2048x5632 .bf16) (ix2 e f) = argW1 m c (ix2 e f) :=
    fun e f => by unfold V; after_reads_at
  unfold iblk
  rw [View.read_apply, ← hv]
  show V m c main_v0 _ = V m c main_v0 _
  congr 1
  funext a
  apply Fin.ext
  match a with
  | ⟨0, _⟩ => show win0_2.index t 0 * 2048 + 1 * e.val = e.val; rw [hi.1]; omega
  | ⟨1, _⟩ => show win0_2.index t 1 * 512 + 1 * k.val = f.val; rw [hi.2]; omega

theorem w3_at (t : Fin cfg0.N) (e : Fin 2048) (k : Fin 512) (f : Fin 5632) (hf : f.val = 512 * (t.val % 11) + k.val) :
    (iblk m c 3 t : Vec Ideal S2048x512 .bf16) (ix2 e k) = argW3 m c (ix2 e f) := by
  have hi := (index_facts t).2.2.2.1
  have hv : ∀ (e : Fin 2048) (f : Fin 5632), (V m c main_v1 : FVec Ideal S2048x5632 .bf16) (ix2 e f) = argW3 m c (ix2 e f) :=
    fun e f => by unfold V; after_reads_at
  unfold iblk
  rw [View.read_apply, ← hv]
  show V m c main_v1 _ = V m c main_v1 _
  congr 1
  funext a
  apply Fin.ext
  match a with
  | ⟨0, _⟩ => show win0_3.index t 0 * 2048 + 1 * e.val = e.val; rw [hi.1]; omega
  | ⟨1, _⟩ => show win0_3.index t 1 * 512 + 1 * k.val = f.val; rw [hi.2]; omega

theorem w2_at (t : Fin cfg0.N) (d : Fin 2048) (k : Fin 512) (f : Fin 5632) (hf : f.val = 512 * (t.val % 11) + k.val) :
    (iblk m c 4 t : Vec Ideal S512x2048 .bf16) (ix2 k d) = argW2 m c (ix2 f d) := by
  have hi := (index_facts t).2.2.2.2.1
  have hv : ∀ (f : Fin 5632) (d : Fin 2048), (V m c main_v2 : FVec Ideal S5632x2048 .bf16) (ix2 f d) = argW2 m c (ix2 f d) :=
    fun e f => by unfold V; after_reads_at
  unfold iblk
  rw [View.read_apply, ← hv]
  show V m c main_v2 _ = V m c main_v2 _
  congr 1
  funext a
  apply Fin.ext
  match a with
  | ⟨0, _⟩ => show win0_4.index t 0 * 512 + 1 * k.val = f.val; rw [hi.1]; omega
  | ⟨1, _⟩ => show win0_4.index t 1 * 2048 + 1 * d.val = d.val; rw [hi.2]; omega

/-! ## The points of a row block -/

/-- Row `R` normalised, with the first gain. -/
def rowN (R : Fin 16640) (e : Fin 2048) : EReal := normed (fun e => argX m c (ix2 R e)) (fun e => argG m c (ix1 e)) e

/-- Inner unit `f` of row `R`, times its weight for column `d` (zero past the inner width). -/
def unit (R : Fin 16640) (d : Fin 2048) (f : ℕ) : EReal :=
  if h : f < 5632 then
    gated (rowN m c R) (fun e => argW1 m c (ix2 e ⟨f, h⟩)) (fun e => argW3 m c (ix2 e ⟨f, h⟩)) * argW2 m c (ix2 ⟨f, h⟩ d)
  else 0

/-- The inner blocks below `J`, summed. -/
def partialSum (R : Fin 16640) (d : Fin 2048) (J : ℕ) : EReal :=
  ∑ s ∈ Finset.range J, ∑ k : Fin 512, unit m c R d (512 * s + k)

/-- A point's step, from scratch buffers whose contents are known. -/
theorem step_at (t : Fin cfg0.N) (x : Vec Ideal S640x2048 .bf16) (a : Vec Ideal S640x2048 .f32) (r : Fin 640)
    (d : Fin 2048) (R : Fin 16640) (hx : ∀ e, x (ix2 r e) = rowN m c R e)
    (ha : a (ix2 r d) = partialSum m c R d (t.val % 11)) :
    k0_pay3 (F := Ideal) x (iblk m c 2 t) (iblk m c 3 t) a (iblk m c 4 t) (ix2 r d) = partialSum m c R d (t.val % 11 + 1) := by
  rw [pay3_at, ha]
  unfold partialSum
  rw [Finset.sum_range_succ]
  refine congrArg₂ (· + ·) rfl (Finset.sum_congr rfl fun k _ => ?_)
  have hk : 512 * (t.val % 11) + k.val < 5632 := by omega
  unfold unit
  rw [dif_pos hk, w2_at m c t d k ⟨_, hk⟩ rfl]
  have h1 : (fun e => (iblk m c 2 t : Vec Ideal S2048x512 .bf16) (ix2 e k)) = fun e => argW1 m c (ix2 e ⟨_, hk⟩) :=
    funext fun e => w1_at m c t e k ⟨_, hk⟩ rfl
  have h3 : (fun e => (iblk m c 3 t : Vec Ideal S2048x512 .bf16) (ix2 e k)) = fun e => argW3 m c (ix2 e ⟨_, hk⟩) :=
    funext fun e => w3_at m c t e k ⟨_, hk⟩ rfl
  rw [h1, h3, show (fun e => x (ix2 r e)) = rowN m c R from funext hx]

/-- After point `n`: the normalised rows, and the sum over the inner blocks so far. -/
theorem held : ∀ (n : ℕ) (hn : n < cfg0.N) (r : Fin 640) (R : Fin 16640), R.val = 640 * (n / 11) + r.val →
    (∀ e, (outsAt0 m c n hn).2.1 (ix2 r e) = rowN m c R e)
    ∧ ∀ d, (outsAt0 m c n hn).2.2 (ix2 r d) = partialSum m c R d (n % 11 + 1) := by
  intro n
  induction n with
  | zero =>
    intro hn r R hR
    have h := outsAt0_A m c ⟨0, hn⟩ rfl (by dsimp only; omega)
    have hx : ∀ e, k0_pay1 (F := Ideal) (iblk m c 0 ⟨0, hn⟩) (iblk m c 1 ⟨0, hn⟩) (ix2 r e) = rowN m c R e := fun e => by
      rw [pay1_at]; unfold rowN
      simp only [rows_at m c ⟨0, hn⟩ r _ R hR, gain_at]
    rw [h]
    dsimp only
    rw [left_A_0, left_A_1]
    exact ⟨hx, fun d => step_at m c ⟨0, hn⟩ _ _ r d R hx (by rw [pay2_at]; rfl)⟩
  | succ n ih =>
    intro hn r R hR
    have hN : n + 1 < 286 := lt_of_lt_of_eq hn (show cfg0.N = 286 from N_0)
    by_cases h0 : (n + 1) % 11 = 0
    · have h := outsAt0_A m c ⟨n + 1, hn⟩ h0 (by dsimp only; omega)
      have hx : ∀ e, k0_pay1 (F := Ideal) (iblk m c 0 ⟨n + 1, hn⟩) (iblk m c 1 ⟨n + 1, hn⟩) (ix2 r e) = rowN m c R e := fun e => by
        rw [pay1_at]; unfold rowN
        simp only [rows_at m c ⟨n + 1, hn⟩ r _ R hR, gain_at]
      rw [h]
      dsimp only
      rw [left_A_0, left_A_1]
      refine ⟨hx, fun d => step_at m c ⟨n + 1, hn⟩ _ _ r d R hx ?_⟩
      rw [pay2_at]; dsimp only; rw [h0]; rfl
    · have hdiv : (n + 1) / 11 = n / 11 := by omega
      have hmod : (n + 1) % 11 = n % 11 + 1 := by omega
      obtain ⟨ix, ia⟩ := ih (Nat.lt_of_succ_lt hn) r R (by rw [hR, hdiv])
      have ha : ∀ d, (outsAt0 m c n (Nat.lt_of_succ_lt hn)).2.2 (ix2 r d) = partialSum m c R d ((n + 1) % 11) := fun d => by
        rw [ia d, hmod]
      by_cases h1 : (n + 1) % 11 = 10
      · rw [outsAt0_C m c ⟨n + 1, hn⟩ h0 h1]
        dsimp only
        rw [left_C_1]
        exact ⟨ix, fun d => step_at m c ⟨n + 1, hn⟩ _ _ r d R ix (ha d)⟩
      · rw [outsAt0_B m c ⟨n + 1, hn⟩ h0 h1]
        dsimp only
        rw [left_B_1]
        exact ⟨ix, fun d => step_at m c ⟨n + 1, hn⟩ _ _ r d R ix (ha d)⟩

/-! ## The result array -/

/-- The result at row `R` and column `d`. -/
theorem result_at (R : Fin 16640) (d : Fin 2048) :
    (G6 m c : FVec Ideal S16640x2048 .f32) (ix2 R d) =
      normed (halfStep (fun e => argX m c (ix2 R e)) (fun e => partialSum m c R e 11)) (fun e => argF m c (ix1 e)) d := by
  have hRl := R.isLt
  have hdl := d.isLt
  have hpt : pt6Of (ix2 R d) = 11 * (R.val / 640) + 10 := by
    show 11 * (1 * (R.val / 640 - 0) + 1 * (d.val / 2048 - 0)) + 10 = _
    omega
  have hN : (11 * (R.val / 640) + 10) < cfg0.N := by rw [show cfg0.N = 286 from N_0]; omega
  unfold G6
  rw [dif_pos (by rw [hpt]; exact hN), ← outsAt0_sweep m c (pt6Of (ix2 R d)) (by rw [hpt]; exact hN)]
  have hloc : loc6Of (ix2 R d) = ix2 (⟨R.val % 640, Nat.mod_lt _ (by decide)⟩ : Fin 640) d := by
    funext a
    apply Fin.ext
    match a with
    | ⟨0, _⟩ => rfl
    | ⟨1, _⟩ => show d.val % 2048 = d.val; omega
  rw [hloc]
  obtain ⟨n, hn, hpn⟩ : ∃ n, ∃ hn : n < cfg0.N, n = 11 * (R.val / 640) + 10 := ⟨_, hN, rfl⟩
  have e : ∀ (p : ℕ) (hp : p < cfg0.N), p = n → outsAt0 m c p hp = outsAt0 m c n hn := fun p hp h => by subst h; rfl
  rw [e _ _ (hpt.trans hpn.symm)]
  have h0 : ¬(⟨n, hn⟩ : Fin cfg0.N).val % 11 = 0 := by dsimp only; omega
  have h1 : (⟨n, hn⟩ : Fin cfg0.N).val % 11 = 10 := by dsimp only; omega
  have hR : R.val = 640 * (n / 11) + R.val % 640 := by omega
  have hh := (held m c n hn ⟨R.val % 640, Nat.mod_lt _ (by decide)⟩ R hR).2
  have hC := outsAt0_C m c ⟨n, hn⟩ h0 h1
  dsimp only at hC
  rw [hC] at hh ⊢
  dsimp only at hh ⊢
  rw [left_C_1] at hh
  rw [left_C_6, pay4_at]
  simp only [hh, rows_at m c ⟨n, hn⟩ ⟨R.val % 640, Nat.mod_lt _ (by decide)⟩ _ R hR, last_gain_at,
    show n % 11 + 1 = 11 by omega]

end Cert.FfnK
-- ==== Proof.FfnReference.lean ====
module

public import proofs.«01_k».proof.Proof.Gen.ReferenceFfnIdeal.Run
public import proofs.«01_k».proof.Proof.FfnMath

/-!
# What the reference's feed-forward half step computes

The reference is one line of whole-array operations. It is cut here into its three kinds of step (normalise, gate,
add half), each read at an entry as the numbers of `FfnMath`.
-/

@[expose] public section

set_option maxRecDepth 16384

noncomputable section

open Idealize.ShloMosaic Idealize.ShloMosaic.TcCoe Idealize.SL.Sem

namespace Cert.FfnR

open Cert.ReferenceFfnIdeal Cert.ReferenceFfnIdeal.Value Cert.Ffn

/-- Every row of `x` normalised, with gain `g`. -/
def normArr (x : FVec Ideal S16640x2048 .f32) (g : FVec Ideal S2048 .f32) : FVec Ideal S16640x2048 .f32 :=
  mulf (mulf x (broadcastInDim S16640x2048 ![0, 1] Gen.bcast_S16640x1_S16640x2048_0_1
      (Host.rsqrt (addf
        (Host.divf (broadcastInDim S16640x1 ![0] Gen.bcast_S16640_S16640x1_0
            (Host.reduceAdd (mulf x x) (constant S_ FTy.f32 0x00000000#32) Gen.reducesTo_S16640x2048_S16640_d1 Gen.h_S_))
          (broadcastInDim S16640x1 ![] Gen.bcast_S_S16640x1 (constant S_ FTy.f32 0x45000000#32)))
        (broadcastInDim S16640x1 ![] Gen.bcast_S_S16640x1 (constant S_ FTy.f32 0x358637BD#32))))))
    (broadcastInDim S16640x2048 ![0, 1] Gen.bcast_S1x2048_S16640x2048_0_1
      (broadcastInDim S1x2048 ![1] Gen.bcast_S2048_S1x2048_1 g))

/-- The gated projections of the normalised rows. -/
def gateArr (x : FVec Ideal S16640x2048 .f32) (w1 w3 : FVec Ideal S2048x5632 .f32) : FVec Ideal S16640x5632 .f32 :=
  mulf (mulf (Host.dotGeneral dot_S16640x2048_S2048x5632_S16640x5632_1_0_0_1_n_n none x w1)
      (Host.divf (broadcastInDim S16640x5632 ![] Gen.bcast_S_S16640x5632 (constant S_ FTy.f32 0x3F800000#32))
        (addf (broadcastInDim S16640x5632 ![] Gen.bcast_S_S16640x5632 (constant S_ FTy.f32 0x3F800000#32))
          (Host.exp (Host.negf (Host.dotGeneral dot_S16640x2048_S2048x5632_S16640x5632_1_0_0_1_n_n none x w1))))))
    (Host.dotGeneral dot_S16640x2048_S2048x5632_S16640x5632_1_0_0_1_n_n none x w3)

/-- The rows with half of the gated units' projection added. -/
def stepArr (x : FVec Ideal S16640x2048 .f32) (u : FVec Ideal S16640x5632 .f32) (w2 : FVec Ideal S5632x2048 .f32) :
    FVec Ideal S16640x2048 .f32 :=
  addf x (mulf (broadcastInDim S16640x2048 ![] Gen.bcast_S_S16640x2048 (constant S_ FTy.f32 0x3F000000#32))
    (Host.dotGeneral dot_S16640x5632_S5632x2048_S16640x2048_1_0_0_1_n_n none u w2))

theorem normArr_at (x : FVec Ideal S16640x2048 .f32) (g : FVec Ideal S2048 .f32) (r : Fin 16640) (d : Fin 2048) :
    normArr x g (ix2 r d) = normed (fun e => x (ix2 r e)) (fun e => g (ix1 e)) d := by
  pointwise [normArr]
  rfl

theorem gateArr_at (x : FVec Ideal S16640x2048 .f32) (w1 w3 : FVec Ideal S2048x5632 .f32) (r : Fin 16640) (f : Fin 5632) :
    gateArr x w1 w3 (ix2 r f) =
      gated (fun e => x (ix2 r e)) (fun e => w1 (ix2 e f)) (fun e => w3 (ix2 e f)) := by
  pointwise [gateArr]
  rfl

theorem stepArr_at (x : FVec Ideal S16640x2048 .f32) (u : FVec Ideal S16640x5632 .f32) (w2 : FVec Ideal S5632x2048 .f32)
    (r : Fin 16640) (d : Fin 2048) :
    stepArr x u w2 (ix2 r d) = halfStep (fun e => x (ix2 r e)) (fun e => ∑ f, u (ix2 r f) * w2 (ix2 f e)) d := by
  pointwise [stepArr]
  rfl

/-- All of the steps, at an entry. -/
theorem steps_at (x : FVec Ideal S16640x2048 .f32) (g f : FVec Ideal S2048 .f32) (w1 w3 : FVec Ideal S2048x5632 .f32)
    (w2 : FVec Ideal S5632x2048 .f32) (r : Fin 16640) (d : Fin 2048) :
    normArr (stepArr x (gateArr (normArr x g) w1 w3) w2) f (ix2 r d) =
      normed (halfStep (fun e => x (ix2 r e)) (fun e => ∑ k : Fin 5632,
        gated (normed (fun e => x (ix2 r e)) (fun e => g (ix1 e))) (fun e => w1 (ix2 e k)) (fun e => w3 (ix2 e k)) * w2 (ix2 k e)))
        (fun e => f (ix1 e)) d := by
  rw [normArr_at]
  simp only [stepArr_at, gateArr_at, normArr_at]

variable (m : (ℓ : Loc nD τ sig) → Buf (Elt Ideal) ℓ) (c : Dev nD)

/-- The reference's result is those steps, one after another. -/
theorem result_eq : res_main_v33 (F := Ideal) m c =
    (normArr (stepArr (m (c.tc.loc main_arg0))
      (gateArr (normArr (m (c.tc.loc main_arg0)) (m (c.tc.loc main_arg1))) (m (c.tc.loc main_arg2)) (m (c.tc.loc main_arg3)))
      (m (c.tc.loc main_arg4))) (m (c.tc.loc main_arg5)) : FVec Ideal S16640x2048 .f32) := by
  unfold res_main_v33 normArr stepArr gateArr
  rfl

end Cert.FfnR
-- ==== Proof.FfnClaims.lean ====
module

public import proofs.«01_k».proof.Defs
public import proofs.«01_k».proof.Proof.FfnArray
public import proofs.«01_k».proof.Proof.FfnReference

/-!
# The feed-forward half step: kernel and reference agree

Over the extended reals the kernel's result array and the reference's are the same numbers: the kernel's eleven inner
blocks are the reference's one sum.
-/

@[expose] public section

set_option maxRecDepth 16384

noncomputable section

open Idealize.ShloMosaic Idealize.ShloMosaic.TcCoe Idealize.SL.Sem

namespace Cert.FfnClaims

open Cert.Ffn

/-- At every entry the reference's result is the kernel's, wherever the arguments are the same. -/
theorem results_agree
    (m : (ℓ : Loc Cert.KernelFfnIdeal.nD Cert.KernelFfnIdeal.τ Cert.KernelFfnIdeal.sig) → Buf (Elt Ideal) ℓ) (c : Dev Cert.KernelFfnIdeal.nD)
    (m' : (ℓ : Loc Cert.ReferenceFfnIdeal.nD Cert.ReferenceFfnIdeal.τ Cert.ReferenceFfnIdeal.sig) → Buf (Elt Ideal) ℓ) (c' : Dev Cert.ReferenceFfnIdeal.nD)
    (h0 : (m' (c'.tc.loc Cert.ReferenceFfnIdeal.main_arg0) : FVec Ideal Cert.KernelFfnIdeal.S16640x2048 .f32) = Cert.FfnK.argX m c)
    (h1 : (m' (c'.tc.loc Cert.ReferenceFfnIdeal.main_arg1) : FVec Ideal Cert.KernelFfnIdeal.S2048 .f32) = Cert.FfnK.argG m c)
    (h2 : (m' (c'.tc.loc Cert.ReferenceFfnIdeal.main_arg2) : FVec Ideal Cert.KernelFfnIdeal.S2048x5632 .f32) = Cert.FfnK.argW1 m c)
    (h3 : (m' (c'.tc.loc Cert.ReferenceFfnIdeal.main_arg3) : FVec Ideal Cert.KernelFfnIdeal.S2048x5632 .f32) = Cert.FfnK.argW3 m c)
    (h4 : (m' (c'.tc.loc Cert.ReferenceFfnIdeal.main_arg4) : FVec Ideal Cert.KernelFfnIdeal.S5632x2048 .f32) = Cert.FfnK.argW2 m c)
    (h5 : (m' (c'.tc.loc Cert.ReferenceFfnIdeal.main_arg5) : FVec Ideal Cert.KernelFfnIdeal.S2048 .f32) = Cert.FfnK.argF m c) :
    (Cert.ReferenceFfnIdeal.Value.res_main_v33 (F := Ideal) m' c' : FVec Ideal Cert.KernelFfnIdeal.S16640x2048 .f32)
      = Cert.KernelFfnIdeal.Value.G6 (F := Ideal) m c := by
  funext i
  rw [eq_ix2 i]
  refine Eq.trans ?_ (Cert.FfnK.result_at m c (i 0) (i 1)).symm
  rw [Cert.FfnR.result_eq m' c']
  refine (Cert.FfnR.steps_at _ _ _ _ _ _ (i 0) (i 1)).trans ?_
  have hu : ∀ f : Fin 5632, ∀ d : Fin 2048, Cert.FfnK.unit m c (i 0) d f =
      gated (Cert.FfnK.rowN m c (i 0)) (fun e => Cert.FfnK.argW1 m c (ix2 e f)) (fun e => Cert.FfnK.argW3 m c (ix2 e f))
        * Cert.FfnK.argW2 m c (ix2 f d) := fun f d => by
    unfold Cert.FfnK.unit
    rw [dif_pos f.isLt]
  have hs : ∀ d : Fin 2048, Cert.FfnK.partialSum m c (i 0) d 11 = ∑ f : Fin 5632, Cert.FfnK.unit m c (i 0) d f := fun d =>
    (inner_blocks (Cert.FfnK.unit m c (i 0) d)).symm
  simp only [hs, hu]
  unfold Cert.FfnK.rowN
  rw [← h0, ← h1, ← h2, ← h3, ← h4, ← h5]

theorem algebraic : Cert.algebraic_KernelFfnIdeal_ReferenceFfnIdeal := by
  intro m ρ m' ρ' _ hagree
  refine ⟨fun c => Cert.KernelFfnIdeal.Value.G6 (F := Ideal) m c, Cert.KernelFfnIdeal.Value.run (F := Ideal) m ρ, ?_⟩
  refine (θ_run Cert.ReferenceFfnIdeal.defs _ _).mono (fun _ h c => ⟨(h c).1.trans ?_, (h c).2⟩)
    (Cert.ReferenceFfnIdeal.Value.run (F := Ideal) m' ρ')
  obtain ⟨h0, h1, h2, h3, h4, h5⟩ := hagree c
  exact results_agree m c m' c h0 h1 h2 h3 h4 h5

end Cert.FfnClaims
-- ==== Proof.HalfBlock.lean ====
module

public import proofs.«01_k».proof.Proof.Gen.KernelHalfIdeal.Value
public import Idealize.ShloMosaic.Lib.Tactic

/-!
# What one point of the first feed-forward kernel leaves in its buffers

The grid walks 26 row blocks, and in each of them 11 blocks of the inner width. The first point of a row block
normalises the rows, every point adds its inner block's products to the accumulator, the last one adds half of the
accumulator to the rows.
-/

@[expose] public section

noncomputable section

open Idealize.ShloMosaic Idealize.ShloMosaic.TcCoe Idealize.SL.Sem

namespace Cert.HalfK

open Cert.KernelHalfIdeal Cert.KernelHalfIdeal.Gen

variable {F : FTy → Type} [FloatOps F]

theorem hz : (![0, 0] : Fin 2 → Nat) = fun _ => 0 := funext fun a => by fin_cases a <;> rfl

/-- The first point of a row block leaves the normalised rows in the first scratch buffer. -/
theorem left_A_0 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S640x2048 .f32) (h7 : a7.IsWhole) (a8 : Memref sig .tc .vmem S640x2048 .bf16) (h8 : a8.IsWhole) (a9 : Memref sig .tc .vmem S640x2048 .f32) (h9 : a9.IsWhole) (hc0 : cond0_0 i) (hc1 : ¬cond0_1 i) (x0 : Vec F S640x2048 .f32) (x1 : Vec F S1x2048 .f32) (x2 : Vec F S2048x512 .bf16) (x3 : Vec F S2048x512 .bf16) (x4 : Vec F S512x2048 .bf16) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread,
    View.ld_unit_zero (S := S640x2048) hz, View.ld_unit_zero (S := S1x2048) hz, View.ld_unit_zero (S := S2048x512) hz, View.ld_unit_zero (S := S512x2048) hz]

/-- … and the first inner block's products, added to zero, in the second. -/
theorem left_A_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S640x2048 .f32) (h7 : a7.IsWhole) (a8 : Memref sig .tc .vmem S640x2048 .bf16) (h8 : a8.IsWhole) (a9 : Memref sig .tc .vmem S640x2048 .f32) (h9 : a9.IsWhole) (hc0 : cond0_0 i) (hc1 : ¬cond0_1 i) (x0 : Vec F S640x2048 .f32) (x1 : Vec F S1x2048 .f32) (x2 : Vec F S2048x512 .bf16) (x3 : Vec F S2048x512 .bf16) (x4 : Vec F S512x2048 .bf16) :
    sout0_A_1 c i a2 h2 a3 h3 a4 h4 a5 h5 a6 h6 a7 h7 a8 h8 a9 h9 hc0 hc1 x0 x1 x2 x3 x4 = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread,
    View.ld_unit_zero (S := S640x2048) hz, View.ld_unit_zero (S := S1x2048) hz, View.ld_unit_zero (S := S2048x512) hz, View.ld_unit_zero (S := S512x2048) hz]

/-- A middle point adds its inner block's products. -/
theorem left_B_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S640x2048 .f32) (h7 : a7.IsWhole) (a8 : Memref sig .tc .vmem S640x2048 .bf16) (h8 : a8.IsWhole) (a9 : Memref sig .tc .vmem S640x2048 .f32) (h9 : a9.IsWhole) (hc0 : ¬cond0_0 i) (hc1 : ¬cond0_1 i) (x0 : Vec F S640x2048 .f32) (x1 : Vec F S1x2048 .f32) (x2 : Vec F S2048x512 .bf16) (x3 : Vec F S2048x512 .bf16) (x4 : Vec F S512x2048 .bf16) (s0 : Vec F S640x2048 .bf16) (s1 : Vec F S640x2048 .f32) :
    sout0_B_1 c i a2 h2 a3 h3 a4 h4 a5 h5 a6 h6 a7 h7 a8 h8 a9 h9 hc0 hc1 x0 x1 x2 x3 x4 s0 s1 = k0_pay3 s0 x2 x3 s1 x4 := by
  unfold sout0_B_1
  rw [View.read_writes_eq_canon _ _ _ (scover0_B_1 c i a2 h2 a3 h3 a4 h4 a5 h5 a6 h6 a7 h7 a8 h8 a9 h9 hc0 hc1 x0 x1 x2 x3 x4 s0 s1)]
  unfold kernelRun0_B
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread,
    View.ld_unit_zero (S := S640x2048) hz, View.ld_unit_zero (S := S1x2048) hz, View.ld_unit_zero (S := S2048x512) hz, View.ld_unit_zero (S := S512x2048) hz]

/-- So does the last point … -/
theorem left_C_1 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S640x2048 .f32) (h7 : a7.IsWhole) (a8 : Memref sig .tc .vmem S640x2048 .bf16) (h8 : a8.IsWhole) (a9 : Memref sig .tc .vmem S640x2048 .f32) (h9 : a9.IsWhole) (hc0 : ¬cond0_0 i) (hc1 : cond0_1 i) (x0 : Vec F S640x2048 .f32) (x1 : Vec F S1x2048 .f32) (x2 : Vec F S2048x512 .bf16) (x3 : Vec F S2048x512 .bf16) (x4 : Vec F S512x2048 .bf16) (s0 : Vec F S640x2048 .bf16) (s1 : Vec F S640x2048 .f32) :
    sout0_C_1 c i a2 h2 a3 h3 a4 h4 a5 h5 a6 h6 a7 h7 a8 h8 a9 h9 hc0 hc1 x0 x1 x2 x3 x4 s0 s1 = k0_pay3 s0 x2 x3 s1 x4 := by
  unfold sout0_C_1
  rw [View.read_writes_eq_canon _ _ _ (scover0_C_1 c i a2 h2 a3 h3 a4 h4 a5 h5 a6 h6 a7 h7 a8 h8 a9 h9 hc0 hc1 x0 x1 x2 x3 x4 s0 s1)]
  unfold kernelRun0_C
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread,
    View.ld_unit_zero (S := S640x2048) hz, View.ld_unit_zero (S := S1x2048) hz, View.ld_unit_zero (S := S2048x512) hz, View.ld_unit_zero (S := S512x2048) hz]

/-- … which then writes the half step to the output block. -/
theorem left_C_5 (c : Dev nD) (i : grid0.Coords) (a2 : Memref sig .tc .vmem S640x2048 .f32) (h2 : a2.IsWhole) (a3 : Memref sig .tc .vmem S1x2048 .f32) (h3 : a3.IsWhole) (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole) (a7 : Memref sig .tc .vmem S640x2048 .f32) (h7 : a7.IsWhole) (a8 : Memref sig .tc .vmem S640x2048 .bf16) (h8 : a8.IsWhole) (a9 : Memref sig .tc .vmem S640x2048 .f32) (h9 : a9.IsWhole) (hc0 : ¬cond0_0 i) (hc1 : cond0_1 i) (x0 : Vec F S640x2048 .f32) (x1 : Vec F S1x2048 .f32) (x2 : Vec F S2048x512 .bf16) (x3 : Vec F S2048x512 .bf16) (x4 : Vec F S512x2048 .bf16) (s0 : Vec F S640x2048 .bf16) (s1 : Vec F S640x2048 .f32) :
    out0_C_5 c i a2 h2 a3 h3 a4 h4 a5 h5 a6 h6 a7 h7 a8 h8 a9 h9 hc0 hc1 x0 x1 x2 x3 x4 s0 s1 = k0_pay4 x0 (k0_pay3 s0 x2 x3 s1 x4) := by
  unfold out0_C_5
  rw [View.read_writes_eq_canon _ _ _ (cover0_C_5 c i a2 h2 a3 h3 a4 h4 a5 h5 a6 h6 a7 h7 a8 h8 a9 h9 hc0 hc1 x0 x1 x2 x3 x4 s0 s1)]
  unfold kernelRun0_C
  dsimp only
  try sl_unfold_words
  simp only [View.canon_unit_zero (S := S640x2048) hz, View.canon_cons_unit_zero (S := S640x2048) hz, View.readCov_unit_zero (S := S640x2048) _ hz, View.readAt_eq_ld, h2.read_unread, h3.read_unread, h4.read_unread, h5.read_unread, h6.read_unread, h7.read_unread, h8.read_unread, h9.read_unread,
    View.ld_unit_zero (S := S640x2048) hz, View.ld_unit_zero (S := S1x2048) hz, View.ld_unit_zero (S := S2048x512) hz, View.ld_unit_zero (S := S512x2048) hz]

end Cert.HalfK
-- ==== Proof.HalfArray.lean ====
module

public import proofs.«01_k».proof.Proof.HalfBlock
public import proofs.«01_k».proof.Proof.FfnMath
public import Idealize.ShloMosaic.Lib.StableHlo.ReadAt

/-!
# What the first feed-forward kernel's result array holds

The points of one row block, put together: after point `n` the first scratch buffer holds the row block's normalised
rows, the second the sum over the inner blocks taken so far (`held`, by induction on the point). The last point of a
row block writes the result's rows (`result_at`).
-/

@[expose] public section

set_option maxRecDepth 16384

noncomputable section

open Idealize.ShloMosaic Idealize.ShloMosaic.TcCoe Idealize.SL.Sem

namespace Cert.HalfK

open Cert.KernelHalfIdeal Cert.KernelHalfIdeal.Gen Cert.KernelHalfIdeal.Value Cert.Ffn

/-! ## The three payloads, at an entry -/

theorem pay1_at (x : Vec Ideal S640x2048 .f32) (g : Vec Ideal S1x2048 .f32) (r : Fin 640) (d : Fin 2048) :
    k0_pay1 (F := Ideal) x g (ix2 r d) = normed (fun e => x (ix2 r e)) (fun e => g (ix2 0 e)) d := by
  pointwise [k0_pay1]
  rfl

theorem pay3_at (x : Vec Ideal S640x2048 .bf16) (u v : Vec Ideal S2048x512 .bf16) (a : Vec Ideal S640x2048 .f32)
    (w : Vec Ideal S512x2048 .bf16) (r : Fin 640) (d : Fin 2048) :
    k0_pay3 (F := Ideal) x u v a w (ix2 r d) = a (ix2 r d) +
      ∑ k : Fin 512, gated (fun e => x (ix2 r e)) (fun e => u (ix2 e k)) (fun e => v (ix2 e k)) * w (ix2 k d) := by
  pointwise [k0_pay3]
  rfl

theorem pay2_at (r : Fin 640) (d : Fin 2048) : k0_pay2 (F := Ideal) (ix2 r d) = (0 : EReal) := by
  pointwise [k0_pay2]

theorem pay4_at (x a : Vec Ideal S640x2048 .f32) (r : Fin 640) (d : Fin 2048) :
    k0_pay4 (F := Ideal) x a (ix2 r d) = halfStep (fun e => x (ix2 r e)) (fun e => a (ix2 r e)) d := by
  pointwise [k0_pay4]
  rfl

/-! ## The input blocks, at an entry of their arrays -/

variable (m : (ℓ : Loc nD τ sig) → Buf (Elt Ideal) ℓ) (c : Dev nD)

/-- The five argument arrays, as numbers. -/
abbrev argX : FVec Ideal S16640x2048 .f32 := m (c.tc.loc main_arg0)
abbrev argG : FVec Ideal S2048 .f32 := m (c.tc.loc main_arg1)
abbrev argW1 : FVec Ideal S2048x5632 .f32 := m (c.tc.loc main_arg2)
abbrev argW3 : FVec Ideal S2048x5632 .f32 := m (c.tc.loc main_arg3)
abbrev argW2 : FVec Ideal S5632x2048 .f32 := m (c.tc.loc main_arg4)

theorem index_facts : ∀ t : Fin cfg0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) :=
  (by decide +kernel : ∀ t : Fin grid0.N, _)

theorem rows_at (t : Fin cfg0.N) (r : Fin 640) (e : Fin 2048) (R : Fin 16640) (hR : R.val = 640 * (t.val / 11) + r.val) :
    (iblk m c 0 t : Vec Ideal S640x2048 .f32) (ix2 r e) = argX m c (ix2 R e) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 640 + 1 * r.val = R.val; rw [hi.1]; omega
  | ⟨1, _⟩ => show win0_0.index t 1 * 2048 + 1 * e.val = e.val; rw [hi.2]; omega

theorem gain_at (t : Fin cfg0.N) (e : Fin 2048) :
    (iblk m c 1 t : Vec Ideal S1x2048 .f32) (ix2 0 e) = argG m c (ix1 e) := by
  have hi := (index_facts t).2.1
  have hv : ∀ e : Fin 2048, (V m c main_v3 : FVec Ideal S1x2048 .f32) (ix2 0 e) = argG m c (ix1 e) := fun e => by
    unfold V; after_reads_at
  unfold iblk
  rw [View.read_apply, ← hv]
  show V m c main_v3 _ = V m c main_v3 _
  congr 1
  funext a
  apply Fin.ext
  match a with
  | ⟨0, _⟩ => show win0_1.index t 0 * 1 + 1 * 0 = 0; rw [hi.1]
  | ⟨1, _⟩ => show win0_1.index t 1 * 2048 + 1 * e.val = e.val; rw [hi.2]; omega

theorem w1_at (t : Fin cfg0.N) (e : Fin 2048) (k : Fin 512) (f : Fin 5632) (hf : f.val = 512 * (t.val % 11) + k.val) :
    (iblk m c 2 t : Vec Ideal S2048x512 .bf16) (ix2 e k) = argW1 m c (ix2 e f) := by
  have hi := (index_facts t).2.2.1
  have hv : ∀ (e : Fin 2048) (f : Fin 5632), (V m c main_v0 : FVec Ideal S2048x5632 .bf16) (ix2 e f) = argW1 m c (ix2 e f) :=
    fun e f => by unfold V; after_reads_at
  unfold iblk
  rw [View.read_apply, ← hv]
  show V m c main_v0 _ = V m c main_v0 _
  congr 1
  funext a
  apply Fin.ext
  match a with
  | ⟨0, _⟩ => show win0_2.index t 0 * 2048 + 1 * e.val = e.val; rw [hi.1]; omega
  | ⟨1, _⟩ => show win0_2.index t 1 * 512 + 1 * k.val = f.val; rw [hi.2]; omega

theorem w3_at (t : Fin cfg0.N) (e : Fin 2048) (k : Fin 512) (f : Fin 5632) (hf : f.val = 512 * (t.val % 11) + k.val) :
    (iblk m c 3 t : Vec Ideal S2048x512 .bf16) (ix2 e k) = argW3 m c (ix2 e f) := by
  have hi := (index_facts t).2.2.2.1
  have hv : ∀ (e : Fin 2048) (f : Fin 5632), (V m c main_v1 : FVec Ideal S2048x5632 .bf16) (ix2 e f) = argW3 m c (ix2 e f) :=
    fun e f => by unfold V; after_reads_at
  unfold iblk
  rw [View.read_apply, ← hv]
  show V m c main_v1 _ = V m c main_v1 _
  congr 1
  funext a
  apply Fin.ext
  match a with
  | ⟨0, _⟩ => show win0_3.index t 0 * 2048 + 1 * e.val = e.val; rw [hi.1]; omega
  | ⟨1, _⟩ => show win0_3.index t 1 * 512 + 1 * k.val = f.val; rw [hi.2]; omega

theorem w2_at (t : Fin cfg0.N) (d : Fin 2048) (k : Fin 512) (f : Fin 5632) (hf : f.val = 512 * (t.val % 11) + k.val) :
    (iblk m c 4 t : Vec Ideal S512x2048 .bf16) (ix2 k d) = argW2 m c (ix2 f d) := by
  have hi := (index_facts t).2.2.2.2
  have hv : ∀ (f : Fin 5632) (d : Fin 2048), (V m c main_v2 : FVec Ideal S5632x2048 .bf16) (ix2 f d) = argW2 m c (ix2 f d) :=
    fun e f => by unfold V; after_reads_at
  unfold iblk
  rw [View.read_apply, ← hv]
  show V m c main_v2 _ = V m c main_v2 _
  congr 1
  funext a
  apply Fin.ext
  match a with
  | ⟨0, _⟩ => show win0_4.index t 0 * 512 + 1 * k.val = f.val; rw [hi.1]; omega
  | ⟨1, _⟩ => show win0_4.index t 1 * 2048 + 1 * d.val = d.val; rw [hi.2]; omega

/-! ## The points of a row block -/

/-- Row `R` normalised, with the first gain. -/
def rowN (R : Fin 16640) (e : Fin 2048) : EReal := normed (fun e => argX m c (ix2 R e)) (fun e => argG m c (ix1 e)) e

/-- Inner unit `f` of row `R`, times its weight for column `d` (zero past the inner width). -/
def unit (R : Fin 16640) (d : Fin 2048) (f : ℕ) : EReal :=
  if h : f < 5632 then
    gated (rowN m c R) (fun e => argW1 m c (ix2 e ⟨f, h⟩)) (fun e => argW3 m c (ix2 e ⟨f, h⟩)) * argW2 m c (ix2 ⟨f, h⟩ d)
  else 0

/-- The inner blocks below `J`, summed. -/
def partialSum (R : Fin 16640) (d : Fin 2048) (J : ℕ) : EReal :=
  ∑ s ∈ Finset.range J, ∑ k : Fin 512, unit m c R d (512 * s + k)

/-- A point's step, from scratch buffers whose contents are known. -/
theorem step_at (t : Fin cfg0.N) (x : Vec Ideal S640x2048 .bf16) (a : Vec Ideal S640x2048 .f32) (r : Fin 640)
    (d : Fin 2048) (R : Fin 16640) (hx : ∀ e, x (ix2 r e) = rowN m c R e)
    (ha : a (ix2 r d) = partialSum m c R d (t.val % 11)) :
    k0_pay3 (F := Ideal) x (iblk m c 2 t) (iblk m c 3 t) a (iblk m c 4 t) (ix2 r d) = partialSum m c R d (t.val % 11 + 1) := by
  rw [pay3_at, ha]
  unfold partialSum
  rw [Finset.sum_range_succ]
  refine congrArg₂ (· + ·) rfl (Finset.sum_congr rfl fun k _ => ?_)
  have hk : 512 * (t.val % 11) + k.val < 5632 := by omega
  unfold unit
  rw [dif_pos hk, w2_at m c t d k ⟨_, hk⟩ rfl]
  have h1 : (fun e => (iblk m c 2 t : Vec Ideal S2048x512 .bf16) (ix2 e k)) = fun e => argW1 m c (ix2 e ⟨_, hk⟩) :=
    funext fun e => w1_at m c t e k ⟨_, hk⟩ rfl
  have h3 : (fun e => (iblk m c 3 t : Vec Ideal S2048x512 .bf16) (ix2 e k)) = fun e => argW3 m c (ix2 e ⟨_, hk⟩) :=
    funext fun e => w3_at m c t e k ⟨_, hk⟩ rfl
  rw [h1, h3, show (fun e => x (ix2 r e)) = rowN m c R from funext hx]

/-- After point `n`: the normalised rows, and the sum over the inner blocks so far. -/
theorem held : ∀ (n : ℕ) (hn : n < cfg0.N) (r : Fin 640) (R : Fin 16640), R.val = 640 * (n / 11) + r.val →
    (∀ e, (outsAt0 m c n hn).2.1 (ix2 r e) = rowN m c R e)
    ∧ ∀ d, (outsAt0 m c n hn).2.2 (ix2 r d) = partialSum m c R d (n % 11 + 1) := by
  intro n
  induction n with
  | zero =>
    intro hn r R hR
    have h := outsAt0_A m c ⟨0, hn⟩ rfl (by dsimp only; omega)
    have hx : ∀ e, k0_pay1 (F := Ideal) (iblk m c 0 ⟨0, hn⟩) (iblk m c 1 ⟨0, hn⟩) (ix2 r e) = rowN m c R e := fun e => by
      rw [pay1_at]; unfold rowN
      simp only [rows_at m c ⟨0, hn⟩ r _ R hR, gain_at]
    rw [h]
    dsimp only
    rw [left_A_0, left_A_1]
    exact ⟨hx, fun d => step_at m c ⟨0, hn⟩ _ _ r d R hx (by rw [pay2_at]; rfl)⟩
  | succ n ih =>
    intro hn r R hR
    have hN : n + 1 < 286 := lt_of_lt_of_eq hn (show cfg0.N = 286 from N_0)
    by_cases h0 : (n + 1) % 11 = 0
    · have h := outsAt0_A m c ⟨n + 1, hn⟩ h0 (by dsimp only; omega)
      have hx : ∀ e, k0_pay1 (F := Ideal) (iblk m c 0 ⟨n + 1, hn⟩) (iblk m c 1 ⟨n + 1, hn⟩) (ix2 r e) = rowN m c R e := fun e => by
        rw [pay1_at]; unfold rowN
        simp only [rows_at m c ⟨n + 1, hn⟩ r _ R hR, gain_at]
      rw [h]
      dsimp only
      rw [left_A_0, left_A_1]
      refine ⟨hx, fun d => step_at m c ⟨n + 1, hn⟩ _ _ r d R hx ?_⟩
      rw [pay2_at]; dsimp only; rw [h0]; rfl
    · have hdiv : (n + 1) / 11 = n / 11 := by omega
      have hmod : (n + 1) % 11 = n % 11 + 1 := by omega
      obtain ⟨ix, ia⟩ := ih (Nat.lt_of_succ_lt hn) r R (by rw [hR, hdiv])
      have ha : ∀ d, (outsAt0 m c n (Nat.lt_of_succ_lt hn)).2.2 (ix2 r d) = partialSum m c R d ((n + 1) % 11) := fun d => by
        rw [ia d, hmod]
      by_cases h1 : (n + 1) % 11 = 10
      · rw [outsAt0_C m c ⟨n + 1, hn⟩ h0 h1]
        dsimp only
        rw [left_C_1]
        exact ⟨ix, fun d => step_at m c ⟨n + 1, hn⟩ _ _ r d R ix (ha d)⟩
      · rw [outsAt0_B m c ⟨n + 1, hn⟩ h0 h1]
        dsimp only
        rw [left_B_1]
        exact ⟨ix, fun d => step_at m c ⟨n + 1, hn⟩ _ _ r d R ix (ha d)⟩

/-! ## The result array -/

/-- The result at row `R` and column `d`. -/
theorem result_at (R : Fin 16640) (d : Fin 2048) :
    (G5 m c : FVec Ideal S16640x2048 .f32) (ix2 R d) =
      halfStep (fun e => argX m c (ix2 R e)) (fun e => partialSum m c R e 11) d := by
  have hRl := R.isLt
  have hdl := d.isLt
  have hpt : pt5Of (ix2 R d) = 11 * (R.val / 640) + 10 := by
    show 11 * (1 * (R.val / 640 - 0) + 1 * (d.val / 2048 - 0)) + 10 = _
    omega
  have hN : (11 * (R.val / 640) + 10) < cfg0.N := by rw [show cfg0.N = 286 from N_0]; omega
  unfold G5
  rw [dif_pos (by rw [hpt]; exact hN), ← outsAt0_sweep m c (pt5Of (ix2 R d)) (by rw [hpt]; exact hN)]
  have hloc : loc5Of (ix2 R d) = ix2 (⟨R.val % 640, Nat.mod_lt _ (by decide)⟩ : Fin 640) d := by
    funext a
    apply Fin.ext
    match a with
    | ⟨0, _⟩ => rfl
    | ⟨1, _⟩ => show d.val % 2048 = d.val; omega
  rw [hloc]
  obtain ⟨n, hn, hpn⟩ : ∃ n, ∃ hn : n < cfg0.N, n = 11 * (R.val / 640) + 10 := ⟨_, hN, rfl⟩
  have e : ∀ (p : ℕ) (hp : p < cfg0.N), p = n → outsAt0 m c p hp = outsAt0 m c n hn := fun p hp h => by subst h; rfl
  rw [e _ _ (hpt.trans hpn.symm)]
  have h0 : ¬(⟨n, hn⟩ : Fin cfg0.N).val % 11 = 0 := by dsimp only; omega
  have h1 : (⟨n, hn⟩ : Fin cfg0.N).val % 11 = 10 := by dsimp only; omega
  have hR : R.val = 640 * (n / 11) + R.val % 640 := by omega
  have hh := (held m c n hn ⟨R.val % 640, Nat.mod_lt _ (by decide)⟩ R hR).2
  have hC := outsAt0_C m c ⟨n, hn⟩ h0 h1
  dsimp only at hC
  rw [hC] at hh ⊢
  dsimp only at hh ⊢
  rw [left_C_1] at hh
  rw [left_C_5, pay4_at]
  simp only [hh, rows_at m c ⟨n, hn⟩ ⟨R.val % 640, Nat.mod_lt _ (by decide)⟩ _ R hR,
    show n % 11 + 1 = 11 by omega]

end Cert.HalfK
-- ==== Proof.HalfReference.lean ====
module

public import proofs.«01_k».proof.Proof.Gen.ReferenceHalfIdeal.Run
public import proofs.«01_k».proof.Proof.FfnMath

/-!
# What the reference's first feed-forward half step computes

The reference is one line of whole-array operations. It is cut here into its three kinds of step (normalise, gate,
add half), each read at an entry as the numbers of `FfnMath`.
-/

@[expose] public section

set_option maxRecDepth 16384

noncomputable section

open Idealize.ShloMosaic Idealize.ShloMosaic.TcCoe Idealize.SL.Sem

namespace Cert.HalfR

open Cert.ReferenceHalfIdeal Cert.ReferenceHalfIdeal.Value Cert.Ffn

/-- Every row of `x` normalised, with gain `g`. -/
def normArr (x : FVec Ideal S16640x2048 .f32) (g : FVec Ideal S2048 .f32) : FVec Ideal S16640x2048 .f32 :=
  mulf (mulf x (broadcastInDim S16640x2048 ![0, 1] Gen.bcast_S16640x1_S16640x2048_0_1
      (Host.rsqrt (addf
        (Host.divf (broadcastInDim S16640x1 ![0] Gen.bcast_S16640_S16640x1_0
            (Host.reduceAdd (mulf x x) (constant S_ FTy.f32 0x00000000#32) Gen.reducesTo_S16640x2048_S16640_d1 Gen.h_S_))
          (broadcastInDim S16640x1 ![] Gen.bcast_S_S16640x1 (constant S_ FTy.f32 0x45000000#32)))
        (broadcastInDim S16640x1 ![] Gen.bcast_S_S16640x1 (constant S_ FTy.f32 0x358637BD#32))))))
    (broadcastInDim S16640x2048 ![0, 1] Gen.bcast_S1x2048_S16640x2048_0_1
      (broadcastInDim S1x2048 ![1] Gen.bcast_S2048_S1x2048_1 g))

/-- The gated projections of the normalised rows. -/
def gateArr (x : FVec Ideal S16640x2048 .f32) (w1 w3 : FVec Ideal S2048x5632 .f32) : FVec Ideal S16640x5632 .f32 :=
  mulf (mulf (Host.dotGeneral dot_S16640x2048_S2048x5632_S16640x5632_1_0_0_1_n_n none x w1)
      (Host.divf (broadcastInDim S16640x5632 ![] Gen.bcast_S_S16640x5632 (constant S_ FTy.f32 0x3F800000#32))
        (addf (broadcastInDim S16640x5632 ![] Gen.bcast_S_S16640x5632 (constant S_ FTy.f32 0x3F800000#32))
          (Host.exp (Host.negf (Host.dotGeneral dot_S16640x2048_S2048x5632_S16640x5632_1_0_0_1_n_n none x w1))))))
    (Host.dotGeneral dot_S16640x2048_S2048x5632_S16640x5632_1_0_0_1_n_n none x w3)

/-- The rows with half of the gated units' projection added. -/
def stepArr (x : FVec Ideal S16640x2048 .f32) (u : FVec Ideal S16640x5632 .f32) (w2 : FVec Ideal S5632x2048 .f32) :
    FVec Ideal S16640x2048 .f32 :=
  addf x (mulf (broadcastInDim S16640x2048 ![] Gen.bcast_S_S16640x2048 (constant S_ FTy.f32 0x3F000000#32))
    (Host.dotGeneral dot_S16640x5632_S5632x2048_S16640x2048_1_0_0_1_n_n none u w2))

theorem normArr_at (x : FVec Ideal S16640x2048 .f32) (g : FVec Ideal S2048 .f32) (r : Fin 16640) (d : Fin 2048) :
    normArr x g (ix2 r d) = normed (fun e => x (ix2 r e)) (fun e => g (ix1 e)) d := by
  pointwise [normArr]
  rfl

theorem gateArr_at (x : FVec Ideal S16640x2048 .f32) (w1 w3 : FVec Ideal S2048x5632 .f32) (r : Fin 16640) (f : Fin 5632) :
    gateArr x w1 w3 (ix2 r f) =
      gated (fun e => x (ix2 r e)) (fun e => w1 (ix2 e f)) (fun e => w3 (ix2 e f)) := by
  pointwise [gateArr]
  rfl

theorem stepArr_at (x : FVec Ideal S16640x2048 .f32) (u : FVec Ideal S16640x5632 .f32) (w2 : FVec Ideal S5632x2048 .f32)
    (r : Fin 16640) (d : Fin 2048) :
    stepArr x u w2 (ix2 r d) = halfStep (fun e => x (ix2 r e)) (fun e => ∑ f, u (ix2 r f) * w2 (ix2 f e)) d := by
  pointwise [stepArr]
  rfl

/-- All of the steps, at an entry. -/
theorem steps_at (x : FVec Ideal S16640x2048 .f32) (g : FVec Ideal S2048 .f32) (w1 w3 : FVec Ideal S2048x5632 .f32)
    (w2 : FVec Ideal S5632x2048 .f32) (r : Fin 16640) (d : Fin 2048) :
    stepArr x (gateArr (normArr x g) w1 w3) w2 (ix2 r d) =
      halfStep (fun e => x (ix2 r e)) (fun e => ∑ k : Fin 5632,
        gated (normed (fun e => x (ix2 r e)) (fun e => g (ix1 e))) (fun e => w1 (ix2 e k)) (fun e => w3 (ix2 e k)) * w2 (ix2 k e)) d := by
  rw [stepArr_at]
  simp only [gateArr_at, normArr_at]

/-- The reference run: its result is those steps, one after another, and its arguments are unchanged. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) =
        (stepArr (m (c.tc.loc main_arg0)) (gateArr (normArr (m (c.tc.loc main_arg0)) (m (c.tc.loc main_arg1)))
          (m (c.tc.loc main_arg2)) (m (c.tc.loc main_arg3))) (m (c.tc.loc main_arg4)) : FVec Ideal S16640x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2⟩) (Value.run (F := Ideal) m ρ)
  unfold normArr stepArr gateArr
  rfl

end Cert.HalfR
-- ==== Proof.HalfClaims.lean ====
module

public import proofs.«01_k».proof.Defs
public import proofs.«01_k».proof.Proof.HalfArray
public import proofs.«01_k».proof.Proof.HalfReference

/-!
# The first feed-forward half step: kernel and reference agree

Over the extended reals the kernel's result array and the reference's are the same numbers: the kernel's eleven inner
blocks are the reference's one sum.
-/

@[expose] public section

set_option maxRecDepth 16384

noncomputable section

open Idealize.ShloMosaic Idealize.ShloMosaic.TcCoe Idealize.SL.Sem

namespace Cert.HalfClaims

open Cert.Ffn

/-- At every entry the reference's result is the kernel's, wherever the arguments are the same. -/
theorem results_agree
    (m : (ℓ : Loc Cert.KernelHalfIdeal.nD Cert.KernelHalfIdeal.τ Cert.KernelHalfIdeal.sig) → Buf (Elt Ideal) ℓ) (c : Dev Cert.KernelHalfIdeal.nD)
    (m' : (ℓ : Loc Cert.ReferenceHalfIdeal.nD Cert.ReferenceHalfIdeal.τ Cert.ReferenceHalfIdeal.sig) → Buf (Elt Ideal) ℓ) (c' : Dev Cert.ReferenceHalfIdeal.nD)
    (h0 : (m' (c'.tc.loc Cert.ReferenceHalfIdeal.main_arg0) : FVec Ideal Cert.KernelHalfIdeal.S16640x2048 .f32) = Cert.HalfK.argX m c)
    (h1 : (m' (c'.tc.loc Cert.ReferenceHalfIdeal.main_arg1) : FVec Ideal Cert.KernelHalfIdeal.S2048 .f32) = Cert.HalfK.argG m c)
    (h2 : (m' (c'.tc.loc Cert.ReferenceHalfIdeal.main_arg2) : FVec Ideal Cert.KernelHalfIdeal.S2048x5632 .f32) = Cert.HalfK.argW1 m c)
    (h3 : (m' (c'.tc.loc Cert.ReferenceHalfIdeal.main_arg3) : FVec Ideal Cert.KernelHalfIdeal.S2048x5632 .f32) = Cert.HalfK.argW3 m c)
    (h4 : (m' (c'.tc.loc Cert.ReferenceHalfIdeal.main_arg4) : FVec Ideal Cert.KernelHalfIdeal.S5632x2048 .f32) = Cert.HalfK.argW2 m c) :
    (Cert.HalfR.stepArr (m' (c'.tc.loc Cert.ReferenceHalfIdeal.main_arg0)) (Cert.HalfR.gateArr (Cert.HalfR.normArr (m' (c'.tc.loc Cert.ReferenceHalfIdeal.main_arg0)) (m' (c'.tc.loc Cert.ReferenceHalfIdeal.main_arg1)))
        (m' (c'.tc.loc Cert.ReferenceHalfIdeal.main_arg2)) (m' (c'.tc.loc Cert.ReferenceHalfIdeal.main_arg3))) (m' (c'.tc.loc Cert.ReferenceHalfIdeal.main_arg4)) : FVec Ideal Cert.KernelHalfIdeal.S16640x2048 .f32)
      = Cert.KernelHalfIdeal.Value.G5 (F := Ideal) m c := by
  funext i
  rw [eq_ix2 i]
  refine Eq.trans ?_ (Cert.HalfK.result_at m c (i 0) (i 1)).symm
  refine (Cert.HalfR.steps_at _ _ _ _ _ (i 0) (i 1)).trans ?_
  have hu : ∀ f : Fin 5632, ∀ d : Fin 2048, Cert.HalfK.unit m c (i 0) d f =
      gated (Cert.HalfK.rowN m c (i 0)) (fun e => Cert.HalfK.argW1 m c (ix2 e f)) (fun e => Cert.HalfK.argW3 m c (ix2 e f))
        * Cert.HalfK.argW2 m c (ix2 f d) := fun f d => by
    unfold Cert.HalfK.unit
    rw [dif_pos f.isLt]
  have hs : ∀ d : Fin 2048, Cert.HalfK.partialSum m c (i 0) d 11 = ∑ f : Fin 5632, Cert.HalfK.unit m c (i 0) d f := fun d =>
    (inner_blocks (Cert.HalfK.unit m c (i 0) d)).symm
  simp only [hs, hu]
  unfold Cert.HalfK.rowN
  rw [← h0, ← h1, ← h2, ← h3, ← h4]

theorem algebraic : Cert.algebraic_KernelHalfIdeal_ReferenceHalfIdeal := by
  intro m ρ m' ρ' _ hagree
  refine ⟨fun c => Cert.KernelHalfIdeal.Value.G5 (F := Ideal) m c, Cert.KernelHalfIdeal.Value.run (F := Ideal) m ρ, ?_⟩
  refine (θ_run Cert.ReferenceHalfIdeal.defs _ _).mono (fun _ h c => ⟨(h c).1.trans ?_, (h c).2⟩)
    (Cert.HalfR.run_steps m' ρ')
  obtain ⟨h0, h1, h2, h3, h4⟩ := hagree c
  exact results_agree m c m' c h0 h1 h2 h3 h4

end Cert.HalfClaims
-- ==== Proof.MergeBlock.lean ====
module

public import proofs.«01_k».proof.Proof.Gen.KernelMergeIdeal.Value
public import Idealize.ShloMosaic.Lib.Tactic
public import Idealize.ShloMosaic.Lib.Pipeline.ValueKit.Tiles

/-!
# What one point of the mixing kernel leaves in its buffers

The grid walks 26 row blocks, and in each of them four blocks of the result's columns. The first point of a row block
normalises the rows and keeps them; every point gates the three branches' projections to its columns and adds them up.
-/

@[expose] public section

noncomputable section

open Idealize.ShloMosaic Idealize.ShloMosaic.TcCoe Idealize.SL.Sem

namespace Cert.MergeK

open Cert.KernelMergeIdeal Cert.KernelMergeIdeal.Gen

variable {F : FTy → Type} [FloatOps F]

theorem hz : (![0, 0] : Fin 2 → Nat) = fun _ => 0 := funext fun a => by fin_cases a <;> rfl

/-- One branch's slab of the projection weights' block. -/
def slab0 (w : Vec F S3x1024x512 .bf16) : Vec F S1x1024x512 .bf16 :=
  View.ld w (Rect.unit (s := S3x1024x512) ![0, 0, 0] S1x1024x512.size (by decide))
def slab1 (w : Vec F S3x1024x512 .bf16) : Vec F S1x1024x512 .bf16 :=
  View.ld w (Rect.unit (s := S3x1024x512) ![1, 0, 0] S1x1024x512.size (by decide))
def slab2 (w : Vec F S3x1024x512 .bf16) : Vec F S1x1024x512 .bf16 :=
  View.ld w (Rect.unit (s := S3x1024x512) ![2, 0, 0] S1x1024x512.size (by decide))

/-- A point's block of the mix, from the normalised rows and the blocks it reads. -/
def mixBlock (x : Vec F S640x2048 .bf16) (b0 b1 b2 : Vec F S640x1024 .bf16) (u0 u1 u2 : Vec F S2048x512 .bf16)
    (w : Vec F S3x1024x512 .bf16) : Vec F S640x512 .bf16 :=
  k0_pay1 (k0_pay3 x u0 b0 (slab0 w) u1 b1 (slab1 w)) (k0_pay4 x u2) b2 (slab2 w)

/-- The first point of a row block leaves the normalised rows in the scratch buffer … -/
theorem left_A_0 (c : Dev nD) (i : grid0.Coords) (a2 : Memref sig .tc .vmem S640x2048 .f32) (h2 : a2.IsWhole) (a3 : Memref sig .tc .vmem S1x2048 .f32) (h3 : a3.IsWhole) (a4 : Memref sig .tc .vmem S640x1024 .bf16) (h4 : a4.IsWhole) (a5 : Memref sig .tc .vmem S640x1024 .bf16) (h5 : a5.IsWhole) (a6 : Memref sig .tc .vmem S640x1024 .bf16) (h6 : a6.IsWhole) (a7 : Memref sig .tc .vmem S2048x512 .bf16) (h7 : a7.IsWhole) (a8 : Memref sig .tc .vmem S2048x512 .bf16) (h8 : a8.IsWhole) (a9 : Memref sig .tc .vmem S2048x512 .bf16) (h9 : a9.IsWhole) (a10 : Memref sig .tc .vmem S3x1024x512 .bf16) (h10 : a10.IsWhole) (a11 : Memref sig .tc .vmem S640x512 .bf16) (h11 : a11.IsWhole) (a12 : Memref sig .tc .vmem S640x2048 .bf16) (h12 : a12.IsWhole) (hc0 : cond0_0 i) (x0 : Vec F S640x2048 .f32) (x1 : Vec F S1x2048 .f32) (x2 : Vec F S640x1024 .bf16) (x3 : Vec F S640x1024 .bf16) (x4 : Vec F S640x1024 .bf16) (x5 : Vec F S2048x512 .bf16) (x6 : Vec F S2048x512 .bf16) (x7 : Vec F S2048x512 .bf16) (x8 : Vec F S3x1024x512 .bf16) :
    sout0_A_0 c i a2 h2 a3 h3 a4 h4 a5 h5 a6 h6 a7 h7 a8 h8 a9 h9 a10 h10 a11 h11 a12 h12 hc0 x0 x1 x2 x3 x4 x5 x6 x7 x8 = k0_pay2 x0 x1 := by
  unfold sout0_A_0
  rw [View.read_writes_eq_canon _ _ _ (scover0_A_0 c i a2 h2 a3 h3 a4 h4 a5 h5 a6 h6 a7 h7 a8 h8 a9 h9 a10 h10 a11 h11 a12 h12 hc0 x0 x1 x2 x3 x4 x5 x6 x7 x8)]
  unfold kernelRun0_A
  dsimp only
  try sl_unfold_words
  simp only [View.canon_unit_zero (S := S640x2048) hz, View.canon_unit_zero (S := S640x512) hz, View.readCov_unit_zero (S := S640x2048) _ hz, View.readAt_eq_ld, h2.read_unread, h3.read_unread, h4.read_unread, h5.read_unread, h6.read_unread, h7.read_unread, h8.read_unread, h9.read_unread, h10.read_unread, h11.read_unread, h12.read_unread,
    View.ld_unit_zero (S := S640x2048) hz, View.ld_unit_zero (S := S1x2048) hz, View.ld_unit_zero (S := S2048x512) hz, View.ld_unit_zero (S := S640x1024) hz]
  try rfl

/-- … and writes its columns of the mix. -/
theorem left_A_9 (c : Dev nD) (i : grid0.Coords) (a2 : Memref sig .tc .vmem S640x2048 .f32) (h2 : a2.IsWhole) (a3 : Memref sig .tc .vmem S1x2048 .f32) (h3 : a3.IsWhole) (a4 : Memref sig .tc .vmem S640x1024 .bf16) (h4 : a4.IsWhole) (a5 : Memref sig .tc .vmem S640x1024 .bf16) (h5 : a5.IsWhole) (a6 : Memref sig .tc .vmem S640x1024 .bf16) (h6 : a6.IsWhole) (a7 : Memref sig .tc .vmem S2048x512 .bf16) (h7 : a7.IsWhole) (a8 : Memref sig .tc .vmem S2048x512 .bf16) (h8 : a8.IsWhole) (a9 : Memref sig .tc .vmem S2048x512 .bf16) (h9 : a9.IsWhole) (a10 : Memref sig .tc .vmem S3x1024x512 .bf16) (h10 : a10.IsWhole) (a11 : Memref sig .tc .vmem S640x512 .bf16) (h11 : a11.IsWhole) (a12 : Memref sig .tc .vmem S640x2048 .bf16) (h12 : a12.IsWhole) (hc0 : cond0_0 i) (x0 : Vec F S640x2048 .f32) (x1 : Vec F S1x2048 .f32) (x2 : Vec F S640x1024 .bf16) (x3 : Vec F S640x1024 .bf16) (x4 : Vec F S640x1024 .bf16) (x5 : Vec F S2048x512 .bf16) (x6 : Vec F S2048x512 .bf16) (x7 : Vec F S2048x512 .bf16) (x8 : Vec F S3x1024x512 .bf16) :
    out0_A_9 c i a2 h2 a3 h3 a4 h4 a5 h5 a6 h6 a7 h7 a8 h8 a9 h9 a10 h10 a11 h11 a12 h12 hc0 x0 x1 x2 x3 x4 x5 x6 x7 x8 = mixBlock (k0_pay2 x0 x1) x2 x3 x4 x5 x6 x7 x8 := by
  unfold out0_A_9
  rw [View.read_writes_eq_canon _ _ _ (cover0_A_9 c i a2 h2 a3 h3 a4 h4 a5 h5 a6 h6 a7 h7 a8 h8 a9 h9 a10 h10 a11 h11 a12 h12 hc0 x0 x1 x2 x3 x4 x5 x6 x7 x8)]
  unfold kernelRun0_A
  dsimp only
  try sl_unfold_words
  simp only [View.canon_unit_zero (S := S640x2048) hz, View.canon_unit_zero (S := S640x512) hz, View.readCov_unit_zero (S := S640x2048) _ hz, View.readAt_eq_ld, h2.read_unread, h3.read_unread, h4.read_unread, h5.read_unread, h6.read_unread, h7.read_unread, h8.read_unread, h9.read_unread, h10.read_unread, h11.read_unread, h12.read_unread,
    View.ld_unit_zero (S := S640x2048) hz, View.ld_unit_zero (S := S1x2048) hz, View.ld_unit_zero (S := S2048x512) hz, View.ld_unit_zero (S := S640x1024) hz]
  try rfl

/-- The other points write their columns from the rows kept. -/
theorem left_B_9 (c : Dev nD) (i : grid0.Coords) (a2 : Memref sig .tc .vmem S640x2048 .f32) (h2 : a2.IsWhole) (a3 : Memref sig .tc .vmem S1x2048 .f32) (h3 : a3.IsWhole) (a4 : Memref sig .tc .vmem S640x1024 .bf16) (h4 : a4.IsWhole) (a5 : Memref sig .tc .vmem S640x1024 .bf16) (h5 : a5.IsWhole) (a6 : Memref sig .tc .vmem S640x1024 .bf16) (h6 : a6.IsWhole) (a7 : Memref sig .tc .vmem S2048x512 .bf16) (h7 : a7.IsWhole) (a8 : Memref sig .tc .vmem S2048x512 .bf16) (h8 : a8.IsWhole) (a9 : Memref sig .tc .vmem S2048x512 .bf16) (h9 : a9.IsWhole) (a10 : Memref sig .tc .vmem S3x1024x512 .bf16) (h10 : a10.IsWhole) (a11 : Memref sig .tc .vmem S640x512 .bf16) (h11 : a11.IsWhole) (a12 : Memref sig .tc .vmem S640x2048 .bf16) (h12 : a12.IsWhole) (hc0 : ¬cond0_0 i) (x0 : Vec F S640x2048 .f32) (x1 : Vec F S1x2048 .f32) (x2 : Vec F S640x1024 .bf16) (x3 : Vec F S640x1024 .bf16) (x4 : Vec F S640x1024 .bf16) (x5 : Vec F S2048x512 .bf16) (x6 : Vec F S2048x512 .bf16) (x7 : Vec F S2048x512 .bf16) (x8 : Vec F S3x1024x512 .bf16) (s0 : Vec F S640x2048 .bf16) :
    out0_B_9 c i a2 h2 a3 h3 a4 h4 a5 h5 a6 h6 a7 h7 a8 h8 a9 h9 a10 h10 a11 h11 a12 h12 hc0 x0 x1 x2 x3 x4 x5 x6 x7 x8 s0 = mixBlock s0 x2 x3 x4 x5 x6 x7 x8 := by
  unfold out0_B_9
  rw [View.read_writes_eq_canon _ _ _ (cover0_B_9 c i a2 h2 a3 h3 a4 h4 a5 h5 a6 h6 a7 h7 a8 h8 a9 h9 a10 h10 a11 h11 a12 h12 hc0 x0 x1 x2 x3 x4 x5 x6 x7 x8 s0)]
  unfold kernelRun0_B
  dsimp only
  try sl_unfold_words
  simp only [View.canon_unit_zero (S := S640x2048) hz, View.canon_unit_zero (S := S640x512) hz, View.readCov_unit_zero (S := S640x2048) _ hz, View.readAt_eq_ld, h2.read_unread, h3.read_unread, h4.read_unread, h5.read_unread, h6.read_unread, h7.read_unread, h8.read_unread, h9.read_unread, h10.read_unread, h11.read_unread, h12.read_unread,
    View.ld_unit_zero (S := S640x2048) hz, View.ld_unit_zero (S := S1x2048) hz, View.ld_unit_zero (S := S2048x512) hz, View.ld_unit_zero (S := S640x1024) hz]
  try rfl

end Cert.MergeK
-- ==== Proof.MergeMath.lean ====
module

public import proofs.«01_k».proof.Proof.FfnMath

/-!
# One entry of the mix, in plain arithmetic

Three branches are projected and each is multiplied by a gate read off the normalised row.
-/

@[expose] public section

noncomputable section

open Idealize.ShloMosaic

namespace Cert.Mix

/-- One gated branch: the logistic of the row's product with the gate column `u`, times the branch row's product with
    the projection column `w`. -/
def branch (x u : Fin 2048 → EReal) (b w : Fin 1024 → EReal) : EReal :=
  Ideal.logistic (∑ e, x e * u e) * ∑ k, b k * w k

end Cert.Mix
-- ==== Proof.MergeArray.lean ====
module

public import proofs.«01_k».proof.Proof.MergeBlock
public import proofs.«01_k».proof.Proof.MergeMath
public import Idealize.ShloMosaic.Lib.StableHlo.ReadAt

/-!
# What the mixing kernel's result array holds

The scratch buffer holds the row block's normalised rows at every point of the row block (`held`, by induction on the
point), so each entry of the result is the sum of its row's three gated branches (`result_at`).
-/

@[expose] public section

set_option maxRecDepth 16384

noncomputable section

open Idealize.ShloMosaic Idealize.ShloMosaic.TcCoe Idealize.SL.Sem

namespace Cert.MergeK

open Cert.KernelMergeIdeal Cert.KernelMergeIdeal.Gen Cert.KernelMergeIdeal.Value Cert.Ffn Cert.Mix

/-! ## The payloads, at an entry -/

theorem pay2_at (x : Vec Ideal S640x2048 .f32) (g : Vec Ideal S1x2048 .f32) (r : Fin 640) (d : Fin 2048) :
    k0_pay2 (F := Ideal) x g (ix2 r d) = normed (fun e => x (ix2 r e)) (fun e => g (ix2 0 e)) d := by
  pointwise [k0_pay2]
  rfl

theorem pay3_at (x : Vec Ideal S640x2048 .bf16) (u0 : Vec Ideal S2048x512 .bf16) (b0 : Vec Ideal S640x1024 .bf16)
    (w0 : Vec Ideal S1x1024x512 .bf16) (u1 : Vec Ideal S2048x512 .bf16) (b1 : Vec Ideal S640x1024 .bf16)
    (w1 : Vec Ideal S1x1024x512 .bf16) (r : Fin 640) (d : Fin 512) :
    k0_pay3 (F := Ideal) x u0 b0 w0 u1 b1 w1 (ix2 r d) =
      branch (fun e => x (ix2 r e)) (fun e => u0 (ix2 e d)) (fun k => b0 (ix2 r k)) (fun k => w0 (ix3 0 k d))
      + branch (fun e => x (ix2 r e)) (fun e => u1 (ix2 e d)) (fun k => b1 (ix2 r k)) (fun k => w1 (ix3 0 k d)) := by
  pointwise [k0_pay3]
  rfl

theorem pay4_at (x : Vec Ideal S640x2048 .bf16) (u : Vec Ideal S2048x512 .bf16) (r : Fin 640) (d : Fin 512) :
    k0_pay4 (F := Ideal) x u (ix2 r d) = Ideal.logistic (∑ e : Fin 2048, x (ix2 r e) * u (ix2 e d)) := by
  pointwise [k0_pay4]

theorem pay1_at (a g : FVec Ideal S640x512 .f32) (b : Vec Ideal S640x1024 .bf16) (w : Vec Ideal S1x1024x512 .bf16)
    (r : Fin 640) (d : Fin 512) :
    k0_pay1 (F := Ideal) a g b w (ix2 r d) =
      a (ix2 r d) + g (ix2 r d) * ∑ k : Fin 1024, b (ix2 r k) * w (ix3 0 k d) := by
  pointwise [k0_pay1]

theorem slab0_at (w : Vec Ideal S3x1024x512 .bf16) (k : Fin 1024) (d : Fin 512) :
    slab0 w (ix3 0 k d) = w (ix3 0 k d) := by
  unfold slab0
  rw [View.ld_apply]
  congr 1
  funext a
  apply Fin.ext
  match a with
  | ⟨0, _⟩ => rfl
  | ⟨1, _⟩ => show 0 + 1 * k.val = k.val; omega
  | ⟨2, _⟩ => show 0 + 1 * d.val = d.val; omega

theorem slab1_at (w : Vec Ideal S3x1024x512 .bf16) (k : Fin 1024) (d : Fin 512) :
    slab1 w (ix3 0 k d) = w (ix3 1 k d) := by
  unfold slab1
  rw [View.ld_apply]
  congr 1
  funext a
  apply Fin.ext
  match a with
  | ⟨0, _⟩ => rfl
  | ⟨1, _⟩ => show 0 + 1 * k.val = k.val; omega
  | ⟨2, _⟩ => show 0 + 1 * d.val = d.val; omega

theorem slab2_at (w : Vec Ideal S3x1024x512 .bf16) (k : Fin 1024) (d : Fin 512) :
    slab2 w (ix3 0 k d) = w (ix3 2 k d) := by
  unfold slab2
  rw [View.ld_apply]
  congr 1
  funext a
  apply Fin.ext
  match a with
  | ⟨0, _⟩ => rfl
  | ⟨1, _⟩ => show 0 + 1 * k.val = k.val; omega
  | ⟨2, _⟩ => show 0 + 1 * d.val = d.val; omega

/-- A point's block, at an entry: the three gated branches' sum. -/
theorem mix_at (x : Vec Ideal S640x2048 .bf16) (b0 b1 b2 : Vec Ideal S640x1024 .bf16) (u0 u1 u2 : Vec Ideal S2048x512 .bf16)
    (w : Vec Ideal S3x1024x512 .bf16) (r : Fin 640) (d : Fin 512) :
    mixBlock (F := Ideal) x b0 b1 b2 u0 u1 u2 w (ix2 r d) =
      branch (fun e => x (ix2 r e)) (fun e => u0 (ix2 e d)) (fun k => b0 (ix2 r k)) (fun k => w (ix3 0 k d))
      + branch (fun e => x (ix2 r e)) (fun e => u1 (ix2 e d)) (fun k => b1 (ix2 r k)) (fun k => w (ix3 1 k d))
      + branch (fun e => x (ix2 r e)) (fun e => u2 (ix2 e d)) (fun k => b2 (ix2 r k)) (fun k => w (ix3 2 k d)) := by
  unfold mixBlock
  rw [pay1_at, pay3_at, pay4_at]
  simp only [slab0_at, slab1_at, slab2_at]
  rfl

/-! ## The input blocks, at an entry of their arrays -/

variable (m : (ℓ : Loc nD τ sig) → Buf (Elt Ideal) ℓ) (c : Dev nD)

/-- The seven argument arrays, as numbers. -/
abbrev argX : FVec Ideal S16640x2048 .f32 := m (c.tc.loc main_arg0)
abbrev argG : FVec Ideal S2048 .f32 := m (c.tc.loc main_arg1)
abbrev argB0 : FVec Ideal S16640x1024 .bf16 := m (c.tc.loc main_arg2)
abbrev argB1 : FVec Ideal S16640x1024 .bf16 := m (c.tc.loc main_arg3)
abbrev argB2 : FVec Ideal S16640x1024 .bf16 := m (c.tc.loc main_arg4)
abbrev argU : FVec Ideal S2048x6144 .f32 := m (c.tc.loc main_arg5)
abbrev argW : FVec Ideal S3x1024x2048 .f32 := m (c.tc.loc main_arg6)

theorem index_facts : ∀ t : Fin cfg0.N,
    (win0_0.index t 0 = t.val / 4 ∧ win0_0.index t 1 = 0) ∧ (win0_1.index t 0 = 0 ∧ win0_1.index t 1 = 0)
    ∧ (win0_2.index t 0 = t.val / 4 ∧ win0_2.index t 1 = 0) ∧ (win0_3.index t 0 = t.val / 4 ∧ win0_3.index t 1 = 0)
    ∧ (win0_4.index t 0 = t.val / 4 ∧ win0_4.index t 1 = 0) ∧ (win0_5.index t 0 = 0 ∧ win0_5.index t 1 = t.val % 4)
    ∧ (win0_6.index t 0 = 0 ∧ win0_6.index t 1 = 4 + t.val % 4) ∧ (win0_7.index t 0 = 0 ∧ win0_7.index t 1 = 8 + t.val % 4)
    ∧ (win0_8.index t 0 = 0 ∧ win0_8.index t 1 = 0 ∧ win0_8.index t 2 = t.val % 4) :=
  (by decide +kernel : ∀ t : Fin grid0.N, _)

theorem rows_at (t : Fin cfg0.N) (r : Fin 640) (e : Fin 2048) (R : Fin 16640) (hR : R.val = 640 * (t.val / 4) + r.val) :
    (iblk m c 0 t : Vec Ideal S640x2048 .f32) (ix2 r e) = argX m c (ix2 R e) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 640 + 1 * r.val = R.val; rw [hi.1]; omega
  | ⟨1, _⟩ => show win0_0.index t 1 * 2048 + 1 * e.val = e.val; rw [hi.2]; omega

theorem gain_at (t : Fin cfg0.N) (e : Fin 2048) :
    (iblk m c 1 t : Vec Ideal S1x2048 .f32) (ix2 0 e) = argG m c (ix1 e) := by
  have hi := (index_facts t).2.1
  have hv : ∀ e : Fin 2048, (V m c main_v2 : FVec Ideal S1x2048 .f32) (ix2 0 e) = argG m c (ix1 e) := fun e => by
    unfold V; after_reads_at
  unfold iblk
  rw [View.read_apply, ← hv]
  show V m c main_v2 _ = V m c main_v2 _
  congr 1
  funext a
  apply Fin.ext
  match a with
  | ⟨0, _⟩ => show win0_1.index t 0 * 1 + 1 * 0 = 0; rw [hi.1]
  | ⟨1, _⟩ => show win0_1.index t 1 * 2048 + 1 * e.val = e.val; rw [hi.2]; omega

theorem branch0_at (t : Fin cfg0.N) (r : Fin 640) (k : Fin 1024) (R : Fin 16640) (hR : R.val = 640 * (t.val / 4) + r.val) :
    (iblk m c 2 t : Vec Ideal S640x1024 .bf16) (ix2 r k) = argB0 m c (ix2 R k) := by
  have hi := (index_facts t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 640 + 1 * r.val = R.val; rw [hi.1]; omega
  | ⟨1, _⟩ => show win0_2.index t 1 * 1024 + 1 * k.val = k.val; rw [hi.2]; omega

theorem branch1_at (t : Fin cfg0.N) (r : Fin 640) (k : Fin 1024) (R : Fin 16640) (hR : R.val = 640 * (t.val / 4) + r.val) :
    (iblk m c 3 t : Vec Ideal S640x1024 .bf16) (ix2 r k) = argB1 m c (ix2 R k) := by
  have hi := (index_facts t).2.2.2.1
  unfold iblk
  rw [View.read_apply]
  show V m c main_arg3 _ = m (c.tc.loc main_arg3) _
  rw [V_main_arg3]
  congr 1
  funext a
  apply Fin.ext
  match a with
  | ⟨0, _⟩ => show win0_3.index t 0 * 640 + 1 * r.val = R.val; rw [hi.1]; omega
  | ⟨1, _⟩ => show win0_3.index t 1 * 1024 + 1 * k.val = k.val; rw [hi.2]; omega

theorem branch2_at (t : Fin cfg0.N) (r : Fin 640) (k : Fin 1024) (R : Fin 16640) (hR : R.val = 640 * (t.val / 4) + r.val) :
    (iblk m c 4 t : Vec Ideal S640x1024 .bf16) (ix2 r k) = argB2 m c (ix2 R k) := by
  have hi := (index_facts t).2.2.2.2.1
  unfold iblk
  rw [View.read_apply]
  show V m c main_arg4 _ = m (c.tc.loc main_arg4) _
  rw [V_main_arg4]
  congr 1
  funext a
  apply Fin.ext
  match a with
  | ⟨0, _⟩ => show win0_4.index t 0 * 640 + 1 * r.val = R.val; rw [hi.1]; omega
  | ⟨1, _⟩ => show win0_4.index t 1 * 1024 + 1 * k.val = k.val; rw [hi.2]; omega

theorem gate0_at (t : Fin cfg0.N) (e : Fin 2048) (k : Fin 512) (f : Fin 6144) (hf : f.val = 512 * (0 + t.val % 4) + k.val) :
    (iblk m c 5 t : Vec Ideal S2048x512 .bf16) (ix2 e k) = argU m c (ix2 e f) := by
  have hi := (index_facts t).2.2.2.2.2.1
  have hv : ∀ (e : Fin 2048) (f : Fin 6144), (V m c main_v0 : FVec Ideal S2048x6144 .bf16) (ix2 e f) = argU m c (ix2 e f) :=
    fun e f => by unfold V; after_reads_at
  unfold iblk
  rw [View.read_apply, ← hv]
  show V m c main_v0 _ = V m c main_v0 _
  congr 1
  funext a
  apply Fin.ext
  match a with
  | ⟨0, _⟩ => show win0_5.index t 0 * 2048 + 1 * e.val = e.val; rw [hi.1]; omega
  | ⟨1, _⟩ => show win0_5.index t 1 * 512 + 1 * k.val = f.val; rw [hi.2]; omega

theorem gate1_at (t : Fin cfg0.N) (e : Fin 2048) (k : Fin 512) (f : Fin 6144) (hf : f.val = 512 * (4 + t.val % 4) + k.val) :
    (iblk m c 6 t : Vec Ideal S2048x512 .bf16) (ix2 e k) = argU m c (ix2 e f) := by
  have hi := (index_facts t).2.2.2.2.2.2.1
  have hv : ∀ (e : Fin 2048) (f : Fin 6144), (V m c main_v0 : FVec Ideal S2048x6144 .bf16) (ix2 e f) = argU m c (ix2 e f) :=
    fun e f => by unfold V; after_reads_at
  unfold iblk
  rw [View.read_apply, ← hv]
  show V m c main_v0 _ = V m c main_v0 _
  congr 1
  funext a
  apply Fin.ext
  match a with
  | ⟨0, _⟩ => show win0_6.index t 0 * 2048 + 1 * e.val = e.val; rw [hi.1]; omega
  | ⟨1, _⟩ => show win0_6.index t 1 * 512 + 1 * k.val = f.val; rw [hi.2]; omega

theorem gate2_at (t : Fin cfg0.N) (e : Fin 2048) (k : Fin 512) (f : Fin 6144) (hf : f.val = 512 * (8 + t.val % 4) + k.val) :
    (iblk m c 7 t : Vec Ideal S2048x512 .bf16) (ix2 e k) = argU m c (ix2 e f) := by
  have hi := (index_facts t).2.2.2.2.2.2.2.1
  have hv : ∀ (e : Fin 2048) (f : Fin 6144), (V m c main_v0 : FVec Ideal S2048x6144 .bf16) (ix2 e f) = argU m c (ix2 e f) :=
    fun e f => by unfold V; after_reads_at
  unfold iblk
  rw [View.read_apply, ← hv]
  show V m c main_v0 _ = V m c main_v0 _
  congr 1
  funext a
  apply Fin.ext
  match a with
  | ⟨0, _⟩ => show win0_7.index t 0 * 2048 + 1 * e.val = e.val; rw [hi.1]; omega
  | ⟨1, _⟩ => show win0_7.index t 1 * 512 + 1 * k.val = f.val; rw [hi.2]; omega

theorem proj_at (t : Fin cfg0.N) (j : Fin 3) (k : Fin 1024) (l : Fin 512) (d : Fin 2048) (hd : d.val = 512 * (t.val % 4) + l.val) :
    (iblk m c 8 t : Vec Ideal S3x1024x512 .bf16) (ix3 j k l) = argW m c (ix3 j k d) := by
  have hi := (index_facts t).2.2.2.2.2.2.2.2
  have hv : ∀ (j : Fin 3) (k : Fin 1024) (d : Fin 2048),
      (V m c main_v1 : FVec Ideal S3x1024x2048 .bf16) (ix3 j k d) = argW m c (ix3 j k d) :=
    fun j k d => by unfold V; after_reads_at
  unfold iblk
  rw [View.read_apply, ← hv]
  show V m c main_v1 _ = V m c main_v1 _
  congr 1
  funext a
  apply Fin.ext
  match a with
  | ⟨0, _⟩ => show win0_8.index t 0 * 3 + 1 * j.val = j.val; rw [hi.1]; omega
  | ⟨1, _⟩ => show win0_8.index t 1 * 1024 + 1 * k.val = k.val; rw [hi.2.1]; omega
  | ⟨2, _⟩ => show win0_8.index t 2 * 512 + 1 * l.val = d.val; rw [hi.2.2]; omega

/-! ## The points of a row block -/

/-- Row `R` normalised. -/
def rowN (R : Fin 16640) (e : Fin 2048) : EReal := normed (fun e => argX m c (ix2 R e)) (fun e => argG m c (ix1 e)) e

/-- The gate weights' column for branch `j` and column `d`. -/
def gateCol (j : Fin 3) (d : Fin 2048) (e : Fin 2048) : EReal :=
  argU m c (ix2 e ⟨2048 * j.val + d.val, by have := j.isLt; have := d.isLt; omega⟩)

/-- The result's entry at row `R` and column `d`: its three gated branches. -/
def mixed (R : Fin 16640) (d : Fin 2048) : EReal :=
  branch (rowN m c R) (gateCol m c 0 d) (fun k => argB0 m c (ix2 R k)) (fun k => argW m c (ix3 0 k d))
  + branch (rowN m c R) (gateCol m c 1 d) (fun k => argB1 m c (ix2 R k)) (fun k => argW m c (ix3 1 k d))
  + branch (rowN m c R) (gateCol m c 2 d) (fun k => argB2 m c (ix2 R k)) (fun k => argW m c (ix3 2 k d))

/-- The first point's normalised rows. -/
theorem first_at (t : Fin cfg0.N) (r : Fin 640) (R : Fin 16640) (hR : R.val = 640 * (t.val / 4) + r.val) (e : Fin 2048) :
    k0_pay2 (F := Ideal) (iblk m c 0 t) (iblk m c 1 t) (ix2 r e) = rowN m c R e := by
  rw [pay2_at]; unfold rowN
  simp only [rows_at m c t r _ R hR, gain_at]

/-- A point's columns of the mix, from normalised rows that are known. -/
theorem point_at (t : Fin cfg0.N) (x : Vec Ideal S640x2048 .bf16) (r : Fin 640) (l : Fin 512) (R : Fin 16640) (d : Fin 2048)
    (hR : R.val = 640 * (t.val / 4) + r.val) (hd : d.val = 512 * (t.val % 4) + l.val) (hx : ∀ e, x (ix2 r e) = rowN m c R e) :
    mixBlock (F := Ideal) x (iblk m c 2 t) (iblk m c 3 t) (iblk m c 4 t) (iblk m c 5 t) (iblk m c 6 t) (iblk m c 7 t)
      (iblk m c 8 t) (ix2 r l) = mixed m c R d := by
  have h5 : (fun e => (iblk m c 5 t : Vec Ideal S2048x512 .bf16) (ix2 e l)) = gateCol m c 0 d :=
    funext fun e => gate0_at m c t e l _ (by show 2048 * 0 + d.val = _; omega)
  have h6 : (fun e => (iblk m c 6 t : Vec Ideal S2048x512 .bf16) (ix2 e l)) = gateCol m c 1 d :=
    funext fun e => gate1_at m c t e l _ (by show 2048 * 1 + d.val = _; omega)
  have h7 : (fun e => (iblk m c 7 t : Vec Ideal S2048x512 .bf16) (ix2 e l)) = gateCol m c 2 d :=
    funext fun e => gate2_at m c t e l _ (by show 2048 * 2 + d.val = _; omega)
  rw [mix_at, h5, h6, h7, show (fun e => x (ix2 r e)) = rowN m c R from funext hx]
  simp only [branch0_at m c t r _ R hR, branch1_at m c t r _ R hR, branch2_at m c t r _ R hR, proj_at m c t _ _ l d hd]
  rfl

/-- After point `n` the scratch buffer holds its row block's normalised rows. -/
theorem held : ∀ (n : ℕ) (hn : n < cfg0.N) (r : Fin 640) (R : Fin 16640), R.val = 640 * (n / 4) + r.val →
    ∀ e, (outsAt0 m c n hn).2 (ix2 r e) = rowN m c R e := by
  intro n
  induction n with
  | zero =>
    intro hn r R hR e
    rw [outsAt0_A m c ⟨0, hn⟩ rfl]
    dsimp only
    rw [left_A_0]
    exact first_at m c ⟨0, hn⟩ r R hR e
  | succ n ih =>
    intro hn r R hR e
    by_cases h0 : (n + 1) % 4 = 0
    · rw [outsAt0_A m c ⟨n + 1, hn⟩ h0]
      dsimp only
      rw [left_A_0]
      exact first_at m c ⟨n + 1, hn⟩ r R hR e
    · have hdiv : (n + 1) / 4 = n / 4 := by omega
      rw [outsAt0_B m c ⟨n + 1, hn⟩ h0]
      exact ih (Nat.lt_of_succ_lt hn) r R (by rw [hR, hdiv]) e

/-- What point `n` writes to the output block. -/
theorem written (n : ℕ) (hn : n < cfg0.N) (r : Fin 640) (l : Fin 512) (R : Fin 16640) (d : Fin 2048)
    (hR : R.val = 640 * (n / 4) + r.val) (hd : d.val = 512 * (n % 4) + l.val) :
    (outsAt0 m c n hn).1 (ix2 r l) = mixed m c R d := by
  by_cases h0 : n % 4 = 0
  · rw [outsAt0_A m c ⟨n, hn⟩ h0]
    dsimp only
    rw [left_A_9]
    exact point_at m c ⟨n, hn⟩ _ r l R d hR hd (first_at m c ⟨n, hn⟩ r R hR)
  · have hlt : n - 1 < cfg0.N := Nat.lt_of_le_of_lt (Nat.sub_le _ _) hn
    have hh := held m c (n - 1) hlt r R (by rw [hR]; omega)
    rw [outsAt0_B m c ⟨n, hn⟩ h0]
    dsimp only
    rw [left_B_9]
    exact point_at m c ⟨n, hn⟩ _ r l R d hR hd hh

/-! ## The result array -/

/-- The result at row `R` and column `d`. -/
theorem result_at (R : Fin 16640) (d : Fin 2048) : (G9 m c : FVec Ideal S16640x2048 .bf16) (ix2 R d) = mixed m c R d := by
  have hRl := R.isLt
  have hdl := d.isLt
  have hpt : pt9Of (ix2 R d) = 4 * (R.val / 640) + d.val / 512 := by
    show 4 * (R.val / 640 - 0) + 1 * (d.val / 512 - 0) = _
    omega
  have hN : 4 * (R.val / 640) + d.val / 512 < cfg0.N := by rw [show cfg0.N = 104 from N_0]; omega
  unfold G9
  rw [dif_pos (by rw [hpt]; exact hN), ← outsAt0_sweep m c (pt9Of (ix2 R d)) (by rw [hpt]; exact hN)]
  have hloc : loc9Of (ix2 R d) = ix2 (⟨R.val % 640, Nat.mod_lt _ (by decide)⟩ : Fin 640) (⟨d.val % 512, Nat.mod_lt _ (by decide)⟩ : Fin 512) := by
    funext a
    apply Fin.ext
    match a with
    | ⟨0, _⟩ => rfl
    | ⟨1, _⟩ => rfl
  rw [hloc]
  obtain ⟨n, hn, hpn⟩ : ∃ n, ∃ hn : n < cfg0.N, n = 4 * (R.val / 640) + d.val / 512 := ⟨_, hN, rfl⟩
  have e : ∀ (p : ℕ) (hp : p < cfg0.N), p = n → outsAt0 m c p hp = outsAt0 m c n hn := fun p hp h => by subst h; rfl
  rw [e _ _ (hpt.trans hpn.symm)]
  exact written m c n hn _ _ R d (by dsimp only; omega) (by dsimp only; omega)

end Cert.MergeK
-- ==== Proof.MergeReference.lean ====
module

public import proofs.«01_k».proof.Proof.Gen.ReferenceMergeIdeal.Run
public import proofs.«01_k».proof.Proof.MergeMath

/-!
# What the reference's mix computes

The reference's whole-array operations, cut into normalising, the gates, one gated branch, and the sum of three; each
is read at an entry as the numbers of `MergeMath`.
-/

@[expose] public section

set_option maxRecDepth 16384

noncomputable section

open Idealize.ShloMosaic Idealize.ShloMosaic.TcCoe Idealize.SL.Sem

namespace Cert.MergeR

open Cert.ReferenceMergeIdeal Cert.ReferenceMergeIdeal.Value Cert.Ffn Cert.Mix

/-- Every row of `x` normalised, with gain `g`. -/
def normArr (x : FVec Ideal S16640x2048 .f32) (g : FVec Ideal S2048 .f32) : FVec Ideal S16640x2048 .f32 :=
  mulf (mulf x (broadcastInDim S16640x2048 ![0, 1] Gen.bcast_S16640x1_S16640x2048_0_1
      (Host.rsqrt (addf
        (Host.divf (broadcastInDim S16640x1 ![0] Gen.bcast_S16640_S16640x1_0
            (Host.reduceAdd (mulf x x) (constant S_ FTy.f32 0x00000000#32) Gen.reducesTo_S16640x2048_S16640_d1 Gen.h_S_))
          (broadcastInDim S16640x1 ![] Gen.bcast_S_S16640x1 (constant S_ FTy.f32 0x45000000#32)))
        (broadcastInDim S16640x1 ![] Gen.bcast_S_S16640x1 (constant S_ FTy.f32 0x358637BD#32))))))
    (broadcastInDim S16640x2048 ![0, 1] Gen.bcast_S1x2048_S16640x2048_0_1
      (broadcastInDim S1x2048 ![1] Gen.bcast_S2048_S1x2048_1 g))

/-- All gates' arguments, three per row and column. -/
def scoreArr (y : FVec Ideal S16640x2048 .f32) (u : FVec Ideal S2048x6144 .f32) : FVec Ideal S16640x3x2048 .f32 :=
  shapeCast _ (Host.dotGeneral dot_S16640x2048_S2048x6144_S16640x6144_1_0_0_1_n_n none y u) Gen.shapeCasts_S16640x6144_S16640x3x2048

/-- The gates. -/
def gateArr (z : FVec Ideal S16640x3x2048 .f32) : FVec Ideal S16640x3x2048 .f32 :=
  Host.divf (broadcastInDim S16640x3x2048 ![] Gen.bcast_S_S16640x3x2048 (constant S_ FTy.f32 0x3F800000#32))
    (addf (broadcastInDim S16640x3x2048 ![] Gen.bcast_S_S16640x3x2048 (constant S_ FTy.f32 0x3F800000#32)) (Host.exp (Host.negf z)))

/-- Branch 0: its gate times its projection. -/
def branch0Arr (g : FVec Ideal S16640x3x2048 .f32) (b : FVec Ideal S16640x1024 .bf16) (w : FVec Ideal S3x1024x2048 .f32) :
    FVec Ideal S16640x2048 .f32 :=
  mulf (shapeCast _ (extractStridedSlice S16640x1x2048 ![0, 0, 0] g Gen.slices_S16640x3x2048_S16640x1x2048_0_0_0) Gen.shapeCasts_S16640x1x2048_S16640x2048)
    (Host.dotGeneral dot_S16640x1024_S1024x2048_S16640x2048_1_0_0_1_n_n none (extf .f32 b Gen.bitsLt_bf16_f32)
      (shapeCast _ (extractStridedSlice S1x1024x2048 ![0, 0, 0] w Gen.slices_S3x1024x2048_S1x1024x2048_0_0_0) Gen.shapeCasts_S1x1024x2048_S1024x2048))

/-- Branch 1: its gate times its projection. -/
def branch1Arr (g : FVec Ideal S16640x3x2048 .f32) (b : FVec Ideal S16640x1024 .bf16) (w : FVec Ideal S3x1024x2048 .f32) :
    FVec Ideal S16640x2048 .f32 :=
  mulf (shapeCast _ (extractStridedSlice S16640x1x2048 ![0, 1, 0] g Gen.slices_S16640x3x2048_S16640x1x2048_0_1_0) Gen.shapeCasts_S16640x1x2048_S16640x2048)
    (Host.dotGeneral dot_S16640x1024_S1024x2048_S16640x2048_1_0_0_1_n_n none (extf .f32 b Gen.bitsLt_bf16_f32)
      (shapeCast _ (extractStridedSlice S1x1024x2048 ![1, 0, 0] w Gen.slices_S3x1024x2048_S1x1024x2048_1_0_0) Gen.shapeCasts_S1x1024x2048_S1024x2048))

/-- Branch 2: its gate times its projection. -/
def branch2Arr (g : FVec Ideal S16640x3x2048 .f32) (b : FVec Ideal S16640x1024 .bf16) (w : FVec Ideal S3x1024x2048 .f32) :
    FVec Ideal S16640x2048 .f32 :=
  mulf (shapeCast _ (extractStridedSlice S16640x1x2048 ![0, 2, 0] g Gen.slices_S16640x3x2048_S16640x1x2048_0_2_0) Gen.shapeCasts_S16640x1x2048_S16640x2048)
    (Host.dotGeneral dot_S16640x1024_S1024x2048_S16640x2048_1_0_0_1_n_n none (extf .f32 b Gen.bitsLt_bf16_f32)
      (shapeCast _ (extractStridedSlice S1x1024x2048 ![2, 0, 0] w Gen.slices_S3x1024x2048_S1x1024x2048_2_0_0) Gen.shapeCasts_S1x1024x2048_S1024x2048))

/-- The sum of three arrays, stored in the result's type. -/
def sumArr (a b d : FVec Ideal S16640x2048 .f32) : FVec Ideal S16640x2048 .bf16 :=
  truncf .bf16 (addf (addf a b) d) Gen.bitsLt_bf16_f32

theorem normArr_at (x : FVec Ideal S16640x2048 .f32) (g : FVec Ideal S2048 .f32) (r : Fin 16640) (d : Fin 2048) :
    normArr x g (ix2 r d) = normed (fun e => x (ix2 r e)) (fun e => g (ix1 e)) d := by
  pointwise [normArr]
  rfl

theorem scoreArr_at (y : FVec Ideal S16640x2048 .f32) (u : FVec Ideal S2048x6144 .f32) (r : Fin 16640) (j : Fin 3) (d : Fin 2048)
    (q : Fin 6144) (hq : q.val = 2048 * j.val + d.val) :
    scoreArr y u (ix3 r j d) = ∑ e : Fin 2048, y (ix2 r e) * u (ix2 e q) := by
  pointwise [scoreArr]
  have e : (⟨j.val * 2048 + d.val, by have := j.isLt; have := d.isLt; omega⟩ : Fin 6144) = q := Fin.ext (by dsimp only; omega)
  simp only [e]

theorem gateArr_at (z : FVec Ideal S16640x3x2048 .f32) (r : Fin 16640) (j : Fin 3) (d : Fin 2048) :
    gateArr z (ix3 r j d) = Ideal.logistic (z (ix3 r j d)) := by
  pointwise [gateArr]
  rfl

theorem branch0Arr_at (g : FVec Ideal S16640x3x2048 .f32) (b : FVec Ideal S16640x1024 .bf16) (w : FVec Ideal S3x1024x2048 .f32)
    (r : Fin 16640) (d : Fin 2048) :
    branch0Arr g b w (ix2 r d) = g (ix3 r 0 d) * ∑ k : Fin 1024, b (ix2 r k) * w (ix3 0 k d) := by
  pointwise [branch0Arr]

theorem branch1Arr_at (g : FVec Ideal S16640x3x2048 .f32) (b : FVec Ideal S16640x1024 .bf16) (w : FVec Ideal S3x1024x2048 .f32)
    (r : Fin 16640) (d : Fin 2048) :
    branch1Arr g b w (ix2 r d) = g (ix3 r 1 d) * ∑ k : Fin 1024, b (ix2 r k) * w (ix3 1 k d) := by
  pointwise [branch1Arr]

theorem branch2Arr_at (g : FVec Ideal S16640x3x2048 .f32) (b : FVec Ideal S16640x1024 .bf16) (w : FVec Ideal S3x1024x2048 .f32)
    (r : Fin 16640) (d : Fin 2048) :
    branch2Arr g b w (ix2 r d) = g (ix3 r 2 d) * ∑ k : Fin 1024, b (ix2 r k) * w (ix3 2 k d) := by
  pointwise [branch2Arr]

theorem sumArr_at (a b d : FVec Ideal S16640x2048 .f32) (i : S16640x2048.Idx) : sumArr a b d i = a i + b i + d i := by
  pointwise [sumArr]

/-- All of the steps, at an entry. -/
theorem steps_at (x : FVec Ideal S16640x2048 .f32) (g : FVec Ideal S2048 .f32) (b0 b1 b2 : FVec Ideal S16640x1024 .bf16)
    (u : FVec Ideal S2048x6144 .f32) (w : FVec Ideal S3x1024x2048 .f32) (r : Fin 16640) (d : Fin 2048)
    (q0 q1 q2 : Fin 6144) (h0 : q0.val = 2048 * (0 : Fin 3).val + d.val) (h1 : q1.val = 2048 * (1 : Fin 3).val + d.val)
    (h2 : q2.val = 2048 * (2 : Fin 3).val + d.val) :
    sumArr (branch0Arr (gateArr (scoreArr (normArr x g) u)) b0 w) (branch1Arr (gateArr (scoreArr (normArr x g) u)) b1 w)
        (branch2Arr (gateArr (scoreArr (normArr x g) u)) b2 w) (ix2 r d) =
      branch (normed (fun e => x (ix2 r e)) (fun e => g (ix1 e))) (fun e => u (ix2 e q0)) (fun k => b0 (ix2 r k)) (fun k => w (ix3 0 k d))
      + branch (normed (fun e => x (ix2 r e)) (fun e => g (ix1 e))) (fun e => u (ix2 e q1)) (fun k => b1 (ix2 r k)) (fun k => w (ix3 1 k d))
      + branch (normed (fun e => x (ix2 r e)) (fun e => g (ix1 e))) (fun e => u (ix2 e q2)) (fun k => b2 (ix2 r k)) (fun k => w (ix3 2 k d)) := by
  rw [sumArr_at, branch0Arr_at, branch1Arr_at, branch2Arr_at, gateArr_at, gateArr_at, gateArr_at,
    scoreArr_at _ _ r 0 d q0 h0, scoreArr_at _ _ r 1 d q1 h1, scoreArr_at _ _ r 2 d q2 h2]
  simp only [normArr_at]
  rfl

variable (m : (ℓ : Loc nD τ sig) → Buf (Elt Ideal) ℓ) (c : Dev nD)

/-- The reference's result is those steps, one after another. -/
theorem result_eq : res_main_v44 (F := Ideal) m c =
    (sumArr
      (branch0Arr (gateArr (scoreArr (normArr (m (c.tc.loc main_arg0)) (m (c.tc.loc main_arg1))) (m (c.tc.loc main_arg5))))
        (m (c.tc.loc main_arg2)) (m (c.tc.loc main_arg6)))
      (branch1Arr (gateArr (scoreArr (normArr (m (c.tc.loc main_arg0)) (m (c.tc.loc main_arg1))) (m (c.tc.loc main_arg5))))
        (m (c.tc.loc main_arg3)) (m (c.tc.loc main_arg6)))
      (branch2Arr (gateArr (scoreArr (normArr (m (c.tc.loc main_arg0)) (m (c.tc.loc main_arg1))) (m (c.tc.loc main_arg5))))
        (m (c.tc.loc main_arg4)) (m (c.tc.loc main_arg6))) : FVec Ideal S16640x2048 .bf16) := by
  unfold res_main_v44 sumArr branch0Arr branch1Arr branch2Arr gateArr scoreArr normArr
  rfl

end Cert.MergeR
-- ==== Proof.MergeClaims.lean ====
module

public import proofs.«01_k».proof.Defs
public import proofs.«01_k».proof.Proof.MergeArray
public import proofs.«01_k».proof.Proof.MergeReference

/-!
# The mix of the three branches: kernel and reference agree

Over the extended reals the kernel's result array and the reference's are the same numbers.
-/

@[expose] public section

set_option maxRecDepth 16384

noncomputable section

open Idealize.ShloMosaic Idealize.ShloMosaic.TcCoe Idealize.SL.Sem

namespace Cert.MergeClaims

/-- At every entry the reference's result is the kernel's, wherever the arguments are the same. -/
theorem results_agree
    (m : (ℓ : Loc Cert.KernelMergeIdeal.nD Cert.KernelMergeIdeal.τ Cert.KernelMergeIdeal.sig) → Buf (Elt Ideal) ℓ) (c : Dev Cert.KernelMergeIdeal.nD)
    (m' : (ℓ : Loc Cert.ReferenceMergeIdeal.nD Cert.ReferenceMergeIdeal.τ Cert.ReferenceMergeIdeal.sig) → Buf (Elt Ideal) ℓ) (c' : Dev Cert.ReferenceMergeIdeal.nD)
    (h0 : (m' (c'.tc.loc Cert.ReferenceMergeIdeal.main_arg0) : FVec Ideal Cert.KernelMergeIdeal.S16640x2048 .f32) = Cert.MergeK.argX m c)
    (h1 : (m' (c'.tc.loc Cert.ReferenceMergeIdeal.main_arg1) : FVec Ideal Cert.KernelMergeIdeal.S2048 .f32) = Cert.MergeK.argG m c)
    (h2 : (m' (c'.tc.loc Cert.ReferenceMergeIdeal.main_arg2) : FVec Ideal Cert.KernelMergeIdeal.S16640x1024 .bf16) = Cert.MergeK.argB0 m c)
    (h3 : (m' (c'.tc.loc Cert.ReferenceMergeIdeal.main_arg3) : FVec Ideal Cert.KernelMergeIdeal.S16640x1024 .bf16) = Cert.MergeK.argB1 m c)
    (h4 : (m' (c'.tc.loc Cert.ReferenceMergeIdeal.main_arg4) : FVec Ideal Cert.KernelMergeIdeal.S16640x1024 .bf16) = Cert.MergeK.argB2 m c)
    (h5 : (m' (c'.tc.loc Cert.ReferenceMergeIdeal.main_arg5) : FVec Ideal Cert.KernelMergeIdeal.S2048x6144 .f32) = Cert.MergeK.argU m c)
    (h6 : (m' (c'.tc.loc Cert.ReferenceMergeIdeal.main_arg6) : FVec Ideal Cert.KernelMergeIdeal.S3x1024x2048 .f32) = Cert.MergeK.argW m c) :
    (Cert.ReferenceMergeIdeal.Value.res_main_v44 (F := Ideal) m' c' : FVec Ideal Cert.KernelMergeIdeal.S16640x2048 .bf16)
      = Cert.KernelMergeIdeal.Value.G9 (F := Ideal) m c := by
  funext i
  rw [eq_ix2 i]
  have hd : (i 1).val < 2048 := (i 1).isLt
  refine Eq.trans ?_ (Cert.MergeK.result_at m c (i 0) (i 1)).symm
  rw [Cert.MergeR.result_eq m' c']
  refine (Cert.MergeR.steps_at _ _ _ _ _ _ _ (i 0) (i 1)
    ⟨2048 * (0 : Fin 3).val + (i 1).val, by show 2048 * 0 + _ < _; omega⟩ ⟨2048 * (1 : Fin 3).val + (i 1).val, by show 2048 * 1 + _ < _; omega⟩ ⟨2048 * (2 : Fin 3).val + (i 1).val, by show 2048 * 2 + _ < _; omega⟩
    rfl rfl rfl).trans ?_
  unfold Cert.MergeK.mixed Cert.MergeK.rowN Cert.MergeK.gateCol
  rw [← h0, ← h1, ← h2, ← h3, ← h4, ← h5, ← h6]

theorem algebraic : Cert.algebraic_KernelMergeIdeal_ReferenceMergeIdeal := by
  intro m ρ m' ρ' _ hagree
  refine ⟨fun c => Cert.KernelMergeIdeal.Value.G9 (F := Ideal) m c, Cert.KernelMergeIdeal.Value.run (F := Ideal) m ρ, ?_⟩
  refine (θ_run Cert.ReferenceMergeIdeal.defs _ _).mono (fun _ h c => ⟨(h c).1.trans ?_, (h c).2⟩)
    (Cert.ReferenceMergeIdeal.Value.run (F := Ideal) m' ρ')
  obtain ⟨h0, h1, h2, h3, h4, h5, h6⟩ := hagree c
  exact results_agree m c m' c h0 h1 h2 h3 h4 h5 h6

end Cert.MergeClaims
-- ==== Proof.ResArray.lean ====
module

public import proofs.«01_k».proof.Proof.Gen.KernelResIdeal.Value
public import Idealize.ShloMosaic.Lib.Tactic
public import Idealize.ShloMosaic.Lib.Pointwise
public import Idealize.ShloMosaic.Lib.StableHlo.ReadAt

/-!
# What the output projection's result array holds

Each of the 26 points multiplies its rows of the mix by its columns of the weights and adds its rows of the residual;
the points' blocks tile the result.
-/

@[expose] public section

set_option maxRecDepth 16384

noncomputable section

open Idealize.ShloMosaic Idealize.ShloMosaic.TcCoe Idealize.SL.Sem

namespace Cert.ResK

open Cert.KernelResIdeal Cert.KernelResIdeal.Gen Cert.KernelResIdeal.Value

theorem hz : (![0, 0] : Fin 2 → Nat) = fun _ => 0 := funext fun a => by fin_cases a <;> rfl

theorem pay1_at (x : Vec Ideal S1280x1024 .f32) (y : Vec Ideal S1280x2048 .bf16) (w : Vec Ideal S2048x1024 .bf16)
    (r : Fin 1280) (d : Fin 1024) :
    k0_pay1 (F := Ideal) x y w (ix2 r d) = x (ix2 r d) + ∑ e : Fin 2048, y (ix2 r e) * w (ix2 e d) := by
  pointwise [k0_pay1]

/-- What a point writes, as one expression of the blocks it reads. -/
theorem out_eq (y : Vec Ideal S1280x2048 .bf16) (w : Vec Ideal S2048x1024 .bf16) (x : Vec Ideal S1280x1024 .f32) :
    out0_3 (F := Ideal) y w x = k0_pay1 x y w := by
  unfold out0_3
  simp only [View.canon_unit_zero (S := S1280x1024) hz, View.ld_unit_zero (S := S1280x1024) hz,
    View.ld_unit_zero (S := S1280x2048) hz, View.ld_unit_zero (S := S2048x1024) hz]

variable (m : (ℓ : Loc nD τ sig) → Buf (Elt Ideal) ℓ) (c : Dev nD)

/-- The three argument arrays, as numbers. -/
abbrev argY : FVec Ideal S16640x2048 .bf16 := m (c.tc.loc main_arg0)
abbrev argW : FVec Ideal S2048x2048 .f32 := m (c.tc.loc main_arg1)
abbrev argX : FVec Ideal S16640x2048 .f32 := m (c.tc.loc main_arg2)

theorem index_facts : ∀ t : Fin cfg0.N,
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = t.val / 2 ∧ win0_3.index t 1 = t.val % 2)
    ∧ win0_3.flush t = true :=
  (by decide +kernel : ∀ t : Fin grid0.N, _)

theorem mix_at (t : Fin cfg0.N) (r : Fin 1280) (e : Fin 2048) (R : Fin 16640) (hR : R.val = 1280 * (t.val / 2) + r.val) :
    (iblk m c 0 t : Vec Ideal S1280x2048 .bf16) (ix2 r e) = argY m c (ix2 R e) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 1280 + 1 * r.val = R.val; rw [hi.1]; omega
  | ⟨1, _⟩ => show win0_0.index t 1 * 2048 + 1 * e.val = e.val; rw [hi.2]; omega

theorem weight_at (t : Fin cfg0.N) (e : Fin 2048) (l : Fin 1024) (d : Fin 2048) (hd : d.val = 1024 * (t.val % 2) + l.val) :
    (iblk m c 1 t : Vec Ideal S2048x1024 .bf16) (ix2 e l) = argW m c (ix2 e d) := by
  have hi := (index_facts t).2.1
  have hv : ∀ (e d : Fin 2048), (V m c main_v0 : FVec Ideal S2048x2048 .bf16) (ix2 e d) = argW m c (ix2 e d) :=
    fun e d => by unfold V; after_reads_at
  unfold iblk
  rw [View.read_apply, ← hv]
  show V m c main_v0 _ = V m c main_v0 _
  congr 1
  funext a
  apply Fin.ext
  match a with
  | ⟨0, _⟩ => show win0_1.index t 0 * 2048 + 1 * e.val = e.val; rw [hi.1]; omega
  | ⟨1, _⟩ => show win0_1.index t 1 * 1024 + 1 * l.val = d.val; rw [hi.2]; omega

theorem residual_at (t : Fin cfg0.N) (r : Fin 1280) (l : Fin 1024) (R : Fin 16640) (d : Fin 2048)
    (hR : R.val = 1280 * (t.val / 2) + r.val) (hd : d.val = 1024 * (t.val % 2) + l.val) :
    (iblk m c 2 t : Vec Ideal S1280x1024 .f32) (ix2 r l) = argX m c (ix2 R d) := by
  have hi := (index_facts t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 1280 + 1 * r.val = R.val; rw [hi.1]; omega
  | ⟨1, _⟩ => show win0_2.index t 1 * 1024 + 1 * l.val = d.val; rw [hi.2]; omega

/-- The result array after the run. -/
def result : FVec Ideal S16640x2048 .f32 := (dats m 0 c).arrAt 3 cfg0.N

/-- The result at row `R` and column `d`: the residual plus the projection. -/
theorem result_at (R : Fin 16640) (d : Fin 2048) :
    result m c (ix2 R d) = argX m c (ix2 R d) + ∑ e : Fin 2048, argY m c (ix2 R e) * argW m c (ix2 e d) := by
  have hRl := R.isLt
  have hdl := d.isLt
  have hN : 2 * (R.val / 1280) + d.val / 1024 < cfg0.N := by rw [show cfg0.N = 26 from N_0]; omega
  obtain ⟨t, ht⟩ : ∃ t : Fin cfg0.N, t.val = 2 * (R.val / 1280) + d.val / 1024 := ⟨⟨_, hN⟩, rfl⟩
  have hi := (index_facts t).2.2.2
  have hr : R.val = 1280 * (t.val / 2) + (⟨R.val % 1280, Nat.mod_lt _ (by decide)⟩ : Fin 1280).val := by dsimp only; omega
  have hc : d.val = 1024 * (t.val % 2) + (⟨d.val % 1024, Nat.mod_lt _ (by decide)⟩ : Fin 1024).val := by dsimp only; omega
  have hb := congrFun (blocks3 m c t hi.2) (ix2 (⟨R.val % 1280, Nat.mod_lt _ (by decide)⟩ : Fin 1280) (⟨d.val % 1024, Nat.mod_lt _ (by decide)⟩ : Fin 1024))
  rw [View.read_apply] at hb
  have hx : ((cfg0.win 3).blk t).view.emb (ix2 (⟨R.val % 1280, Nat.mod_lt _ (by decide)⟩ : Fin 1280) (⟨d.val % 1024, Nat.mod_lt _ (by decide)⟩ : Fin 1024)) = ix2 R d := by
    funext a
    apply Fin.ext
    match a with
    | ⟨0, _⟩ => show win0_3.index t 0 * 1280 + 1 * (R.val % 1280) = R.val; rw [hi.1.1]; omega
    | ⟨1, _⟩ => show win0_3.index t 1 * 1024 + 1 * (d.val % 1024) = d.val; rw [hi.1.2]; omega
  rw [hx, flushed3, out_eq] at hb
  refine hb.trans ?_
  refine (pay1_at _ _ _ (⟨R.val % 1280, Nat.mod_lt _ (by decide)⟩ : Fin 1280) (⟨d.val % 1024, Nat.mod_lt _ (by decide)⟩ : Fin 1024)).trans ?_
  rw [residual_at m c t _ _ R d hr hc]
  simp only [mix_at m c t _ _ R hr, weight_at m c t _ _ d hc]

end Cert.ResK
-- ==== Proof.ResClaims.lean ====
module

public import proofs.«01_k».proof.Defs
public import proofs.«01_k».proof.Proof.ResArray
public import proofs.«01_k».proof.Proof.Gen.ReferenceResIdeal.Run

/-!
# The output projection: kernel and reference agree

Over the extended reals the kernel's result array and the reference's are the same numbers.
-/

@[expose] public section

set_option maxRecDepth 16384

noncomputable section

open Idealize.ShloMosaic Idealize.ShloMosaic.TcCoe Idealize.SL.Sem

namespace Cert.ResR

open Cert.ReferenceResIdeal

/-- The reference's one line. -/
def projArr (y : FVec Ideal S16640x2048 .bf16) (w : FVec Ideal S2048x2048 .f32) (x : FVec Ideal S16640x2048 .f32) :
    FVec Ideal S16640x2048 .f32 :=
  addf x (Host.dotGeneral dot_S16640x2048_S2048x2048_S16640x2048_1_0_0_1_n_n none (extf .f32 y Gen.bitsLt_bf16_f32) w)

theorem projArr_at (y : FVec Ideal S16640x2048 .bf16) (w : FVec Ideal S2048x2048 .f32) (x : FVec Ideal S16640x2048 .f32)
    (r : Fin 16640) (d : Fin 2048) :
    projArr y w x (ix2 r d) = x (ix2 r d) + ∑ e : Fin 2048, y (ix2 r e) * w (ix2 e d) := by
  pointwise [projArr]

end Cert.ResR

namespace Cert.ResClaims

/-- At every entry the reference's result is the kernel's, wherever the arguments are the same. -/
theorem results_agree
    (m : (ℓ : Loc Cert.KernelResIdeal.nD Cert.KernelResIdeal.τ Cert.KernelResIdeal.sig) → Buf (Elt Ideal) ℓ) (c : Dev Cert.KernelResIdeal.nD)
    (m' : (ℓ : Loc Cert.ReferenceResIdeal.nD Cert.ReferenceResIdeal.τ Cert.ReferenceResIdeal.sig) → Buf (Elt Ideal) ℓ) (c' : Dev Cert.ReferenceResIdeal.nD)
    (h0 : (m' (c'.tc.loc Cert.ReferenceResIdeal.main_arg0) : FVec Ideal Cert.KernelResIdeal.S16640x2048 .bf16) = Cert.ResK.argY m c)
    (h1 : (m' (c'.tc.loc Cert.ReferenceResIdeal.main_arg1) : FVec Ideal Cert.KernelResIdeal.S2048x2048 .f32) = Cert.ResK.argW m c)
    (h2 : (m' (c'.tc.loc Cert.ReferenceResIdeal.main_arg2) : FVec Ideal Cert.KernelResIdeal.S16640x2048 .f32) = Cert.ResK.argX m c) :
    (Cert.ResR.projArr (m' (c'.tc.loc Cert.ReferenceResIdeal.main_arg0)) (m' (c'.tc.loc Cert.ReferenceResIdeal.main_arg1)) (m' (c'.tc.loc Cert.ReferenceResIdeal.main_arg2)) :
      FVec Ideal Cert.KernelResIdeal.S16640x2048 .f32) = Cert.ResK.result m c := by
  funext i
  rw [eq_ix2 i]
  refine Eq.trans ?_ (Cert.ResK.result_at m c (i 0) (i 1)).symm
  refine (Cert.ResR.projArr_at _ _ _ (i 0) (i 1)).trans ?_
  rw [← h0, ← h1, ← h2]

theorem algebraic : Cert.algebraic_KernelResIdeal_ReferenceResIdeal := by
  intro m ρ m' ρ' _ hagree
  refine ⟨fun c => Cert.ResK.result m c, Cert.KernelResIdeal.Value.run_blocks (F := Ideal) m ρ, ?_⟩
  refine (θ_run Cert.ReferenceResIdeal.defs _ _).mono (fun _ h c => ⟨(h c).1.trans ?_, (h c).2⟩)
    (Cert.ReferenceResIdeal.Value.run (F := Ideal) m' ρ')
  obtain ⟨h0, h1, h2⟩ := hagree c
  exact results_agree m c m' c h0 h1 h2

end Cert.ResClaims
-- ==== Proof.ProjRun.lean ====
/- The body of the projection kernel, at each of the four kinds of grid point. -/
module

public import proofs.«01_k».proof.Proof.Gen.KernelProjIdeal.Frame
public import proofs.«01_k».proof.Proof.Gen.KernelProjIdeal.Skeleton
public import Idealize.ShloMosaic.Lib.Tactic
public import Idealize.ShloMosaic.Lib.Exec
public import Idealize.ShloMosaic.Lib.Pipeline.ValueKit.Tiles
public import Idealize.ShloMosaic.Lib.Pipeline.ValueKit.Acc

@[expose] public section

set_option maxRecDepth 16384

noncomputable section

namespace Cert.ProjK

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At the first point of a row block: the rows are normalised into the scratch, and their first columns written. -/
theorem run_A (c : Dev nD) (i : grid0.Coords) (a2 : Memref sig .tc .vmem S1280x2048 .f32) (w2 : a2.IsWhole) (a3 : Memref sig .tc .vmem S1x2048 .f32) (w3 : a3.IsWhole) (a4 : Memref sig .tc .vmem S2048x896 .bf16) (w4 : a4.IsWhole) (a5 : Memref sig .tc .vmem S1x896 .f32) (w5 : a5.IsWhole) (a6 : Memref sig .tc .vmem S2048x512 .bf16) (w6 : a6.IsWhole) (a7 : Memref sig .tc .vmem S1x256 .f32) (w7 : a7.IsWhole) (a8 : Memref sig .tc .vmem S1280x896 .bf16) (w8 : a8.IsWhole) (a9 : Memref sig .tc .vmem S1280x512 .f32) (w9 : a9.IsWhole) (a10 : Memref sig .tc .vmem S1280x256 .bf16) (w10 : a10.IsWhole) (a11 : Memref sig .tc .vmem S1280x2048 .bf16) (w11 : a11.IsWhole)
    (h1 : (Scalar.cmpi .ne (Scalar.extui (Scalar.cmpi .eq (BitVec.ofNat 32 (i 1).val) 0#32)) 0#32) = 1#1) (h2 : k0_cond2 i = 1#1) (h3 : ¬k0_cond3 i = 1#1)
    (x0 : Vec F S1280x2048 .f32) (x1 : Vec F S1x2048 .f32) (x2 : Vec F S2048x896 .bf16) (x3 : Vec F S1x896 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a8 fullShare d) ∗ (∃ d, owns (c : Thread nD τ) a11 fullShare d) ∗ (iprop(owns (c : Thread nD τ) a2 fullShare (x0) ∗ owns (c : Thread nD τ) a3 fullShare (x1) ∗ owns (c : Thread nD τ) a4 fullShare (x2) ∗ owns (c : Thread nD τ) a5 fullShare (x3) ∗ owns (c : Thread nD τ) a8 fullShare (k0_pay2 (k0_pay1 x0 x1) x2 x3) ∗ owns (c : Thread nD τ) a11 fullShare (k0_pay1 x0 x1)) -∗ K ⟨⟩))
      ⊢ wp frame (wpE (defs₀ (F := F)) Variants.none c none) Set.univ (cc0__proj_kernel i a2 w2 a3 w3 a4 w4 a5 w5 a6 w6 a7 w7 a8 w8 a9 w9 a10 w10 a11 w11) K := by
  simp only [cc0__proj_kernel_eq_skeleton]; unfold cc0__proj_kernel_skel
  unfold owns
  iintro ⟨⟨%f2, %e2, H2⟩, ⟨%f3, %e3, H3⟩, ⟨%f4, %e4, H4⟩, ⟨%f5, %e5, H5⟩, ⟨%d8, %f8, -, H8⟩, ⟨%d11, %f11, -, H11⟩, Hk⟩
  obtain rfl := w2.eq_unread e2
  obtain rfl := w3.eq_unread e3
  obtain rfl := w4.eq_unread e4
  obtain rfl := w5.eq_unread e5
  sl_exec (disch := first | sl_exact h1 | sl_exact h2 | sl_exact h3)
  sl_step
  iapply Hk
  isplitl [H2]
  · iexists _; isplitr; swap; · iexact H2
    ipureintro; exact w2.read_unread _
  isplitl [H3]
  · iexists _; isplitr; swap; · iexact H3
    ipureintro; exact w3.read_unread _
  isplitl [H4]
  · iexists _; isplitr; swap; · iexact H4
    ipureintro; exact w4.read_unread _
  isplitl [H5]
  · iexists _; isplitr; swap; · iexact H5
    ipureintro; exact w5.read_unread _
  isplitl [H8]
  · iexists _; isplitr; swap; · iexact H8
    ipureintro
    rw [View.read_writes_eq_canon _ _ _ (View.cover_of_tiledL _ S1280x896.size (by sl_kernel_rfl))]
    try sl_unfold_words
    simp only [View.canon_unit_zero (S := S1280x896) hz, View.canon_cons_unit_zero (S := S1280x896) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]
  iexists _; isplitr; swap; · iexact H11
  ipureintro
  rw [View.read_writes_eq_canon _ _ _ (View.cover_of_tiledL _ S1280x2048.size (by sl_kernel_rfl))]
  try sl_unfold_words
  simp only [View.canon_unit_zero (S := S1280x2048) hz, View.canon_cons_unit_zero (S := S1280x2048) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]

/-- At a later point of the rounded columns: they are written from the rows held in the scratch. -/
theorem run_B (c : Dev nD) (i : grid0.Coords) (a2 : Memref sig .tc .vmem S1280x2048 .f32) (w2 : a2.IsWhole) (a3 : Memref sig .tc .vmem S1x2048 .f32) (w3 : a3.IsWhole) (a4 : Memref sig .tc .vmem S2048x896 .bf16) (w4 : a4.IsWhole) (a5 : Memref sig .tc .vmem S1x896 .f32) (w5 : a5.IsWhole) (a6 : Memref sig .tc .vmem S2048x512 .bf16) (w6 : a6.IsWhole) (a7 : Memref sig .tc .vmem S1x256 .f32) (w7 : a7.IsWhole) (a8 : Memref sig .tc .vmem S1280x896 .bf16) (w8 : a8.IsWhole) (a9 : Memref sig .tc .vmem S1280x512 .f32) (w9 : a9.IsWhole) (a10 : Memref sig .tc .vmem S1280x256 .bf16) (w10 : a10.IsWhole) (a11 : Memref sig .tc .vmem S1280x2048 .bf16) (w11 : a11.IsWhole)
    (h1 : ¬(Scalar.cmpi .ne (Scalar.extui (Scalar.cmpi .eq (BitVec.ofNat 32 (i 1).val) 0#32)) 0#32) = 1#1) (h2 : k0_cond2 i = 1#1) (h3 : ¬k0_cond3 i = 1#1)
    (x2 : Vec F S2048x896 .bf16) (x3 : Vec F S1x896 .f32) (s : Vec F S1280x2048 .bf16) (K : PUnit → sProp 𝕄) :
    iprop(owns (c : Thread nD τ) a4 fullShare x2 ∗ owns (c : Thread nD τ) a5 fullShare x3 ∗ (∃ d, owns (c : Thread nD τ) a8 fullShare d) ∗ owns (c : Thread nD τ) a11 fullShare s ∗ (iprop(owns (c : Thread nD τ) a4 fullShare (x2) ∗ owns (c : Thread nD τ) a5 fullShare (x3) ∗ owns (c : Thread nD τ) a8 fullShare (k0_pay2 s x2 x3) ∗ owns (c : Thread nD τ) a11 fullShare (s)) -∗ K ⟨⟩))
      ⊢ wp frame (wpE (defs₀ (F := F)) Variants.none c none) Set.univ (cc0__proj_kernel i a2 w2 a3 w3 a4 w4 a5 w5 a6 w6 a7 w7 a8 w8 a9 w9 a10 w10 a11 w11) K := by
  simp only [cc0__proj_kernel_eq_skeleton]; unfold cc0__proj_kernel_skel
  unfold owns
  iintro ⟨⟨%f4, %e4, H4⟩, ⟨%f5, %e5, H5⟩, ⟨%d8, %f8, -, H8⟩, ⟨%f11, %e11, H11⟩, Hk⟩
  obtain rfl := w4.eq_unread e4
  obtain rfl := w5.eq_unread e5
  obtain rfl := w11.eq_unread e11
  sl_exec (disch := first | sl_exact h1 | sl_exact h2 | sl_exact h3)
  sl_step
  iapply Hk
  isplitl [H4]
  · iexists _; isplitr; swap; · iexact H4
    ipureintro; exact w4.read_unread _
  isplitl [H5]
  · iexists _; isplitr; swap; · iexact H5
    ipureintro; exact w5.read_unread _
  isplitl [H8]
  · iexists _; isplitr; swap; · iexact H8
    ipureintro
    rw [View.read_writes_eq_canon _ _ _ (View.cover_of_tiledL _ S1280x896.size (by sl_kernel_rfl))]
    try sl_unfold_words
    simp only [View.canon_unit_zero (S := S1280x896) hz, View.canon_cons_unit_zero (S := S1280x896) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]
  iexists _; isplitr; swap; · iexact H11
  ipureintro; exact w11.read_unread _

/-- At a point of the other columns: they are written from the rows held in the scratch. -/
theorem run_C (c : Dev nD) (i : grid0.Coords) (a2 : Memref sig .tc .vmem S1280x2048 .f32) (w2 : a2.IsWhole) (a3 : Memref sig .tc .vmem S1x2048 .f32) (w3 : a3.IsWhole) (a4 : Memref sig .tc .vmem S2048x896 .bf16) (w4 : a4.IsWhole) (a5 : Memref sig .tc .vmem S1x896 .f32) (w5 : a5.IsWhole) (a6 : Memref sig .tc .vmem S2048x512 .bf16) (w6 : a6.IsWhole) (a7 : Memref sig .tc .vmem S1x256 .f32) (w7 : a7.IsWhole) (a8 : Memref sig .tc .vmem S1280x896 .bf16) (w8 : a8.IsWhole) (a9 : Memref sig .tc .vmem S1280x512 .f32) (w9 : a9.IsWhole) (a10 : Memref sig .tc .vmem S1280x256 .bf16) (w10 : a10.IsWhole) (a11 : Memref sig .tc .vmem S1280x2048 .bf16) (w11 : a11.IsWhole)
    (h1 : ¬(Scalar.cmpi .ne (Scalar.extui (Scalar.cmpi .eq (BitVec.ofNat 32 (i 1).val) 0#32)) 0#32) = 1#1) (h2 : ¬k0_cond2 i = 1#1) (h3 : k0_cond3 i = 1#1) (h4 : ¬k0_cond4 i = 1#1)
    (x4 : Vec F S2048x512 .bf16) (s : Vec F S1280x2048 .bf16) (K : PUnit → sProp 𝕄) :
    iprop(owns (c : Thread nD τ) a6 fullShare x4 ∗ (∃ d, owns (c : Thread nD τ) a9 fullShare d) ∗ owns (c : Thread nD τ) a11 fullShare s ∗ (iprop(owns (c : Thread nD τ) a6 fullShare (x4) ∗ owns (c : Thread nD τ) a9 fullShare (k0_pay3 s x4) ∗ owns (c : Thread nD τ) a11 fullShare (s)) -∗ K ⟨⟩))
      ⊢ wp frame (wpE (defs₀ (F := F)) Variants.none c none) Set.univ (cc0__proj_kernel i a2 w2 a3 w3 a4 w4 a5 w5 a6 w6 a7 w7 a8 w8 a9 w9 a10 w10 a11 w11) K := by
  simp only [cc0__proj_kernel_eq_skeleton]; unfold cc0__proj_kernel_skel
  unfold owns
  iintro ⟨⟨%f6, %e6, H6⟩, ⟨%d9, %f9, -, H9⟩, ⟨%f11, %e11, H11⟩, Hk⟩
  obtain rfl := w6.eq_unread e6
  obtain rfl := w11.eq_unread e11
  sl_exec (disch := first | sl_exact h1 | sl_exact h2 | sl_exact h3 | sl_exact h4)
  sl_step
  iapply Hk
  isplitl [H6]
  · iexists _; isplitr; swap; · iexact H6
    ipureintro; exact w6.read_unread _
  isplitl [H9]
  · iexists _; isplitr; swap; · iexact H9
    ipureintro
    rw [View.read_writes_eq_canon _ _ _ (View.cover_of_tiledL _ S1280x512.size (by sl_kernel_rfl))]
    try sl_unfold_words
    simp only [View.canon_unit_zero (S := S1280x512) hz, View.canon_cons_unit_zero (S := S1280x512) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]
  iexists _; isplitr; swap; · iexact H11
  ipureintro; exact w11.read_unread _

/-- At the last point of a row block: it also writes the normalised latent rows. -/
theorem run_D (c : Dev nD) (i : grid0.Coords) (a2 : Memref sig .tc .vmem S1280x2048 .f32) (w2 : a2.IsWhole) (a3 : Memref sig .tc .vmem S1x2048 .f32) (w3 : a3.IsWhole) (a4 : Memref sig .tc .vmem S2048x896 .bf16) (w4 : a4.IsWhole) (a5 : Memref sig .tc .vmem S1x896 .f32) (w5 : a5.IsWhole) (a6 : Memref sig .tc .vmem S2048x512 .bf16) (w6 : a6.IsWhole) (a7 : Memref sig .tc .vmem S1x256 .f32) (w7 : a7.IsWhole) (a8 : Memref sig .tc .vmem S1280x896 .bf16) (w8 : a8.IsWhole) (a9 : Memref sig .tc .vmem S1280x512 .f32) (w9 : a9.IsWhole) (a10 : Memref sig .tc .vmem S1280x256 .bf16) (w10 : a10.IsWhole) (a11 : Memref sig .tc .vmem S1280x2048 .bf16) (w11 : a11.IsWhole)
    (h1 : ¬(Scalar.cmpi .ne (Scalar.extui (Scalar.cmpi .eq (BitVec.ofNat 32 (i 1).val) 0#32)) 0#32) = 1#1) (h2 : ¬k0_cond2 i = 1#1) (h3 : k0_cond3 i = 1#1) (h4 : k0_cond4 i = 1#1)
    (x4 : Vec F S2048x512 .bf16) (x5 : Vec F S1x256 .f32) (s : Vec F S1280x2048 .bf16) (K : PUnit → sProp 𝕄) :
    iprop(owns (c : Thread nD τ) a6 fullShare x4 ∗ owns (c : Thread nD τ) a7 fullShare x5 ∗ (∃ d, owns (c : Thread nD τ) a9 fullShare d) ∗ (∃ d, owns (c : Thread nD τ) a10 fullShare d) ∗ owns (c : Thread nD τ) a11 fullShare s ∗ (iprop(owns (c : Thread nD τ) a6 fullShare (x4) ∗ owns (c : Thread nD τ) a7 fullShare (x5) ∗ owns (c : Thread nD τ) a9 fullShare (k0_pay3 s x4) ∗ owns (c : Thread nD τ) a10 fullShare (k0_pay4 s x4 x5) ∗ owns (c : Thread nD τ) a11 fullShare (s)) -∗ K ⟨⟩))
      ⊢ wp frame (wpE (defs₀ (F := F)) Variants.none c none) Set.univ (cc0__proj_kernel i a2 w2 a3 w3 a4 w4 a5 w5 a6 w6 a7 w7 a8 w8 a9 w9 a10 w10 a11 w11) K := by
  simp only [cc0__proj_kernel_eq_skeleton]; unfold cc0__proj_kernel_skel
  unfold owns
  iintro ⟨⟨%f6, %e6, H6⟩, ⟨%f7, %e7, H7⟩, ⟨%d9, %f9, -, H9⟩, ⟨%d10, %f10, -, H10⟩, ⟨%f11, %e11, H11⟩, Hk⟩
  obtain rfl := w6.eq_unread e6
  obtain rfl := w7.eq_unread e7
  obtain rfl := w11.eq_unread e11
  sl_exec (disch := first | sl_exact h1 | sl_exact h2 | sl_exact h3 | sl_exact h4)
  sl_step
  iapply Hk
  isplitl [H6]
  · iexists _; isplitr; swap; · iexact H6
    ipureintro; exact w6.read_unread _
  isplitl [H7]
  · iexists _; isplitr; swap; · iexact H7
    ipureintro; exact w7.read_unread _
  isplitl [H9]
  · iexists _; isplitr; swap; · iexact H9
    ipureintro
    rw [View.read_writes_eq_canon _ _ _ (View.cover_of_tiledL _ S1280x512.size (by sl_kernel_rfl))]
    try sl_unfold_words
    simp only [View.canon_unit_zero (S := S1280x512) hz, View.canon_cons_unit_zero (S := S1280x512) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]
  isplitl [H10]
  · iexists _; isplitr; swap; · iexact H10
    ipureintro
    rw [View.read_writes_eq_canon _ _ _ (View.cover_of_tiledL _ S1280x256.size (by sl_kernel_rfl))]
    try sl_unfold_words
    simp only [View.canon_unit_zero (S := S1280x256) hz, View.canon_cons_unit_zero (S := S1280x256) hz, View.readCov_unit_zero (S := S1280x2048) _ hz, View.readCov_unit_zero (S := S1280x512) _ hz, View.readAt_eq_ld, w2.read_unread, w3.read_unread, w4.read_unread, w5.read_unread, w6.read_unread, w7.read_unread, w8.read_unread, w9.read_unread, w10.read_unread, w11.read_unread, View.ld_unit_zero (S := S1280x2048) hz, View.ld_unit_zero (S := S1x2048) hz, View.ld_unit_zero (S := S2048x896) hz, View.ld_unit_zero (S := S1x896) hz, View.ld_unit_zero (S := S2048x512) hz, View.ld_unit_zero (S := S1x256) hz]
  iexists _; isplitr; swap; · iexact H11
  ipureintro; exact w11.read_unread _

end Cert.ProjK

end
-- ==== Proof.ProjLaunch.lean ====
/- The launch of the projection kernel: what its three result arrays hold at the end, and that its arguments end
   unchanged. The rounded columns' block is written back once more at the last point of a row block, where the body
   does not store it: there its buffer still holds what point 6 stored. -/
module

public import proofs.«01_k».proof.Proof.ProjRun
public import proofs.«01_k».proof.Proof.Gen.KernelProjIdeal
public import Idealize.ShloMosaic.Lib.Pipeline.Frame
public import Idealize.ShloMosaic.Lib.Pipeline.FrameBody

@[expose] public section

set_option maxRecDepth 16384

noncomputable section

namespace Cert.ProjK

open Cert.KernelProjIdeal Cert.KernelProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four kinds of point -/

theorem kinds : ∀ t : Fin cfg0.N,
    (((Scalar.cmpi .ne (Scalar.extui (Scalar.cmpi .eq (BitVec.ofNat 32 (grid0.coords t 1).val) 0#32)) 0#32) = 1#1) ↔ t.val % 12 = 0)
    ∧ (k0_cond2 (grid0.coords t) = 1#1 ↔ t.val % 12 < 7) ∧ (k0_cond3 (grid0.coords t) = 1#1 ↔ 7 ≤ t.val % 12)
    ∧ (k0_cond4 (grid0.coords t) = 1#1 ↔ t.val % 12 = 11) :=
  (by decide +kernel : ∀ t : Fin grid0.N, _)

theorem idle6 : ∀ t : Fin cfg0.N, cfg0.idle 6 (grid0.coords t) = decide (7 ≤ t.val % 12) :=
  (by decide +kernel : ∀ t : Fin grid0.N, idle0 6 (grid0.coords t) = decide (7 ≤ t.val % 12))
theorem idle7 : ∀ t : Fin cfg0.N, cfg0.idle 7 (grid0.coords t) = decide (t.val % 12 < 7) :=
  (by decide +kernel : ∀ t : Fin grid0.N, idle0 7 (grid0.coords t) = decide (t.val % 12 < 7))
theorem idle8 : ∀ t : Fin cfg0.N, cfg0.idle 8 (grid0.coords t) = decide (t.val % 12 ≠ 11) :=
  (by decide +kernel : ∀ t : Fin grid0.N, idle0 8 (grid0.coords t) = decide (t.val % 12 ≠ 11))
theorem flush6 : ∀ t : Fin cfg0.N, (cfg0.win 6).flush t = decide (t.val % 12 < 6 ∨ t.val % 12 = 11) :=
  (by decide +kernel : ∀ t : Fin grid0.N, win0_6.flush t = decide (t.val % 12 < 6 ∨ t.val % 12 = 11))
theorem flush7 : ∀ t : Fin cfg0.N, (cfg0.win 7).flush t = decide (7 ≤ t.val % 12) :=
  (by decide +kernel : ∀ t : Fin grid0.N, win0_7.flush t = decide (7 ≤ t.val % 12))
theorem flush8 : ∀ t : Fin cfg0.N, (cfg0.win 8).flush t = decide (t.val % 12 = 11) :=
  (by decide +kernel : ∀ t : Fin grid0.N, win0_8.flush t = decide (t.val % 12 = 11))
theorem fetch6 (t : Fin cfg0.N) : (cfg0.win 6).fetch t = false := rfl

/-! ## The proof data -/

/-- The first point of the row block that point `n` is in. -/
def headOf (n : ℕ) : Fin cfg0.N := ⟨12 * (n / 12) % 156, lt_of_lt_of_eq (Nat.mod_lt _ (by decide)) N_0.symm⟩
/-- The point that last stored the rounded columns' block, seen from point `n`. -/
def colOf (n : ℕ) : Fin cfg0.N := ⟨(12 * (n / 12) + min (n % 12) 6) % 156, lt_of_lt_of_eq (Nat.mod_lt _ (by decide)) N_0.symm⟩

theorem headOf_self (t : Fin cfg0.N) (h : t.val % 12 = 0) : headOf t.val = t := by
  have := lt_of_lt_of_eq t.isLt N_0
  apply Fin.ext; show 12 * (t.val / 12) % 156 = t.val; omega
theorem headOf_succ (n : ℕ) (h : n % 12 ≠ 11) : headOf (n + 1) = headOf n := by
  apply Fin.ext; show 12 * ((n + 1) / 12) % 156 = 12 * (n / 12) % 156; rw [show (n + 1) / 12 = n / 12 by omega]
theorem colOf_self (t : Fin cfg0.N) (h : t.val % 12 < 7) : colOf t.val = t := by
  have := lt_of_lt_of_eq t.isLt N_0
  apply Fin.ext; show (12 * (t.val / 12) + min (t.val % 12) 6) % 156 = t.val; omega
theorem colOf_succ (n : ℕ) (h : 6 ≤ n % 12) (h' : n % 12 ≠ 11) : colOf (n + 1) = colOf n := by
  apply Fin.ext
  show (12 * ((n + 1) / 12) + min ((n + 1) % 12) 6) % 156 = (12 * (n / 12) + min (n % 12) 6) % 156
  rw [show (n + 1) / 12 = n / 12 by omega, show min ((n + 1) % 12) 6 = min (n % 12) 6 by omega]

/-- The normalised rows of the row block that point `n` is in. -/
def rows (c : Dev nD) (n : ℕ) : Vec F S1280x2048 .bf16 := k0_pay1 (iblk m c 0 (headOf n)) (iblk m c 1 (headOf n))
/-- The block of rounded columns held at point `n`. -/
def colsA (c : Dev nD) (n : ℕ) : Vec F S1280x896 .bf16 := k0_pay2 (rows m c n) (iblk m c 2 (colOf n)) (iblk m c 3 (colOf n))
/-- The block of the other columns that point `t` stores. -/
def colsB (c : Dev nD) (t : Fin cfg0.N) : Vec F S1280x512 .f32 := k0_pay3 (rows m c t.val) (iblk m c 4 t)
/-- The latent rows that point `t` stores. -/
def latent (c : Dev nD) (t : Fin cfg0.N) : Vec F S1280x256 .bf16 := k0_pay4 (rows m c t.val) (iblk m c 4 t) (iblk m c 5 t)

/-- Before point `n`: the scratch at anything if `n` begins a row block, else at that block's normalised rows. -/
def Phi (c : Dev nD) (n : ℕ) : sProp 𝕄 :=
  if n % 12 = 0 then Pipeline.ΦA spec0 c
  else iprop(owns (c : Thread nD τ) (Memref.whole cc0_scratch0) fullShare (rows m c n) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => colsA m c t.val
    | ⟨7, _⟩ => colsB m c t
    | ⟨8, _⟩ => latent m c t
  Φ t := Phi m c t.val
  q _ := fullShare
  owed _ := 0

theorem A_eq (c : Dev nD) (w : Fin cfg0.W) : (dats m 0 c).A w = V m c (Pipeline.arrRef spec0 w) := by
  dsimp only [dats]
theorem after0_6 (c : Dev nD) (t : Fin cfg0.N) : (dats m 0 c).after 6 t = colsA m c t.val := by dsimp only [dats]
theorem after0_7 (c : Dev nD) (t : Fin cfg0.N) : (dats m 0 c).after 7 t = colsB m c t := by dsimp only [dats]
theorem after0_8 (c : Dev nD) (t : Fin cfg0.N) : (dats m 0 c).after 8 t = latent m c t := by dsimp only [dats]
theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d

/-- From point 7 of a row block on, the rounded columns' buffer holds what point 6 stored. -/
theorem before0_6 (c : Dev nD) : ∀ (n : ℕ) (hn : n < cfg0.N) (h : 7 ≤ n % 12) (d), (dats m 0 c).before 6 ⟨n, hn⟩ d = colsA m c n := by
  intro n
  induction n with
  | zero => intro hn h; exact absurd h (by decide)
  | succ n ih =>
    intro hn h d
    have hc : n % 12 ≠ 11 := by omega
    have he : colsA m c (n + 1) = colsA m c n := by
      unfold colsA rows; rw [headOf_succ n hc, colOf_succ n (by omega) hc]
    rw [Dat.before_of_pos _ _ _ (Nat.succ_ne_zero n) (fetch6 _)]
    have hf : (cfg0.win 6).flush ⟨n, Nat.lt_of_succ_lt hn⟩ = false := by
      rw [flush6]; exact decide_eq_false (by show ¬(n % 12 < 6 ∨ n % 12 = 11); omega)
    rw [if_neg (by show ¬((cfg0.win 6).flush ⟨n, Nat.lt_of_succ_lt hn⟩ = true); rw [hf]; exact Bool.false_ne_true), he]
    show (dats m 0 c).left 6 ⟨n, Nat.lt_of_succ_lt hn⟩ d = _
    unfold Dat.left
    by_cases h7 : 7 ≤ n % 12
    · rw [show cfg0.idle 6 (cfg0.grid.coords ⟨n, Nat.lt_of_succ_lt hn⟩) = true from (idle6 _).trans (decide_eq_true h7)]
      exact ih _ h7 d
    · rw [show cfg0.idle 6 (cfg0.grid.coords ⟨n, Nat.lt_of_succ_lt hn⟩) = false from (idle6 _).trans (decide_eq_false h7)]
      show (dats m 0 c).kept 6 ⟨n, Nat.lt_of_succ_lt hn⟩ d = _
      unfold Dat.kept
      rw [after0_6]
      rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t ∗ (dats m 0 c).leavesExact 7 t ∗ (dats m 0 c).leavesExact 8 t)

theorem live (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [show cfg0.idle w (cfg0.grid.coords t) = false from h]
  · rw [h]; cases cfg0.idle w (cfg0.grid.coords t) <;> rfl

theorem Phi_first (c : Dev nD) (n : ℕ) (h : n % 12 = 0) : Phi m c n = Pipeline.ΦA spec0 c := if_pos h
theorem Phi_later (c : Dev nD) (n : ℕ) (h : n % 12 ≠ 0) :
    Phi m c n = iprop(owns (c : Thread nD τ) (Memref.whole cc0_scratch0) fullShare (rows m c n) ∗ (∃ r, prngReg c r)) := if_neg h

/-- The scratch at anything, as an owned memref. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [live m c 0 t (Or.inl rfl), live m c 1 t (Or.inl rfl), live m c 2 t (Or.inl rfl), live m c 3 t (Or.inl rfl), live m c 4 t (Or.inl rfl), live m c 5 t (Or.inl rfl)]
  obtain ⟨k1, k2, k3, k4⟩ := kinds t
  have hh := headOf_succ t.val
  by_cases h0 : t.val % 12 = 0
  · rw [Phi_first m c _ h0, Phi_later m c (t.val + 1) (by omega)]
    rw [PhiA_eq]
    rw [show rows m c (t.val + 1) = rows m c t.val by unfold rows; rw [hh (by omega)]]
    rw [live m c 6 t (Or.inl ((idle6 t).trans (decide_eq_false (by omega)))), after0_6]
    rw [Dat.leavesExact_idle (dats m 0 c) 7 t ((idle7 t).trans (decide_eq_true (by omega))) ((flush7 t).trans (decide_eq_false (by omega)))]
    rw [Dat.leavesExact_idle (dats m 0 c) 8 t ((idle8 t).trans (decide_eq_true (by omega))) ((flush8 t).trans (decide_eq_false (by omega)))]
    rw [show colsA m c t.val = k0_pay2 (rows m c t.val) (iblk m c 2 t) (iblk m c 3 t) by unfold colsA; rw [colOf_self t (by omega)]]
    rw [show rows m c t.val = k0_pay1 (iblk m c 0 t) (iblk m c 1 t) by unfold rows; rw [headOf_self t h0]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ _ _ (k1.mpr h0) (k2.mpr (by omega)) (fun h => absurd (k3.mp h) (by omega)) (iblk m c 0 t) (iblk m c 1 t) (iblk m c 2 t) (iblk m c 3 t) _)
    isplitl [H0]; · iexact H0
    isplitl [H1]; · iexact H1
    isplitl [H2]; · iexact H2
    isplitl [H3]; · iexact H3
    isplitl [H6]; · iexists _; iexact H6
    isplitl [HS]; · iexact HS
    iintro ⟨H0, H1, H2, H3, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  by_cases h7 : t.val % 12 < 7
  · rw [Phi_later m c _ h0, Phi_later m c (t.val + 1) (by omega)]
    rw [show rows m c (t.val + 1) = rows m c t.val by unfold rows; rw [hh (by omega)]]
    rw [live m c 6 t (Or.inl ((idle6 t).trans (decide_eq_false (by omega)))), after0_6]
    rw [Dat.leavesExact_idle (dats m 0 c) 7 t ((idle7 t).trans (decide_eq_true (by omega))) ((flush7 t).trans (decide_eq_false (by omega)))]
    rw [Dat.leavesExact_idle (dats m 0 c) 8 t ((idle8 t).trans (decide_eq_true (by omega))) ((flush8 t).trans (decide_eq_false (by omega)))]
    rw [show colsA m c t.val = k0_pay2 (rows m c t.val) (iblk m c 2 t) (iblk m c 3 t) by unfold colsA; rw [colOf_self t (by omega)]]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c (grid0.coords t) _ _ _ _ _ _ _ _ _ _ _ _ _ _ _ _ _ _ _ _ (fun h => h0 (k1.mp h)) (k2.mpr h7) (fun h => absurd (k3.mp h) (by omega)) (iblk m c 2 t) (iblk m c 3 t) (rows m c t.val) _)
    isplitl [H2]; · iexact H2
    isplitl [H3]; · iexact H3
    isplitl [H6]; · iexists _; iexact H6
    isplitl [HS]; · iexact HS
    iintro ⟨H2, H3, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  by_cases h11 : t.val % 12 = 11
  · rw [Phi_later m c _ h0, Phi_first m c (t.val + 1) (by omega)]
    rw [PhiA_eq]
    rw [live m c 6 t (Or.inr ((flush6 t).trans (decide_eq_true (by omega)))), after0_6]
    rw [live m c 7 t (Or.inl ((idle7 t).trans (decide_eq_false (by omega)))), after0_7]
    rw [live m c 8 t (Or.inl ((idle8 t).trans (decide_eq_false (by omega)))), after0_8]
    simp only [show ∀ d, (dats m 0 c).before 6 t d = colsA m c t.val from before0_6 m c t.val t.isLt (by omega)]
    unfold colsB
    unfold latent
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_D c (grid0.coords t) _ _ _ _ _ _ _ _ _ _ _ _ _ _ _ _ _ _ _ _ (fun h => h0 (k1.mp h)) (fun h => h7 (k2.mp h)) (k3.mpr (by omega)) (k4.mpr h11) (iblk m c 4 t) (iblk m c 5 t) (rows m c t.val) _)
    isplitl [H4]; · iexact H4
    isplitl [H5]; · iexact H5
    isplitl [H7]; · iexists _; iexact H7
    isplitl [H8]; · iexists _; iexact H8
    isplitl [HS]; · iexact HS
    iintro ⟨H4, H5, H7, H8, HS⟩
    isplitl [HS Hg]
    · isplitl [HS]; · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Phi_later m c _ h0, Phi_later m c (t.val + 1) (by omega)]
    rw [show rows m c (t.val + 1) = rows m c t.val by unfold rows; rw [hh (by omega)]]
    rw [Dat.leavesExact_idle (dats m 0 c) 6 t ((idle6 t).trans (decide_eq_true (by omega))) ((flush6 t).trans (decide_eq_false (by omega)))]
    rw [live m c 7 t (Or.inl ((idle7 t).trans (decide_eq_false (by omega)))), after0_7]
    rw [Dat.leavesExact_idle (dats m 0 c) 8 t ((idle8 t).trans (decide_eq_true (by omega))) ((flush8 t).trans (decide_eq_false (by omega)))]
    unfold colsB
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_C c (grid0.coords t) _ _ _ _ _ _ _ _ _ _ _ _ _ _ _ _ _ _ _ _ (fun h => h0 (k1.mp h)) (fun h => h7 (k2.mp h)) (k3.mpr (by omega)) (fun h => h11 (k4.mp h)) (iblk m c 4 t) (rows m c t.val) _)
    isplitl [H4]; · iexact H4
    isplitl [H7]; · iexists _; iexact H7
    isplitl [HS]; · iexact HS
    iintro ⟨H4, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexists _; iexact H8

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at what the proof data say, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Phi m c 0 from rfl, Phi_first m c 0 rfl])
    (hout := fun c => by rw [show (dats m 0 c).Φ (Fin.last cfg0.N) = Phi m c cfg0.N from rfl, Phi_first m c cfg0.N (by rw [show cfg0.N = 156 from N_0])])

/-- The argument arrays end as they were. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_quiet m ρ))

end Cert.ProjK

end
-- ==== Proof.ProjMath.lean ====
module

public import proofs.«01_k».proof.Proof.FfnMath

/-!
# The layer's input projection, in numbers

Each row is normalised and multiplied by the columns of one wide matrix. The kernel keeps the columns in two arrays of
its own order, padded with zero columns: `srcA` and `srcB` give the column of the wide matrix that each comes from.
-/

@[expose] public section

noncomputable section

open Idealize.ShloMosaic

namespace Cert.Proj

/-- The number of columns of the wide matrix, standing for "no column". -/
abbrev wide : ℕ := 14680

/-- The wide matrix's column that column `C` of the rounded array comes from. -/
def srcA (C : ℕ) : ℕ :=
  if C < 1024 then C
  else if C < 2048 then 1280 + (C - 1024)
  else if C < 3072 then 2384 + (C - 2048)
  else if C < 4096 then 3408 + (C - 3072)
  else if C < 5120 then 4432 + (C - 4096)
  else if C < 6144 then 6488 + (C - 5120)
  else if C < 6208 then 2304 + (C - 6144)
  else wide

/-- Where column `C` of a rotated pair of halves comes from: eight heads of two halves of 32, the halves outermost. -/
def rot (C : ℕ) : ℕ := C / 32 % 8 * 64 + C / 256 * 32 + C % 32

/-- The wide matrix's column that column `C` of the other array comes from. -/
def srcB (C : ℕ) : ℕ :=
  if C < 512 then 5464 + rot C
  else if C < 1024 then 5976 + rot (C - 512)
  else if C < 2048 then 7512 + (C - 1024)
  else if C < 2304 then 1024 + (C - 2048)
  else if C < 2320 then 2368 + (C - 2304)
  else if C < 2328 then 5456 + (C - 2320)
  else wide

/-! Each piece of the two orders. -/

theorem srcA_0 (C : ℕ) (h : 0 ≤ C) (h' : C < 1024) : srcA C = C := by
  unfold srcA; rw [if_pos (by omega)]
theorem srcA_1 (C : ℕ) (h : 1024 ≤ C) (h' : C < 2048) : srcA C = 1280 + (C - 1024) := by
  unfold srcA; rw [if_neg (by omega), if_pos (by omega)]
theorem srcA_2 (C : ℕ) (h : 2048 ≤ C) (h' : C < 3072) : srcA C = 2384 + (C - 2048) := by
  unfold srcA; rw [if_neg (by omega), if_neg (by omega), if_pos (by omega)]
theorem srcA_3 (C : ℕ) (h : 3072 ≤ C) (h' : C < 4096) : srcA C = 3408 + (C - 3072) := by
  unfold srcA; rw [if_neg (by omega), if_neg (by omega), if_neg (by omega), if_pos (by omega)]
theorem srcA_4 (C : ℕ) (h : 4096 ≤ C) (h' : C < 5120) : srcA C = 4432 + (C - 4096) := by
  unfold srcA; rw [if_neg (by omega), if_neg (by omega), if_neg (by omega), if_neg (by omega), if_pos (by omega)]
theorem srcA_5 (C : ℕ) (h : 5120 ≤ C) (h' : C < 6144) : srcA C = 6488 + (C - 5120) := by
  unfold srcA; rw [if_neg (by omega), if_neg (by omega), if_neg (by omega), if_neg (by omega), if_neg (by omega), if_pos (by omega)]
theorem srcA_6 (C : ℕ) (h : 6144 ≤ C) (h' : C < 6208) : srcA C = 2304 + (C - 6144) := by
  unfold srcA; rw [if_neg (by omega), if_neg (by omega), if_neg (by omega), if_neg (by omega), if_neg (by omega), if_neg (by omega), if_pos (by omega)]
theorem srcA_7 (C : ℕ) (h : 6208 ≤ C) : srcA C = wide := by
  unfold srcA; rw [if_neg (by omega), if_neg (by omega), if_neg (by omega), if_neg (by omega), if_neg (by omega), if_neg (by omega), if_neg (by omega)]

theorem srcB_0 (C : ℕ) (h : 0 ≤ C) (h' : C < 512) : srcB C = 5464 + rot C := by
  unfold srcB; rw [if_pos (by omega)]
theorem srcB_1 (C : ℕ) (h : 512 ≤ C) (h' : C < 1024) : srcB C = 5976 + rot (C - 512) := by
  unfold srcB; rw [if_neg (by omega), if_pos (by omega)]
theorem srcB_2 (C : ℕ) (h : 1024 ≤ C) (h' : C < 2048) : srcB C = 7512 + (C - 1024) := by
  unfold srcB; rw [if_neg (by omega), if_neg (by omega), if_pos (by omega)]
theorem srcB_3 (C : ℕ) (h : 2048 ≤ C) (h' : C < 2304) : srcB C = 1024 + (C - 2048) := by
  unfold srcB; rw [if_neg (by omega), if_neg (by omega), if_neg (by omega), if_pos (by omega)]
theorem srcB_4 (C : ℕ) (h : 2304 ≤ C) (h' : C < 2320) : srcB C = 2368 + (C - 2304) := by
  unfold srcB; rw [if_neg (by omega), if_neg (by omega), if_neg (by omega), if_neg (by omega), if_pos (by omega)]
theorem srcB_5 (C : ℕ) (h : 2320 ≤ C) (h' : C < 2328) : srcB C = 5456 + (C - 2320) := by
  unfold srcB; rw [if_neg (by omega), if_neg (by omega), if_neg (by omega), if_neg (by omega), if_neg (by omega), if_pos (by omega)]
theorem srcB_6 (C : ℕ) (h : 2328 ≤ C) : srcB C = wide := by
  unfold srcB; rw [if_neg (by omega), if_neg (by omega), if_neg (by omega), if_neg (by omega), if_neg (by omega), if_neg (by omega)]

/-- The factor of column `C` of the rounded array: the scores' scale on the queries that take it, else one. -/
def factor (C : ℕ) : EReal :=
  if 2048 ≤ C ∧ C < 3072 then Ideal.ofBits FTy.f32 0x3E0293EE#32 else 1

/-- Entry `k` of a row of the wide matrix, zero where there is no column. -/
def entry (w : Fin 14680 → EReal) (k : ℕ) : EReal := if h : k < 14680 then w ⟨k, h⟩ else 0

theorem entry_of_lt (w : Fin 14680 → EReal) {k : ℕ} (h : k < 14680) : entry w k = w ⟨k, h⟩ := dif_pos h
theorem entry_wide (w : Fin 14680 → EReal) : entry w wide = 0 := dif_neg (by decide)

/-- The row `n` times column `k` of the matrix `w`. -/
def col (n : Fin 2048 → EReal) (w : Fin 2048 → Fin 14680 → EReal) (k : ℕ) : EReal := ∑ e : Fin 2048, n e * entry (w e) k

theorem col_of_lt (n : Fin 2048 → EReal) (w : Fin 2048 → Fin 14680 → EReal) {k : ℕ} (h : k < 14680) :
    col n w k = ∑ e : Fin 2048, n e * w e ⟨k, h⟩ := by
  unfold col
  exact Finset.sum_congr rfl fun e _ => by rw [entry_of_lt _ h]

theorem col_wide (n : Fin 2048 → EReal) (w : Fin 2048 → Fin 14680 → EReal) : col n w wide = 0 := by
  unfold col
  exact Finset.sum_eq_zero fun e _ => by rw [entry_wide, mul_zero]

/-- Entry `d` of a latent row over its root mean square, times the gain. -/
def normedLatent (x g : Fin 256 → EReal) (d : Fin 256) : EReal :=
  x d * Ideal.rsqrt (Ideal.div (∑ e, x e * x e) (Ideal.ofBits FTy.f32 0x43800000#32) + Ideal.ofBits FTy.f32 0x358637BD#32) * g d

end Cert.Proj
-- ==== Proof.ProjHost.lean ====
module

public import proofs.«01_k».proof.Proof.ProjLaunch
public import proofs.«01_k».proof.Proof.ProjMath
public import Idealize.ShloMosaic.Lib.Pointwise
public import Idealize.ShloMosaic.Lib.StableHlo.ReadAt

/-!
# The arrays the projection kernel is given

The host code reorders the columns of the wide matrix into two arrays and pads them; here each entry of those arrays,
and of the small ones, is found in the arguments.
-/

@[expose] public section

set_option maxRecDepth 16384

noncomputable section

open Idealize.ShloMosaic Idealize.ShloMosaic.TcCoe Idealize.SL.Sem

namespace Cert.ProjK

open Cert.KernelProjIdeal Cert.KernelProjIdeal.Gen Cert.Proj Cert.Ffn

variable (m : (ℓ : Loc nD τ sig) → Buf (Elt Ideal) ℓ) (c : Dev nD)

/-- The four argument arrays, as numbers. -/
abbrev argX : FVec Ideal S16640x2048 .f32 := m (c.tc.loc main_arg0)
abbrev argG : FVec Ideal S2048 .f32 := m (c.tc.loc main_arg1)
abbrev argW : FVec Ideal S2048x14680 .f32 := m (c.tc.loc main_arg2)
abbrev argL : FVec Ideal S256 .f32 := m (c.tc.loc main_arg3)

/-- The column factors as they are written down: the scores' scale on 1024 columns, one elsewhere. -/
theorem lit_eq : ∀ i : Fin 6272, lit0 i = if 2048 ≤ i.val ∧ i.val < 3072 then 0x3E0293EE#32 else 0x3F800000#32 := by
  decide +kernel

theorem gain_at (e : Fin 2048) : (V m c main_v26 : FVec Ideal S1x2048 .f32) (ix2 0 e) = argG m c (ix1 e) := by
  unfold V; after_reads_at

theorem latentGain_at (e : Fin 256) : (V m c main_v28 : FVec Ideal S1x256 .f32) (ix2 0 e) = argL m c (ix1 e) := by
  unfold V; after_reads_at

theorem scale_at (C : Fin 6272) : (V m c main_v27 : FVec Ideal S1x6272 .f32) (ix2 0 C) = factor C.val := by
  unfold V; after_reads_at
  rw [show S6272.rowMajor (ix1 C) = C from Fin.ext (Shape.rowMajor_val_one _), lit_eq]
  unfold factor
  split_ifs
  · rfl
  · exact Ideal.ofBits_one_f32

set_option maxHeartbeats 4000000 in
theorem wA_at (e : Fin 2048) (C : Fin 6272) :
    (V m c main_v9 : FVec Ideal S2048x6272 .bf16) (ix2 e C) = entry (fun k => argW m c (ix2 e k)) (srcA C.val) := by
  have hC := C.isLt
  unfold V; after_reads_at
  after_reads_at
  by_cases h0 : C.val < 1024
  · refine Eq.trans ?_ (congrArg (entry (fun k => argW m c (ix2 e k))) (srcA_0 C.val (by omega) (by omega))).symm
    refine (dif_pos (by omega)).trans ?_
    refine Eq.trans ?_ (entry_of_lt _ (by omega)).symm
    exact congrArg (fun k : Fin 14680 => argW m c (ix2 e k)) (Fin.ext (by dsimp only <;> omega))
  by_cases h1 : C.val < 2048
  · refine Eq.trans ?_ (congrArg (entry (fun k => argW m c (ix2 e k))) (srcA_1 C.val (by omega) (by omega))).symm
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h2 : C.val < 3072
  · refine Eq.trans ?_ (congrArg (entry (fun k => argW m c (ix2 e k))) (srcA_2 C.val (by omega) (by omega))).symm
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h3 : C.val < 4096
  · refine Eq.trans ?_ (congrArg (entry (fun k => argW m c (ix2 e k))) (srcA_3 C.val (by omega) (by omega))).symm
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h4 : C.val < 5120
  · refine Eq.trans ?_ (congrArg (entry (fun k => argW m c (ix2 e k))) (srcA_4 C.val (by omega) (by omega))).symm
    refine (dif_neg (by omega)).trans ?_
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h5 : C.val < 6144
  · refine Eq.trans ?_ (congrArg (entry (fun k => argW m c (ix2 e k))) (srcA_5 C.val (by omega) (by omega))).symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h6 : C.val < 6208
  · refine Eq.trans ?_ (congrArg (entry (fun k => argW m c (ix2 e k))) (srcA_6 C.val (by omega) (by omega))).symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  refine Eq.trans ?_ (congrArg (entry (fun k => argW m c (ix2 e k))) (srcA_7 C.val (by omega))).symm
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine Eq.trans ?_ (entry_wide _).symm
  first | rfl | exact ite_self _

set_option maxHeartbeats 4000000 in
theorem wB_at (e : Fin 2048) (C : Fin 2560) :
    (V m c main_v24 : FVec Ideal S2048x2560 .bf16) (ix2 e C) = entry (fun k => argW m c (ix2 e k)) (srcB C.val) := by
  have hC := C.isLt
  unfold V; after_reads_at
  after_reads_at
  by_cases h0 : C.val < 512
  · refine Eq.trans ?_ (congrArg (entry (fun k => argW m c (ix2 e k))) (srcB_0 C.val (by omega) (by omega))).symm
    refine (dif_pos (by omega)).trans ?_
    refine Eq.trans ?_ (entry_of_lt _ (by unfold rot; omega)).symm
    exact congrArg (fun k : Fin 14680 => argW m c (ix2 e k)) (Fin.ext (by rfl))
  by_cases h1 : C.val < 1024
  · refine Eq.trans ?_ (congrArg (entry (fun k => argW m c (ix2 e k))) (srcB_1 C.val (by omega) (by omega))).symm
    refine (dif_neg (by omega)).trans ?_
    refine (dif_pos (by omega)).trans ?_
    refine Eq.trans ?_ (entry_of_lt _ (by unfold rot; omega)).symm
    exact congrArg (fun k : Fin 14680 => argW m c (ix2 e k)) (Fin.ext (by rfl))
  by_cases h2 : C.val < 2048
  · refine Eq.trans ?_ (congrArg (entry (fun k => argW m c (ix2 e k))) (srcB_2 C.val (by omega) (by omega))).symm
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h3 : C.val < 2304
  · refine Eq.trans ?_ (congrArg (entry (fun k => argW m c (ix2 e k))) (srcB_3 C.val (by omega) (by omega))).symm
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h4 : C.val < 2320
  · refine Eq.trans ?_ (congrArg (entry (fun k => argW m c (ix2 e k))) (srcB_4 C.val (by omega) (by omega))).symm
    refine (dif_neg (by omega)).trans ?_
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  by_cases h5 : C.val < 2328
  · refine Eq.trans ?_ (congrArg (entry (fun k => argW m c (ix2 e k))) (srcB_5 C.val (by omega) (by omega))).symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (entry_of_lt _ (by omega)).symm
    exact congrArg (fun k : Fin 14680 => argW m c (ix2 e k)) (Fin.ext (by dsimp only <;> omega))
  refine Eq.trans ?_ (congrArg (entry (fun k => argW m c (ix2 e k))) (srcB_6 C.val (by omega))).symm
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine Eq.trans ?_ (entry_wide _).symm
  first | rfl | exact ite_self _

end Cert.ProjK
-- ==== Proof.ProjArray.lean ====
module

public import proofs.«01_k».proof.Proof.ProjHost
public import Idealize.ShloMosaic.Lib.Pipeline.Value

/-!
# What the projection kernel's three result arrays hold

Every block that is written back holds, entry by entry, the products of `ProjMath`; the blocks of the points that write
back cover the arrays.
-/

@[expose] public section

set_option maxRecDepth 16384

noncomputable section

open Idealize.ShloMosaic Idealize.ShloMosaic.TcCoe Idealize.SL.Sem
open Idealize.ShloMosaic.Pipeline (Dat)

namespace Cert.ProjK

open Cert.KernelProjIdeal Cert.KernelProjIdeal.Gen Cert.Proj Cert.Ffn

/-! ## The payloads, at an entry -/

theorem pay1_at (x : Vec Ideal S1280x2048 .f32) (g : Vec Ideal S1x2048 .f32) (r : Fin 1280) (d : Fin 2048) :
    k0_pay1 (F := Ideal) x g (ix2 r d) = normed (fun e => x (ix2 r e)) (fun e => g (ix2 0 e)) d := by
  pointwise [k0_pay1]
  rfl

theorem pay2_at (n : Vec Ideal S1280x2048 .bf16) (w : Vec Ideal S2048x896 .bf16) (s : Vec Ideal S1x896 .f32) (r : Fin 1280) (d : Fin 896) :
    k0_pay2 (F := Ideal) n w s (ix2 r d) = (∑ e : Fin 2048, n (ix2 r e) * w (ix2 e d)) * s (ix2 0 d) := by
  pointwise [k0_pay2]

theorem pay3_at (n : Vec Ideal S1280x2048 .bf16) (w : Vec Ideal S2048x512 .bf16) (r : Fin 1280) (d : Fin 512) :
    k0_pay3 (F := Ideal) n w (ix2 r d) = ∑ e : Fin 2048, n (ix2 r e) * w (ix2 e d) := by
  pointwise [k0_pay3]

theorem pay4_at (n : Vec Ideal S1280x2048 .bf16) (w : Vec Ideal S2048x512 .bf16) (g : Vec Ideal S1x256 .f32) (r : Fin 1280) (d : Fin 256) :
    k0_pay4 (F := Ideal) n w g (ix2 r d)
      = normedLatent (fun k => k0_pay3 (F := Ideal) n w (ix2 r ⟨k.val, by have := k.isLt; omega⟩)) (fun k => g (ix2 0 k)) d := by
  generalize hp : k0_pay3 (F := Ideal) n w = p
  unfold k0_pay4
  rw [hp]
  pointwise
  rfl

/-! ## The input blocks, at an entry of their arrays -/

variable (m : (ℓ : Loc nD τ sig) → Buf (Elt Ideal) ℓ) (c : Dev nD)

theorem index_facts : ∀ t : Fin cfg0.N,
    (win0_0.index t 0 = t.val / 12 ∧ win0_0.index t 1 = 0) ∧ (win0_1.index t 0 = 0 ∧ win0_1.index t 1 = 0)
    ∧ (win0_2.index t 0 = 0 ∧ win0_2.index t 1 = min (t.val % 12) 6) ∧ (win0_3.index t 0 = 0 ∧ win0_3.index t 1 = min (t.val % 12) 6)
    ∧ (win0_4.index t 0 = 0 ∧ win0_4.index t 1 = t.val % 12 - 7) ∧ (win0_5.index t 0 = 0 ∧ win0_5.index t 1 = 0) :=
  (by decide +kernel : ∀ t : Fin grid0.N, _)

theorem out_facts : ∀ t : Fin cfg0.N,
    (win0_6.index t 0 = t.val / 12 ∧ win0_6.index t 1 = min (t.val % 12) 6)
    ∧ (win0_7.index t 0 = t.val / 12 ∧ win0_7.index t 1 = t.val % 12 - 7)
    ∧ (win0_8.index t 0 = t.val / 12 ∧ win0_8.index t 1 = 0) :=
  (by decide +kernel : ∀ t : Fin grid0.N, _)

theorem row_at (t : Fin cfg0.N) (r : Fin 1280) (e : Fin 2048) (R : Fin 16640) (hR : R.val = 1280 * (t.val / 12) + r.val) :
    (iblk m c 0 t : Vec Ideal S1280x2048 .f32) (ix2 r e) = argX m c (ix2 R e) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 1280 + 1 * r.val = R.val; rw [hi.1]; omega
  | ⟨1, _⟩ => show win0_0.index t 1 * 2048 + 1 * e.val = e.val; rw [hi.2]; omega

theorem gainBlk_at (t : Fin cfg0.N) (e : Fin 2048) :
    (iblk m c 1 t : Vec Ideal S1x2048 .f32) (ix2 0 e) = argG m c (ix1 e) := by
  have hi := (index_facts t).2.1
  rw [← gain_at m c]
  unfold iblk
  rw [View.read_apply]
  show V m c main_v26 _ = V m c main_v26 _
  congr 1
  funext a
  apply Fin.ext
  match a with
  | ⟨0, _⟩ => show win0_1.index t 0 * 1 + 1 * 0 = 0; rw [hi.1]
  | ⟨1, _⟩ => show win0_1.index t 1 * 2048 + 1 * e.val = e.val; rw [hi.2]; omega

theorem wABlk_at (t : Fin cfg0.N) (e : Fin 2048) (l : Fin 896) (C : Fin 6272) (hC : C.val = 896 * min (t.val % 12) 6 + l.val) :
    (iblk m c 2 t : Vec Ideal S2048x896 .bf16) (ix2 e l) = entry (fun k => argW m c (ix2 e k)) (srcA C.val) := by
  have hi := (index_facts t).2.2.1
  rw [← wA_at m c]
  unfold iblk
  rw [View.read_apply]
  show V m c main_v9 _ = V m c main_v9 _
  congr 1
  funext a
  apply Fin.ext
  match a with
  | ⟨0, _⟩ => show win0_2.index t 0 * 2048 + 1 * e.val = e.val; rw [hi.1]; omega
  | ⟨1, _⟩ => show win0_2.index t 1 * 896 + 1 * l.val = C.val; rw [hi.2]; omega

theorem scaleBlk_at (t : Fin cfg0.N) (l : Fin 896) (C : Fin 6272) (hC : C.val = 896 * min (t.val % 12) 6 + l.val) :
    (iblk m c 3 t : Vec Ideal S1x896 .f32) (ix2 0 l) = factor C.val := by
  have hi := (index_facts t).2.2.2.1
  rw [← scale_at m c]
  unfold iblk
  rw [View.read_apply]
  show V m c main_v27 _ = V m c main_v27 _
  congr 1
  funext a
  apply Fin.ext
  match a with
  | ⟨0, _⟩ => show win0_3.index t 0 * 1 + 1 * 0 = 0; rw [hi.1]
  | ⟨1, _⟩ => show win0_3.index t 1 * 896 + 1 * l.val = C.val; rw [hi.2]; omega

theorem wBBlk_at (t : Fin cfg0.N) (e : Fin 2048) (l : Fin 512) (C : Fin 2560) (hC : C.val = 512 * (t.val % 12 - 7) + l.val) :
    (iblk m c 4 t : Vec Ideal S2048x512 .bf16) (ix2 e l) = entry (fun k => argW m c (ix2 e k)) (srcB C.val) := by
  have hi := (index_facts t).2.2.2.2.1
  rw [← wB_at m c]
  unfold iblk
  rw [View.read_apply]
  show V m c main_v24 _ = V m c main_v24 _
  congr 1
  funext a
  apply Fin.ext
  match a with
  | ⟨0, _⟩ => show win0_4.index t 0 * 2048 + 1 * e.val = e.val; rw [hi.1]; omega
  | ⟨1, _⟩ => show win0_4.index t 1 * 512 + 1 * l.val = C.val; rw [hi.2]; omega

theorem latentBlk_at (t : Fin cfg0.N) (e : Fin 256) :
    (iblk m c 5 t : Vec Ideal S1x256 .f32) (ix2 0 e) = argL m c (ix1 e) := by
  have hi := (index_facts t).2.2.2.2.2
  rw [← latentGain_at m c]
  unfold iblk
  rw [View.read_apply]
  show V m c main_v28 _ = V m c main_v28 _
  congr 1
  funext a
  apply Fin.ext
  match a with
  | ⟨0, _⟩ => show win0_5.index t 0 * 1 + 1 * 0 = 0; rw [hi.1]
  | ⟨1, _⟩ => show win0_5.index t 1 * 256 + 1 * e.val = e.val; rw [hi.2]; omega

/-! ## The numbers the arrays should hold -/

/-- Row `R` of the argument, normalised. -/
def rowN (R : Fin 16640) (e : Fin 2048) : EReal := normed (fun e => argX m c (ix2 R e)) (fun e => argG m c (ix1 e)) e
/-- The wide matrix. -/
abbrev mat (e : Fin 2048) (k : Fin 14680) : EReal := argW m c (ix2 e k)
/-- The latent row `R`. -/
def latentRow (R : Fin 16640) (d : Fin 256) : EReal :=
  normedLatent (fun k => col (rowN m c R) (mat m c) (1024 + k.val)) (fun k => argL m c (ix1 k)) d

theorem headOf_div (n : ℕ) (h : n < 156) : (headOf n).val / 12 = n / 12 := by
  show 12 * (n / 12) % 156 / 12 = n / 12; omega
theorem colOf_div (n : ℕ) (h : n < 156) : (colOf n).val % 12 = min (n % 12) 6 := by
  show (12 * (n / 12) + min (n % 12) 6) % 156 % 12 = _; omega

theorem rows_at (n : ℕ) (h : n < 156) (r : Fin 1280) (e : Fin 2048) (R : Fin 16640) (hR : R.val = 1280 * (n / 12) + r.val) :
    rows m c n (ix2 r e) = rowN m c R e := by
  unfold rows rowN
  rw [pay1_at]
  exact congrArg₂ (fun a b => normed a b e) (funext fun k => row_at m c _ r k R (by rw [headOf_div n h]; exact hR))
    (funext fun k => gainBlk_at m c _ k)

theorem colsA_at (t : Fin cfg0.N) (r : Fin 1280) (l : Fin 896) (R : Fin 16640) (C : Fin 6272)
    (hR : R.val = 1280 * (t.val / 12) + r.val) (hC : C.val = 896 * min (t.val % 12) 6 + l.val) :
    colsA m c t.val (ix2 r l) = col (rowN m c R) (mat m c) (srcA C.val) * factor C.val := by
  have ht : t.val < 156 := lt_of_lt_of_eq t.isLt N_0
  have hC' : C.val = 896 * min ((colOf t.val).val % 12) 6 + l.val := by rw [colOf_div _ ht]; omega
  unfold colsA
  generalize colOf t.val = k at hC'
  refine (pay2_at _ _ _ r l).trans ?_
  unfold col
  exact congrArg₂ (· * ·) (Finset.sum_congr rfl fun e _ => congrArg₂ (· * ·) (rows_at m c t.val ht r e R hR) (wABlk_at m c k e l C hC'))
    (scaleBlk_at m c k l C hC')

theorem colsB_at (t : Fin cfg0.N) (r : Fin 1280) (l : Fin 512) (R : Fin 16640) (C : Fin 2560)
    (hR : R.val = 1280 * (t.val / 12) + r.val) (hC : C.val = 512 * (t.val % 12 - 7) + l.val) :
    colsB m c t (ix2 r l) = col (rowN m c R) (mat m c) (srcB C.val) := by
  have ht : t.val < 156 := lt_of_lt_of_eq t.isLt N_0
  unfold colsB
  refine (pay3_at _ _ r l).trans ?_
  unfold col
  exact Finset.sum_congr rfl fun e _ => congrArg₂ (· * ·) (rows_at m c t.val ht r e R hR) (wBBlk_at m c t e l C hC)

theorem latent_at (t : Fin cfg0.N) (hj : t.val % 12 = 11) (r : Fin 1280) (d : Fin 256) (R : Fin 16640) (C : Fin 256)
    (hR : R.val = 1280 * (t.val / 12) + r.val) (hC : C.val = 256 * 0 + d.val) : latent m c t (ix2 r d) = latentRow m c R C := by
  obtain rfl : C = d := Fin.ext (by omega)
  unfold latent latentRow
  refine (pay4_at _ _ _ r C).trans ?_
  refine congrArg₂ (fun a b => normedLatent a b C) (funext fun k => ?_) (funext fun k => latentBlk_at m c t k)
  have hk := k.isLt
  have h := colsB_at m c t r ⟨k.val, by omega⟩ R ⟨2048 + k.val, by omega⟩ hR (by dsimp only; omega)
  unfold colsB at h
  refine h.trans (congrArg _ ?_)
  rw [srcB_3 _ (by dsimp only; omega) (by dsimp only; omega)]
  dsimp only
  omega

/-! ## The result arrays -/

/-- The three result arrays after the run. -/
def outA : FVec Ideal S16640x6272 .bf16 := (dats m 0 c).arrAt 6 cfg0.N
def outB : FVec Ideal S16640x2560 .f32 := (dats m 0 c).arrAt 7 cfg0.N
def outL : FVec Ideal S16640x256 .bf16 := (dats m 0 c).arrAt 8 cfg0.N

theorem outA_at (R : Fin 16640) (C : Fin 6272) : outA m c (ix2 R C) = col (rowN m c R) (mat m c) (srcA C.val) * factor C.val := by
  refine Dat.arrAt_forall_of_cover (dats m 0 c) 6
    (fun i v => (v : EReal) = col (rowN m c (i 0)) (mat m c) (srcA (i 1).val) * factor (i 1).val) ?_ ?_ (ix2 R C)
  · intro t hf y
    have ht : t.val < 156 := lt_of_lt_of_eq t.isLt N_0
    have hi := (out_facts t).1
    have hf' := of_decide_eq_true ((flush6 t).symm.trans hf)
    have hy0 : (y 0).val < 1280 := (y 0).isLt
    have hy1 : (y 1).val < 896 := (y 1).isLt
    have e0 : (((cfg0.win 6).blk t).view.emb y 0).val = 1280 * (t.val / 12) + (y 0).val := by
      show win0_6.index t 0 * 1280 + 1 * (y 0).val = _; rw [hi.1]; omega
    have e1 : (((cfg0.win 6).blk t).view.emb y 1).val = 896 * (min (t.val % 12) 6) + (y 1).val := by
      show win0_6.index t 1 * 896 + 1 * (y 1).val = _; rw [hi.2]; omega
    rw [eq_ix2 y] at e0 e1 ⊢
    exact colsA_at m c t (y 0) (y 1) _ _ e0 e1
  · intro i
    have hR : (i 0).val < 16640 := (i 0).isLt
    have hC : (i 1).val < 6272 := (i 1).isLt
    obtain ⟨j, hj, hjf, hjc⟩ : ∃ j : ℕ, j < 12 ∧ (j < 6 ∨ j = 11) ∧ min (j) 6 = (i 1).val / 896 := by
      by_cases h : (i 1).val / 896 < 6
      · exact ⟨(i 1).val / 896, by omega, Or.inl h, by omega⟩
      · exact ⟨11, by omega, Or.inr rfl, by omega⟩
    obtain ⟨t, ht⟩ : ∃ t : Fin cfg0.N, t.val = 12 * ((i 0).val / 1280) + j :=
      ⟨⟨_, lt_of_lt_of_eq (by omega : 12 * ((i 0).val / 1280) + j < 156) N_0.symm⟩, rfl⟩
    have htj : t.val % 12 = j := by omega
    have htd : t.val / 12 = (i 0).val / 1280 := by omega
    have hi := (out_facts t).1
    refine ⟨t, (flush6 t).trans (decide_eq_true (by rw [htj]; exact hjf)), ?_⟩
    have hx : ((cfg0.win 6).blk t).view.emb (ix2 (⟨(i 0).val % 1280, Nat.mod_lt _ (by decide)⟩ : Fin 1280) (⟨(i 1).val % 896, Nat.mod_lt _ (by decide)⟩ : Fin 896)) = i := by
      funext a
      apply Fin.ext
      match a with
      | ⟨0, _⟩ => show win0_6.index t 0 * 1280 + 1 * ((i 0).val % 1280) = (i 0).val; rw [hi.1, htd]; omega
      | ⟨1, _⟩ => show win0_6.index t 1 * 896 + 1 * ((i 1).val % 896) = (i 1).val; rw [hi.2]; rw [htj, hjc]; omega
    rw [← hx]
    exact View.emb_mem_set _ _

theorem outB_at (R : Fin 16640) (C : Fin 2560) : outB m c (ix2 R C) = col (rowN m c R) (mat m c) (srcB C.val) := by
  refine Dat.arrAt_forall_of_cover (dats m 0 c) 7
    (fun i v => (v : EReal) = col (rowN m c (i 0)) (mat m c) (srcB (i 1).val)) ?_ ?_ (ix2 R C)
  · intro t hf y
    have ht : t.val < 156 := lt_of_lt_of_eq t.isLt N_0
    have hi := (out_facts t).2.1
    have hf' := of_decide_eq_true ((flush7 t).symm.trans hf)
    have hy0 : (y 0).val < 1280 := (y 0).isLt
    have hy1 : (y 1).val < 512 := (y 1).isLt
    have e0 : (((cfg0.win 7).blk t).view.emb y 0).val = 1280 * (t.val / 12) + (y 0).val := by
      show win0_7.index t 0 * 1280 + 1 * (y 0).val = _; rw [hi.1]; omega
    have e1 : (((cfg0.win 7).blk t).view.emb y 1).val = 512 * (t.val % 12 - 7) + (y 1).val := by
      show win0_7.index t 1 * 512 + 1 * (y 1).val = _; rw [hi.2]; omega
    rw [eq_ix2 y] at e0 e1 ⊢
    exact colsB_at m c t (y 0) (y 1) _ _ e0 e1
  · intro i
    have hR : (i 0).val < 16640 := (i 0).isLt
    have hC : (i 1).val < 2560 := (i 1).isLt
    obtain ⟨j, hj, hjf, hjc⟩ : ∃ j : ℕ, j < 12 ∧ (7 ≤ j) ∧ j - 7 = (i 1).val / 512 := by
      exact ⟨7 + (i 1).val / 512, by omega, by omega, by omega⟩
    obtain ⟨t, ht⟩ : ∃ t : Fin cfg0.N, t.val = 12 * ((i 0).val / 1280) + j :=
      ⟨⟨_, lt_of_lt_of_eq (by omega : 12 * ((i 0).val / 1280) + j < 156) N_0.symm⟩, rfl⟩
    have htj : t.val % 12 = j := by omega
    have htd : t.val / 12 = (i 0).val / 1280 := by omega
    have hi := (out_facts t).2.1
    refine ⟨t, (flush7 t).trans (decide_eq_true (by rw [htj]; exact hjf)), ?_⟩
    have hx : ((cfg0.win 7).blk t).view.emb (ix2 (⟨(i 0).val % 1280, Nat.mod_lt _ (by decide)⟩ : Fin 1280) (⟨(i 1).val % 512, Nat.mod_lt _ (by decide)⟩ : Fin 512)) = i := by
      funext a
      apply Fin.ext
      match a with
      | ⟨0, _⟩ => show win0_7.index t 0 * 1280 + 1 * ((i 0).val % 1280) = (i 0).val; rw [hi.1, htd]; omega
      | ⟨1, _⟩ => show win0_7.index t 1 * 512 + 1 * ((i 1).val % 512) = (i 1).val; rw [hi.2]; rw [htj, hjc]; omega
    rw [← hx]
    exact View.emb_mem_set _ _

theorem outL_at (R : Fin 16640) (C : Fin 256) : outL m c (ix2 R C) = latentRow m c R C := by
  refine Dat.arrAt_forall_of_cover (dats m 0 c) 8
    (fun i v => (v : EReal) = latentRow m c (i 0) (i 1)) ?_ ?_ (ix2 R C)
  · intro t hf y
    have ht : t.val < 156 := lt_of_lt_of_eq t.isLt N_0
    have hi := (out_facts t).2.2
    have hf' := of_decide_eq_true ((flush8 t).symm.trans hf)
    have hy0 : (y 0).val < 1280 := (y 0).isLt
    have hy1 : (y 1).val < 256 := (y 1).isLt
    have e0 : (((cfg0.win 8).blk t).view.emb y 0).val = 1280 * (t.val / 12) + (y 0).val := by
      show win0_8.index t 0 * 1280 + 1 * (y 0).val = _; rw [hi.1]; omega
    have e1 : (((cfg0.win 8).blk t).view.emb y 1).val = 256 * (0) + (y 1).val := by
      show win0_8.index t 1 * 256 + 1 * (y 1).val = _; rw [hi.2]; omega
    rw [eq_ix2 y] at e0 e1 ⊢
    exact latent_at m c t hf' (y 0) (y 1) _ _ e0 e1
  · intro i
    have hR : (i 0).val < 16640 := (i 0).isLt
    have hC : (i 1).val < 256 := (i 1).isLt
    obtain ⟨j, hj, hjf, hjc⟩ : ∃ j : ℕ, j < 12 ∧ (j = 11) ∧ 0 = (i 1).val / 256 := by
      exact ⟨11, by omega, rfl, by omega⟩
    obtain ⟨t, ht⟩ : ∃ t : Fin cfg0.N, t.val = 12 * ((i 0).val / 1280) + j :=
      ⟨⟨_, lt_of_lt_of_eq (by omega : 12 * ((i 0).val / 1280) + j < 156) N_0.symm⟩, rfl⟩
    have htj : t.val % 12 = j := by omega
    have htd : t.val / 12 = (i 0).val / 1280 := by omega
    have hi := (out_facts t).2.2
    refine ⟨t, (flush8 t).trans (decide_eq_true (by rw [htj]; exact hjf)), ?_⟩
    have hx : ((cfg0.win 8).blk t).view.emb (ix2 (⟨(i 0).val % 1280, Nat.mod_lt _ (by decide)⟩ : Fin 1280) (⟨(i 1).val % 256, Nat.mod_lt _ (by decide)⟩ : Fin 256)) = i := by
      funext a
      apply Fin.ext
      match a with
      | ⟨0, _⟩ => show win0_8.index t 0 * 1280 + 1 * ((i 0).val % 1280) = (i 0).val; rw [hi.1, htd]; omega
      | ⟨1, _⟩ => show win0_8.index t 1 * 256 + 1 * ((i 1).val % 256) = (i 1).val; rw [hi.2]; omega
    rw [← hx]
    exact View.emb_mem_set _ _

end Cert.ProjK
-- ==== Proof.ProjReference.lean ====
module

public import proofs.«01_k».proof.Proof.Gen.ReferenceProjIdeal.Run
public import proofs.«01_k».proof.Proof.ProjMath

/-!
# What the reference's input projection computes

The reference normalises the rows, multiplies them by the wide matrix once, and cuts the product's columns apart. Its
lines are read here at an entry as the numbers of `ProjMath`.
-/

@[expose] public section

set_option maxRecDepth 16384

noncomputable section

open Idealize.ShloMosaic Idealize.ShloMosaic.TcCoe Idealize.SL.Sem

namespace Cert.ProjR

open Cert.ReferenceProjIdeal Cert.ReferenceProjIdeal.Value Cert.Ffn Cert.Proj

/-- Every row of `x` normalised, with gain `g`. -/
def normArr (x : FVec Ideal S16640x2048 .f32) (g : FVec Ideal S2048 .f32) : FVec Ideal S16640x2048 .f32 :=
  mulf (mulf x (broadcastInDim S16640x2048 ![0, 1] Gen.bcast_S16640x1_S16640x2048_0_1
      (Host.rsqrt (addf
        (Host.divf (broadcastInDim S16640x1 ![0] Gen.bcast_S16640_S16640x1_0
            (Host.reduceAdd (mulf x x) (constant S_ FTy.f32 0x00000000#32) Gen.reducesTo_S16640x2048_S16640_d1 Gen.h_S_))
          (broadcastInDim S16640x1 ![] Gen.bcast_S_S16640x1 (constant S_ FTy.f32 0x45000000#32)))
        (broadcastInDim S16640x1 ![] Gen.bcast_S_S16640x1 (constant S_ FTy.f32 0x358637BD#32))))))
    (broadcastInDim S16640x2048 ![0, 1] Gen.bcast_S1x2048_S16640x2048_0_1
      (broadcastInDim S1x2048 ![1] Gen.bcast_S2048_S1x2048_1 g))

/-- The wide product. -/
def wideArr (n : FVec Ideal S16640x2048 .f32) (w : FVec Ideal S2048x14680 .f32) : FVec Ideal S16640x14680 .f32 :=
  Host.dotGeneral dot_S16640x2048_S2048x14680_S16640x14680_1_0_0_1_n_n none n w

/-- The latent rows normalised. -/
def latentArr (p : FVec Ideal S16640x14680 .f32) (g : FVec Ideal S256 .f32) : FVec Ideal S16640x256 .bf16 :=
  truncf .bf16 (mulf (mulf (extractStridedSlice S16640x256 ![0, 1024] p Gen.slices_S16640x14680_S16640x256_0_1024)
      (broadcastInDim S16640x256 ![0, 1] Gen.bcast_S16640x1_S16640x256_0_1
        (Host.rsqrt (addf
          (Host.divf (broadcastInDim S16640x1 ![0] Gen.bcast_S16640_S16640x1_0
              (Host.reduceAdd (mulf (extractStridedSlice S16640x256 ![0, 1024] p Gen.slices_S16640x14680_S16640x256_0_1024)
                  (extractStridedSlice S16640x256 ![0, 1024] p Gen.slices_S16640x14680_S16640x256_0_1024))
                (constant S_ FTy.f32 0x00000000#32) Gen.reducesTo_S16640x256_S16640_d1 Gen.h_S_))
            (broadcastInDim S16640x1 ![] Gen.bcast_S_S16640x1 (constant S_ FTy.f32 0x43800000#32)))
          (broadcastInDim S16640x1 ![] Gen.bcast_S_S16640x1 (constant S_ FTy.f32 0x358637BD#32))))))
    (broadcastInDim S16640x256 ![0, 1] Gen.bcast_S1x256_S16640x256_0_1
      (broadcastInDim S1x256 ![1] Gen.bcast_S256_S1x256_1 g))) Gen.bitsLt_bf16_f32

/-- The zero columns that fill up the two arrays. -/
def zeros64 : FVec Ideal S16640x64 .f32 := broadcastInDim S16640x64 ![] Gen.bcast_S_S16640x64 (constant S_ .f32 0x00000000#32)
def zeros232 : FVec Ideal S16640x232 .f32 := broadcastInDim S16640x232 ![] Gen.bcast_S_S16640x232 (constant S_ .f32 0x00000000#32)

/-- The columns that are rounded, in their order. -/
def arrA (p : FVec Ideal S16640x14680 .f32) : FVec Ideal S16640x6272 .bf16 :=
  truncf .bf16 (fn_main_v31 (F := Ideal)
    (extractStridedSlice S16640x1024 ![0, 0] p Gen.slices_S16640x14680_S16640x1024_0_0)
    (extractStridedSlice S16640x1024 ![0, 1280] p Gen.slices_S16640x14680_S16640x1024_0_1280)
    (mulf (extractStridedSlice S16640x1024 ![0, 2384] p Gen.slices_S16640x14680_S16640x1024_0_2384)
      (broadcastInDim S16640x1024 ![] Gen.bcast_S_S16640x1024 (constant S_ .f32 0x3E0293EE#32)))
    (extractStridedSlice S16640x1024 ![0, 3408] p Gen.slices_S16640x14680_S16640x1024_0_3408)
    (extractStridedSlice S16640x1024 ![0, 4432] p Gen.slices_S16640x14680_S16640x1024_0_4432)
    (extractStridedSlice S16640x1024 ![0, 6488] p Gen.slices_S16640x14680_S16640x1024_0_6488)
    (extractStridedSlice S16640x64 ![0, 2304] p Gen.slices_S16640x14680_S16640x64_0_2304)
    (zeros64)) Gen.bitsLt_bf16_f32

/-- A pair of rotated halves, the halves moved outermost. -/
def rotArr (q : FVec Ideal S16640x512 .f32) : FVec Ideal S16640x512 .f32 :=
  shapeCast _ (transpose S16640x2x8x32 [0, 2, 1, 3] (shapeCast _ q Gen.shapeCasts_S16640x512_S16640x8x2x32)
    Gen.transposes_S16640x8x2x32_S16640x2x8x32_0_2_1_3) Gen.shapeCasts_S16640x2x8x32_S16640x512

/-- The other columns, in their order. -/
def arrB (p : FVec Ideal S16640x14680 .f32) : FVec Ideal S16640x2560 .f32 :=
  fn_main_v39 (F := Ideal)
    (rotArr (extractStridedSlice S16640x512 ![0, 5464] p Gen.slices_S16640x14680_S16640x512_0_5464))
    (rotArr (extractStridedSlice S16640x512 ![0, 5976] p Gen.slices_S16640x14680_S16640x512_0_5976))
    (extractStridedSlice S16640x1024 ![0, 7512] p Gen.slices_S16640x14680_S16640x1024_0_7512)
    (extractStridedSlice S16640x256 ![0, 1024] p Gen.slices_S16640x14680_S16640x256_0_1024)
    (extractStridedSlice S16640x16 ![0, 2368] p Gen.slices_S16640x14680_S16640x16_0_2368)
    (extractStridedSlice S16640x8 ![0, 5456] p Gen.slices_S16640x14680_S16640x8_0_5456)
    (zeros232)

theorem normArr_at (x : FVec Ideal S16640x2048 .f32) (g : FVec Ideal S2048 .f32) (r : Fin 16640) (d : Fin 2048) :
    normArr x g (ix2 r d) = normed (fun e => x (ix2 r e)) (fun e => g (ix1 e)) d := by
  pointwise [normArr]
  rfl

theorem wideArr_at (n : FVec Ideal S16640x2048 .f32) (w : FVec Ideal S2048x14680 .f32) (r : Fin 16640) (k : Fin 14680) :
    wideArr n w (ix2 r k) = ∑ e : Fin 2048, n (ix2 r e) * w (ix2 e k) := by
  pointwise [wideArr]

theorem latentArr_at (p : FVec Ideal S16640x14680 .f32) (g : FVec Ideal S256 .f32) (r : Fin 16640) (d : Fin 256) :
    latentArr p g (ix2 r d)
      = normedLatent (fun k => p (ix2 r ⟨1024 + k.val, by have := k.isLt; omega⟩)) (fun k => g (ix1 k)) d := by
  pointwise [latentArr]
  rfl

theorem factor_plain (C : ℕ) (h : C < 2048 ∨ 3072 ≤ C) : factor C = 1 := if_neg (by omega)
theorem factor_scaled (C : ℕ) (h : 2048 ≤ C ∧ C < 3072) : factor C = Ideal.ofBits FTy.f32 0x3E0293EE#32 := if_pos h

/-- The wide product's entry times the column's factor, or zero where there is no column. -/
theorem arrA_at (p : FVec Ideal S16640x14680 .f32) (r : Fin 16640) (C : Fin 6272) :
    arrA p (ix2 r C) = entry (fun k => p (ix2 r k)) (srcA C.val) * factor C.val := by
  have hC := C.isLt
  pointwise [arrA, fn_main_v31, zeros64]
  by_cases h0 : C.val < 1024
  · refine Eq.trans ?_ (congrArg₂ (· * ·) ((congrArg (entry (fun k => p (ix2 r k))) (srcA_0 C.val (by omega) (by omega))).trans (entry_of_lt _ (by omega))) (factor_plain C.val (by omega))).symm
    refine (dif_pos (by omega)).trans ?_
    refine Eq.trans ?_ (mul_one _).symm
    exact congrArg (fun k : Fin 14680 => p (ix2 r k)) (Fin.ext (by dsimp only <;> omega))
  by_cases h1 : C.val < 2048
  · refine Eq.trans ?_ (congrArg₂ (· * ·) ((congrArg (entry (fun k => p (ix2 r k))) (srcA_1 C.val (by omega) (by omega))).trans (entry_of_lt _ (by omega))) (factor_plain C.val (by omega))).symm
    refine (dif_neg (by omega)).trans ?_
    refine (dif_pos (by omega)).trans ?_
    refine Eq.trans ?_ (mul_one _).symm
    exact congrArg (fun k : Fin 14680 => p (ix2 r k)) (Fin.ext (by dsimp only <;> omega))
  by_cases h2 : C.val < 3072
  · refine Eq.trans ?_ (congrArg₂ (· * ·) ((congrArg (entry (fun k => p (ix2 r k))) (srcA_2 C.val (by omega) (by omega))).trans (entry_of_lt _ (by omega))) (factor_scaled C.val (by omega))).symm
    refine (dif_neg (by omega)).trans ?_
    refine (dif_neg (by omega)).trans ?_
    refine (dif_pos (by omega)).trans ?_
    exact congrArg (· * _) (congrArg (fun k : Fin 14680 => p (ix2 r k)) (Fin.ext (by dsimp only <;> omega)))
  by_cases h3 : C.val < 4096
  · refine Eq.trans ?_ (congrArg₂ (· * ·) ((congrArg (entry (fun k => p (ix2 r k))) (srcA_3 C.val (by omega) (by omega))).trans (entry_of_lt _ (by omega))) (factor_plain C.val (by omega))).symm
    refine (dif_neg (by omega)).trans ?_
    refine (dif_neg (by omega)).trans ?_
    refine (dif_neg (by omega)).trans ?_
    refine (dif_pos (by omega)).trans ?_
    refine Eq.trans ?_ (mul_one _).symm
    exact congrArg (fun k : Fin 14680 => p (ix2 r k)) (Fin.ext (by dsimp only <;> omega))
  by_cases h4 : C.val < 5120
  · refine Eq.trans ?_ (congrArg₂ (· * ·) ((congrArg (entry (fun k => p (ix2 r k))) (srcA_4 C.val (by omega) (by omega))).trans (entry_of_lt _ (by omega))) (factor_plain C.val (by omega))).symm
    refine (dif_neg (by omega)).trans ?_
    refine (dif_neg (by omega)).trans ?_
    refine (dif_neg (by omega)).trans ?_
    refine (dif_neg (by omega)).trans ?_
    refine (dif_pos (by omega)).trans ?_
    refine Eq.trans ?_ (mul_one _).symm
    exact congrArg (fun k : Fin 14680 => p (ix2 r k)) (Fin.ext (by dsimp only <;> omega))
  by_cases h5 : C.val < 6144
  · refine Eq.trans ?_ (congrArg₂ (· * ·) ((congrArg (entry (fun k => p (ix2 r k))) (srcA_5 C.val (by omega) (by omega))).trans (entry_of_lt _ (by omega))) (factor_plain C.val (by omega))).symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (mul_one _).symm
    exact congrArg (fun k : Fin 14680 => p (ix2 r k)) (Fin.ext (by dsimp only <;> omega))
  by_cases h6 : C.val < 6208
  · refine Eq.trans ?_ (congrArg₂ (· * ·) ((congrArg (entry (fun k => p (ix2 r k))) (srcA_6 C.val (by omega) (by omega))).trans (entry_of_lt _ (by omega))) (factor_plain C.val (by omega))).symm
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (mul_one _).symm
    exact congrArg (fun k : Fin 14680 => p (ix2 r k)) (Fin.ext (by dsimp only <;> omega))
  refine Eq.trans ?_ (congrArg₂ (· * ·) ((congrArg (entry (fun k => p (ix2 r k))) (srcA_7 C.val (by omega))).trans (entry_wide _)) (factor_plain C.val (by omega))).symm
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact (zero_mul _).symm

/-- The wide product's entry, or zero where there is no column. -/
theorem arrB_at (p : FVec Ideal S16640x14680 .f32) (r : Fin 16640) (C : Fin 2560) :
    arrB p (ix2 r C) = entry (fun k => p (ix2 r k)) (srcB C.val) := by
  have hC := C.isLt
  pointwise [arrB, fn_main_v39, rotArr, zeros232]
  by_cases h0 : C.val < 512
  · refine Eq.trans ?_ ((congrArg (entry (fun k => p (ix2 r k))) (srcB_0 C.val (by omega) (by omega))).trans (entry_of_lt _ (by unfold rot; omega))).symm
    refine (dif_pos (by omega)).trans ?_
    exact congrArg (fun k : Fin 14680 => p (ix2 r k)) (Fin.ext (by rfl))
  by_cases h1 : C.val < 1024
  · refine Eq.trans ?_ ((congrArg (entry (fun k => p (ix2 r k))) (srcB_1 C.val (by omega) (by omega))).trans (entry_of_lt _ (by unfold rot; omega))).symm
    refine (dif_neg (by omega)).trans ?_
    refine (dif_pos (by omega)).trans ?_
    exact congrArg (fun k : Fin 14680 => p (ix2 r k)) (Fin.ext (by rfl))
  by_cases h2 : C.val < 2048
  · refine Eq.trans ?_ ((congrArg (entry (fun k => p (ix2 r k))) (srcB_2 C.val (by omega) (by omega))).trans (entry_of_lt _ (by omega))).symm
    refine (dif_neg (by omega)).trans ?_
    refine (dif_neg (by omega)).trans ?_
    refine (dif_pos (by omega)).trans ?_
    exact congrArg (fun k : Fin 14680 => p (ix2 r k)) (Fin.ext (by dsimp only <;> omega))
  by_cases h3 : C.val < 2304
  · refine Eq.trans ?_ ((congrArg (entry (fun k => p (ix2 r k))) (srcB_3 C.val (by omega) (by omega))).trans (entry_of_lt _ (by omega))).symm
    refine (dif_neg (by omega)).trans ?_
    refine (dif_neg (by omega)).trans ?_
    refine (dif_neg (by omega)).trans ?_
    refine (dif_pos (by omega)).trans ?_
    exact congrArg (fun k : Fin 14680 => p (ix2 r k)) (Fin.ext (by dsimp only <;> omega))
  by_cases h4 : C.val < 2320
  · refine Eq.trans ?_ ((congrArg (entry (fun k => p (ix2 r k))) (srcB_4 C.val (by omega) (by omega))).trans (entry_of_lt _ (by omega))).symm
    refine (dif_neg (by omega)).trans ?_
    refine (dif_neg (by omega)).trans ?_
    refine (dif_neg (by omega)).trans ?_
    refine (dif_neg (by omega)).trans ?_
    refine (dif_pos (by omega)).trans ?_
    exact congrArg (fun k : Fin 14680 => p (ix2 r k)) (Fin.ext (by dsimp only <;> omega))
  by_cases h5 : C.val < 2328
  · refine Eq.trans ?_ ((congrArg (entry (fun k => p (ix2 r k))) (srcB_5 C.val (by omega) (by omega))).trans (entry_of_lt _ (by omega))).symm
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact congrArg (fun k : Fin 14680 => p (ix2 r k)) (Fin.ext (by dsimp only <;> omega))
  refine Eq.trans ?_ ((congrArg (entry (fun k => p (ix2 r k))) (srcB_6 C.val (by omega))).trans (entry_wide _)).symm
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rfl

variable (m : (ℓ : Loc nD τ sig) → Buf (Elt Ideal) ℓ) (c : Dev nD)

/-- The arguments' normalised rows times the wide matrix. -/
def prod : FVec Ideal S16640x14680 .f32 := wideArr (normArr (m (c.tc.loc main_arg0)) (m (c.tc.loc main_arg1))) (m (c.tc.loc main_arg2))

set_option maxHeartbeats 2000000 in
theorem resultA : res_main_v40 (F := Ideal) m c = arrA (prod m c) := by
  unfold res_main_v40 arrA prod wideArr normArr zeros64 fn_main_v31; rfl

set_option maxHeartbeats 2000000 in
theorem resultB : res_main_v39 (F := Ideal) m c = arrB (prod m c) := by
  unfold res_main_v39 arrB prod wideArr normArr rotArr zeros232 fn_main_v39; rfl

/-- An entry of the wide product, or zero where there is no column, is the normalised row times that column. -/
theorem prod_at (r : Fin 16640) (k : ℕ) :
    entry (fun k => prod m c (ix2 r k)) k
      = col (fun e => normed (fun e => (m (c.tc.loc main_arg0) : FVec Ideal S16640x2048 .f32) (ix2 r e)) (fun e => (m (c.tc.loc main_arg1) : FVec Ideal S2048 .f32) (ix1 e)) e)
          (fun e k => (m (c.tc.loc main_arg2) : FVec Ideal S2048x14680 .f32) (ix2 e k)) k := by
  by_cases h : k < 14680
  · rw [entry_of_lt _ h, col_of_lt _ _ h]
    unfold prod
    refine (wideArr_at _ _ r ⟨k, h⟩).trans ?_
    exact Finset.sum_congr rfl fun e _ => congrArg (· * _) (normArr_at _ _ r e)
  · unfold entry col
    rw [dif_neg h]
    exact (Finset.sum_eq_zero fun e _ => by unfold entry; rw [dif_neg h, mul_zero]).symm

end Cert.ProjR
-- ==== Proof.ProjClaims.lean ====
module

public import proofs.«01_k».proof.Defs
public import proofs.«01_k».proof.Proof.ProjArray
public import proofs.«01_k».proof.Proof.ProjReference
public import Idealize.ShloMosaic.Lib.Claim

/-!
# The input projections: kernel and reference agree

Over the extended reals the kernel's three result arrays and the reference's are the same numbers.
-/

@[expose] public section

set_option maxRecDepth 16384

noncomputable section

open Idealize.ShloMosaic Idealize.ShloMosaic.TcCoe Idealize.SL.Sem

namespace Cert.ProjClaims

open Cert.Proj Cert.Ffn

section
variable (m : (ℓ : Loc Cert.KernelProjIdeal.nD Cert.KernelProjIdeal.τ Cert.KernelProjIdeal.sig) → Buf (Elt Ideal) ℓ) (c : Dev Cert.KernelProjIdeal.nD)
  (m' : (ℓ : Loc Cert.ReferenceProjIdeal.nD Cert.ReferenceProjIdeal.τ Cert.ReferenceProjIdeal.sig) → Buf (Elt Ideal) ℓ) (c' : Dev Cert.ReferenceProjIdeal.nD)
  (h0 : (m' (c'.tc.loc Cert.ReferenceProjIdeal.main_arg0) : FVec Ideal Cert.KernelProjIdeal.S16640x2048 .f32) = Cert.ProjK.argX m c)
  (h1 : (m' (c'.tc.loc Cert.ReferenceProjIdeal.main_arg1) : FVec Ideal Cert.KernelProjIdeal.S2048 .f32) = Cert.ProjK.argG m c)
  (h2 : (m' (c'.tc.loc Cert.ReferenceProjIdeal.main_arg2) : FVec Ideal Cert.KernelProjIdeal.S2048x14680 .f32) = Cert.ProjK.argW m c)
  (h3 : (m' (c'.tc.loc Cert.ReferenceProjIdeal.main_arg3) : FVec Ideal Cert.KernelProjIdeal.S256 .f32) = Cert.ProjK.argL m c)

include h0 h1 h2 in
/-- The wide product's entries are the kernel's row times the same column. -/
theorem products_agree (r : Fin 16640) (k : ℕ) :
    entry (fun k => Cert.ProjR.prod m' c' (ix2 r k)) k = col (Cert.ProjK.rowN m c r) (Cert.ProjK.mat m c) k := by
  refine (Cert.ProjR.prod_at m' c' r k).trans ?_
  unfold Cert.ProjK.rowN Cert.ProjK.mat
  rw [← h0, ← h1, ← h2]

include h0 h1 h2 in
theorem rounded_agree : (Cert.ProjR.arrA (Cert.ProjR.prod m' c') : FVec Ideal Cert.KernelProjIdeal.S16640x6272 .bf16) = Cert.ProjK.outA m c := by
  funext i
  rw [eq_ix2 i]
  refine Eq.trans ?_ (Cert.ProjK.outA_at m c (i 0) (i 1)).symm
  refine (Cert.ProjR.arrA_at _ (i 0) (i 1)).trans ?_
  exact congrArg (· * _) (products_agree m c m' c' h0 h1 h2 (i 0) _)

include h0 h1 h2 in
theorem others_agree : (Cert.ProjR.arrB (Cert.ProjR.prod m' c') : FVec Ideal Cert.KernelProjIdeal.S16640x2560 .f32) = Cert.ProjK.outB m c := by
  funext i
  rw [eq_ix2 i]
  refine Eq.trans ?_ (Cert.ProjK.outB_at m c (i 0) (i 1)).symm
  refine (Cert.ProjR.arrB_at _ (i 0) (i 1)).trans ?_
  exact products_agree m c m' c' h0 h1 h2 (i 0) _

include h0 h1 h2 h3 in
theorem latents_agree : (Cert.ProjR.latentArr (Cert.ProjR.prod m' c') (m' (c'.tc.loc Cert.ReferenceProjIdeal.main_arg3)) : FVec Ideal Cert.KernelProjIdeal.S16640x256 .bf16) = Cert.ProjK.outL m c := by
  funext i
  rw [eq_ix2 i]
  refine Eq.trans ?_ (Cert.ProjK.outL_at m c (i 0) (i 1)).symm
  refine (Cert.ProjR.latentArr_at _ _ (i 0) (i 1)).trans ?_
  unfold Cert.ProjK.latentRow
  refine congrArg₂ (fun a b => normedLatent a b (i 1)) (funext fun k => ?_) (funext fun k => congrFun h3 (ix1 k))
  have hk := k.isLt
  refine Eq.trans ?_ (products_agree m c m' c' h0 h1 h2 (i 0) (1024 + k.val))
  exact (entry_of_lt (k := 1024 + k.val) (fun k => Cert.ProjR.prod m' c' (ix2 (i 0) k)) (by omega)).symm

end

set_option maxHeartbeats 2000000 in
theorem algebraic : Cert.algebraic_KernelProjIdeal_ReferenceProjIdeal := by
  intro m ρ m' ρ' _ hagree
  refine ⟨fun c => Cert.ProjK.outA m c, fun c => Cert.ProjK.outB m c, fun c => Cert.ProjK.outL m c,
    (θ_run Cert.KernelProjIdeal.defs _ _).mono (fun _ h c => ⟨(h.2.1 c).1 6, (h.2.1 c).1 7, (h.2.1 c).1 8, h.1 c⟩)
      (θ_run_and (Cert.ProjK.args_kept (F := Ideal) m ρ) (Cert.ProjK.run_quiet (F := Ideal) m ρ)), ?_⟩
  refine (θ_run Cert.ReferenceProjIdeal.defs _ _).mono (fun _ h c => ?_) (Cert.ReferenceProjIdeal.Value.run (F := Ideal) m' ρ')
  obtain ⟨h0, h1, h2, h3⟩ := hagree c
  obtain ⟨ha, hb, hl, hrest⟩ := h c
  refine ⟨ha.trans ((Cert.ProjR.resultA m' c).trans (rounded_agree m c m' c h0 h1 h2)),
    hb.trans ((Cert.ProjR.resultB m' c).trans (others_agree m c m' c h0 h1 h2)), hl.trans ?_, hrest⟩
  exact latents_agree m c m' c h0 h1 h2 h3

end Cert.ProjClaims
-- ==== Proof.FoxMath.lean ====
module

public import proofs.«01_k».proof.Proof.FfnMath
public import Mathlib.Data.EReal.Operations
public import Mathlib.Analysis.SpecialFunctions.Pow.Real

/-!
# A running softmax in base two

A row of attention is read in blocks of keys. What is kept is the greatest logit seen, the sum of the weights
`2 ^ (logit - greatest)` and their sum against the values. When the greatest logit grows, both sums are scaled by
`2 ^ (old - new)`. The facts here say that what is kept is always what the definition gives of all the keys seen, at every
extended real: a logit may be infinite.
-/

@[expose] public section

noncomputable section

namespace Cert.Fox

open Idealize.ShloMosaic

/-- The weight of a logit `x` when `m` is the greatest one. -/
def wt (m x : EReal) : EReal := Ideal.exp2 (x - m)

theorem bot_sub (m : EReal) : (⊥ : EReal) - m = ⊥ := by rw [sub_eq_add_neg, EReal.bot_add]
theorem sub_top (x : EReal) : x - (⊤ : EReal) = ⊥ := by rw [sub_eq_add_neg, EReal.neg_top, EReal.add_bot]

theorem wt_bot (m : EReal) : wt m ⊥ = 0 := by rw [wt, bot_sub, Ideal.exp2_bot]
theorem wt_top (x : EReal) : wt ⊤ x = 0 := by rw [wt, sub_top, Ideal.exp2_bot]

theorem wt_real (m x : ℝ) : wt (m : EReal) (x : EReal) = ((2 : ℝ) ^ (x - m) : ℝ) := by
  rw [wt, ← EReal.coe_sub, Ideal.exp2_coe]; rfl

/-- A weight is not negative. -/
theorem wt_nonneg (m x : EReal) : 0 ≤ wt m x := by
  unfold wt
  generalize x - m = y
  induction y with
  | bot => rw [Ideal.exp2_bot]
  | top => rw [Ideal.exp2_top]; exact le_top
  | coe r => rw [Ideal.exp2_coe]; exact EReal.coe_nonneg.mpr (Real.rpow_nonneg (by norm_num) _)

/-- The weight of a logit that is at most the greatest one is finite. -/
theorem wt_ne_top {m x : EReal} (h : x ≤ m) : wt m x ≠ ⊤ := by
  induction m with
  | top => rw [wt_top]; exact EReal.zero_ne_top
  | bot => rw [le_bot_iff.mp h, wt_bot]; exact EReal.zero_ne_top
  | coe m =>
    induction x with
    | bot => rw [wt_bot]; exact EReal.zero_ne_top
    | top => exact absurd h (by simp)
    | coe x => rw [wt_real]; exact EReal.coe_ne_top _

/-- Weights are rescaled to a new greatest logit by the old one's own weight. -/
theorem wt_mul {x m m' : EReal} (h : x ≤ m) (h' : m ≤ m') : wt m x * wt m' m = wt m' x := by
  induction m' with
  | top => rw [wt_top, wt_top, mul_zero]
  | bot =>
    have hm := le_bot_iff.mp h'
    subst hm
    rw [le_bot_iff.mp h, wt_bot, zero_mul]
  | coe m' =>
    induction m with
    | top => exact absurd h' (by simp)
    | bot => rw [le_bot_iff.mp h, wt_bot, wt_bot, zero_mul]
    | coe m =>
      induction x with
      | top => exact absurd h (by simp)
      | bot => rw [wt_bot, wt_bot, zero_mul]
      | coe x =>
        rw [wt_real, wt_real, wt_real, ← EReal.coe_mul, ← Real.rpow_add (by norm_num)]
        congr 2; ring

/-- A finite nonnegative factor on the right goes through a sum. -/
theorem sum_mul {ι : Type*} (s : Finset ι) (f : ι → EReal) {c : EReal} (h : 0 ≤ c) (h' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h h', ih]

/-- What is kept after the keys below `n`: the greatest logit, the weights' sum and their sum against the values. -/
structure Seen (X V : ℕ → EReal) (n : ℕ) (m l a : EReal) : Prop where
  top : m = (Finset.range n).sup X
  sum : l = ∑ s ∈ Finset.range n, wt m (X s)
  acc : a = ∑ s ∈ Finset.range n, wt m (X s) * V s

/-- Before any key. -/
theorem Seen.start (X V : ℕ → EReal) : Seen X V 0 ⊥ 0 0 :=
  ⟨by simp, by simp, by simp⟩

/-- One more block of `b` keys. -/
theorem Seen.block {X V : ℕ → EReal} {n : ℕ} {m l a : EReal} (h : Seen X V n m l a) (b : ℕ) {m' l' a' : EReal}
    (hm : m' = max m ((Finset.range b).sup fun s => X (n + s)))
    (hl : l' = wt m' m * l + ∑ s ∈ Finset.range b, wt m' (X (n + s)))
    (ha : a' = a * wt m' m + ∑ s ∈ Finset.range b, wt m' (X (n + s)) * V (n + s)) :
    Seen X V (n + b) m' l' a' := by
  have hle : m ≤ m' := hm ▸ le_max_left _ _
  have hx : ∀ s ∈ Finset.range n, X s ≤ m := fun s hs => by rw [h.top]; exact Finset.le_sup (f := X) hs
  have h0 := wt_nonneg m' m
  have h1 := wt_ne_top hle
  refine ⟨?_, ?_, ?_⟩
  · rw [hm, h.top]
    refine le_antisymm (max_le ?_ ?_) (Finset.sup_le fun s hs => ?_)
    · exact Finset.sup_mono (Finset.range_mono (Nat.le_add_right _ _))
    · refine Finset.sup_le fun s hs => ?_
      exact Finset.le_sup (f := X) (Finset.mem_range.mpr (by have := Finset.mem_range.mp hs; omega))
    · have hs' := Finset.mem_range.mp hs
      rcases lt_or_ge s n with c | c
      · exact le_max_of_le_left (Finset.le_sup (f := X) (Finset.mem_range.mpr c))
      · refine le_max_of_le_right ?_
        have := Finset.le_sup (f := fun s => X (n + s)) (Finset.mem_range.mpr (show s - n < b by omega))
        simpa [Nat.add_sub_cancel' c] using this
  · rw [hl, h.sum, mul_comm, sum_mul _ _ h0 h1, Finset.sum_range_add]
    exact congrArg (· + _) (Finset.sum_congr rfl fun s hs => wt_mul (hx s hs) hle)
  · rw [ha, h.acc, sum_mul _ _ h0 h1, Finset.sum_range_add]
    refine congrArg (· + _) (Finset.sum_congr rfl fun s hs => ?_)
    rw [mul_right_comm, wt_mul (hx s hs) hle]

/-- Keys whose logit is `⊥` change nothing. -/
theorem Seen.masked {X V : ℕ → EReal} {n : ℕ} {m l a : EReal} (h : Seen X V n m l a) (b : ℕ)
    (hX : ∀ s, s < b → X (n + s) = ⊥) : Seen X V (n + b) m l a := by
  refine ⟨?_, ?_, ?_⟩
  · rw [h.top]
    refine le_antisymm (Finset.sup_mono (Finset.range_mono (Nat.le_add_right _ _))) (Finset.sup_le fun s hs => ?_)
    have hs' := Finset.mem_range.mp hs
    rcases lt_or_ge s n with c | c
    · exact Finset.le_sup (f := X) (Finset.mem_range.mpr c)
    · have := hX (s - n) (by omega)
      rw [Nat.add_sub_cancel' c] at this
      rw [this]; exact bot_le
  · rw [Finset.sum_range_add, Finset.sum_eq_zero (s := Finset.range b), add_zero]
    · exact h.sum
    · exact fun s hs => by rw [hX s (Finset.mem_range.mp hs), wt_bot]
  · rw [Finset.sum_range_add, Finset.sum_eq_zero (s := Finset.range b), add_zero]
    · exact h.acc
    · exact fun s hs => by rw [hX s (Finset.mem_range.mp hs), wt_bot, zero_mul]

/-- Two to a power, written with the natural exponential and the logarithm of two. -/
theorem exp_log_two (x : EReal) : Ideal.exp (x * ((Real.log 2 : ℝ) : EReal)) = Ideal.exp2 x := by
  have h2 : (0 : ℝ) < Real.log 2 := Real.log_pos (by norm_num)
  induction x with
  | bot => rw [EReal.bot_mul_coe_of_pos h2, Ideal.exp2_bot]; rfl
  | top => rw [EReal.top_mul_coe_of_pos h2, Ideal.exp2_top]; rfl
  | coe r =>
    rw [← EReal.coe_mul, Ideal.exp2_coe]
    show ((Real.exp (r * Real.log 2) : ℝ) : EReal) = ((2 : ℝ) ^ r : ℝ)
    rw [Real.rpow_def_of_pos (by norm_num), mul_comm]

end Cert.Fox

end

end
-- ==== Proof.FoxStep.lean ====
module

public import proofs.«01_k».proof.Proof.FoxMath
public import proofs.«01_k».proof.Proof.Gen.KernelFoxIdeal.Skeleton
public import Idealize.ShloMosaic.Lib.Tactic
public import Idealize.ShloMosaic.Lib.ValueLayout

/-!
# One block of keys against 640 queries

A block of 640 keys is held as ten chunks of 64 rows. The greatest logit and the sum of weights of each column are taken
over groups of eight rows first. The facts here read the three updates of the kernel's running softmax at one column.
-/

@[expose] public section

noncomputable section

open Idealize.ShloMosaic Idealize.ShloMosaic.TcCoe Idealize.SL.Sem

namespace Cert.Fox

open Cert.KernelFoxIdeal Cert.KernelFoxIdeal.Gen

/-- A chunk of 64 logit rows. -/
abbrev Chunk := FVec Ideal S64x640 .f32

/-- The value the kernel starts a running maximum from. -/
abbrev low : Ideal .f32 := Named.named κ "mask" 0xF149F2CA#32

theorem low_eq : (low : EReal) = ⊥ := IdealRules.named_const.ideal_named_scalar _ _ _ _ rfl

/-- A chunk's greatest entries over its eight groups of eight rows. -/
def top8 (x : Chunk) : FVec Ideal S8x640 .f32 :=
  multiReduction .maximumf [0] S8x640 (shapeCast S8x8x640 x shapeCasts_S64x640_S8x8x640) 0xFF800000#32 reduces_S8x8x640_S8x640 (.inl rfl) rfl

/-- A chunk's sums over its eight groups of eight rows. -/
def sum8 (x : Chunk) : FVec Ideal S8x640 .f32 :=
  multiReduction .add [0] S8x640 (shapeCast S8x8x640 x shapeCasts_S64x640_S8x8x640) 0x00000000#32 reduces_S8x8x640_S8x640 (.inl rfl) rfl

/-- The weights of a chunk. -/
def weights (m : FVec Ideal S1x640 .f32) (x : Chunk) : Chunk :=
  exp2 (subf x (broadcastTo S64x640 m broadcasts_S1x640_S64x640))

/-- The weights as they are stored. -/
def stored (m : FVec Ideal S1x640 .f32) (x : Chunk) : FVec Ideal S64x640 .bf16 :=
  shapeCast S64x640 (truncf .bf16 (weights m x) bitsLt_bf16_f32) shapeCasts_S64x640_S64x640

/-- The new greatest logits. -/
def newTop (m : FVec Ideal S1x640 .f32) (x0 x1 x2 x3 x4 x5 x6 x7 x8 x9 : Chunk) : FVec Ideal S1x640 .f32 :=
  maximumf m (shapeCast S1x640 (multiReduction .maximumf [0] S640
    (maximumf (maximumf (maximumf (maximumf (maximumf (maximumf (maximumf (maximumf (maximumf (maximumf (broadcast S8x640 low)
      (top8 x0)) (top8 x1)) (top8 x2)) (top8 x3)) (top8 x4)) (top8 x5)) (top8 x6)) (top8 x7)) (top8 x8)) (top8 x9))
    0xFF800000#32 reduces_S8x640_S640 (.inl rfl) rfl) shapeCasts_S640_S1x640)

/-- The new sums of weights, from ten chunks of weights. -/
def newSum (al l : FVec Ideal S1x640 .f32) (x0 x1 x2 x3 x4 x5 x6 x7 x8 x9 : Chunk) : FVec Ideal S1x640 .f32 :=
  addf (mulf al l) (shapeCast S1x640 (multiReduction .add [0] S640
    (addf (addf (addf (addf (addf (addf (addf (addf (addf (addf (broadcast S8x640 (Scalar.ofBits .f32 0x00000000#32 : Ideal .f32))
      (sum8 x0)) (sum8 x1)) (sum8 x2)) (sum8 x3)) (sum8 x4)) (sum8 x5)) (sum8 x6)) (sum8 x7)) (sum8 x8)) (sum8 x9))
    0x00000000#32 reduces_S8x640_S640 (.inl rfl) rfl) shapeCasts_S640_S1x640)

/-- The new sums of weighted values. -/
def newAcc (al : FVec Ideal S1x640 .f32) (a : FVec Ideal S128x640 .f32) (v : Vec Ideal S1x640x128 .bf16) (p : Vec Ideal S640x640 .bf16) :
    FVec Ideal S128x640 .f32 :=
  addf (mulf a (broadcastTo S128x640 al broadcasts_S1x640_S128x640))
    (matmul (F := Ideal) (φ₁ := .bf16) (φ₂ := .bf16) dot_S640x128_S640x640_S128x640_0_0_1_1_n_n none (shapeCast S640x128 v shapeCasts_S1x640x128_S640x128) p
      (constant (F := Ideal) S128x640 .f32 0x00000000#32))

theorem cast8_apply (x : Chunk) (b a : Fin 8) (t : Fin 640) :
    shapeCast S8x8x640 x shapeCasts_S64x640_S8x8x640 (ix3 b a t) = x (ix2 ⟨8 * b.val + a.val, by omega⟩ t) := by
  pointwise
  exact congrArg x (congrArg (ix2 · t) (Fin.ext (by simp only []; omega)))

theorem lift8 (a : Fin 8) (t : Fin 640) (b : Fin 8) :
    reduces_S8x8x640_S8x640.lift (ix2 a t) b = ix3 b a t := by
  funext c; fin_cases c <;> rfl

theorem lift1 (t : Fin 640) (a : Fin 8) :
    reduces_S8x640_S640.lift (ix1 t) a = ix2 a t := by
  funext c; fin_cases c <;> rfl

theorem low_word : Ideal.ofBits .f32 0xFF800000#32 = (⊥ : EReal) := by
  show Ideal.ieee 8 23 (0xFF800000#32) = ⊥
  unfold Ideal.ieee
  rw [if_pos (by decide), if_pos (by decide), if_pos (by decide)]

theorem zero_word : Ideal.ofBits .f32 0x00000000#32 = (0 : EReal) := by
  show Ideal.ieee 8 23 (0#32) = 0
  unfold Ideal.ieee
  rw [if_neg (by decide), if_pos (by decide)]
  simp

theorem top8_apply (x : Chunk) (a : Fin 8) (t : Fin 640) :
    top8 x (ix2 a t) = Finset.univ.sup fun b : Fin 8 => (x (ix2 ⟨8 * b.val + a.val, by omega⟩ t) : EReal) := by
  refine (Ideal.multiReduction_maximumf_single _ _ reduces_S8x8x640_S8x640 _ _ _).trans ?_
  show Finset.fold max (Ideal.ofBits .f32 0xFF800000#32) _ _ = Finset.fold max ⊥ _ _
  rw [low_word]
  refine Finset.fold_congr fun b _ => ?_
  exact (congrArg _ (lift8 a t b)).trans (cast8_apply x b a t)

theorem sum8_apply (x : Chunk) (a : Fin 8) (t : Fin 640) :
    sum8 x (ix2 a t) = ∑ b : Fin 8, (x (ix2 ⟨8 * b.val + a.val, by omega⟩ t) : EReal) := by
  refine (Ideal.multiReduction_add_single _ _ reduces_S8x8x640_S8x640 _ _ _).trans ?_
  refine Finset.sum_congr rfl fun b _ => ?_
  exact (congrArg _ (lift8 a t b)).trans (cast8_apply x b a t)

/-- Reading a row of 640 as ten chunks of eight groups of eight. -/
theorem sum_rows (f : ℕ → EReal) :
    ∑ s ∈ Finset.range 640, f s = ∑ a : Fin 8, ∑ c : Fin 10, ∑ b : Fin 8, f (64 * c.val + (8 * b.val + a.val)) := by
  rw [Finset.sum_range]
  have e1 : ∑ s : Fin 640, f s.val = ∑ p : Fin 80 × Fin 8, f (8 * p.1.val + p.2.val) := by
    refine (Fintype.sum_equiv (finProdFinEquiv (m := 80) (n := 8)) _ _ fun p => ?_).symm
    exact congrArg f (by simp [finProdFinEquiv]; omega)
  have e2 : ∀ a : ℕ, ∑ r : Fin 80, f (8 * r.val + a) = ∑ p : Fin 10 × Fin 8, f (64 * p.1.val + (8 * p.2.val + a)) := by
    intro a
    refine (Fintype.sum_equiv (finProdFinEquiv (m := 10) (n := 8)) _ _ fun p => ?_).symm
    exact congrArg f (by simp [finProdFinEquiv]; omega)
  rw [e1, Fintype.sum_prod_type, Finset.sum_comm]
  refine Finset.sum_congr rfl fun a _ => ?_
  exact (e2 a.val).trans (Fintype.sum_prod_type _)

/-- The same for the greatest of them. -/
theorem sup_rows (f : ℕ → EReal) :
    (Finset.range 640).sup f
      = Finset.univ.sup fun a : Fin 8 => Finset.univ.sup fun c : Fin 10 => Finset.univ.sup fun b : Fin 8 => f (64 * c.val + (8 * b.val + a.val)) := by
  refine le_antisymm (Finset.sup_le fun s hs => ?_) ?_
  · have hs := Finset.mem_range.mp hs
    have e : s = 64 * (s / 64) + (8 * (s % 64 / 8) + s % 8) := by omega
    refine le_trans ?_ (Finset.le_sup (f := fun a : Fin 8 => Finset.univ.sup fun c : Fin 10 => Finset.univ.sup fun b : Fin 8 =>
      f (64 * c.val + (8 * b.val + a.val))) (Finset.mem_univ ⟨s % 8, by omega⟩))
    refine le_trans ?_ (Finset.le_sup (f := fun c : Fin 10 => Finset.univ.sup fun b : Fin 8 =>
      f (64 * c.val + (8 * b.val + s % 8))) (Finset.mem_univ ⟨s / 64, by omega⟩))
    refine le_trans ?_ (Finset.le_sup (f := fun b : Fin 8 => f (64 * (s / 64) + (8 * b.val + s % 8))) (Finset.mem_univ ⟨s % 64 / 8, by omega⟩))
    exact (congrArg f e).le
  · refine Finset.sup_le fun a _ => Finset.sup_le fun c _ => Finset.sup_le fun b _ => ?_
    exact Finset.le_sup (f := f) (Finset.mem_range.mpr (by omega))

theorem sup_ten (g : Fin 10 → EReal) :
    max (max (max (max (max (max (max (max (max (max ⊥ (g 0)) (g 1)) (g 2)) (g 3)) (g 4)) (g 5)) (g 6)) (g 7)) (g 8)) (g 9) = Finset.univ.sup g := by
  refine le_antisymm ?_ (Finset.sup_le fun c _ => ?_)
  · simp only [max_le_iff]
    exact ⟨⟨⟨⟨⟨⟨⟨⟨⟨⟨bot_le, Finset.le_sup (Finset.mem_univ _)⟩, Finset.le_sup (Finset.mem_univ _)⟩, Finset.le_sup (Finset.mem_univ _)⟩,
      Finset.le_sup (Finset.mem_univ _)⟩, Finset.le_sup (Finset.mem_univ _)⟩, Finset.le_sup (Finset.mem_univ _)⟩, Finset.le_sup (Finset.mem_univ _)⟩,
      Finset.le_sup (Finset.mem_univ _)⟩, Finset.le_sup (Finset.mem_univ _)⟩, Finset.le_sup (Finset.mem_univ _)⟩
  · fin_cases c <;> simp only [le_max_iff] <;> simp

theorem sum_ten (g : Fin 10 → EReal) :
    0 + g 0 + g 1 + g 2 + g 3 + g 4 + g 5 + g 6 + g 7 + g 8 + g 9 = ∑ c, g c := by
  rw [Fin.sum_univ_castSucc, Fin.sum_univ_castSucc, Fin.sum_univ_eight, zero_add]
  rfl

/-- Ten chunks hold the rows of a block of keys, from key `n` on. -/
structure Rows (f : ℕ → Fin 640 → EReal) (x0 x1 x2 x3 x4 x5 x6 x7 x8 x9 : Chunk) : Prop where
  r0 : ∀ (r : Fin 64) (t : Fin 640), (x0 (ix2 r t) : EReal) = f (64 * 0 + r.val) t
  r1 : ∀ (r : Fin 64) (t : Fin 640), (x1 (ix2 r t) : EReal) = f (64 * 1 + r.val) t
  r2 : ∀ (r : Fin 64) (t : Fin 640), (x2 (ix2 r t) : EReal) = f (64 * 2 + r.val) t
  r3 : ∀ (r : Fin 64) (t : Fin 640), (x3 (ix2 r t) : EReal) = f (64 * 3 + r.val) t
  r4 : ∀ (r : Fin 64) (t : Fin 640), (x4 (ix2 r t) : EReal) = f (64 * 4 + r.val) t
  r5 : ∀ (r : Fin 64) (t : Fin 640), (x5 (ix2 r t) : EReal) = f (64 * 5 + r.val) t
  r6 : ∀ (r : Fin 64) (t : Fin 640), (x6 (ix2 r t) : EReal) = f (64 * 6 + r.val) t
  r7 : ∀ (r : Fin 64) (t : Fin 640), (x7 (ix2 r t) : EReal) = f (64 * 7 + r.val) t
  r8 : ∀ (r : Fin 64) (t : Fin 640), (x8 (ix2 r t) : EReal) = f (64 * 8 + r.val) t
  r9 : ∀ (r : Fin 64) (t : Fin 640), (x9 (ix2 r t) : EReal) = f (64 * 9 + r.val) t

variable {f : ℕ → Fin 640 → EReal} {x0 x1 x2 x3 x4 x5 x6 x7 x8 x9 : Chunk}

theorem newTop_apply (m : FVec Ideal S1x640 .f32) (h : Rows f x0 x1 x2 x3 x4 x5 x6 x7 x8 x9) (t : Fin 640) :
    newTop m x0 x1 x2 x3 x4 x5 x6 x7 x8 x9 (ix2 0 t) = max (m (ix2 0 t) : EReal) ((Finset.range 640).sup fun s => f s t) := by
  refine congrArg (max (m (ix2 0 t) : EReal)) ?_
  refine (ValueIdx.shapeCast_a_1a_apply _ _ 0 t).trans ?_
  refine (Ideal.multiReduction_maximumf_single _ _ reduces_S8x640_S640 _ _ _).trans ?_
  rw [sup_rows]
  show Finset.fold max (Ideal.ofBits .f32 0xFF800000#32) _ _ = Finset.fold max ⊥ _ _
  rw [low_word]
  refine Finset.fold_congr fun (a : Fin 8) _ => ?_
  refine (congrArg _ (lift1 t a)).trans ?_
  refine Eq.trans ?_ (sup_ten fun c => Finset.univ.sup fun b : Fin 8 => f (64 * c.val + (8 * b.val + a.val)) t)
  refine congrArg₂ max (congrArg₂ max (congrArg₂ max (congrArg₂ max (congrArg₂ max (congrArg₂ max (congrArg₂ max (congrArg₂ max
    (congrArg₂ max (congrArg₂ max low_eq ?_) ?_) ?_) ?_) ?_) ?_) ?_) ?_) ?_) ?_
  · exact (top8_apply x0 a t).trans (congrArg Finset.univ.sup (funext fun b => h.r0 _ t))
  · exact (top8_apply x1 a t).trans (congrArg Finset.univ.sup (funext fun b => h.r1 _ t))
  · exact (top8_apply x2 a t).trans (congrArg Finset.univ.sup (funext fun b => h.r2 _ t))
  · exact (top8_apply x3 a t).trans (congrArg Finset.univ.sup (funext fun b => h.r3 _ t))
  · exact (top8_apply x4 a t).trans (congrArg Finset.univ.sup (funext fun b => h.r4 _ t))
  · exact (top8_apply x5 a t).trans (congrArg Finset.univ.sup (funext fun b => h.r5 _ t))
  · exact (top8_apply x6 a t).trans (congrArg Finset.univ.sup (funext fun b => h.r6 _ t))
  · exact (top8_apply x7 a t).trans (congrArg Finset.univ.sup (funext fun b => h.r7 _ t))
  · exact (top8_apply x8 a t).trans (congrArg Finset.univ.sup (funext fun b => h.r8 _ t))
  · exact (top8_apply x9 a t).trans (congrArg Finset.univ.sup (funext fun b => h.r9 _ t))

theorem newSum_apply (al l : FVec Ideal S1x640 .f32) (h : Rows f x0 x1 x2 x3 x4 x5 x6 x7 x8 x9) (t : Fin 640) :
    newSum al l x0 x1 x2 x3 x4 x5 x6 x7 x8 x9 (ix2 0 t) = (al (ix2 0 t) : EReal) * l (ix2 0 t) + ∑ s ∈ Finset.range 640, f s t := by
  refine congrArg ((al (ix2 0 t) : EReal) * l (ix2 0 t) + ·) ?_
  refine (ValueIdx.shapeCast_a_1a_apply _ _ 0 t).trans ?_
  refine (Ideal.multiReduction_add_single _ _ reduces_S8x640_S640 _ _ _).trans ?_
  rw [sum_rows]
  refine Finset.sum_congr rfl fun (a : Fin 8) _ => ?_
  refine (congrArg _ (lift1 t a)).trans ?_
  refine Eq.trans ?_ (sum_ten fun c => ∑ b : Fin 8, f (64 * c.val + (8 * b.val + a.val)) t)
  have plus : ∀ {p q r s : EReal}, p = q → r = s → p + r = q + s := fun h1 h2 => by rw [h1, h2]
  refine plus (plus (plus (plus (plus (plus (plus (plus (plus (plus zero_word ?_) ?_) ?_) ?_) ?_) ?_) ?_) ?_) ?_) ?_
  · exact (sum8_apply x0 a t).trans (Finset.sum_congr rfl fun b _ => h.r0 _ t)
  · exact (sum8_apply x1 a t).trans (Finset.sum_congr rfl fun b _ => h.r1 _ t)
  · exact (sum8_apply x2 a t).trans (Finset.sum_congr rfl fun b _ => h.r2 _ t)
  · exact (sum8_apply x3 a t).trans (Finset.sum_congr rfl fun b _ => h.r3 _ t)
  · exact (sum8_apply x4 a t).trans (Finset.sum_congr rfl fun b _ => h.r4 _ t)
  · exact (sum8_apply x5 a t).trans (Finset.sum_congr rfl fun b _ => h.r5 _ t)
  · exact (sum8_apply x6 a t).trans (Finset.sum_congr rfl fun b _ => h.r6 _ t)
  · exact (sum8_apply x7 a t).trans (Finset.sum_congr rfl fun b _ => h.r7 _ t)
  · exact (sum8_apply x8 a t).trans (Finset.sum_congr rfl fun b _ => h.r8 _ t)
  · exact (sum8_apply x9 a t).trans (Finset.sum_congr rfl fun b _ => h.r9 _ t)

theorem weights_apply (m : FVec Ideal S1x640 .f32) (x : Chunk) (r : Fin 64) (t : Fin 640) :
    (weights m x (ix2 r t) : EReal) = wt (m (ix2 0 t)) (x (ix2 r t)) := by
  pointwise [weights]
  try rfl

theorem stored_apply (m : FVec Ideal S1x640 .f32) (x : Chunk) (r : Fin 64) (t : Fin 640) :
    (stored m x (ix2 r t) : EReal) = wt (m (ix2 0 t)) (x (ix2 r t)) := by
  pointwise [stored, weights]
  try rfl

theorem newAcc_apply (al : FVec Ideal S1x640 .f32) (a : FVec Ideal S128x640 .f32) (v : Vec Ideal S1x640x128 .bf16) (p : Vec Ideal S640x640 .bf16)
    (d : Fin 128) (t : Fin 640) :
    (newAcc al a v p (ix2 d t) : EReal)
      = (a (ix2 d t) : EReal) * al (ix2 0 t) + ∑ s : Fin 640, (v (ix3 0 s d) : EReal) * p (ix2 s t) := by
  pointwise [newAcc]
  try rfl

/-- What the kernel keeps of the first `n` keys, for every query `t` and every coordinate `d` of the values. -/
def Kept (X : Fin 640 → ℕ → EReal) (V : Fin 128 → ℕ → EReal) (n : ℕ) (m l : FVec Ideal S1x640 .f32) (a : FVec Ideal S128x640 .f32) : Prop :=
  ∀ (t : Fin 640) (d : Fin 128), Seen (X t) (V d) n (m (ix2 0 t)) (l (ix2 0 t)) (a (ix2 d t))

/-- The weights of ten chunks are the rows of the weights. -/
theorem Rows.weights (m : FVec Ideal S1x640 .f32) (h : Rows f x0 x1 x2 x3 x4 x5 x6 x7 x8 x9) :
    Rows (fun s t => wt (m (ix2 0 t)) (f s t)) (weights m x0) (weights m x1) (weights m x2) (weights m x3) (weights m x4) (weights m x5)
      (weights m x6) (weights m x7) (weights m x8) (weights m x9) where
  r0 r t := (weights_apply m x0 r t).trans (congrArg _ (h.r0 r t))
  r1 r t := (weights_apply m x1 r t).trans (congrArg _ (h.r1 r t))
  r2 r t := (weights_apply m x2 r t).trans (congrArg _ (h.r2 r t))
  r3 r t := (weights_apply m x3 r t).trans (congrArg _ (h.r3 r t))
  r4 r t := (weights_apply m x4 r t).trans (congrArg _ (h.r4 r t))
  r5 r t := (weights_apply m x5 r t).trans (congrArg _ (h.r5 r t))
  r6 r t := (weights_apply m x6 r t).trans (congrArg _ (h.r6 r t))
  r7 r t := (weights_apply m x7 r t).trans (congrArg _ (h.r7 r t))
  r8 r t := (weights_apply m x8 r t).trans (congrArg _ (h.r8 r t))
  r9 r t := (weights_apply m x9 r t).trans (congrArg _ (h.r9 r t))

/-- Rows may be named otherwise. -/
theorem Rows.congr {g : ℕ → Fin 640 → EReal} (h : Rows f x0 x1 x2 x3 x4 x5 x6 x7 x8 x9) (e : ∀ s t : Fin 640, f s.val t = g s.val t) :
    Rows g x0 x1 x2 x3 x4 x5 x6 x7 x8 x9 where
  r0 r t := (h.r0 r t).trans (e ⟨64 * 0 + r.val, by omega⟩ t)
  r1 r t := (h.r1 r t).trans (e ⟨64 * 1 + r.val, by omega⟩ t)
  r2 r t := (h.r2 r t).trans (e ⟨64 * 2 + r.val, by omega⟩ t)
  r3 r t := (h.r3 r t).trans (e ⟨64 * 3 + r.val, by omega⟩ t)
  r4 r t := (h.r4 r t).trans (e ⟨64 * 4 + r.val, by omega⟩ t)
  r5 r t := (h.r5 r t).trans (e ⟨64 * 5 + r.val, by omega⟩ t)
  r6 r t := (h.r6 r t).trans (e ⟨64 * 6 + r.val, by omega⟩ t)
  r7 r t := (h.r7 r t).trans (e ⟨64 * 7 + r.val, by omega⟩ t)
  r8 r t := (h.r8 r t).trans (e ⟨64 * 8 + r.val, by omega⟩ t)
  r9 r t := (h.r9 r t).trans (e ⟨64 * 9 + r.val, by omega⟩ t)

/-- So are the weights as they are stored. -/
theorem Rows.stored (m : FVec Ideal S1x640 .f32) (h : Rows f x0 x1 x2 x3 x4 x5 x6 x7 x8 x9) :
    Rows (fun s t => wt (m (ix2 0 t)) (f s t)) (stored m x0) (stored m x1) (stored m x2) (stored m x3) (stored m x4) (stored m x5)
      (stored m x6) (stored m x7) (stored m x8) (stored m x9) where
  r0 r t := (stored_apply m x0 r t).trans (congrArg _ (h.r0 r t))
  r1 r t := (stored_apply m x1 r t).trans (congrArg _ (h.r1 r t))
  r2 r t := (stored_apply m x2 r t).trans (congrArg _ (h.r2 r t))
  r3 r t := (stored_apply m x3 r t).trans (congrArg _ (h.r3 r t))
  r4 r t := (stored_apply m x4 r t).trans (congrArg _ (h.r4 r t))
  r5 r t := (stored_apply m x5 r t).trans (congrArg _ (h.r5 r t))
  r6 r t := (stored_apply m x6 r t).trans (congrArg _ (h.r6 r t))
  r7 r t := (stored_apply m x7 r t).trans (congrArg _ (h.r7 r t))
  r8 r t := (stored_apply m x8 r t).trans (congrArg _ (h.r8 r t))
  r9 r t := (stored_apply m x9 r t).trans (congrArg _ (h.r9 r t))

/-- One block of keys: the three updates keep what the definition gives. -/
theorem Kept.step {X : Fin 640 → ℕ → EReal} {V : Fin 128 → ℕ → EReal} {n : ℕ} {m l : FVec Ideal S1x640 .f32} {a : FVec Ideal S128x640 .f32}
    (hk : Kept X V n m l a) (h : Rows (fun s t => X t (n + s)) x0 x1 x2 x3 x4 x5 x6 x7 x8 x9)
    (v : Vec Ideal S1x640x128 .bf16) (hv : ∀ (s : Fin 640) (d : Fin 128), (v (ix3 0 s d) : EReal) = V d (n + s.val))
    (p : Vec Ideal S640x640 .bf16) {m' : FVec Ideal S1x640 .f32} (hm : m' = newTop m x0 x1 x2 x3 x4 x5 x6 x7 x8 x9)
    (hp : ∀ s t : Fin 640, (p (ix2 s t) : EReal) = wt (m' (ix2 0 t)) (X t (n + s.val))) :
    Kept X V (n + 640) m' (newSum (exp2 (subf m m')) l (weights m' x0) (weights m' x1) (weights m' x2) (weights m' x3) (weights m' x4)
      (weights m' x5) (weights m' x6) (weights m' x7) (weights m' x8) (weights m' x9)) (newAcc (exp2 (subf m m')) a v p) := by
  intro t d
  refine (hk t d).block 640 ((congrFun hm _).trans (newTop_apply m h t)) (newSum_apply _ l (h.weights m') t) ?_
  refine (newAcc_apply _ a v p d t).trans ?_
  rw [Finset.sum_range]
  refine congrArg ((a (ix2 d t) : EReal) * (exp2 (subf m m') : FVec Ideal S1x640 .f32) (ix2 0 t) + ·) (Finset.sum_congr rfl fun s _ => ?_)
  rw [hv, hp, mul_comm]

end Cert.Fox
-- ==== Proof.FoxMasks.lean ====
module

public import proofs.«01_k».proof.Proof.FoxStep
public import Idealize.ShloMosaic.Lib.WordCmp

/-!
# The kernel's two masks

In the block of padding, rows below 112 are out. In the block that holds the queries themselves, a key is in when it does not
come after the query and is either the query's own or past the padding. A masked entry is the bottom one.
-/

@[expose] public section

noncomputable section

open Idealize.ShloMosaic Idealize.ShloMosaic.TcCoe

namespace Cert.Fox

open Cert.KernelFoxIdeal Cert.KernelFoxIdeal.Gen

/-- The numbers of a chunk's rows within its block. -/
def rowsFrom (o : BitVec 32) : IVec S64x1 32 :=
  addi (broadcast S64x1 o) (iota .tc S64x1 32 [0] iota_S64x1_d0_w32)

/-- The numbers of the queries within theirs. -/
def queries : IVec S1x640 32 := iota .tc S1x640 32 [1] iota_S1x640_d1_w32

/-- A chunk of the padding's block, masked. -/
def unpadded (o : BitVec 32) (x : Chunk) : Chunk :=
  select (broadcastTo S64x640 (shapeCast S64x1 (cmpi .sge (rowsFrom o) (broadcast S64x1 112#32)) shapeCasts_S64x1_S64x1) broadcasts_S64x1_S64x640)
    x (broadcast S64x640 low)

/-- A chunk of the queries' own block, masked. -/
def causal (a o : BitVec 32) (x : Chunk) : Chunk :=
  select (andi (cmpi .sle (broadcastTo S64x640 (rowsFrom o) broadcasts_S64x1_S64x640) (broadcastTo S64x640 queries broadcasts_S1x640_S64x640))
      (ori (broadcastTo S64x640 (cmpi .sge (addi (rowsFrom o) (broadcast S64x1 (Scalar.muli a 640#32))) (broadcast S64x1 112#32)) broadcasts_S64x1_S64x640)
        (cmpi .eq (broadcastTo S64x640 (rowsFrom o) broadcasts_S64x1_S64x640) (broadcastTo S64x640 queries broadcasts_S1x640_S64x640))))
    x (broadcast S64x640 low)

theorem unpadded_apply (o : ℕ) (ho : o ≤ 576) (x : Chunk) (r : Fin 64) (t : Fin 640) :
    (unpadded (BitVec.ofNat 32 o) x (ix2 r t) : EReal) = if 112 ≤ o + r.val then (x (ix2 r t) : EReal) else ⊥ := by
  unfold unpadded rowsFrom
  pointwise
  rw [low_eq]
  have e : IntOp.addi (BitVec.ofNat 32 o) (BitVec.ofNat 32 r.val) = BitVec.ofNat 32 (o + r.val) := (BitVec.ofNat_add _ _).symm
  rw [e, WordCmp.cmpi_sge_ofNat (by omega) (by decide)]
  by_cases h : 112 ≤ o + r.val <;> simp [Scalar.select, h]

theorem select_three (p q r : Prop) [Decidable p] [Decidable q] [Decidable r] (x y : EReal) :
    Scalar.select (IntOp.andi (BitVec.ofBool (decide p)) (IntOp.ori (BitVec.ofBool (decide q)) (BitVec.ofBool (decide r)))) x y
      = if p ∧ (q ∨ r) then x else y := by
  by_cases h1 : p <;> by_cases h2 : q <;> by_cases h3 : r <;> simp [Scalar.select, IntOp.andi, IntOp.ori, h1, h2, h3]

theorem causal_apply (a o : ℕ) (ha : a < 13) (ho : o ≤ 576) (x : Chunk) (r : Fin 64) (t : Fin 640) :
    (causal (BitVec.ofNat 32 a) (BitVec.ofNat 32 o) x (ix2 r t) : EReal)
      = if o + r.val ≤ t.val ∧ (112 ≤ 640 * a + (o + r.val) ∨ o + r.val = t.val) then (x (ix2 r t) : EReal) else ⊥ := by
  unfold causal rowsFrom queries
  pointwise
  rw [low_eq]
  have e : IntOp.addi (BitVec.ofNat 32 o) (BitVec.ofNat 32 r.val) = BitVec.ofNat 32 (o + r.val) := (BitVec.ofNat_add _ _).symm
  have e' : IntOp.addi (BitVec.ofNat 32 (o + r.val)) (Scalar.muli (BitVec.ofNat 32 a) 640#32) = BitVec.ofNat 32 (640 * a + (o + r.val)) := by
    show BitVec.ofNat 32 (o + r.val) + BitVec.ofNat 32 a * BitVec.ofNat 32 640 = _
    rw [← BitVec.ofNat_mul, ← BitVec.ofNat_add]
    exact congrArg _ (by ring)
  rw [e, e', WordCmp.cmpi_sge_ofNat (by omega) (by decide), WordCmp.cmpi_sle_ofNat (by omega) (by omega), WordCmp.cmpi_eq_ofNat (by omega) (by omega)]
  exact select_three _ _ _ _ _

/-- Ten masked chunks of the padding's block. -/
theorem Rows.unpadded {f : ℕ → Fin 640 → EReal} {x0 x1 x2 x3 x4 x5 x6 x7 x8 x9 : Chunk} (h : Rows f x0 x1 x2 x3 x4 x5 x6 x7 x8 x9) :
    Rows (fun s t => if 112 ≤ s then f s t else ⊥) (Fox.unpadded 0#32 x0) (Fox.unpadded 64#32 x1) (Fox.unpadded 128#32 x2) (Fox.unpadded 192#32 x3) (Fox.unpadded 256#32 x4) (Fox.unpadded 320#32 x5) (Fox.unpadded 384#32 x6) (Fox.unpadded 448#32 x7) (Fox.unpadded 512#32 x8) (Fox.unpadded 576#32 x9) where
  r0 r t := (unpadded_apply 0 (by decide) x0 r t).trans (by rw [h.r0 r t])
  r1 r t := (unpadded_apply 64 (by decide) x1 r t).trans (by rw [h.r1 r t])
  r2 r t := (unpadded_apply 128 (by decide) x2 r t).trans (by rw [h.r2 r t])
  r3 r t := (unpadded_apply 192 (by decide) x3 r t).trans (by rw [h.r3 r t])
  r4 r t := (unpadded_apply 256 (by decide) x4 r t).trans (by rw [h.r4 r t])
  r5 r t := (unpadded_apply 320 (by decide) x5 r t).trans (by rw [h.r5 r t])
  r6 r t := (unpadded_apply 384 (by decide) x6 r t).trans (by rw [h.r6 r t])
  r7 r t := (unpadded_apply 448 (by decide) x7 r t).trans (by rw [h.r7 r t])
  r8 r t := (unpadded_apply 512 (by decide) x8 r t).trans (by rw [h.r8 r t])
  r9 r t := (unpadded_apply 576 (by decide) x9 r t).trans (by rw [h.r9 r t])

/-- Ten masked chunks of the queries' own block. -/
theorem Rows.causal {f : ℕ → Fin 640 → EReal} {x0 x1 x2 x3 x4 x5 x6 x7 x8 x9 : Chunk} (a : ℕ) (ha : a < 13)
    (h : Rows f x0 x1 x2 x3 x4 x5 x6 x7 x8 x9) :
    Rows (fun s t => if s ≤ t.val ∧ (112 ≤ 640 * a + s ∨ s = t.val) then f s t else ⊥) (Fox.causal (BitVec.ofNat 32 a) 0#32 x0) (Fox.causal (BitVec.ofNat 32 a) 64#32 x1) (Fox.causal (BitVec.ofNat 32 a) 128#32 x2) (Fox.causal (BitVec.ofNat 32 a) 192#32 x3) (Fox.causal (BitVec.ofNat 32 a) 256#32 x4) (Fox.causal (BitVec.ofNat 32 a) 320#32 x5) (Fox.causal (BitVec.ofNat 32 a) 384#32 x6) (Fox.causal (BitVec.ofNat 32 a) 448#32 x7) (Fox.causal (BitVec.ofNat 32 a) 512#32 x8) (Fox.causal (BitVec.ofNat 32 a) 576#32 x9) where
  r0 r t := (causal_apply a 0 ha (by decide) x0 r t).trans (by rw [h.r0 r t])
  r1 r t := (causal_apply a 64 ha (by decide) x1 r t).trans (by rw [h.r1 r t])
  r2 r t := (causal_apply a 128 ha (by decide) x2 r t).trans (by rw [h.r2 r t])
  r3 r t := (causal_apply a 192 ha (by decide) x3 r t).trans (by rw [h.r3 r t])
  r4 r t := (causal_apply a 256 ha (by decide) x4 r t).trans (by rw [h.r4 r t])
  r5 r t := (causal_apply a 320 ha (by decide) x5 r t).trans (by rw [h.r5 r t])
  r6 r t := (causal_apply a 384 ha (by decide) x6 r t).trans (by rw [h.r6 r t])
  r7 r t := (causal_apply a 448 ha (by decide) x7 r t).trans (by rw [h.r7 r t])
  r8 r t := (causal_apply a 512 ha (by decide) x8 r t).trans (by rw [h.r8 r t])
  r9 r t := (causal_apply a 576 ha (by decide) x9 r t).trans (by rw [h.r9 r t])

end Cert.Fox
-- ==== Proof.FoxSlots.lean ====
module

public import proofs.«01_k».proof.Proof.FoxStep
public import Idealize.ShloMosaic.Lib.VecWindow
public import Idealize.ShloMosaic.Lib.WritesUnit
public import Idealize.ShloMosaic.Lib.Pipeline.ReadBack

/-!
# Reading the logit and weight buffers

Logits of three blocks of keys are held side by side, and each is read in ten chunks. Weights are stored in ten chunks
and read back whole.
-/

@[expose] public section

noncomputable section

open Idealize.ShloMosaic Idealize.ShloMosaic.TcCoe Idealize.SL.Sem

namespace Cert.Fox

open Cert.KernelFoxIdeal Cert.KernelFoxIdeal.Gen

variable {κ' : Kind} {sp : Space}

/-- A chunk of a block of logits is what the buffer reads there. -/
theorem chunk_apply (v : View sig κ' sp S3x640x640 .f32) (f : v.ty.Contents (Elt Ideal)) (k o : ℕ) (hk : k < 3) (ho : o + 64 ≤ 640)
    (inb : ∀ a, (![k, o, 0] : Fin 3 → ℕ) a + S1x64x640.size a ≤ S3x640x640.size a) (r : Fin 64) (t : Fin 640) :
    shapeCast S64x640 (v.readAt (Elt Ideal) (Rect.unit (s := S3x640x640) ![k, o, 0] S1x64x640.size inb).toLoadRect f) shapeCasts_S1x64x640_S64x640 (ix2 r t)
      = v.read (Elt Ideal) f (ix3 ⟨k, hk⟩ ⟨o + r.val, by omega⟩ t) := by
  refine (ValueIdx.shapeCast_1ab_ab_apply _ _ r t).trans ?_
  refine congrArg (v.read (Elt Ideal) f) ?_
  funext a; fin_cases a <;> refine Fin.ext ?_
  · show k + 1 * 0 = k; omega
  · show o + 1 * r.val = o + r.val; omega
  · show 0 + 1 * t.val = t.val; omega

/-- A buffer holds, in slot `k`, the rows `g`. -/
def Slot (v : View sig κ' sp S3x640x640 .f32) (f : v.ty.Contents (Elt Ideal)) (k : Fin 3) (g : ℕ → Fin 640 → EReal) : Prop :=
  ∀ s t : Fin 640, (v.read (Elt Ideal) f (ix3 k s t) : EReal) = g s.val t

/-- A block stored in slot `k` is what is read there. -/
theorem slot_put (v : View sig κ' sp S3x640x640 .f32) (f : v.ty.Contents (Elt Ideal)) (k : ℕ) (hk : k < 3)
    (inb : ∀ a, (![k, 0, 0] : Fin 3 → ℕ) a + S1x640x640.size a ≤ S3x640x640.size a) (w : FVec Ideal S1x640x640 .f32)
    (L : List (View.Piece (Elt Ideal) S3x640x640 .f32)) (g : ℕ → Fin 640 → EReal) (hw : ∀ s t : Fin 640, (w (ix3 0 s t) : EReal) = g s.val t) :
    Slot v (v.writes (Elt Ideal) f (⟨Rect.unit ![k, 0, 0] S1x640x640.size inb, w⟩ :: L)) ⟨k, hk⟩ g := by
  intro s t
  refine Eq.trans ?_ (hw s t)
  refine View.read_writes_cons_unit_of_mem v f inb w L _ (ix3 0 s t) rfl fun a => ?_
  fin_cases a
  · show k = k + 0; omega
  · show s.val = 0 + s.val; omega
  · show t.val = 0 + t.val; omega

/-- A block stored in another slot leaves this one. -/
theorem slot_skip (v : View sig κ' sp S3x640x640 .f32) (f : v.ty.Contents (Elt Ideal)) (k : ℕ) (k' : Fin 3) (hk : k'.val < k ∨ k + 1 ≤ k'.val)
    (inb : ∀ a, (![k, 0, 0] : Fin 3 → ℕ) a + S1x640x640.size a ≤ S3x640x640.size a) (w : FVec Ideal S1x640x640 .f32)
    (L : List (View.Piece (Elt Ideal) S3x640x640 .f32)) (g : ℕ → Fin 640 → EReal) (h : Slot v (v.writes (Elt Ideal) f L) k' g) :
    Slot v (v.writes (Elt Ideal) f (⟨Rect.unit ![k, 0, 0] S1x640x640.size inb, w⟩ :: L)) k' g := by
  intro s t
  refine Eq.trans ?_ (h s t)
  exact View.read_writes_cons_unit_of_not_mem v f inb w L _ rfl 0 hk

/-- A slot's ten chunks are its rows. -/
theorem Slot.rows {v : View sig κ' sp S3x640x640 .f32} {f : v.ty.Contents (Elt Ideal)} {k : ℕ} {hk : k < 3} {g : ℕ → Fin 640 → EReal}
    (h : Slot v f ⟨k, hk⟩ g)
    (i0 : ∀ a, (![k, 0, 0] : Fin 3 → ℕ) a + S1x64x640.size a ≤ S3x640x640.size a)
    (i1 : ∀ a, (![k, 64, 0] : Fin 3 → ℕ) a + S1x64x640.size a ≤ S3x640x640.size a)
    (i2 : ∀ a, (![k, 128, 0] : Fin 3 → ℕ) a + S1x64x640.size a ≤ S3x640x640.size a)
    (i3 : ∀ a, (![k, 192, 0] : Fin 3 → ℕ) a + S1x64x640.size a ≤ S3x640x640.size a)
    (i4 : ∀ a, (![k, 256, 0] : Fin 3 → ℕ) a + S1x64x640.size a ≤ S3x640x640.size a)
    (i5 : ∀ a, (![k, 320, 0] : Fin 3 → ℕ) a + S1x64x640.size a ≤ S3x640x640.size a)
    (i6 : ∀ a, (![k, 384, 0] : Fin 3 → ℕ) a + S1x64x640.size a ≤ S3x640x640.size a)
    (i7 : ∀ a, (![k, 448, 0] : Fin 3 → ℕ) a + S1x64x640.size a ≤ S3x640x640.size a)
    (i8 : ∀ a, (![k, 512, 0] : Fin 3 → ℕ) a + S1x64x640.size a ≤ S3x640x640.size a)
    (i9 : ∀ a, (![k, 576, 0] : Fin 3 → ℕ) a + S1x64x640.size a ≤ S3x640x640.size a)
    : Rows g
      (shapeCast S64x640 (v.readAt (Elt Ideal) (Rect.unit (s := S3x640x640) ![k, 0, 0] S1x64x640.size i0).toLoadRect f) shapeCasts_S1x64x640_S64x640)
      (shapeCast S64x640 (v.readAt (Elt Ideal) (Rect.unit (s := S3x640x640) ![k, 64, 0] S1x64x640.size i1).toLoadRect f) shapeCasts_S1x64x640_S64x640)
      (shapeCast S64x640 (v.readAt (Elt Ideal) (Rect.unit (s := S3x640x640) ![k, 128, 0] S1x64x640.size i2).toLoadRect f) shapeCasts_S1x64x640_S64x640)
      (shapeCast S64x640 (v.readAt (Elt Ideal) (Rect.unit (s := S3x640x640) ![k, 192, 0] S1x64x640.size i3).toLoadRect f) shapeCasts_S1x64x640_S64x640)
      (shapeCast S64x640 (v.readAt (Elt Ideal) (Rect.unit (s := S3x640x640) ![k, 256, 0] S1x64x640.size i4).toLoadRect f) shapeCasts_S1x64x640_S64x640)
      (shapeCast S64x640 (v.readAt (Elt Ideal) (Rect.unit (s := S3x640x640) ![k, 320, 0] S1x64x640.size i5).toLoadRect f) shapeCasts_S1x64x640_S64x640)
      (shapeCast S64x640 (v.readAt (Elt Ideal) (Rect.unit (s := S3x640x640) ![k, 384, 0] S1x64x640.size i6).toLoadRect f) shapeCasts_S1x64x640_S64x640)
      (shapeCast S64x640 (v.readAt (Elt Ideal) (Rect.unit (s := S3x640x640) ![k, 448, 0] S1x64x640.size i7).toLoadRect f) shapeCasts_S1x64x640_S64x640)
      (shapeCast S64x640 (v.readAt (Elt Ideal) (Rect.unit (s := S3x640x640) ![k, 512, 0] S1x64x640.size i8).toLoadRect f) shapeCasts_S1x64x640_S64x640)
      (shapeCast S64x640 (v.readAt (Elt Ideal) (Rect.unit (s := S3x640x640) ![k, 576, 0] S1x64x640.size i9).toLoadRect f) shapeCasts_S1x64x640_S64x640)
    where
  r0 r t := (chunk_apply v f k 0 hk (by omega) i0 r t).trans (h _ t)
  r1 r t := (chunk_apply v f k 64 hk (by omega) i1 r t).trans (h _ t)
  r2 r t := (chunk_apply v f k 128 hk (by omega) i2 r t).trans (h _ t)
  r3 r t := (chunk_apply v f k 192 hk (by omega) i3 r t).trans (h _ t)
  r4 r t := (chunk_apply v f k 256 hk (by omega) i4 r t).trans (h _ t)
  r5 r t := (chunk_apply v f k 320 hk (by omega) i5 r t).trans (h _ t)
  r6 r t := (chunk_apply v f k 384 hk (by omega) i6 r t).trans (h _ t)
  r7 r t := (chunk_apply v f k 448 hk (by omega) i7 r t).trans (h _ t)
  r8 r t := (chunk_apply v f k 512 hk (by omega) i8 r t).trans (h _ t)
  r9 r t := (chunk_apply v f k 576 hk (by omega) i9 r t).trans (h _ t)

/-- Ten chunks stored one after the other are read back as the rows they hold. -/
theorem stored_rows (v : View sig κ' sp S640x640 .bf16) (f : v.ty.Contents (Elt Ideal)) (g : ℕ → Fin 640 → EReal)
    (w0 w1 w2 w3 w4 w5 w6 w7 w8 w9 : FVec Ideal S64x640 .bf16) (L : List (View.Piece (Elt Ideal) S640x640 .bf16))
    (i0 : ∀ a, (![0, 0] : Fin 2 → ℕ) a + S64x640.size a ≤ S640x640.size a)
    (i1 : ∀ a, (![64, 0] : Fin 2 → ℕ) a + S64x640.size a ≤ S640x640.size a)
    (i2 : ∀ a, (![128, 0] : Fin 2 → ℕ) a + S64x640.size a ≤ S640x640.size a)
    (i3 : ∀ a, (![192, 0] : Fin 2 → ℕ) a + S64x640.size a ≤ S640x640.size a)
    (i4 : ∀ a, (![256, 0] : Fin 2 → ℕ) a + S64x640.size a ≤ S640x640.size a)
    (i5 : ∀ a, (![320, 0] : Fin 2 → ℕ) a + S64x640.size a ≤ S640x640.size a)
    (i6 : ∀ a, (![384, 0] : Fin 2 → ℕ) a + S64x640.size a ≤ S640x640.size a)
    (i7 : ∀ a, (![448, 0] : Fin 2 → ℕ) a + S64x640.size a ≤ S640x640.size a)
    (i8 : ∀ a, (![512, 0] : Fin 2 → ℕ) a + S64x640.size a ≤ S640x640.size a)
    (i9 : ∀ a, (![576, 0] : Fin 2 → ℕ) a + S64x640.size a ≤ S640x640.size a)
    (hr : Rows g w0 w1 w2 w3 w4 w5 w6 w7 w8 w9) (s t : Fin 640) :
    (v.read (Elt Ideal) (v.writes (Elt Ideal) f (⟨Rect.unit ![576, 0] S64x640.size i9, w9⟩ :: ⟨Rect.unit ![512, 0] S64x640.size i8, w8⟩
      :: ⟨Rect.unit ![448, 0] S64x640.size i7, w7⟩ :: ⟨Rect.unit ![384, 0] S64x640.size i6, w6⟩ :: ⟨Rect.unit ![320, 0] S64x640.size i5, w5⟩
      :: ⟨Rect.unit ![256, 0] S64x640.size i4, w4⟩ :: ⟨Rect.unit ![192, 0] S64x640.size i3, w3⟩ :: ⟨Rect.unit ![128, 0] S64x640.size i2, w2⟩
      :: ⟨Rect.unit ![64, 0] S64x640.size i1, w1⟩ :: ⟨Rect.unit ![0, 0] S64x640.size i0, w0⟩ :: L)) (ix2 s t) : EReal) = g s.val t := by
  have hit : ∀ (o : ℕ) (i : ∀ a, (![o, 0] : Fin 2 → ℕ) a + S64x640.size a ≤ S640x640.size a) (w : FVec Ideal S64x640 .bf16)
      (L : List (View.Piece (Elt Ideal) S640x640 .bf16)) (h : o ≤ s.val) (h' : s.val < o + 64),
      v.read (Elt Ideal) (v.writes (Elt Ideal) f (⟨Rect.unit ![o, 0] S64x640.size i, w⟩ :: L)) (ix2 s t) = w (ix2 ⟨s.val - o, by omega⟩ t) :=
    fun o i w L h h' => View.read_writes_cons_unit_of_mem v f i w L _ (ix2 ⟨s.val - o, by omega⟩ t) rfl fun a => by
      fin_cases a
      · show s.val = o + (s.val - o); omega
      · show t.val = 0 + t.val; omega
  have miss : ∀ (o : ℕ) (i : ∀ a, (![o, 0] : Fin 2 → ℕ) a + S64x640.size a ≤ S640x640.size a) (w : FVec Ideal S64x640 .bf16)
      (L : List (View.Piece (Elt Ideal) S640x640 .bf16)) (h : s.val < o),
      v.read (Elt Ideal) (v.writes (Elt Ideal) f (⟨Rect.unit ![o, 0] S64x640.size i, w⟩ :: L)) (ix2 s t) = v.read (Elt Ideal) (v.writes (Elt Ideal) f L) (ix2 s t) :=
    fun o i w L h => View.read_writes_cons_unit_of_not_mem v f i w L _ rfl 0 (.inl h)
  have hs := s.isLt
  by_cases h9 : 576 ≤ s.val
  · exact (hit 576 i9 w9 _ h9 (by omega)).trans ((hr.r9 _ t).trans (congrArg (g · t) (by simp only []; omega)))
  refine (miss 576 i9 w9 _ (by omega)).trans ?_
  by_cases h8 : 512 ≤ s.val
  · exact (hit 512 i8 w8 _ h8 (by omega)).trans ((hr.r8 _ t).trans (congrArg (g · t) (by simp only []; omega)))
  refine (miss 512 i8 w8 _ (by omega)).trans ?_
  by_cases h7 : 448 ≤ s.val
  · exact (hit 448 i7 w7 _ h7 (by omega)).trans ((hr.r7 _ t).trans (congrArg (g · t) (by simp only []; omega)))
  refine (miss 448 i7 w7 _ (by omega)).trans ?_
  by_cases h6 : 384 ≤ s.val
  · exact (hit 384 i6 w6 _ h6 (by omega)).trans ((hr.r6 _ t).trans (congrArg (g · t) (by simp only []; omega)))
  refine (miss 384 i6 w6 _ (by omega)).trans ?_
  by_cases h5 : 320 ≤ s.val
  · exact (hit 320 i5 w5 _ h5 (by omega)).trans ((hr.r5 _ t).trans (congrArg (g · t) (by simp only []; omega)))
  refine (miss 320 i5 w5 _ (by omega)).trans ?_
  by_cases h4 : 256 ≤ s.val
  · exact (hit 256 i4 w4 _ h4 (by omega)).trans ((hr.r4 _ t).trans (congrArg (g · t) (by simp only []; omega)))
  refine (miss 256 i4 w4 _ (by omega)).trans ?_
  by_cases h3 : 192 ≤ s.val
  · exact (hit 192 i3 w3 _ h3 (by omega)).trans ((hr.r3 _ t).trans (congrArg (g · t) (by simp only []; omega)))
  refine (miss 192 i3 w3 _ (by omega)).trans ?_
  by_cases h2 : 128 ≤ s.val
  · exact (hit 128 i2 w2 _ h2 (by omega)).trans ((hr.r2 _ t).trans (congrArg (g · t) (by simp only []; omega)))
  refine (miss 128 i2 w2 _ (by omega)).trans ?_
  by_cases h1 : 64 ≤ s.val
  · exact (hit 64 i1 w1 _ h1 (by omega)).trans ((hr.r1 _ t).trans (congrArg (g · t) (by simp only []; omega)))
  refine (miss 64 i1 w1 _ (by omega)).trans ?_
  exact (hit 0 i0 w0 _ (by omega) (by omega)).trans ((hr.r0 _ t).trans (congrArg (g · t) (by simp only []; omega)))

end Cert.Fox
-- ==== Proof.FoxWhere.lean ====
module

public import proofs.«01_k».proof.Proof.FoxStep

/-!
# Where the kernel reads its blocks

The grid's last coordinate `i` is the block of queries. The loop runs `(i - 1) / 2` times, and every block of keys the
kernel reads starts at 640 times its number.
-/

@[expose] public section

noncomputable section

open Idealize.ShloMosaic Idealize.ShloMosaic.TcCoe Idealize.SL.Sem

namespace Cert.Fox

open Cert.KernelFoxIdeal Cert.KernelFoxIdeal.Gen

theorem trips_eq (i : grid0.Coords) : (k0_t1_loop i).trips = ((i 2).val - 1) / 2 := by
  unfold k0_t1_loop
  obtain ⟨j, hj⟩ : ∃ j : Fin 13, j.val = (i 2).val := ⟨i 2, rfl⟩
  simp only [← hj]
  clear hj
  revert j
  decide

theorem trips_le (i : grid0.Coords) : (k0_t1_loop i).trips ≤ 6 := by
  have h : (i 2).val < 13 := (i 2).isLt
  rw [trips_eq]; omega

theorem off1_eq (i : grid0.Coords) : k0_off1 i = ![0, 640 * (i 2).val, 0] := by
  unfold k0_off1
  refine congrArg (fun x => (![0, x, 0] : Fin 3 → ℕ)) ?_
  obtain ⟨j, hj⟩ : ∃ j : Fin 13, j.val = (i 2).val := ⟨i 2, rfl⟩
  simp only [← hj]
  clear hj
  revert j
  decide

theorem off2_eq (i : grid0.Coords) : k0_off2 i = ![0, 640 * min 1 (i 2).val, 0] := by
  unfold k0_off2
  refine congrArg (fun x => (![0, x, 0] : Fin 3 → ℕ)) ?_
  obtain ⟨j, hj⟩ : ∃ j : Fin 13, j.val = (i 2).val := ⟨i 2, rfl⟩
  simp only [← hj]
  clear hj
  revert j
  decide

theorem off9_eq (i : grid0.Coords) (h : 1 ≤ (i 2).val) : k0_off9 i = ![0, 640 * ((i 2).val - 1), 0] := by
  unfold k0_off9
  refine congrArg (fun x => (![0, x, 0] : Fin 3 → ℕ)) ?_
  obtain ⟨j, hj⟩ : ∃ j : Fin 13, j.val = (i 2).val := ⟨i 2, rfl⟩
  simp only [← hj] at h ⊢
  clear hj
  revert j
  decide

theorem off3_eq (i : grid0.Coords) (k : Fin (k0_t1_loop i).trips) (r : Fin 2) :
    k0_off3 i k (BitVec.ofNat 32 (1 + r.val)) = ![0, 640 * min (2 * k.val + 2 + r.val) (i 2).val, 0] := by
  unfold k0_off3
  refine congrArg (fun x => (![0, x, 0] : Fin 3 → ℕ)) ?_
  obtain ⟨j, hj⟩ : ∃ j : Fin 13, j.val = (i 2).val := ⟨i 2, rfl⟩
  obtain ⟨l, hl⟩ : ∃ l : Fin 6, l.val = k.val := ⟨⟨k.val, lt_of_lt_of_le k.isLt (trips_le i)⟩, rfl⟩
  simp only [← hj, ← hl]
  clear hj hl
  revert j l r
  decide

theorem off4_eq (i : grid0.Coords) (k : Fin (k0_t1_loop i).trips) : k0_off4 i k = ![0, 640 * (2 * k.val + 1), 0] := by
  unfold k0_off4
  refine congrArg (fun x => (![0, x, 0] : Fin 3 → ℕ)) ?_
  obtain ⟨l, hl⟩ : ∃ l : Fin 6, l.val = k.val := ⟨⟨k.val, lt_of_lt_of_le k.isLt (trips_le i)⟩, rfl⟩
  simp only [← hl]
  clear hl
  revert l
  decide

theorem off5_eq (i : grid0.Coords) (k : Fin (k0_t1_loop i).trips) : k0_off5 i k = ![0, 640 * (2 * k.val + 2), 0] := by
  unfold k0_off5
  refine congrArg (fun x => (![0, x, 0] : Fin 3 → ℕ)) ?_
  obtain ⟨l, hl⟩ : ∃ l : Fin 6, l.val = k.val := ⟨⟨k.val, lt_of_lt_of_le k.isLt (trips_le i)⟩, rfl⟩
  simp only [← hl]
  clear hl
  revert l
  decide

variable {κ' : Kind} {sp : Space}

/-- A block read out of an array, at an entry. -/
theorem block_apply (v : View sig κ' sp S1x8320x128 .bf16) (f : v.ty.Contents (Elt Ideal)) (off : Fin 3 → ℕ) (o : ℕ) (ho : o + 640 ≤ 8320)
    (e : off = ![0, o, 0]) (inb : ∀ a, off a + S1x640x128.size a ≤ S1x8320x128.size a) (s : Fin 640) (d : Fin 128) :
    v.readAt (Elt Ideal) (Rect.unit (s := S1x8320x128) off S1x640x128.size inb).toLoadRect f (ix3 0 s d)
      = v.read (Elt Ideal) f (ix3 0 ⟨o + s.val, by omega⟩ d) := by
  subst e
  refine congrArg (v.read (Elt Ideal) f) ?_
  funext a; fin_cases a <;> refine Fin.ext ?_
  · rfl
  · show o + 1 * s.val = o + s.val; omega
  · show 0 + 1 * d.val = d.val; omega

/-- The logit of key `s` for query `t`: the product of the key's row with the query's, and of the two rows of bias columns. -/
def logit (q : FVec Ideal S640x256 .bf16) (x y : FVec Ideal S1x8320x128 .bf16) (t : Fin 640) (s : ℕ) : EReal :=
  if h : s < 8320 then
    (∑ d : Fin 128, (x (ix3 0 ⟨s, h⟩ d) : EReal) * q (ix2 t ⟨d.val, by omega⟩))
      + ∑ d : Fin 128, (y (ix3 0 ⟨s, h⟩ d) : EReal) * q (ix2 t ⟨128 + d.val, by omega⟩)
  else 0

/-- Entry `d` of the value of key `s`. -/
def value (z : FVec Ideal S1x8320x128 .bf16) (d : Fin 128) (s : ℕ) : EReal :=
  if h : s < 8320 then z (ix3 0 ⟨s, h⟩ d) else 0

theorem value_block (v : View sig κ' sp S1x8320x128 .bf16) (f : v.ty.Contents (Elt Ideal)) (off : Fin 3 → ℕ) (o : ℕ) (ho : o + 640 ≤ 8320)
    (e : off = ![0, o, 0]) (inb : ∀ a, off a + S1x640x128.size a ≤ S1x8320x128.size a) (s : Fin 640) (d : Fin 128) :
    (v.readAt (Elt Ideal) (Rect.unit (s := S1x8320x128) off S1x640x128.size inb).toLoadRect f (ix3 0 s d) : EReal) = value (v.read (Elt Ideal) f) d (o + s.val) := by
  rw [value, dif_pos (by omega)]
  exact block_apply v f off o ho e inb s d

/-- A block of keys against the queries: every entry is the logit. -/
theorem logit_block {κ'' : Kind} {sp' : Space} (q : FVec Ideal S640x256 .bf16) (v : View sig κ' sp S1x8320x128 .bf16) (f : v.ty.Contents (Elt Ideal))
    (w : View sig κ'' sp' S1x8320x128 .bf16) (g : w.ty.Contents (Elt Ideal)) (off : Fin 3 → ℕ) (o : ℕ) (ho : o + 640 ≤ 8320)
    (e : off = ![0, o, 0]) (inb inb' : ∀ a, off a + S1x640x128.size a ≤ S1x8320x128.size a) (s t : Fin 640) :
    (k0_pay2 q (v.readAt (Elt Ideal) (Rect.unit (s := S1x8320x128) off S1x640x128.size inb).toLoadRect f)
      (w.readAt (Elt Ideal) (Rect.unit (s := S1x8320x128) off S1x640x128.size inb').toLoadRect g) (ix3 0 s t) : EReal)
      = logit q (v.read (Elt Ideal) f) (w.read (Elt Ideal) g) t (o + s.val) := by
  have h1 := fun d : Fin 128 => block_apply v f off o ho e inb s d
  have h2 := fun d : Fin 128 => block_apply w g off o ho e inb' s d
  rw [logit, dif_pos (by omega)]
  simp only [← h1, ← h2]
  generalize v.readAt (Elt Ideal) (Rect.unit (s := S1x8320x128) off S1x640x128.size inb).toLoadRect f = x
  generalize w.readAt (Elt Ideal) (Rect.unit (s := S1x8320x128) off S1x640x128.size inb').toLoadRect g = y
  unfold k0_pay2
  pointwise

end Cert.Fox
-- ==== Proof.FoxLast.lean ====
module

public import proofs.«01_k».proof.Proof.FoxMasks
public import proofs.«01_k».proof.Proof.FoxSlots
public import proofs.«01_k».proof.Proof.FoxWhere

/-!
# The masked logits of a block of queries, and what the kernel writes

`raw` is the logit of a key for a query, `masked` the same with the bottom one where the key does not count. `Result` says what
an entry of the kernel's output block is: an accumulated sum times the reciprocal of the sum of the weights.
-/

@[expose] public section

noncomputable section

open Idealize.ShloMosaic Idealize.ShloMosaic.TcCoe Idealize.SL.Sem

namespace Cert.Fox

open Cert.KernelFoxIdeal Cert.KernelFoxIdeal.Gen

/-- The logit of key `s` for query `t` of a block. -/
def raw (x0 x1 : FVec Ideal S1x640x128 .bf16) (x2 x3 : FVec Ideal S1x8320x128 .bf16) (t : Fin 640) (s : ℕ) : EReal :=
  if h : s < 8320 then
    (∑ d : Fin 128, (x2 (ix3 0 ⟨s, h⟩ d) : EReal) * x0 (ix3 0 t d)) + ∑ d : Fin 128, (x3 (ix3 0 ⟨s, h⟩ d) : EReal) * x1 (ix3 0 t d)
  else 0

theorem logit_queries (x0 x1 : FVec Ideal S1x640x128 .bf16) (x2 x3 : FVec Ideal S1x8320x128 .bf16) (t : Fin 640) (s : ℕ) :
    logit (k0_pay213 (F := Ideal) x0 x1) x2 x3 t s = raw x0 x1 x2 x3 t s := by
  have e0 : ∀ d : Fin 128, (k0_pay213 (F := Ideal) x0 x1 (ix2 t ⟨d.val, by omega⟩) : EReal) = x0 (ix3 0 t d) := by
    intro d; unfold k0_pay213; pointwise
  have e1 : ∀ d : Fin 128, (k0_pay213 (F := Ideal) x0 x1 (ix2 t ⟨128 + d.val, by omega⟩) : EReal) = x1 (ix3 0 t d) := by
    intro d; unfold k0_pay213; pointwise
  unfold logit raw
  simp only [e0, e1]

/-- The same with the keys that do not count masked, for the queries of block `a`. -/
def masked (x0 x1 : FVec Ideal S1x640x128 .bf16) (x2 x3 : FVec Ideal S1x8320x128 .bf16) (a : ℕ) (t : Fin 640) (s : ℕ) : EReal :=
  if s ≤ 640 * a + t.val ∧ (112 ≤ s ∨ s = 640 * a + t.val) then raw x0 x1 x2 x3 t s else ⊥

theorem masked_below (x0 x1 : FVec Ideal S1x640x128 .bf16) (x2 x3 : FVec Ideal S1x8320x128 .bf16) (a : ℕ) (t : Fin 640) (s : ℕ) (h : 640 ≤ s) (h' : s < 640 * a) :
    masked x0 x1 x2 x3 a t s = raw x0 x1 x2 x3 t s := if_pos (by omega)

theorem masked_first (x0 x1 : FVec Ideal S1x640x128 .bf16) (x2 x3 : FVec Ideal S1x8320x128 .bf16) (a : ℕ) (ha : 1 ≤ a) (t s : Fin 640) :
    (if 112 ≤ s.val then raw x0 x1 x2 x3 t (640 * 0 + s.val) else ⊥) = masked x0 x1 x2 x3 a t (640 * 0 + s.val) := by
  unfold masked
  refine if_congr ?_ rfl rfl
  omega

theorem masked_last (x0 x1 : FVec Ideal S1x640x128 .bf16) (x2 x3 : FVec Ideal S1x8320x128 .bf16) (a : ℕ) (t : Fin 640) (s : ℕ) :
    (if s ≤ t.val ∧ (112 ≤ 640 * a + s ∨ s = t.val) then raw x0 x1 x2 x3 t (640 * a + s) else ⊥) = masked x0 x1 x2 x3 a t (640 * a + s) := by
  unfold masked
  refine if_congr ?_ rfl rfl
  omega

/-- The loads of whole buffers read the arrays they hold. -/
theorem load_whole {κ' : Kind} {sp : Space} {m : Memref sig κ' sp S1x640x128 .bf16} (h : m.IsWhole) (x : FVec Ideal S1x640x128 .bf16)
    (inb : ∀ a, (![0, 0, 0] : Fin 3 → ℕ) a + S1x640x128.size a ≤ S1x640x128.size a) :
    m.view.readAt (Elt Ideal) (Rect.unit (s := S1x640x128) ![0, 0, 0] S1x640x128.size inb).toLoadRect (h.unread x) = x :=
  (View.readAt_full m.view _ inb).trans (h.read_unread (Val := Elt Ideal) x)

theorem start_top (t : Fin 640) : (k0_pay214 (F := Ideal) (ix2 0 t) : EReal) = ⊥ := by
  refine Eq.trans ?_ low_eq
  unfold k0_pay214
  pointwise

theorem start_sum (t : Fin 640) : (k0_pay215 (F := Ideal) (ix2 0 t) : EReal) = 0 := by
  refine Eq.trans ?_ zero_word
  unfold k0_pay215
  pointwise

theorem start_acc (d : Fin 128) (t : Fin 640) : (k0_pay216 (F := Ideal) (ix2 d t) : EReal) = 0 := by
  refine Eq.trans ?_ zero_word
  unfold k0_pay216
  pointwise

/-- What the kernel keeps before the first block. -/
theorem kept_start (X : Fin 640 → ℕ → EReal) (V : Fin 128 → ℕ → EReal) : Kept X V (640 * 0) (k0_pay214 (F := Ideal)) (k0_pay215 (F := Ideal)) (k0_pay216 (F := Ideal)) := by
  intro t d
  rw [start_top, start_sum, start_acc]
  exact Seen.start _ _

/-- An entry of what a run writes. -/
def Result (X : Fin 640 → ℕ → EReal) (V : Fin 128 → ℕ → EReal) (n : ℕ) (o : FVec Ideal S1x640x128 .bf16) : Prop :=
  ∀ (t : Fin 640) (d : Fin 128), ∃ m l a : EReal, Seen (X t) (V d) n m l a ∧ (o (ix3 0 t d) : EReal) = a * Ideal.div (Ideal.ofBits .f32 0x3F800000#32) l

theorem Kept.result {X : Fin 640 → ℕ → EReal} {V : Fin 128 → ℕ → EReal} {n : ℕ} {m l : FVec Ideal S1x640 .f32} {a : FVec Ideal S128x640 .f32}
    (h : Kept X V n m l a) : Result X V n (k0_pay1 (F := Ideal) (k0_pay285 (F := Ideal) a l)) := by
  intro t d
  refine ⟨_, _, _, h t d, ?_⟩
  unfold k0_pay1 k0_pay285
  pointwise

/-- Three lists of writes, the last of them empty. -/
theorem read_after {κ' : Kind} {sp : Space} {s : Shape} {e : EltTy} (v : View sig κ' sp s e) (f : v.ty.Contents (Elt Ideal))
    (L0 L1 L2 : List (View.Piece (Elt Ideal) s e)) (h : L2 = []) :
    v.writes (Elt Ideal) f (L2 ++ (L1 ++ L0)) = v.writes (Elt Ideal) (v.writes (Elt Ideal) f L0) L1 := by
  rw [h]
  rw [List.nil_append]
  exact View.writes_append (Val := Elt Ideal) v f L1 L0

end Cert.Fox
-- ==== Proof.FoxRunA.lean ====
module

public import proofs.«01_k».proof.Proof.FoxLast
public import proofs.«01_k».proof.Proof.Gen.KernelFoxIdeal.Frame

/-!
# The run at the first block of queries

Only the queries' own block of keys is folded in.
-/

@[expose] public section

set_option maxHeartbeats 1000000

noncomputable section

open Idealize.ShloMosaic Idealize.ShloMosaic.TcCoe Idealize.SL.Sem

namespace Cert.Fox

open Cert.KernelFoxIdeal Cert.KernelFoxIdeal.Gen

variable (c : Dev nD) (i : grid0.Coords)
  (arg3 : Memref sig .tc .vmem S1x640x128 .bf16) (harg3 : arg3.IsWhole) (arg4 : Memref sig .tc .vmem S1x640x128 .bf16) (harg4 : arg4.IsWhole)
  (arg5 : Memref sig .tc .vmem S1x8320x128 .bf16) (harg5 : arg5.IsWhole) (arg6 : Memref sig .tc .vmem S1x8320x128 .bf16) (harg6 : arg6.IsWhole)
  (arg7 : Memref sig .tc .vmem S1x8320x128 .bf16) (harg7 : arg7.IsWhole) (arg8 : Memref sig .tc .vmem S1x640x128 .bf16) (harg8 : arg8.IsWhole)
  (arg9 : Memref sig .tc .vmem S1x640 .f32) (harg9 : arg9.IsWhole) (arg10 : Memref sig .tc .vmem S1x640 .f32) (harg10 : arg10.IsWhole)
  (arg11 : Memref sig .tc .vmem S128x640 .f32) (harg11 : arg11.IsWhole) (arg12 : Memref sig .tc .vmem S3x640x640 .f32) (harg12 : arg12.IsWhole)
  (arg13 : Memref sig .tc .vmem S640x640 .bf16) (harg13 : arg13.IsWhole)
  (x0 x1 : Vec Ideal S1x640x128 .bf16) (x2 x3 x4 : Vec Ideal S1x8320x128 .bf16)

/-- The third slot holds the logits of the queries' own block. -/
theorem slot_A : Slot arg12.view (arg12.view.writes (Elt Ideal) arg12.view.junk (kernelRun0_A.sl.HS3_1 (F := Ideal) c i arg3 harg3 arg4 harg4 arg5 harg5 arg6 harg6 x0 x1 x2 x3)) ⟨2, by decide⟩
    (fun s t => raw x0 x1 x2 x3 t (640 * (i 2).val + s)) := by
  have hi : (i 2).val < 13 := (i 2).isLt
  refine slot_put arg12.view _ 2 (by decide) _ _ [] _ ?_
  intro s t
  refine (logit_block _ _ _ _ _ _ (640 * (i 2).val) (by omega) (off1_eq i) _ _ s t).trans ?_
  rw [load_whole, load_whole, Memref.IsWhole.read_unread, Memref.IsWhole.read_unread]
  exact logit_queries _ _ _ _ _ _

theorem kept_A (h0 : (i 2).val = 0) : Kept (masked x0 x1 x2 x3 0) (value x4) (640 * 0 + 640) (kernelRun0_A.sl.r_13 (F := Ideal) c i arg3 harg3 arg4 harg4 arg5 harg5 arg6 harg6 arg9 arg12 x0 x1 x2 x3)
    (kernelRun0_A.sl.v637 (F := Ideal) c i arg3 harg3 arg4 harg4 arg5 harg5 arg6 harg6 arg9 arg10 arg12 x0 x1 x2 x3) (kernelRun0_A.sl.v636 (F := Ideal) c i arg3 harg3 arg4 harg4 arg5 harg5 arg6 harg6 arg7 harg7 arg9 arg11 arg12 arg13 x0 x1 x2 x3 x4) := by
  have hk : Kept (masked x0 x1 x2 x3 0) (value x4) (640 * 0) (kernelRun0_A.sl.v284 (F := Ideal) c arg9) (kernelRun0_A.sl.v611 (F := Ideal) c arg10) (kernelRun0_A.sl.v621 (F := Ideal) c arg11) := by
    have e1 : (kernelRun0_A.sl.v284 (F := Ideal) c arg9) = k0_pay214 (F := Ideal) := View.readCov_full arg9.view _ _ _ []
    have e2 : (kernelRun0_A.sl.v611 (F := Ideal) c arg10) = k0_pay215 (F := Ideal) := View.readCov_full arg10.view _ _ _ []
    have e3 : (kernelRun0_A.sl.v621 (F := Ideal) c arg11) = k0_pay216 (F := Ideal) := View.readCov_full arg11.view _ _ _ []
    rw [e1, e2, e3]
    exact kept_start _ _
  have hr0 := ((slot_A c i arg3 harg3 arg4 harg4 arg5 harg5 arg6 harg6 arg12 x0 x1 x2 x3).rows inb_S3x640x640_S1x64x640_2_0_0 inb_S3x640x640_S1x64x640_2_64_0 inb_S3x640x640_S1x64x640_2_128_0 inb_S3x640x640_S1x64x640_2_192_0 inb_S3x640x640_S1x64x640_2_256_0 inb_S3x640x640_S1x64x640_2_320_0 inb_S3x640x640_S1x64x640_2_384_0 inb_S3x640x640_S1x64x640_2_448_0 inb_S3x640x640_S1x64x640_2_512_0 inb_S3x640x640_S1x64x640_2_576_0).causal (i 2).val (i 2).isLt
  have eX : (fun (s : ℕ) (t : Fin 640) => if s ≤ t.val ∧ (112 ≤ 640 * (i 2).val + s ∨ s = t.val) then raw x0 x1 x2 x3 t (640 * (i 2).val + s) else ⊥)
      = fun s t => masked x0 x1 x2 x3 0 t (640 * 0 + s) := by
    funext s t; rw [h0]; exact masked_last _ _ _ _ _ _ _
  rw [eX] at hr0
  have hv : ∀ (s : Fin 640) (d : Fin 128), (View.readAt (Elt Ideal) arg7.view (Rect.unit (s := S1x8320x128) (k0_off1 i) S1x640x128.size (k0_off1_inb i)).toLoadRect (harg7.unread x4) (ix3 0 s d) : EReal)
      = value x4 d (640 * 0 + s.val) := by
    intro s d
    refine (value_block _ _ _ (640 * (i 2).val) (by omega) (off1_eq i) _ s d).trans ?_
    rw [h0, Memref.IsWhole.read_unread]
  have h := hk.step hr0 _ hv (kernelRun0_A.sl.v627 (F := Ideal) c i arg3 harg3 arg4 harg4 arg5 harg5 arg6 harg6 arg9 arg12 arg13 x0 x1 x2 x3) (m' := (kernelRun0_A.sl.r_13 (F := Ideal) c i arg3 harg3 arg4 harg4 arg5 harg5 arg6 harg6 arg9 arg12 x0 x1 x2 x3)) rfl ?_
  · have e1 : (kernelRun0_A.sl.v637 (F := Ideal) c i arg3 harg3 arg4 harg4 arg5 harg5 arg6 harg6 arg9 arg10 arg12 x0 x1 x2 x3) = _ := (View.readCov_full arg10.view _ _ _ _).trans (shapeCast_self _ _)
    have e2 : (kernelRun0_A.sl.v636 (F := Ideal) c i arg3 harg3 arg4 harg4 arg5 harg5 arg6 harg6 arg7 harg7 arg9 arg11 arg12 arg13 x0 x1 x2 x3 x4) = _ := (View.readCov_full arg11.view _ _ _ _).trans (shapeCast_self _ _)
    rw [e1, e2]
    exact h
  · intro s t
    refine (congrFun (View.readAt_full arg13.view _ inb_S640x640_S640x640_0_0) (ix2 s t)).trans ?_
    exact stored_rows arg13.view _ (fun s t => wt ((kernelRun0_A.sl.r_13 (F := Ideal) c i arg3 harg3 arg4 harg4 arg5 harg5 arg6 harg6 arg9 arg12 x0 x1 x2 x3) (ix2 0 t)) (masked x0 x1 x2 x3 0 t (640 * 0 + s))) _ _ _ _ _ _ _ _ _ _ []
      _ _ _ _ _ _ _ _ _ _ (hr0.stored _) s t

theorem result_A (hc0 : ¬ cond0_0 i) (h0 : (i 2).val = 0) : Result (masked x0 x1 x2 x3 0) (value x4) (640 * 0 + 640)
    (out0_A_5 (F := Ideal) c i arg3 harg3 arg4 harg4 arg5 harg5 arg6 harg6 arg7 harg7 arg8 harg8 arg9 harg9 arg10 harg10 arg11 harg11 arg12 harg12 arg13 harg13 hc0 x0 x1 x2 x3 x4) := by
  have e : out0_A_5 (F := Ideal) c i arg3 harg3 arg4 harg4 arg5 harg5 arg6 harg6 arg7 harg7 arg8 harg8 arg9 harg9 arg10 harg10 arg11 harg11 arg12 harg12 arg13 harg13 hc0 x0 x1 x2 x3 x4 = k0_pay1 (F := Ideal) (k0_pay285 (F := Ideal) (kernelRun0_A.sl.v636 (F := Ideal) c i arg3 harg3 arg4 harg4 arg5 harg5 arg6 harg6 arg7 harg7 arg9 arg11 arg12 arg13 x0 x1 x2 x3 x4)
      (kernelRun0_A.sl.v637 (F := Ideal) c i arg3 harg3 arg4 harg4 arg5 harg5 arg6 harg6 arg9 arg10 arg12 x0 x1 x2 x3)) := by
    unfold out0_A_5 kernelRun0_A
    exact View.read_writes_full _ _ _ _ []
  rw [e]
  exact (kept_A c i arg3 harg3 arg4 harg4 arg5 harg5 arg6 harg6 arg7 harg7 arg9 arg10 arg11 arg12 arg13 x0 x1 x2 x3 x4 h0).result

end Cert.Fox
-- ==== Proof.FoxTrip.lean ====
module

public import proofs.«01_k».proof.Proof.FoxSlots
public import proofs.«01_k».proof.Proof.FoxWhere
public import proofs.«01_k».proof.Proof.Gen.KernelFoxIdeal.Loops

/-!
# One trip of the kernel's loop over pairs of key blocks

A trip finds the logits of its first block already in a slot of the logit buffer. It computes those of the second block,
folds the first block in, computes the logits the next trip starts from, and folds the second block in.
-/

@[expose] public section

noncomputable section

open Idealize.ShloMosaic Idealize.ShloMosaic.TcCoe Idealize.SL.Sem

namespace Cert.Fox

open Cert.KernelFoxIdeal Cert.KernelFoxIdeal.Gen

variable (𝒱 : Variants) (c : Dev nD) (bd : Option 𝒱.V) (i : grid0.Coords)
  (arg3 : Memref sig .tc .vmem S1x640x128 .bf16) (harg3 : arg3.IsWhole) (arg4 : Memref sig .tc .vmem S1x640x128 .bf16) (harg4 : arg4.IsWhole)
  (arg5 : Memref sig .tc .vmem S1x8320x128 .bf16) (harg5 : arg5.IsWhole) (arg6 : Memref sig .tc .vmem S1x8320x128 .bf16) (harg6 : arg6.IsWhole)
  (arg7 : Memref sig .tc .vmem S1x8320x128 .bf16) (harg7 : arg7.IsWhole) (arg8 : Memref sig .tc .vmem S1x640x128 .bf16) (harg8 : arg8.IsWhole)
  (arg9 : Memref sig .tc .vmem S1x640 .f32) (harg9 : arg9.IsWhole) (arg10 : Memref sig .tc .vmem S1x640 .f32) (harg10 : arg10.IsWhole)
  (arg11 : Memref sig .tc .vmem S128x640 .f32) (harg11 : arg11.IsWhole) (arg12 : Memref sig .tc .vmem S3x640x640 .f32) (harg12 : arg12.IsWhole)
  (arg13 : Memref sig .tc .vmem S640x640 .bf16) (harg13 : arg13.IsWhole)
  (arg2 : BitVec 32) (v4 : FVec Ideal S640x256 .bf16) (k0_h1 : k0_cond1 i = 1#1) (v817 : FVec Ideal S1x640 .f32) (v1039 : BitVec 32)
  (v1040 : Vec Ideal S128x640 .f32) (v1041 : FVec Ideal S128x640 .f32)
  (X_arg5 : BufTy.Contents (Elt Ideal) arg5.view.ty) (X_arg6 : BufTy.Contents (Elt Ideal) arg6.view.ty) (X_arg7 : BufTy.Contents (Elt Ideal) arg7.view.ty)
  (k : Fin (k0_t1_loop i).trips) (acc : BitVec 32)
  (f_arg9 : BufTy.Contents (Elt Ideal) arg9.view.ty) (f_arg10 : BufTy.Contents (Elt Ideal) arg10.view.ty)
  (f_arg11 : BufTy.Contents (Elt Ideal) arg11.view.ty) (f_arg12 : BufTy.Contents (Elt Ideal) arg12.view.ty)
  (f_arg13 : BufTy.Contents (Elt Ideal) arg13.view.ty)

theorem view_cast {a b : ℕ} (x : (⟨2, ![a, b]⟩ : Shape).Idx → EReal) (h : (⟨2, ![a, b]⟩ : Shape).ShapeCasts ⟨2, ![a, b]⟩) :
    shapeCast ⟨2, ![a, b]⟩ x h = x := shapeCast_self x h

/-- The first half of a trip: the block whose logits the second slot holds. -/
theorem trip_first {X : Fin 640 → ℕ → EReal} {V : Fin 128 → ℕ → EReal} {n : ℕ}
    (hk : Kept X V n (arg9.view.read (Elt Ideal) f_arg9) (arg10.view.read (Elt Ideal) f_arg10) (arg11.view.read (Elt Ideal) f_arg11))
    (hs : Slot arg12.view f_arg12 ⟨1, by decide⟩ (fun s t => X t (n + s)))
    (hv : ∀ (s : Fin 640) (d : Fin 128), (View.readAt (Elt Ideal) arg7.view (Rect.unit (s := S1x8320x128) (k0_off4 i k) S1x640x128.size (k0_off4_inb i k k0_h1)).toLoadRect X_arg7 (ix3 0 s d) : EReal) = V d (n + s.val)) :
    Kept X V (n + 640) (trip_k0_t1.sl.v1164 (F := Ideal) arg9 arg12 f_arg9 f_arg12)
      (trip_k0_t1.sl.v1292 (F := Ideal) arg9 arg10 arg12 f_arg9 f_arg10 f_arg12)
      (trip_k0_t1.sl.v1306 (F := Ideal) i arg7 arg9 arg11 arg12 arg13 k0_h1 X_arg7 k f_arg9 f_arg11 f_arg12) := by
  have hk' : Kept X V n
      (View.readAt (Elt Ideal) arg9.view (Rect.unit (s := S1x640) ![0, 0] S1x640.size inb_S1x640_S1x640_0_0).toLoadRect f_arg9)
      (View.readAt (Elt Ideal) arg10.view (Rect.unit (s := S1x640) ![0, 0] S1x640.size inb_S1x640_S1x640_0_0).toLoadRect f_arg10)
      (View.readAt (Elt Ideal) arg11.view (Rect.unit (s := S128x640) ![0, 0] S128x640.size inb_S128x640_S128x640_0_0).toLoadRect f_arg11) := by
    rw [View.readAt_full, View.readAt_full, View.readAt_full]; exact hk
  have hr := hs.rows inb_S3x640x640_S1x64x640_1_0_0 inb_S3x640x640_S1x64x640_1_64_0 inb_S3x640x640_S1x64x640_1_128_0 inb_S3x640x640_S1x64x640_1_192_0
    inb_S3x640x640_S1x64x640_1_256_0 inb_S3x640x640_S1x64x640_1_320_0 inb_S3x640x640_S1x64x640_1_384_0 inb_S3x640x640_S1x64x640_1_448_0
    inb_S3x640x640_S1x64x640_1_512_0 inb_S3x640x640_S1x64x640_1_576_0
  refine hk'.step hr _ hv (trip_k0_t1.sl.v1304 (F := Ideal) arg9 arg12 arg13 f_arg9 f_arg12)
    (m' := trip_k0_t1.sl.v1164 (F := Ideal) arg9 arg12 f_arg9 f_arg12) rfl ?_
  intro s t
  refine (congrFun (View.readAt_full arg13.view _ inb_S640x640_S640x640_0_0) (ix2 s t)).trans ?_
  exact stored_rows arg13.view _ (fun s t => wt (trip_k0_t1.sl.v1164 (F := Ideal) arg9 arg12 f_arg9 f_arg12 (ix2 0 t)) (X t (n + s))) _ _ _ _ _ _ _ _ _ _ []
    _ _ _ _ _ _ _ _ _ _ (hr.stored _) s t

/-- The second half: the block whose logits the first half put into the first slot. -/
theorem trip_second {X : Fin 640 → ℕ → EReal} {V : Fin 128 → ℕ → EReal} {n : ℕ}
    (hk : Kept X V n (trip_k0_t1.sl.v1164 (F := Ideal) arg9 arg12 f_arg9 f_arg12)
      (trip_k0_t1.sl.v1292 (F := Ideal) arg9 arg10 arg12 f_arg9 f_arg10 f_arg12)
      (trip_k0_t1.sl.v1306 (F := Ideal) i arg7 arg9 arg11 arg12 arg13 k0_h1 X_arg7 k f_arg9 f_arg11 f_arg12))
    (hs : Slot arg12.view (arg12.view.writes (Elt Ideal) arg12.view.junk (trip_k0_t1.sl.HW_arg12_2 (F := Ideal) i arg5 arg6 v4 k0_h1 X_arg5 X_arg6 k)) ⟨0, by decide⟩
      (fun s t => X t (n + s)))
    (hv : (∀ (s : Fin 640) (d : Fin 128), (View.readAt (Elt Ideal) arg7.view (Rect.unit (s := S1x8320x128) (k0_off5 i k) S1x640x128.size (k0_off5_inb i k k0_h1)).toLoadRect X_arg7 (ix3 0 s d) : EReal) = V d (n + s.val))) :
    Kept X V (n + 640) (trip_k0_t1.sl.v1383 (F := Ideal) i arg5 arg6 arg9 arg12 v4 k0_h1 X_arg5 X_arg6 k f_arg9 f_arg12)
      (trip_k0_t1.sl.v1511 (F := Ideal) i arg5 arg6 arg9 arg10 arg12 v4 k0_h1 X_arg5 X_arg6 k f_arg9 f_arg10 f_arg12)
      (k0_pay211 (F := Ideal) (trip_k0_t1.sl.v1519 (F := Ideal) i arg5 arg6 arg7 arg9 arg11 arg12 arg13 v4 k0_h1 X_arg5 X_arg6 X_arg7 k f_arg9 f_arg11 f_arg12)
        (trip_k0_t1.sl.v1522 (F := Ideal) i arg7 k0_h1 X_arg7 k) (trip_k0_t1.sl.v1523 (F := Ideal) i arg5 arg6 arg9 arg12 arg13 v4 k0_h1 X_arg5 X_arg6 k f_arg9 f_arg12)) := by
  have hk' : Kept X V n (trip_k0_t1.sl.v1380 (F := Ideal) arg9 arg12 f_arg9 f_arg12) (trip_k0_t1.sl.v1507 (F := Ideal) arg9 arg10 arg12 f_arg9 f_arg10 f_arg12)
      (trip_k0_t1.sl.v1517 (F := Ideal) i arg7 arg9 arg11 arg12 arg13 k0_h1 X_arg7 k f_arg9 f_arg11 f_arg12) := by
    have e1 : trip_k0_t1.sl.v1380 (F := Ideal) arg9 arg12 f_arg9 f_arg12 = trip_k0_t1.sl.v1164 (F := Ideal) arg9 arg12 f_arg9 f_arg12 :=
      (View.readCov_full arg9.view _ _ _ []).trans (view_cast _ _)
    have e2 : trip_k0_t1.sl.v1507 (F := Ideal) arg9 arg10 arg12 f_arg9 f_arg10 f_arg12 = trip_k0_t1.sl.v1292 (F := Ideal) arg9 arg10 arg12 f_arg9 f_arg10 f_arg12 :=
      (View.readCov_full arg10.view _ _ _ []).trans (view_cast _ _)
    have e3 : trip_k0_t1.sl.v1517 (F := Ideal) i arg7 arg9 arg11 arg12 arg13 k0_h1 X_arg7 k f_arg9 f_arg11 f_arg12
        = trip_k0_t1.sl.v1306 (F := Ideal) i arg7 arg9 arg11 arg12 arg13 k0_h1 X_arg7 k f_arg9 f_arg11 f_arg12 :=
      (View.readCov_full arg11.view _ _ _ []).trans (view_cast _ _)
    rw [e1, e2, e3]; exact hk
  have hr := hs.rows inb_S3x640x640_S1x64x640_0_0_0 inb_S3x640x640_S1x64x640_0_64_0 inb_S3x640x640_S1x64x640_0_128_0 inb_S3x640x640_S1x64x640_0_192_0 inb_S3x640x640_S1x64x640_0_256_0 inb_S3x640x640_S1x64x640_0_320_0 inb_S3x640x640_S1x64x640_0_384_0 inb_S3x640x640_S1x64x640_0_448_0 inb_S3x640x640_S1x64x640_0_512_0 inb_S3x640x640_S1x64x640_0_576_0
  have h := hk'.step hr _ hv (trip_k0_t1.sl.v1523 (F := Ideal) i arg5 arg6 arg9 arg12 arg13 v4 k0_h1 X_arg5 X_arg6 k f_arg9 f_arg12)
    (m' := trip_k0_t1.sl.v1383 (F := Ideal) i arg5 arg6 arg9 arg12 v4 k0_h1 X_arg5 X_arg6 k f_arg9 f_arg12) rfl ?_
  · have e : k0_pay211 (F := Ideal) (trip_k0_t1.sl.v1519 (F := Ideal) i arg5 arg6 arg7 arg9 arg11 arg12 arg13 v4 k0_h1 X_arg5 X_arg6 X_arg7 k f_arg9 f_arg11 f_arg12)
        (trip_k0_t1.sl.v1522 (F := Ideal) i arg7 k0_h1 X_arg7 k) (trip_k0_t1.sl.v1523 (F := Ideal) i arg5 arg6 arg9 arg12 arg13 v4 k0_h1 X_arg5 X_arg6 k f_arg9 f_arg12) = _ :=
      view_cast _ _
    rw [e]; exact h
  · intro s t
    refine (congrFun (View.readAt_full arg13.view _ inb_S640x640_S640x640_0_0) (ix2 s t)).trans ?_
    exact stored_rows arg13.view _ (fun s t => wt (trip_k0_t1.sl.v1383 (F := Ideal) i arg5 arg6 arg9 arg12 v4 k0_h1 X_arg5 X_arg6 k f_arg9 f_arg12 (ix2 0 t)) (X t (n + s))) _ _ _ _ _ _ _ _ _ _
      (trip_k0_t1.sl.HW_arg13_10 (F := Ideal) arg9 arg12 f_arg9 f_arg12) _ _ _ _ _ _ _ _ _ _ (hr.stored _) s t

/-- A trip as a whole: two more blocks are folded in, and the second slot holds the logits of the next one. -/
theorem trip_kept {X : Fin 640 → ℕ → EReal} {V : Fin 128 → ℕ → EReal} {n : ℕ} {g : ℕ → Fin 640 → EReal}
    (hk : Kept X V n (arg9.view.read (Elt Ideal) f_arg9) (arg10.view.read (Elt Ideal) f_arg10) (arg11.view.read (Elt Ideal) f_arg11))
    (hs : Slot arg12.view f_arg12 ⟨1, by decide⟩ (fun s t => X t (n + s)))
    (hv1 : (∀ (s : Fin 640) (d : Fin 128), (View.readAt (Elt Ideal) arg7.view (Rect.unit (s := S1x8320x128) (k0_off4 i k) S1x640x128.size (k0_off4_inb i k k0_h1)).toLoadRect X_arg7 (ix3 0 s d) : EReal) = V d (n + s.val)))
    (hv2 : (∀ (s : Fin 640) (d : Fin 128), (View.readAt (Elt Ideal) arg7.view (Rect.unit (s := S1x8320x128) (k0_off5 i k) S1x640x128.size (k0_off5_inb i k k0_h1)).toLoadRect X_arg7 (ix3 0 s d) : EReal) = V d (n + 640 + s.val)))
    (hq1 : ∀ s t : Fin 640, (k0_pay2 v4 (View.readAt (Elt Ideal) arg5.view (Rect.unit (s := S1x8320x128) (k0_off3 i k 1#32) S1x640x128.size (k0_off3_inb i k k0_h1 0)).toLoadRect X_arg5) (View.readAt (Elt Ideal) arg6.view (Rect.unit (s := S1x8320x128) (k0_off3 i k 1#32) S1x640x128.size (k0_off3_inb i k k0_h1 0)).toLoadRect X_arg6) (ix3 0 s t) : EReal) = X t (n + 640 + s.val))
    (hq2 : ∀ s t : Fin 640, (k0_pay37 v4 (View.readAt (Elt Ideal) arg5.view (Rect.unit (s := S1x8320x128) (k0_off3 i k 2#32) S1x640x128.size (k0_off3_inb i k k0_h1 1)).toLoadRect X_arg5) (View.readAt (Elt Ideal) arg6.view (Rect.unit (s := S1x8320x128) (k0_off3 i k 2#32) S1x640x128.size (k0_off3_inb i k k0_h1 1)).toLoadRect X_arg6) (ix3 0 s t) : EReal) = g s.val t) :
    Kept X V (n + 640 + 640)
      (arg9.view.read (Elt Ideal) (arg9.view.writes (Elt Ideal) f_arg9 (tripL_k0_t1 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k acc f_arg9 f_arg10 f_arg11 f_arg12 f_arg13).1))
      (arg10.view.read (Elt Ideal) (arg10.view.writes (Elt Ideal) f_arg10 (tripL_k0_t1 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k acc f_arg9 f_arg10 f_arg11 f_arg12 f_arg13).2.1))
      (arg11.view.read (Elt Ideal) (arg11.view.writes (Elt Ideal) f_arg11 (tripL_k0_t1 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k acc f_arg9 f_arg10 f_arg11 f_arg12 f_arg13).2.2.1))
    ∧ Slot arg12.view (arg12.view.writes (Elt Ideal) f_arg12 (tripL_k0_t1 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k acc f_arg9 f_arg10 f_arg11 f_arg12 f_arg13).2.2.2.1) ⟨1, by decide⟩ g
    ∧ ∀ g2 : ℕ → Fin 640 → EReal, Slot arg12.view f_arg12 ⟨2, by decide⟩ g2 → Slot arg12.view (arg12.view.writes (Elt Ideal) f_arg12 (tripL_k0_t1 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k acc f_arg9 f_arg10 f_arg11 f_arg12 f_arg13).2.2.2.1) ⟨2, by decide⟩ g2 := by
  have hs0 : Slot arg12.view (arg12.view.writes (Elt Ideal) arg12.view.junk (trip_k0_t1.sl.HW_arg12_2 (F := Ideal) i arg5 arg6 v4 k0_h1 X_arg5 X_arg6 k)) ⟨0, by decide⟩
      (fun s t => X t (n + 640 + s)) := by
    refine slot_skip arg12.view _ 1 ⟨0, by decide⟩ (Or.inl (by decide)) _ _ _ _ ?_
    exact slot_put arg12.view _ 0 (by decide) _ _ _ _ hq1
  have h2 := trip_second i arg5 arg6 arg7 arg9 arg10 arg11 arg12 arg13 v4 k0_h1 X_arg5 X_arg6 X_arg7 k f_arg9 f_arg10 f_arg11 f_arg12
    (trip_first i arg7 arg9 arg10 arg11 arg12 arg13 k0_h1 X_arg7 k f_arg9 f_arg10 f_arg11 f_arg12 hk hs hv1) hs0 hv2
  unfold tripL_k0_t1 trip_k0_t1
  refine ⟨?_, ?_, ?_⟩
  · intro t d
    have e1 := congrFun ((View.read_writes_full arg9.view f_arg9 inb_S1x640_S1x640_0_0 (k0_pay212 (F := Ideal) (trip_k0_t1.sl.v1383 (F := Ideal) i arg5 arg6 arg9 arg12 v4 k0_h1 X_arg5 X_arg6 k f_arg9 f_arg12)) (trip_k0_t1.sl.HW_arg9_1 (F := Ideal) arg9 arg12 f_arg9 f_arg12)).trans (view_cast _ _)) (ix2 0 t)
    have e2 := congrFun ((View.read_writes_full arg10.view f_arg10 inb_S1x640_S1x640_0_0 (trip_k0_t1.sl.v1514 (F := Ideal) i arg5 arg6 arg9 arg10 arg12 v4 k0_h1 X_arg5 X_arg6 k f_arg9 f_arg10 f_arg12) (trip_k0_t1.sl.HW_arg10_1 (F := Ideal) arg9 arg10 arg12 f_arg9 f_arg10 f_arg12)).trans (view_cast _ _)) (ix2 0 t)
    have e3 := congrFun (View.read_writes_full arg11.view f_arg11 inb_S128x640_S128x640_0_0 (k0_pay211 (F := Ideal) (trip_k0_t1.sl.v1519 (F := Ideal) i arg5 arg6 arg7 arg9 arg11 arg12 arg13 v4 k0_h1 X_arg5 X_arg6 X_arg7 k f_arg9 f_arg11 f_arg12)
        (trip_k0_t1.sl.v1522 (F := Ideal) i arg7 k0_h1 X_arg7 k) (trip_k0_t1.sl.v1523 (F := Ideal) i arg5 arg6 arg9 arg12 arg13 v4 k0_h1 X_arg5 X_arg6 k f_arg9 f_arg12)) (trip_k0_t1.sl.HW_arg11_1 (F := Ideal) i arg7 arg9 arg11 arg12 arg13 k0_h1 X_arg7 k f_arg9 f_arg11 f_arg12)) (ix2 d t)
    have h := h2 t d
    rw [← e1, ← e2, ← e3] at h
    exact h
  · exact slot_put arg12.view _ 1 (by decide) _ _ _ _ hq2
  · intro g2 hg
    exact slot_skip arg12.view _ 1 ⟨2, by decide⟩ (Or.inr (by decide)) _ _ _ _ (slot_skip arg12.view _ 0 ⟨2, by decide⟩ (Or.inr (by decide)) _ _ [] _ hg)

variable (G_arg9 : BufTy.Contents (Elt Ideal) arg9.view.ty) (G_arg10 : BufTy.Contents (Elt Ideal) arg10.view.ty)
  (G_arg11 : BufTy.Contents (Elt Ideal) arg11.view.ty) (G_arg12 : BufTy.Contents (Elt Ideal) arg12.view.ty)
  (G_arg13 : BufTy.Contents (Elt Ideal) arg13.view.ty) (init : BitVec 32)

/-- The whole loop. Before trip `m` the blocks below `2 m + 1` are folded in, the second slot holds the logits of block
`2 m + 1`, and the third slot holds what it held. -/
theorem loop_kept {X : Fin 640 → ℕ → EReal}
    (hX : ∀ t s, 640 ≤ s → s < 640 * (i 2).val → X t s = logit v4 (arg5.view.read (Elt Ideal) X_arg5) (arg6.view.read (Elt Ideal) X_arg6) t s)
    (hk : Kept X (value (arg7.view.read (Elt Ideal) X_arg7)) 640 (arg9.view.read (Elt Ideal) G_arg9) (arg10.view.read (Elt Ideal) G_arg10) (arg11.view.read (Elt Ideal) G_arg11))
    (hs : Slot arg12.view G_arg12 ⟨1, by decide⟩ (fun s t => logit v4 (arg5.view.read (Elt Ideal) X_arg5) (arg6.view.read (Elt Ideal) X_arg6) t (640 + s))) (m : ℕ) (hm : m ≤ (k0_t1_loop i).trips) :
    Kept X (value (arg7.view.read (Elt Ideal) X_arg7)) (640 * (2 * m + 1))
      (arg9.view.read (Elt Ideal) (arg9.view.writes (Elt Ideal) G_arg9 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.1))
      (arg10.view.read (Elt Ideal) (arg10.view.writes (Elt Ideal) G_arg10 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.2.1))
      (arg11.view.read (Elt Ideal) (arg11.view.writes (Elt Ideal) G_arg11 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.2.2.1))
    ∧ Slot arg12.view (arg12.view.writes (Elt Ideal) G_arg12 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.2.2.2.1) ⟨1, by decide⟩ (fun s t => logit v4 (arg5.view.read (Elt Ideal) X_arg5) (arg6.view.read (Elt Ideal) X_arg6) t (640 * (2 * m + 1) + s))
    ∧ ∀ g2 : ℕ → Fin 640 → EReal, Slot arg12.view G_arg12 ⟨2, by decide⟩ g2 → Slot arg12.view (arg12.view.writes (Elt Ideal) G_arg12 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.2.2.2.1) ⟨2, by decide⟩ g2 := by
  induction m with
  | zero => exact ⟨hk, hs, fun _ h => h⟩
  | succ m ih =>
    obtain ⟨hk, hs, hg⟩ := ih (by omega)
    have hi : (i 2).val < 13 := (i 2).isLt
    have ht := trips_eq i
    let k : Fin (k0_t1_loop i).trips := ⟨m, by omega⟩
    have e1 : k0_off3 i k 1#32 = ![0, 640 * (2 * m + 2), 0] := by
      refine (off3_eq i k 0).trans ?_
      show ![0, 640 * min (2 * m + 2 + 0) (i 2).val, 0] = _
      rw [show min (2 * m + 2 + 0) (i 2).val = 2 * m + 2 by omega]
    have e2 : k0_off3 i k 2#32 = ![0, 640 * (2 * m + 3), 0] := by
      refine (off3_eq i k 1).trans ?_
      show ![0, 640 * min (2 * m + 2 + 1) (i 2).val, 0] = _
      rw [show min (2 * m + 2 + 1) (i 2).val = 2 * m + 3 by omega]
    have h := trip_kept 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 k
      (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).1
      _ _ _ _ (arg13.view.writes (Elt Ideal) G_arg13 (st_k0_t1 (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init m).2.2.2.2.2)
      (X := X) (V := value (arg7.view.read (Elt Ideal) X_arg7)) (n := 640 * (2 * m + 1)) (g := fun s t => logit v4 (arg5.view.read (Elt Ideal) X_arg5) (arg6.view.read (Elt Ideal) X_arg6) t (640 * (2 * (m + 1) + 1) + s))
      hk (fun s t => (hs s t).trans (hX t _ (by omega) (by omega)).symm)
      (fun s d => value_block _ _ _ (640 * (2 * m + 1)) (by omega) (off4_eq i k) _ s d)
      (fun s d => (value_block _ _ _ (640 * (2 * m + 2)) (by omega) (off5_eq i k) _ s d).trans (congrArg _ (by omega)))
      (fun s t => (logit_block v4 _ _ _ _ _ (640 * (2 * m + 2)) (by omega) e1 _ _ s t).trans ((hX t _ (by omega) (by omega)).symm.trans (congrArg _ (by omega))))
      (fun s t => (logit_block v4 _ _ _ _ _ (640 * (2 * m + 3)) (by omega) e2 _ _ s t).trans (congrArg _ (by omega)))
    have e := st_k0_t1_succ (F := Ideal) 𝒱 c bd i arg3 harg3 arg4 harg4 arg5 harg5 arg6 harg6 arg7 harg7 arg8 harg8 arg9 harg9 arg10 harg10 arg11 harg11 arg12 harg12 arg13 harg13 arg2 v4 k0_h1
      v817 v1039 v1040 v1041 X_arg5 X_arg6 X_arg7 G_arg9 G_arg10 G_arg11 G_arg12 G_arg13 init k
    rw [show m + 1 = k.val + 1 from rfl, e]
    rw [show 640 * (2 * (k.val + 1) + 1) = 640 * (2 * m + 1) + 640 + 640 by show 640 * (2 * (m + 1) + 1) = _; omega]
    simp only [View.writes_append]
    exact ⟨h.1, h.2.1, fun g2 h2 => h.2.2 g2 (hg g2 h2)⟩

end Cert.Fox
-- ==== Proof.FoxRunB.lean ====
module

public import proofs.«01_k».proof.Proof.FoxLast
public import proofs.«01_k».proof.Proof.FoxTrip
public import proofs.«01_k».proof.Proof.Gen.KernelFoxIdeal.Frame

/-!
# The run at an odd block of queries

The padding's block is folded in first, then the loop's pairs of blocks, and the queries' own block last.
-/

@[expose] public section

set_option maxHeartbeats 2000000

noncomputable section

open Idealize.ShloMosaic Idealize.ShloMosaic.TcCoe Idealize.SL.Sem

namespace Cert.Fox

open Cert.KernelFoxIdeal Cert.KernelFoxIdeal.Gen

variable (c : Dev nD) (i : grid0.Coords)
  (arg3 : Memref sig .tc .vmem S1x640x128 .bf16) (harg3 : arg3.IsWhole) (arg4 : Memref sig .tc .vmem S1x640x128 .bf16) (harg4 : arg4.IsWhole)
  (arg5 : Memref sig .tc .vmem S1x8320x128 .bf16) (harg5 : arg5.IsWhole) (arg6 : Memref sig .tc .vmem S1x8320x128 .bf16) (harg6 : arg6.IsWhole)
  (arg7 : Memref sig .tc .vmem S1x8320x128 .bf16) (harg7 : arg7.IsWhole) (arg8 : Memref sig .tc .vmem S1x640x128 .bf16) (harg8 : arg8.IsWhole)
  (arg9 : Memref sig .tc .vmem S1x640 .f32) (harg9 : arg9.IsWhole) (arg10 : Memref sig .tc .vmem S1x640 .f32) (harg10 : arg10.IsWhole)
  (arg11 : Memref sig .tc .vmem S128x640 .f32) (harg11 : arg11.IsWhole) (arg12 : Memref sig .tc .vmem S3x640x640 .f32) (harg12 : arg12.IsWhole)
  (arg13 : Memref sig .tc .vmem S640x640 .bf16) (harg13 : arg13.IsWhole)
  (hc0 : cond0_0 i)
  (x0 x1 : Vec Ideal S1x640x128 .bf16) (x2 x3 x4 : Vec Ideal S1x8320x128 .bf16)

/-- The buffer of logits before the loop: the padding's block, the block after it, and the queries' own. -/
theorem slots_B (hi1 : 1 ≤ (i 2).val) :
    Slot arg12.view (arg12.view.writes (Elt Ideal) arg12.view.junk (kernelRun0_B.sl.HS3_3 (F := Ideal) c i arg3 harg3 arg4 harg4 arg5 harg5 arg6 harg6 hc0 x0 x1 x2 x3)) ⟨0, by decide⟩ (fun s t => raw x0 x1 x2 x3 t (640 * 0 + s))
    ∧ Slot arg12.view (arg12.view.writes (Elt Ideal) arg12.view.junk (kernelRun0_B.sl.HS3_3 (F := Ideal) c i arg3 harg3 arg4 harg4 arg5 harg5 arg6 harg6 hc0 x0 x1 x2 x3)) ⟨1, by decide⟩ (fun s t => raw x0 x1 x2 x3 t (640 + s))
    ∧ Slot arg12.view (arg12.view.writes (Elt Ideal) arg12.view.junk (kernelRun0_B.sl.HS3_3 (F := Ideal) c i arg3 harg3 arg4 harg4 arg5 harg5 arg6 harg6 hc0 x0 x1 x2 x3)) ⟨2, by decide⟩ (fun s t => raw x0 x1 x2 x3 t (640 * (i 2).val + s)) := by
  have hi : (i 2).val < 13 := (i 2).isLt
  have e2 : k0_off2 i = ![0, 640, 0] := by rw [off2_eq, show min 1 (i 2).val = 1 by omega]
  refine ⟨?_, ?_, ?_⟩
  · refine slot_skip arg12.view _ 1 ⟨0, by decide⟩ (Or.inl (by decide)) _ _ _ _ (slot_put arg12.view _ 0 (by decide) _ _ _ _ ?_)
    intro s t
    refine (logit_block _ _ _ _ _ _ (640 * 0) (by omega) rfl _ _ s t).trans ?_
    unfold kernelRun0_B.sl.r
    rw [load_whole, load_whole, Memref.IsWhole.read_unread, Memref.IsWhole.read_unread]
    exact logit_queries _ _ _ _ _ _
  · refine slot_put arg12.view _ 1 (by decide) _ _ _ _ ?_
    intro s t
    refine (logit_block _ _ _ _ _ _ 640 (by omega) e2 _ _ s t).trans ?_
    unfold kernelRun0_B.sl.r
    rw [load_whole, load_whole, Memref.IsWhole.read_unread, Memref.IsWhole.read_unread]
    exact logit_queries _ _ _ _ _ _
  · refine slot_skip arg12.view _ 1 ⟨2, by decide⟩ (Or.inr (by decide)) _ _ _ _
      (slot_skip arg12.view _ 0 ⟨2, by decide⟩ (Or.inr (by decide)) _ _ _ _ (slot_put arg12.view _ 2 (by decide) _ _ [] _ ?_))
    intro s t
    refine (logit_block _ _ _ _ _ _ (640 * (i 2).val) (by omega) (off1_eq i) _ _ s t).trans ?_
    rw [load_whole, load_whole, Memref.IsWhole.read_unread, Memref.IsWhole.read_unread]
    exact logit_queries _ _ _ _ _ _

/-- What is kept once the padding's block is in. -/
theorem first_B (hi1 : 1 ≤ (i 2).val) : Kept (masked x0 x1 x2 x3 (i 2).val) (value x4) 640
    (arg9.view.read (Elt Ideal) (arg9.view.writes (Elt Ideal) arg9.view.junk (kernelRun0_B.sl.HS0_2 (F := Ideal) c i arg3 harg3 arg4 harg4 arg5 harg5 arg6 harg6 arg9 arg12 hc0 x0 x1 x2 x3)))
    (arg10.view.read (Elt Ideal) (arg10.view.writes (Elt Ideal) arg10.view.junk (kernelRun0_B.sl.HS1_2 (F := Ideal) c i arg3 harg3 arg4 harg4 arg5 harg5 arg6 harg6 arg9 arg10 arg12 hc0 x0 x1 x2 x3)))
    (arg11.view.read (Elt Ideal) (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4))) := by
  have hk : Kept (masked x0 x1 x2 x3 (i 2).val) (value x4) (640 * 0) (kernelRun0_B.sl.v814 (F := Ideal) c arg9) (kernelRun0_B.sl.v1031 (F := Ideal) c arg10) (kernelRun0_B.sl.v1040 (F := Ideal) c arg11) := by
    have e1 : (kernelRun0_B.sl.v814 (F := Ideal) c arg9) = k0_pay214 (F := Ideal) := View.readCov_full arg9.view _ _ _ []
    have e2 : (kernelRun0_B.sl.v1031 (F := Ideal) c arg10) = k0_pay215 (F := Ideal) := View.readCov_full arg10.view _ _ _ []
    have e3 : (kernelRun0_B.sl.v1040 (F := Ideal) c arg11) = k0_pay216 (F := Ideal) := View.readCov_full arg11.view _ _ _ []
    rw [e1, e2, e3]
    exact kept_start _ _
  have hr0 := ((slots_B c i arg3 harg3 arg4 harg4 arg5 harg5 arg6 harg6 arg12 hc0 x0 x1 x2 x3 hi1).1.rows inb_S3x640x640_S1x64x640_0_0_0 inb_S3x640x640_S1x64x640_0_64_0 inb_S3x640x640_S1x64x640_0_128_0 inb_S3x640x640_S1x64x640_0_192_0 inb_S3x640x640_S1x64x640_0_256_0 inb_S3x640x640_S1x64x640_0_320_0 inb_S3x640x640_S1x64x640_0_384_0 inb_S3x640x640_S1x64x640_0_448_0 inb_S3x640x640_S1x64x640_0_512_0 inb_S3x640x640_S1x64x640_0_576_0).unpadded
  have eX : ∀ s t : Fin 640, (if 112 ≤ s.val then raw x0 x1 x2 x3 t (640 * 0 + s.val) else ⊥) = (masked x0 x1 x2 x3 (i 2).val) t (640 * 0 + s.val) :=
    fun s t => masked_first _ _ _ _ _ hi1 _ _
  have hr := hr0.congr (g := fun s t => (masked x0 x1 x2 x3 (i 2).val) t (640 * 0 + s)) eX
  have hv : ∀ (s : Fin 640) (d : Fin 128), (View.readAt (Elt Ideal) arg7.view (Rect.unit (s := S1x8320x128) ![0, 0, 0] S1x640x128.size inb_S1x8320x128_S1x640x128_0_0_0).toLoadRect (harg7.unread x4) (ix3 0 s d) : EReal)
      = value x4 d (640 * 0 + s.val) := by
    intro s d
    refine (value_block _ _ _ (640 * 0) (by omega) rfl _ s d).trans ?_
    rw [Memref.IsWhole.read_unread]
  have h := hk.step hr _ hv (kernelRun0_B.sl.v1046 (F := Ideal) c i arg3 harg3 arg4 harg4 arg5 harg5 arg6 harg6 arg9 arg12 arg13 hc0 x0 x1 x2 x3) (m' := (kernelRun0_B.sl.r_8 (F := Ideal) c i arg3 harg3 arg4 harg4 arg5 harg5 arg6 harg6 arg9 arg12 hc0 x0 x1 x2 x3)) rfl ?_
  · have e0 : (arg9.view.read (Elt Ideal) (arg9.view.writes (Elt Ideal) arg9.view.junk (kernelRun0_B.sl.HS0_2 (F := Ideal) c i arg3 harg3 arg4 harg4 arg5 harg5 arg6 harg6 arg9 arg12 hc0 x0 x1 x2 x3))) = (kernelRun0_B.sl.r_8 (F := Ideal) c i arg3 harg3 arg4 harg4 arg5 harg5 arg6 harg6 arg9 arg12 hc0 x0 x1 x2 x3) := (View.read_writes_full arg9.view _ _ _ _).trans (shapeCast_self _ _)
    have e1 : (arg10.view.read (Elt Ideal) (arg10.view.writes (Elt Ideal) arg10.view.junk (kernelRun0_B.sl.HS1_2 (F := Ideal) c i arg3 harg3 arg4 harg4 arg5 harg5 arg6 harg6 arg9 arg10 arg12 hc0 x0 x1 x2 x3))) = _ := (View.read_writes_full arg10.view _ _ _ _).trans (shapeCast_self _ _)
    have e2 : (arg11.view.read (Elt Ideal) (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4))) = _ := (View.read_writes_full arg11.view _ _ _ _).trans (shapeCast_self _ _)
    rw [e0, e1, e2]
    exact h
  · intro s t
    refine (congrFun (View.readAt_full arg13.view _ inb_S640x640_S640x640_0_0) (ix2 s t)).trans ?_
    exact stored_rows arg13.view _ (fun s t => wt ((kernelRun0_B.sl.r_8 (F := Ideal) c i arg3 harg3 arg4 harg4 arg5 harg5 arg6 harg6 arg9 arg12 hc0 x0 x1 x2 x3) (ix2 0 t)) ((masked x0 x1 x2 x3 (i 2).val) t (640 * 0 + s))) _ _ _ _ _ _ _ _ _ _ []
      _ _ _ _ _ _ _ _ _ _ (hr.stored _) s t

/-- The loop, as this run runs it. -/
def loop_B (n : ℕ) := st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_B.sl.r (F := Ideal) c arg3 harg3 arg4 harg4 x0 x1) hc0 (kernelRun0_B.sl.r_8 (F := Ideal) c i arg3 harg3 arg4 harg4 arg5 harg5 arg6 harg6 arg9 arg12 hc0 x0 x1 x2 x3) 0#32 (kernelRun0_B.sl.v1040 (F := Ideal) c arg11) (kernelRun0_B.sl.r_21 (F := Ideal) c i arg3 harg3 arg4 harg4 arg5 harg5 arg6 harg6 arg9 arg12 hc0 x0 x1 x2 x3)
  (harg5.unread x2) (harg6.unread x3) (harg7.unread x4)
  (arg9.view.writes (Elt Ideal) arg9.view.junk (kernelRun0_B.sl.HS0_2 (F := Ideal) c i arg3 harg3 arg4 harg4 arg5 harg5 arg6 harg6 arg9 arg12 hc0 x0 x1 x2 x3))
  (arg10.view.writes (Elt Ideal) arg10.view.junk (kernelRun0_B.sl.HS1_2 (F := Ideal) c i arg3 harg3 arg4 harg4 arg5 harg5 arg6 harg6 arg9 arg10 arg12 hc0 x0 x1 x2 x3))
  (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4))
  (arg12.view.writes (Elt Ideal) arg12.view.junk (kernelRun0_B.sl.HS3_3 (F := Ideal) c i arg3 harg3 arg4 harg4 arg5 harg5 arg6 harg6 hc0 x0 x1 x2 x3))
  (arg13.view.writes (Elt Ideal) arg13.view.junk (kernelRun0_B.sl.HS4_10 (F := Ideal) c i arg3 harg3 arg4 harg4 arg5 harg5 arg6 harg6 arg9 arg12 hc0 x0 x1 x2 x3)) 0#32 n

/-- What is kept after the loop. -/
theorem after_B (hi1 : 1 ≤ (i 2).val) : Kept (masked x0 x1 x2 x3 (i 2).val) (value x4) (640 * (2 * (((i 2).val - 1) / 2) + 1))
    (arg9.view.read (Elt Ideal) (arg9.view.writes (Elt Ideal) (arg9.view.writes (Elt Ideal) arg9.view.junk (kernelRun0_B.sl.HS0_2 (F := Ideal) c i arg3 harg3 arg4 harg4 arg5 harg5 arg6 harg6 arg9 arg12 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1))
    (arg10.view.read (Elt Ideal) (arg10.view.writes (Elt Ideal) (arg10.view.writes (Elt Ideal) arg10.view.junk (kernelRun0_B.sl.HS1_2 (F := Ideal) c i arg3 harg3 arg4 harg4 arg5 harg5 arg6 harg6 arg9 arg10 arg12 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1))
    (arg11.view.read (Elt Ideal) (arg11.view.writes (Elt Ideal) (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1))
    ∧ Slot arg12.view (arg12.view.writes (Elt Ideal) (arg12.view.writes (Elt Ideal) arg12.view.junk (kernelRun0_B.sl.HS3_3 (F := Ideal) c i arg3 harg3 arg4 harg4 arg5 harg5 arg6 harg6 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) ⟨1, by decide⟩ (fun s t => raw x0 x1 x2 x3 t (640 * (2 * (((i 2).val - 1) / 2) + 1) + s))
    ∧ Slot arg12.view (arg12.view.writes (Elt Ideal) (arg12.view.writes (Elt Ideal) arg12.view.junk (kernelRun0_B.sl.HS3_3 (F := Ideal) c i arg3 harg3 arg4 harg4 arg5 harg5 arg6 harg6 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) ⟨2, by decide⟩ (fun s t => raw x0 x1 x2 x3 t (640 * (i 2).val + s)) := by
  have eL : ∀ t s, logit (kernelRun0_B.sl.r (F := Ideal) c arg3 harg3 arg4 harg4 x0 x1) (arg5.view.read (Elt Ideal) (harg5.unread x2)) (arg6.view.read (Elt Ideal) (harg6.unread x3)) t s = raw x0 x1 x2 x3 t s := by
    intro t s
    unfold kernelRun0_B.sl.r
    rw [load_whole, load_whole, Memref.IsWhole.read_unread, Memref.IsWhole.read_unread]
    exact logit_queries _ _ _ _ _ _
  have eV : value (arg7.view.read (Elt Ideal) (harg7.unread x4)) = value x4 := by rw [Memref.IsWhole.read_unread]
  obtain ⟨h0, h1, h2⟩ := slots_B c i arg3 harg3 arg4 harg4 arg5 harg5 arg6 harg6 arg12 hc0 x0 x1 x2 x3 hi1
  have hk := first_B c i arg3 harg3 arg4 harg4 arg5 harg5 arg6 harg6 arg7 harg7 arg9 arg10 arg11 arg12 arg13 hc0 x0 x1 x2 x3 x4 hi1
  rw [← eV] at hk ⊢
  have h := loop_kept Variants.none c none i arg3 harg3 arg4 harg4 arg5 harg5 arg6 harg6 arg7 harg7 arg8 harg8 arg9 harg9 arg10 harg10 arg11 harg11 arg12 harg12 arg13 harg13
    (BitVec.ofNat 32 (i 2).val) (kernelRun0_B.sl.r (F := Ideal) c arg3 harg3 arg4 harg4 x0 x1) hc0 (kernelRun0_B.sl.r_8 (F := Ideal) c i arg3 harg3 arg4 harg4 arg5 harg5 arg6 harg6 arg9 arg12 hc0 x0 x1 x2 x3) 0#32 (kernelRun0_B.sl.v1040 (F := Ideal) c arg11) (kernelRun0_B.sl.r_21 (F := Ideal) c i arg3 harg3 arg4 harg4 arg5 harg5 arg6 harg6 arg9 arg12 hc0 x0 x1 x2 x3) (harg5.unread x2) (harg6.unread x3) (harg7.unread x4)
    (arg9.view.writes (Elt Ideal) arg9.view.junk (kernelRun0_B.sl.HS0_2 (F := Ideal) c i arg3 harg3 arg4 harg4 arg5 harg5 arg6 harg6 arg9 arg12 hc0 x0 x1 x2 x3))
    (arg10.view.writes (Elt Ideal) arg10.view.junk (kernelRun0_B.sl.HS1_2 (F := Ideal) c i arg3 harg3 arg4 harg4 arg5 harg5 arg6 harg6 arg9 arg10 arg12 hc0 x0 x1 x2 x3))
    (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4))
    (arg12.view.writes (Elt Ideal) arg12.view.junk (kernelRun0_B.sl.HS3_3 (F := Ideal) c i arg3 harg3 arg4 harg4 arg5 harg5 arg6 harg6 hc0 x0 x1 x2 x3))
    (arg13.view.writes (Elt Ideal) arg13.view.junk (kernelRun0_B.sl.HS4_10 (F := Ideal) c i arg3 harg3 arg4 harg4 arg5 harg5 arg6 harg6 arg9 arg12 hc0 x0 x1 x2 x3)) 0#32
    (X := (masked x0 x1 x2 x3 (i 2).val)) (fun t s hs hs' => (masked_below _ _ _ _ _ _ _ hs hs').trans (eL t s).symm) hk
    (fun s t => (h1 s t).trans (eL t _).symm) (k0_t1_loop i).trips le_rfl
  rw [trips_eq] at h
  rw [loop_B, trips_eq]
  exact ⟨h.1, fun s t => (h.2.1 s t).trans (eL t _), h.2.2 _ h2⟩

/-- The second loop takes no trip, so nothing is written by it. -/
theorem rest_trips_B (j : grid0.Coords) : Scf.trips (k0_t2_loop j).lb (k0_t2_loop j).ub (k0_t2_loop j).st = 0 := by
  unfold k0_t2_loop
  obtain ⟨a, ha⟩ : ∃ a : Fin 13, a.val = (j 2).val := ⟨j 2, rfl⟩
  simp only [← ha]
  clear ha
  revert a
  decide

/-- The second loop, as this run runs it. -/
def rest_B := st_k0_t2 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_B.sl.r (F := Ideal) c arg3 harg3 arg4 harg4 x0 x1) (kernelRun0_B.sl.r_1 (F := Ideal) c i arg3 harg3 arg4 harg4 arg5 harg5 arg6 harg6 x0 x1 x2 x3) hc0 (kernelRun0_B.sl.v1077 i)
  (harg5.unread x2) (harg6.unread x3) (harg7.unread x4)
  (arg9.view.writes (Elt Ideal) arg9.view.junk ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1 ++ (kernelRun0_B.sl.HS0_2 (F := Ideal) c i arg3 harg3 arg4 harg4 arg5 harg5 arg6 harg6 arg9 arg12 hc0 x0 x1 x2 x3)))
  (arg10.view.writes (Elt Ideal) arg10.view.junk ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1 ++ (kernelRun0_B.sl.HS1_2 (F := Ideal) c i arg3 harg3 arg4 harg4 arg5 harg5 arg6 harg6 arg9 arg10 arg12 hc0 x0 x1 x2 x3)))
  (arg11.view.writes (Elt Ideal) arg11.view.junk ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1 ++ (kernelRun0_B.sl.HS2_2 (F := Ideal) c i arg3 harg3 arg4 harg4 arg5 harg5 arg6 harg6 arg7 harg7 arg9 arg11 arg12 arg13 hc0 x0 x1 x2 x3 x4)))
  (arg12.view.writes (Elt Ideal) arg12.view.junk ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 ++ (kernelRun0_B.sl.HS3_3 (F := Ideal) c i arg3 harg3 arg4 harg4 arg5 harg5 arg6 harg6 hc0 x0 x1 x2 x3)))
  (arg13.view.writes (Elt Ideal) arg13.view.junk ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.2 ++ (kernelRun0_B.sl.HS4_10 (F := Ideal) c i arg3 harg3 arg4 harg4 arg5 harg5 arg6 harg6 arg9 arg12 hc0 x0 x1 x2 x3))) (kernelRun0_B.sl.r_22 (F := Ideal) c i arg3 harg3 arg4 harg4 arg5 harg5 arg6 harg6 arg7 harg7 arg8 harg8 arg9 harg9 arg10 harg10 arg11 harg11 arg12 harg12 arg13 harg13 hc0 x0 x1 x2 x3 x4) (Scf.trips (k0_t2_loop i).lb (k0_t2_loop i).ub (k0_t2_loop i).st)

theorem rest_nil_B : (rest_B c i arg3 harg3 arg4 harg4 arg5 harg5 arg6 harg6 arg7 harg7 arg8 harg8 arg9 harg9 arg10 harg10 arg11 harg11 arg12 harg12 arg13 harg13 hc0 x0 x1 x2 x3 x4) = ((kernelRun0_B.sl.r_22 (F := Ideal) c i arg3 harg3 arg4 harg4 arg5 harg5 arg6 harg6 arg7 harg7 arg8 harg8 arg9 harg9 arg10 harg10 arg11 harg11 arg12 harg12 arg13 harg13 hc0 x0 x1 x2 x3 x4), [], [], [], [], []) := by
  unfold rest_B
  rw [rest_trips_B]
  rfl

/-- What is kept at the end. -/
theorem kept_B (hodd : (i 2).val % 2 = 1) : Kept (masked x0 x1 x2 x3 (i 2).val) (value x4) (640 * (i 2).val + 640) (kernelRun0_B.sl.r_34 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_B.sl.v637 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_B.sl.v636 (F := Ideal) c i arg3 harg3 arg4 harg4 arg5 harg5 arg6 harg6 arg7 harg7 arg8 harg8 arg9 harg9 arg10 harg10 arg11 harg11 arg12 harg12 arg13 harg13 hc0 x0 x1 x2 x3 x4) := by
  have hi : (i 2).val < 13 := (i 2).isLt
  have hi1 : 1 ≤ (i 2).val := by omega
  obtain ⟨hk, -, hs⟩ := after_B c i arg3 harg3 arg4 harg4 arg5 harg5 arg6 harg6 arg7 harg7 arg8 harg8 arg9 harg9 arg10 harg10 arg11 harg11 arg12 harg12 arg13 harg13 hc0 x0 x1 x2 x3 x4 hi1
  have p0 : (kernelRun0_B.sl.v284 (F := Ideal) c i arg3 harg3 arg4 harg4 arg5 harg5 arg6 harg6 arg7 harg7 arg8 harg8 arg9 harg9 arg10 harg10 arg11 harg11 arg12 harg12 arg13 harg13 hc0 x0 x1 x2 x3 x4) = (arg9.view.read (Elt Ideal) (arg9.view.writes (Elt Ideal) (arg9.view.writes (Elt Ideal) arg9.view.junk (kernelRun0_B.sl.HS0_2 (F := Ideal) c i arg3 harg3 arg4 harg4 arg5 harg5 arg6 harg6 arg9 arg12 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1)) :=
    (View.readAt_full arg9.view _ inb_S1x640_S1x640_0_0).trans (congrArg (arg9.view.read (Elt Ideal)) (read_after arg9.view arg9.view.junk (kernelRun0_B.sl.HS0_2 (F := Ideal) c i arg3 harg3 arg4 harg4 arg5 harg5 arg6 harg6 arg9 arg12 hc0 x0 x1 x2 x3) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1 (rest_B c i arg3 harg3 arg4 harg4 arg5 harg5 arg6 harg6 arg7 harg7 arg8 harg8 arg9 harg9 arg10 harg10 arg11 harg11 arg12 harg12 arg13 harg13 hc0 x0 x1 x2 x3 x4).2.1 (congrArg (fun x => x.2.1) (rest_nil_B c i arg3 harg3 arg4 harg4 arg5 harg5 arg6 harg6 arg7 harg7 arg8 harg8 arg9 harg9 arg10 harg10 arg11 harg11 arg12 harg12 arg13 harg13 hc0 x0 x1 x2 x3 x4))))
  have p1 : (kernelRun0_B.sl.v611 (F := Ideal) c i arg3 harg3 arg4 harg4 arg5 harg5 arg6 harg6 arg7 harg7 arg8 harg8 arg9 harg9 arg10 harg10 arg11 harg11 arg12 harg12 arg13 harg13 hc0 x0 x1 x2 x3 x4) = (arg10.view.read (Elt Ideal) (arg10.view.writes (Elt Ideal) (arg10.view.writes (Elt Ideal) arg10.view.junk (kernelRun0_B.sl.HS1_2 (F := Ideal) c i arg3 harg3 arg4 harg4 arg5 harg5 arg6 harg6 arg9 arg10 arg12 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1)) :=
    (View.readAt_full arg10.view _ inb_S1x640_S1x640_0_0).trans (congrArg (arg10.view.read (Elt Ideal)) (read_after arg10.view arg10.view.junk (kernelRun0_B.sl.HS1_2 (F := Ideal) c i arg3 harg3 arg4 harg4 arg5 harg5 arg6 harg6 arg9 arg10 arg12 hc0 x0 x1 x2 x3) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1 (rest_B c i arg3 harg3 arg4 harg4 arg5 harg5 arg6 harg6 arg7 harg7 arg8 harg8 arg9 harg9 arg10 harg10 arg11 harg11 arg12 harg12 arg13 harg13 hc0 x0 x1 x2 x3 x4).2.2.1 (congrArg (fun x => x.2.2.1) (rest_nil_B c i arg3 harg3 arg4 harg4 arg5 harg5 arg6 harg6 arg7 harg7 arg8 harg8 arg9 harg9 arg10 harg10 arg11 harg11 arg12 harg12 arg13 harg13 hc0 x0 x1 x2 x3 x4))))
  have p2 : (kernelRun0_B.sl.v621 (F := Ideal) c i arg3 harg3 arg4 harg4 arg5 harg5 arg6 harg6 arg7 harg7 arg8 harg8 arg9 harg9 arg10 harg10 arg11 harg11 arg12 harg12 arg13 harg13 hc0 x0 x1 x2 x3 x4) = (arg11.view.read (Elt Ideal) (arg11.view.writes (Elt Ideal) (arg11.view.writes (Elt Ideal) arg11.view.junk (kernelRun0_B.sl.HS2_2 (F := Ideal) c i arg3 harg3 arg4 harg4 arg5 harg5 arg6 harg6 arg7 harg7 arg9 arg11 arg12 arg13 hc0 x0 x1 x2 x3 x4)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1)) :=
    (View.readAt_full arg11.view _ inb_S128x640_S128x640_0_0).trans (congrArg (arg11.view.read (Elt Ideal)) (read_after arg11.view arg11.view.junk (kernelRun0_B.sl.HS2_2 (F := Ideal) c i arg3 harg3 arg4 harg4 arg5 harg5 arg6 harg6 arg7 harg7 arg9 arg11 arg12 arg13 hc0 x0 x1 x2 x3 x4) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1 (rest_B c i arg3 harg3 arg4 harg4 arg5 harg5 arg6 harg6 arg7 harg7 arg8 harg8 arg9 harg9 arg10 harg10 arg11 harg11 arg12 harg12 arg13 harg13 hc0 x0 x1 x2 x3 x4).2.2.2.1 (congrArg (fun x => x.2.2.2.1) (rest_nil_B c i arg3 harg3 arg4 harg4 arg5 harg5 arg6 harg6 arg7 harg7 arg8 harg8 arg9 harg9 arg10 harg10 arg11 harg11 arg12 harg12 arg13 harg13 hc0 x0 x1 x2 x3 x4))))
  have pW : (arg12.view.writes (Elt Ideal) arg12.view.junk ((rest_B c i arg3 harg3 arg4 harg4 arg5 harg5 arg6 harg6 arg7 harg7 arg8 harg8 arg9 harg9 arg10 harg10 arg11 harg11 arg12 harg12 arg13 harg13 hc0 x0 x1 x2 x3 x4).2.2.2.2.1 ++ ((loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 ++ (kernelRun0_B.sl.HS3_3 (F := Ideal) c i arg3 harg3 arg4 harg4 arg5 harg5 arg6 harg6 hc0 x0 x1 x2 x3)))) = (arg12.view.writes (Elt Ideal) (arg12.view.writes (Elt Ideal) arg12.view.junk (kernelRun0_B.sl.HS3_3 (F := Ideal) c i arg3 harg3 arg4 harg4 arg5 harg5 arg6 harg6 hc0 x0 x1 x2 x3)) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) :=
    read_after arg12.view arg12.view.junk (kernelRun0_B.sl.HS3_3 (F := Ideal) c i arg3 harg3 arg4 harg4 arg5 harg5 arg6 harg6 hc0 x0 x1 x2 x3) (loop_B c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 (rest_B c i arg3 harg3 arg4 harg4 arg5 harg5 arg6 harg6 arg7 harg7 arg8 harg8 arg9 harg9 arg10 harg10 arg11 harg11 arg12 harg12 arg13 harg13 hc0 x0 x1 x2 x3 x4).2.2.2.2.1 (congrArg (fun x => x.2.2.2.2.1) (rest_nil_B c i arg3 harg3 arg4 harg4 arg5 harg5 arg6 harg6 arg7 harg7 arg8 harg8 arg9 harg9 arg10 harg10 arg11 harg11 arg12 harg12 arg13 harg13 hc0 x0 x1 x2 x3 x4))
  rw [← pW] at hs
  rw [← p0, ← p1, ← p2, show 2 * (((i 2).val - 1) / 2) + 1 = (i 2).val by omega] at hk
  have hr := ((hs.rows inb_S3x640x640_S1x64x640_2_0_0 inb_S3x640x640_S1x64x640_2_64_0 inb_S3x640x640_S1x64x640_2_128_0 inb_S3x640x640_S1x64x640_2_192_0 inb_S3x640x640_S1x64x640_2_256_0 inb_S3x640x640_S1x64x640_2_320_0 inb_S3x640x640_S1x64x640_2_384_0 inb_S3x640x640_S1x64x640_2_448_0 inb_S3x640x640_S1x64x640_2_512_0 inb_S3x640x640_S1x64x640_2_576_0).causal (i 2).val (i 2).isLt).congr (g := fun s t => (masked x0 x1 x2 x3 (i 2).val) t (640 * (i 2).val + s)) (fun s t => masked_last _ _ _ _ _ _ _)
  have hv : ∀ (s : Fin 640) (d : Fin 128), (View.readAt (Elt Ideal) arg7.view (Rect.unit (s := S1x8320x128) (k0_off1 i) S1x640x128.size (k0_off1_inb i)).toLoadRect (harg7.unread x4) (ix3 0 s d) : EReal)
      = value x4 d (640 * (i 2).val + s.val) := by
    intro s d
    refine (value_block _ _ _ (640 * (i 2).val) (by omega) (off1_eq i) _ s d).trans ?_
    rw [Memref.IsWhole.read_unread]
  have h := hk.step hr _ hv (kernelRun0_B.sl.v627 (F := Ideal) c i arg3 harg3 arg4 harg4 arg5 harg5 arg6 harg6 arg7 harg7 arg8 harg8 arg9 harg9 arg10 harg10 arg11 harg11 arg12 harg12 arg13 harg13 hc0 x0 x1 x2 x3 x4) (m' := (kernelRun0_B.sl.r_34 (F := Ideal) c i arg3 harg3 arg4 harg4 arg5 harg5 arg6 harg6 arg7 harg7 arg8 harg8 arg9 harg9 arg10 harg10 arg11 harg11 arg12 harg12 arg13 harg13 hc0 x0 x1 x2 x3 x4)) rfl ?_
  · have e1 : (kernelRun0_B.sl.v637 (F := Ideal) c i arg3 harg3 arg4 harg4 arg5 harg5 arg6 harg6 arg7 harg7 arg8 harg8 arg9 harg9 arg10 harg10 arg11 harg11 arg12 harg12 arg13 harg13 hc0 x0 x1 x2 x3 x4) = _ := (View.readCov_full arg10.view _ _ _ _).trans (shapeCast_self _ _)
    have e2 : (kernelRun0_B.sl.v636 (F := Ideal) c i arg3 harg3 arg4 harg4 arg5 harg5 arg6 harg6 arg7 harg7 arg8 harg8 arg9 harg9 arg10 harg10 arg11 harg11 arg12 harg12 arg13 harg13 hc0 x0 x1 x2 x3 x4) = _ := (View.readCov_full arg11.view _ _ _ _).trans (shapeCast_self _ _)
    rw [e1, e2]
    exact h
  · intro s t
    refine (congrFun (View.readAt_full arg13.view _ inb_S640x640_S640x640_0_0) (ix2 s t)).trans ?_
    exact stored_rows arg13.view _ (fun s t => wt ((kernelRun0_B.sl.r_34 (F := Ideal) c i arg3 harg3 arg4 harg4 arg5 harg5 arg6 harg6 arg7 harg7 arg8 harg8 arg9 harg9 arg10 harg10 arg11 harg11 arg12 harg12 arg13 harg13 hc0 x0 x1 x2 x3 x4) (ix2 0 t)) ((masked x0 x1 x2 x3 (i 2).val) t (640 * (i 2).val + s))) _ _ _ _ _ _ _ _ _ _ _
      _ _ _ _ _ _ _ _ _ _ (hr.stored _) s t

/-- The block of results written. -/
theorem result_B (hodd : (i 2).val % 2 = 1) (hc1 : ¬ cond0_1 i) : Result (masked x0 x1 x2 x3 (i 2).val) (value x4) (640 * (i 2).val + 640)
    (out0_B_5 (F := Ideal) c i arg3 harg3 arg4 harg4 arg5 harg5 arg6 harg6 arg7 harg7 arg8 harg8 arg9 harg9 arg10 harg10 arg11 harg11 arg12 harg12 arg13 harg13 hc0 hc1 x0 x1 x2 x3 x4) := by
  have e : out0_B_5 (F := Ideal) c i arg3 harg3 arg4 harg4 arg5 harg5 arg6 harg6 arg7 harg7 arg8 harg8 arg9 harg9 arg10 harg10 arg11 harg11 arg12 harg12 arg13 harg13 hc0 hc1 x0 x1 x2 x3 x4 = k0_pay1 (F := Ideal) (k0_pay285 (F := Ideal) (kernelRun0_B.sl.v636 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_B.sl.v637 (F := Ideal) c i arg3 harg3 arg4 harg4 arg5 harg5 arg6 harg6 arg7 harg7 arg8 harg8 arg9 harg9 arg10 harg10 arg11 harg11 arg12 harg12 arg13 harg13 hc0 x0 x1 x2 x3 x4)) := by
    unfold out0_B_5 kernelRun0_B
    exact View.read_writes_full _ _ _ _ []
  rw [e]
  exact (kept_B c i arg3 harg3 arg4 harg4 arg5 harg5 arg6 harg6 arg7 harg7 arg8 harg8 arg9 harg9 arg10 harg10 arg11 harg11 arg12 harg12 arg13 harg13 hc0 x0 x1 x2 x3 x4 hodd).result

end Cert.Fox
-- ==== Proof.FoxRunC.lean ====
module

public import proofs.«01_k».proof.Proof.FoxLast
public import proofs.«01_k».proof.Proof.FoxTrip
public import proofs.«01_k».proof.Proof.Gen.KernelFoxIdeal.Frame

/-!
# The run at an even block of queries

The padding's block is folded in first, then the loop's pairs of blocks, then the one block left over, and the queries' own block last.
-/

@[expose] public section

set_option maxHeartbeats 2000000

noncomputable section

open Idealize.ShloMosaic Idealize.ShloMosaic.TcCoe Idealize.SL.Sem

namespace Cert.Fox

open Cert.KernelFoxIdeal Cert.KernelFoxIdeal.Gen

variable (c : Dev nD) (i : grid0.Coords)
  (arg3 : Memref sig .tc .vmem S1x640x128 .bf16) (harg3 : arg3.IsWhole) (arg4 : Memref sig .tc .vmem S1x640x128 .bf16) (harg4 : arg4.IsWhole)
  (arg5 : Memref sig .tc .vmem S1x8320x128 .bf16) (harg5 : arg5.IsWhole) (arg6 : Memref sig .tc .vmem S1x8320x128 .bf16) (harg6 : arg6.IsWhole)
  (arg7 : Memref sig .tc .vmem S1x8320x128 .bf16) (harg7 : arg7.IsWhole) (arg8 : Memref sig .tc .vmem S1x640x128 .bf16) (harg8 : arg8.IsWhole)
  (arg9 : Memref sig .tc .vmem S1x640 .f32) (harg9 : arg9.IsWhole) (arg10 : Memref sig .tc .vmem S1x640 .f32) (harg10 : arg10.IsWhole)
  (arg11 : Memref sig .tc .vmem S128x640 .f32) (harg11 : arg11.IsWhole) (arg12 : Memref sig .tc .vmem S3x640x640 .f32) (harg12 : arg12.IsWhole)
  (arg13 : Memref sig .tc .vmem S640x640 .bf16) (harg13 : arg13.IsWhole)
  (hc0 : cond0_0 i)
  (x0 x1 : Vec Ideal S1x640x128 .bf16) (x2 x3 x4 : Vec Ideal S1x8320x128 .bf16)

/-- The buffer of logits before the loop: the padding's block, the block after it, and the queries' own. -/
theorem slots_C (hi1 : 1 ≤ (i 2).val) :
    Slot arg12.view (arg12.view.writes (Elt Ideal) arg12.view.junk (kernelRun0_C.sl.HS3_3 (F := Ideal) c i arg3 harg3 arg4 harg4 arg5 harg5 arg6 harg6 hc0 x0 x1 x2 x3)) ⟨0, by decide⟩ (fun s t => raw x0 x1 x2 x3 t (640 * 0 + s))
    ∧ Slot arg12.view (arg12.view.writes (Elt Ideal) arg12.view.junk (kernelRun0_C.sl.HS3_3 (F := Ideal) c i arg3 harg3 arg4 harg4 arg5 harg5 arg6 harg6 hc0 x0 x1 x2 x3)) ⟨1, by decide⟩ (fun s t => raw x0 x1 x2 x3 t (640 + s))
    ∧ Slot arg12.view (arg12.view.writes (Elt Ideal) arg12.view.junk (kernelRun0_C.sl.HS3_3 (F := Ideal) c i arg3 harg3 arg4 harg4 arg5 harg5 arg6 harg6 hc0 x0 x1 x2 x3)) ⟨2, by decide⟩ (fun s t => raw x0 x1 x2 x3 t (640 * (i 2).val + s)) := by
  have hi : (i 2).val < 13 := (i 2).isLt
  have e2 : k0_off2 i = ![0, 640, 0] := by rw [off2_eq, show min 1 (i 2).val = 1 by omega]
  refine ⟨?_, ?_, ?_⟩
  · refine slot_skip arg12.view _ 1 ⟨0, by decide⟩ (Or.inl (by decide)) _ _ _ _ (slot_put arg12.view _ 0 (by decide) _ _ _ _ ?_)
    intro s t
    refine (logit_block _ _ _ _ _ _ (640 * 0) (by omega) rfl _ _ s t).trans ?_
    unfold kernelRun0_C.sl.r
    rw [load_whole, load_whole, Memref.IsWhole.read_unread, Memref.IsWhole.read_unread]
    exact logit_queries _ _ _ _ _ _
  · refine slot_put arg12.view _ 1 (by decide) _ _ _ _ ?_
    intro s t
    refine (logit_block _ _ _ _ _ _ 640 (by omega) e2 _ _ s t).trans ?_
    unfold kernelRun0_C.sl.r
    rw [load_whole, load_whole, Memref.IsWhole.read_unread, Memref.IsWhole.read_unread]
    exact logit_queries _ _ _ _ _ _
  · refine slot_skip arg12.view _ 1 ⟨2, by decide⟩ (Or.inr (by decide)) _ _ _ _
      (slot_skip arg12.view _ 0 ⟨2, by decide⟩ (Or.inr (by decide)) _ _ _ _ (slot_put arg12.view _ 2 (by decide) _ _ [] _ ?_))
    intro s t
    refine (logit_block _ _ _ _ _ _ (640 * (i 2).val) (by omega) (off1_eq i) _ _ s t).trans ?_
    rw [load_whole, load_whole, Memref.IsWhole.read_unread, Memref.IsWhole.read_unread]
    exact logit_queries _ _ _ _ _ _

/-- What is kept once the padding's block is in. -/
theorem first_C (hi1 : 1 ≤ (i 2).val) : Kept (masked x0 x1 x2 x3 (i 2).val) (value x4) 640
    (arg9.view.read (Elt Ideal) (arg9.view.writes (Elt Ideal) arg9.view.junk (kernelRun0_C.sl.HS0_2 (F := Ideal) c i arg3 harg3 arg4 harg4 arg5 harg5 arg6 harg6 arg9 arg12 hc0 x0 x1 x2 x3)))
    (arg10.view.read (Elt Ideal) (arg10.view.writes (Elt Ideal) arg10.view.junk (kernelRun0_C.sl.HS1_2 (F := Ideal) c i arg3 harg3 arg4 harg4 arg5 harg5 arg6 harg6 arg9 arg10 arg12 hc0 x0 x1 x2 x3)))
    (arg11.view.read (Elt Ideal) (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4))) := by
  have hk : Kept (masked x0 x1 x2 x3 (i 2).val) (value x4) (640 * 0) (kernelRun0_C.sl.v814 (F := Ideal) c arg9) (kernelRun0_C.sl.v1031 (F := Ideal) c arg10) (kernelRun0_C.sl.v1040 (F := Ideal) c arg11) := by
    have e1 : (kernelRun0_C.sl.v814 (F := Ideal) c arg9) = k0_pay214 (F := Ideal) := View.readCov_full arg9.view _ _ _ []
    have e2 : (kernelRun0_C.sl.v1031 (F := Ideal) c arg10) = k0_pay215 (F := Ideal) := View.readCov_full arg10.view _ _ _ []
    have e3 : (kernelRun0_C.sl.v1040 (F := Ideal) c arg11) = k0_pay216 (F := Ideal) := View.readCov_full arg11.view _ _ _ []
    rw [e1, e2, e3]
    exact kept_start _ _
  have hr0 := ((slots_C c i arg3 harg3 arg4 harg4 arg5 harg5 arg6 harg6 arg12 hc0 x0 x1 x2 x3 hi1).1.rows inb_S3x640x640_S1x64x640_0_0_0 inb_S3x640x640_S1x64x640_0_64_0 inb_S3x640x640_S1x64x640_0_128_0 inb_S3x640x640_S1x64x640_0_192_0 inb_S3x640x640_S1x64x640_0_256_0 inb_S3x640x640_S1x64x640_0_320_0 inb_S3x640x640_S1x64x640_0_384_0 inb_S3x640x640_S1x64x640_0_448_0 inb_S3x640x640_S1x64x640_0_512_0 inb_S3x640x640_S1x64x640_0_576_0).unpadded
  have eX : ∀ s t : Fin 640, (if 112 ≤ s.val then raw x0 x1 x2 x3 t (640 * 0 + s.val) else ⊥) = (masked x0 x1 x2 x3 (i 2).val) t (640 * 0 + s.val) :=
    fun s t => masked_first _ _ _ _ _ hi1 _ _
  have hr := hr0.congr (g := fun s t => (masked x0 x1 x2 x3 (i 2).val) t (640 * 0 + s)) eX
  have hv : ∀ (s : Fin 640) (d : Fin 128), (View.readAt (Elt Ideal) arg7.view (Rect.unit (s := S1x8320x128) ![0, 0, 0] S1x640x128.size inb_S1x8320x128_S1x640x128_0_0_0).toLoadRect (harg7.unread x4) (ix3 0 s d) : EReal)
      = value x4 d (640 * 0 + s.val) := by
    intro s d
    refine (value_block _ _ _ (640 * 0) (by omega) rfl _ s d).trans ?_
    rw [Memref.IsWhole.read_unread]
  have h := hk.step hr _ hv (kernelRun0_C.sl.v1046 (F := Ideal) c i arg3 harg3 arg4 harg4 arg5 harg5 arg6 harg6 arg9 arg12 arg13 hc0 x0 x1 x2 x3) (m' := (kernelRun0_C.sl.r_8 (F := Ideal) c i arg3 harg3 arg4 harg4 arg5 harg5 arg6 harg6 arg9 arg12 hc0 x0 x1 x2 x3)) rfl ?_
  · have e0 : (arg9.view.read (Elt Ideal) (arg9.view.writes (Elt Ideal) arg9.view.junk (kernelRun0_C.sl.HS0_2 (F := Ideal) c i arg3 harg3 arg4 harg4 arg5 harg5 arg6 harg6 arg9 arg12 hc0 x0 x1 x2 x3))) = (kernelRun0_C.sl.r_8 (F := Ideal) c i arg3 harg3 arg4 harg4 arg5 harg5 arg6 harg6 arg9 arg12 hc0 x0 x1 x2 x3) := (View.read_writes_full arg9.view _ _ _ _).trans (shapeCast_self _ _)
    have e1 : (arg10.view.read (Elt Ideal) (arg10.view.writes (Elt Ideal) arg10.view.junk (kernelRun0_C.sl.HS1_2 (F := Ideal) c i arg3 harg3 arg4 harg4 arg5 harg5 arg6 harg6 arg9 arg10 arg12 hc0 x0 x1 x2 x3))) = _ := (View.read_writes_full arg10.view _ _ _ _).trans (shapeCast_self _ _)
    have e2 : (arg11.view.read (Elt Ideal) (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4))) = _ := (View.read_writes_full arg11.view _ _ _ _).trans (shapeCast_self _ _)
    rw [e0, e1, e2]
    exact h
  · intro s t
    refine (congrFun (View.readAt_full arg13.view _ inb_S640x640_S640x640_0_0) (ix2 s t)).trans ?_
    exact stored_rows arg13.view _ (fun s t => wt ((kernelRun0_C.sl.r_8 (F := Ideal) c i arg3 harg3 arg4 harg4 arg5 harg5 arg6 harg6 arg9 arg12 hc0 x0 x1 x2 x3) (ix2 0 t)) ((masked x0 x1 x2 x3 (i 2).val) t (640 * 0 + s))) _ _ _ _ _ _ _ _ _ _ []
      _ _ _ _ _ _ _ _ _ _ (hr.stored _) s t

/-- The loop, as this run runs it. -/
def loop_C (n : ℕ) := st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_C.sl.r (F := Ideal) c arg3 harg3 arg4 harg4 x0 x1) hc0 (kernelRun0_C.sl.r_8 (F := Ideal) c i arg3 harg3 arg4 harg4 arg5 harg5 arg6 harg6 arg9 arg12 hc0 x0 x1 x2 x3) 0#32 (kernelRun0_C.sl.v1040 (F := Ideal) c arg11) (kernelRun0_C.sl.r_21 (F := Ideal) c i arg3 harg3 arg4 harg4 arg5 harg5 arg6 harg6 arg9 arg12 hc0 x0 x1 x2 x3)
  (harg5.unread x2) (harg6.unread x3) (harg7.unread x4)
  (arg9.view.writes (Elt Ideal) arg9.view.junk (kernelRun0_C.sl.HS0_2 (F := Ideal) c i arg3 harg3 arg4 harg4 arg5 harg5 arg6 harg6 arg9 arg12 hc0 x0 x1 x2 x3))
  (arg10.view.writes (Elt Ideal) arg10.view.junk (kernelRun0_C.sl.HS1_2 (F := Ideal) c i arg3 harg3 arg4 harg4 arg5 harg5 arg6 harg6 arg9 arg10 arg12 hc0 x0 x1 x2 x3))
  (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4))
  (arg12.view.writes (Elt Ideal) arg12.view.junk (kernelRun0_C.sl.HS3_3 (F := Ideal) c i arg3 harg3 arg4 harg4 arg5 harg5 arg6 harg6 hc0 x0 x1 x2 x3))
  (arg13.view.writes (Elt Ideal) arg13.view.junk (kernelRun0_C.sl.HS4_10 (F := Ideal) c i arg3 harg3 arg4 harg4 arg5 harg5 arg6 harg6 arg9 arg12 hc0 x0 x1 x2 x3)) 0#32 n

/-- What is kept after the loop. -/
theorem after_C (hi1 : 1 ≤ (i 2).val) : Kept (masked x0 x1 x2 x3 (i 2).val) (value x4) (640 * (2 * (((i 2).val - 1) / 2) + 1))
    (arg9.view.read (Elt Ideal) (arg9.view.writes (Elt Ideal) (arg9.view.writes (Elt Ideal) arg9.view.junk (kernelRun0_C.sl.HS0_2 (F := Ideal) c i arg3 harg3 arg4 harg4 arg5 harg5 arg6 harg6 arg9 arg12 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1))
    (arg10.view.read (Elt Ideal) (arg10.view.writes (Elt Ideal) (arg10.view.writes (Elt Ideal) arg10.view.junk (kernelRun0_C.sl.HS1_2 (F := Ideal) c i arg3 harg3 arg4 harg4 arg5 harg5 arg6 harg6 arg9 arg10 arg12 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1))
    (arg11.view.read (Elt Ideal) (arg11.view.writes (Elt Ideal) (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1))
    ∧ Slot arg12.view (arg12.view.writes (Elt Ideal) (arg12.view.writes (Elt Ideal) arg12.view.junk (kernelRun0_C.sl.HS3_3 (F := Ideal) c i arg3 harg3 arg4 harg4 arg5 harg5 arg6 harg6 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) ⟨1, by decide⟩ (fun s t => raw x0 x1 x2 x3 t (640 * (2 * (((i 2).val - 1) / 2) + 1) + s))
    ∧ Slot arg12.view (arg12.view.writes (Elt Ideal) (arg12.view.writes (Elt Ideal) arg12.view.junk (kernelRun0_C.sl.HS3_3 (F := Ideal) c i arg3 harg3 arg4 harg4 arg5 harg5 arg6 harg6 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) ⟨2, by decide⟩ (fun s t => raw x0 x1 x2 x3 t (640 * (i 2).val + s)) := by
  have eL : ∀ t s, logit (kernelRun0_C.sl.r (F := Ideal) c arg3 harg3 arg4 harg4 x0 x1) (arg5.view.read (Elt Ideal) (harg5.unread x2)) (arg6.view.read (Elt Ideal) (harg6.unread x3)) t s = raw x0 x1 x2 x3 t s := by
    intro t s
    unfold kernelRun0_C.sl.r
    rw [load_whole, load_whole, Memref.IsWhole.read_unread, Memref.IsWhole.read_unread]
    exact logit_queries _ _ _ _ _ _
  have eV : value (arg7.view.read (Elt Ideal) (harg7.unread x4)) = value x4 := by rw [Memref.IsWhole.read_unread]
  obtain ⟨h0, h1, h2⟩ := slots_C c i arg3 harg3 arg4 harg4 arg5 harg5 arg6 harg6 arg12 hc0 x0 x1 x2 x3 hi1
  have hk := first_C c i arg3 harg3 arg4 harg4 arg5 harg5 arg6 harg6 arg7 harg7 arg9 arg10 arg11 arg12 arg13 hc0 x0 x1 x2 x3 x4 hi1
  rw [← eV] at hk ⊢
  have h := loop_kept Variants.none c none i arg3 harg3 arg4 harg4 arg5 harg5 arg6 harg6 arg7 harg7 arg8 harg8 arg9 harg9 arg10 harg10 arg11 harg11 arg12 harg12 arg13 harg13
    (BitVec.ofNat 32 (i 2).val) (kernelRun0_C.sl.r (F := Ideal) c arg3 harg3 arg4 harg4 x0 x1) hc0 (kernelRun0_C.sl.r_8 (F := Ideal) c i arg3 harg3 arg4 harg4 arg5 harg5 arg6 harg6 arg9 arg12 hc0 x0 x1 x2 x3) 0#32 (kernelRun0_C.sl.v1040 (F := Ideal) c arg11) (kernelRun0_C.sl.r_21 (F := Ideal) c i arg3 harg3 arg4 harg4 arg5 harg5 arg6 harg6 arg9 arg12 hc0 x0 x1 x2 x3) (harg5.unread x2) (harg6.unread x3) (harg7.unread x4)
    (arg9.view.writes (Elt Ideal) arg9.view.junk (kernelRun0_C.sl.HS0_2 (F := Ideal) c i arg3 harg3 arg4 harg4 arg5 harg5 arg6 harg6 arg9 arg12 hc0 x0 x1 x2 x3))
    (arg10.view.writes (Elt Ideal) arg10.view.junk (kernelRun0_C.sl.HS1_2 (F := Ideal) c i arg3 harg3 arg4 harg4 arg5 harg5 arg6 harg6 arg9 arg10 arg12 hc0 x0 x1 x2 x3))
    (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4))
    (arg12.view.writes (Elt Ideal) arg12.view.junk (kernelRun0_C.sl.HS3_3 (F := Ideal) c i arg3 harg3 arg4 harg4 arg5 harg5 arg6 harg6 hc0 x0 x1 x2 x3))
    (arg13.view.writes (Elt Ideal) arg13.view.junk (kernelRun0_C.sl.HS4_10 (F := Ideal) c i arg3 harg3 arg4 harg4 arg5 harg5 arg6 harg6 arg9 arg12 hc0 x0 x1 x2 x3)) 0#32
    (X := (masked x0 x1 x2 x3 (i 2).val)) (fun t s hs hs' => (masked_below _ _ _ _ _ _ _ hs hs').trans (eL t s).symm) hk
    (fun s t => (h1 s t).trans (eL t _).symm) (k0_t1_loop i).trips le_rfl
  rw [trips_eq] at h
  rw [loop_C, trips_eq]
  exact ⟨h.1, fun s t => (h.2.1 s t).trans (eL t _), h.2.2 _ h2⟩

/-- The second loop takes no trip, so nothing is written by it. -/
theorem rest_trips_C (j : grid0.Coords) : Scf.trips (k0_t2_loop j).lb (k0_t2_loop j).ub (k0_t2_loop j).st = 0 := by
  unfold k0_t2_loop
  obtain ⟨a, ha⟩ : ∃ a : Fin 13, a.val = (j 2).val := ⟨j 2, rfl⟩
  simp only [← ha]
  clear ha
  revert a
  decide

/-- The second loop, as this run runs it. -/
def rest_C := st_k0_t2 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_C.sl.r (F := Ideal) c arg3 harg3 arg4 harg4 x0 x1) (kernelRun0_C.sl.r_1 (F := Ideal) c i arg3 harg3 arg4 harg4 arg5 harg5 arg6 harg6 x0 x1 x2 x3) hc0 (kernelRun0_C.sl.v1077 i)
  (harg5.unread x2) (harg6.unread x3) (harg7.unread x4)
  (arg9.view.writes (Elt Ideal) arg9.view.junk ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1 ++ (kernelRun0_C.sl.HS0_2 (F := Ideal) c i arg3 harg3 arg4 harg4 arg5 harg5 arg6 harg6 arg9 arg12 hc0 x0 x1 x2 x3)))
  (arg10.view.writes (Elt Ideal) arg10.view.junk ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1 ++ (kernelRun0_C.sl.HS1_2 (F := Ideal) c i arg3 harg3 arg4 harg4 arg5 harg5 arg6 harg6 arg9 arg10 arg12 hc0 x0 x1 x2 x3)))
  (arg11.view.writes (Elt Ideal) arg11.view.junk ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1 ++ (kernelRun0_C.sl.HS2_2 (F := Ideal) c i arg3 harg3 arg4 harg4 arg5 harg5 arg6 harg6 arg7 harg7 arg9 arg11 arg12 arg13 hc0 x0 x1 x2 x3 x4)))
  (arg12.view.writes (Elt Ideal) arg12.view.junk ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 ++ (kernelRun0_C.sl.HS3_3 (F := Ideal) c i arg3 harg3 arg4 harg4 arg5 harg5 arg6 harg6 hc0 x0 x1 x2 x3)))
  (arg13.view.writes (Elt Ideal) arg13.view.junk ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.2 ++ (kernelRun0_C.sl.HS4_10 (F := Ideal) c i arg3 harg3 arg4 harg4 arg5 harg5 arg6 harg6 arg9 arg12 hc0 x0 x1 x2 x3))) (kernelRun0_C.sl.r_22 (F := Ideal) c i arg3 harg3 arg4 harg4 arg5 harg5 arg6 harg6 arg7 harg7 arg8 harg8 arg9 harg9 arg10 harg10 arg11 harg11 arg12 harg12 arg13 harg13 hc0 x0 x1 x2 x3 x4) (Scf.trips (k0_t2_loop i).lb (k0_t2_loop i).ub (k0_t2_loop i).st)

theorem rest_nil_C : (rest_C c i arg3 harg3 arg4 harg4 arg5 harg5 arg6 harg6 arg7 harg7 arg8 harg8 arg9 harg9 arg10 harg10 arg11 harg11 arg12 harg12 arg13 harg13 hc0 x0 x1 x2 x3 x4) = ((kernelRun0_C.sl.r_22 (F := Ideal) c i arg3 harg3 arg4 harg4 arg5 harg5 arg6 harg6 arg7 harg7 arg8 harg8 arg9 harg9 arg10 harg10 arg11 harg11 arg12 harg12 arg13 harg13 hc0 x0 x1 x2 x3 x4), [], [], [], [], []) := by
  unfold rest_C
  rw [rest_trips_C]
  rfl

/-- What is kept once the block left over by the loop is in. -/
theorem tail_C (hc1 : cond0_1 i) (hi1 : 1 ≤ (i 2).val) (hev : (i 2).val % 2 = 0) : Kept (masked x0 x1 x2 x3 (i 2).val) (value x4) (640 * ((i 2).val - 1) + 640) (kernelRun0_C.sl.v1148 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_C.sl.v611 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_C.sl.v621 (F := Ideal) c i arg3 harg3 arg4 harg4 arg5 harg5 arg6 harg6 arg7 harg7 arg8 harg8 arg9 harg9 arg10 harg10 arg11 harg11 arg12 harg12 arg13 harg13 hc0 hc1 x0 x1 x2 x3 x4) := by
  obtain ⟨hk, hs, -⟩ := after_C c i arg3 harg3 arg4 harg4 arg5 harg5 arg6 harg6 arg7 harg7 arg8 harg8 arg9 harg9 arg10 harg10 arg11 harg11 arg12 harg12 arg13 harg13 hc0 x0 x1 x2 x3 x4 hi1
  have p0 : (kernelRun0_C.sl.v1145 (F := Ideal) c i arg3 harg3 arg4 harg4 arg5 harg5 arg6 harg6 arg7 harg7 arg8 harg8 arg9 harg9 arg10 harg10 arg11 harg11 arg12 harg12 arg13 harg13 hc0 x0 x1 x2 x3 x4) = (arg9.view.read (Elt Ideal) (arg9.view.writes (Elt Ideal) (arg9.view.writes (Elt Ideal) arg9.view.junk (kernelRun0_C.sl.HS0_2 (F := Ideal) c i arg3 harg3 arg4 harg4 arg5 harg5 arg6 harg6 arg9 arg12 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1)) :=
    (View.readAt_full arg9.view _ inb_S1x640_S1x640_0_0).trans (congrArg (arg9.view.read (Elt Ideal)) (read_after arg9.view arg9.view.junk (kernelRun0_C.sl.HS0_2 (F := Ideal) c i arg3 harg3 arg4 harg4 arg5 harg5 arg6 harg6 arg9 arg12 hc0 x0 x1 x2 x3) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.1 (rest_C c i arg3 harg3 arg4 harg4 arg5 harg5 arg6 harg6 arg7 harg7 arg8 harg8 arg9 harg9 arg10 harg10 arg11 harg11 arg12 harg12 arg13 harg13 hc0 x0 x1 x2 x3 x4).2.1 (congrArg (fun x => x.2.1) (rest_nil_C c i arg3 harg3 arg4 harg4 arg5 harg5 arg6 harg6 arg7 harg7 arg8 harg8 arg9 harg9 arg10 harg10 arg11 harg11 arg12 harg12 arg13 harg13 hc0 x0 x1 x2 x3 x4))))
  have p1 : (kernelRun0_C.sl.v1272 (F := Ideal) c i arg3 harg3 arg4 harg4 arg5 harg5 arg6 harg6 arg7 harg7 arg8 harg8 arg9 harg9 arg10 harg10 arg11 harg11 arg12 harg12 arg13 harg13 hc0 x0 x1 x2 x3 x4) = (arg10.view.read (Elt Ideal) (arg10.view.writes (Elt Ideal) (arg10.view.writes (Elt Ideal) arg10.view.junk (kernelRun0_C.sl.HS1_2 (F := Ideal) c i arg3 harg3 arg4 harg4 arg5 harg5 arg6 harg6 arg9 arg10 arg12 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1)) :=
    (View.readAt_full arg10.view _ inb_S1x640_S1x640_0_0).trans (congrArg (arg10.view.read (Elt Ideal)) (read_after arg10.view arg10.view.junk (kernelRun0_C.sl.HS1_2 (F := Ideal) c i arg3 harg3 arg4 harg4 arg5 harg5 arg6 harg6 arg9 arg10 arg12 hc0 x0 x1 x2 x3) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.1 (rest_C c i arg3 harg3 arg4 harg4 arg5 harg5 arg6 harg6 arg7 harg7 arg8 harg8 arg9 harg9 arg10 harg10 arg11 harg11 arg12 harg12 arg13 harg13 hc0 x0 x1 x2 x3 x4).2.2.1 (congrArg (fun x => x.2.2.1) (rest_nil_C c i arg3 harg3 arg4 harg4 arg5 harg5 arg6 harg6 arg7 harg7 arg8 harg8 arg9 harg9 arg10 harg10 arg11 harg11 arg12 harg12 arg13 harg13 hc0 x0 x1 x2 x3 x4))))
  have p2 : (kernelRun0_C.sl.v1282 (F := Ideal) c i arg3 harg3 arg4 harg4 arg5 harg5 arg6 harg6 arg7 harg7 arg8 harg8 arg9 harg9 arg10 harg10 arg11 harg11 arg12 harg12 arg13 harg13 hc0 x0 x1 x2 x3 x4) = (arg11.view.read (Elt Ideal) (arg11.view.writes (Elt Ideal) (arg11.view.writes (Elt Ideal) arg11.view.junk (kernelRun0_C.sl.HS2_2 (F := Ideal) c i arg3 harg3 arg4 harg4 arg5 harg5 arg6 harg6 arg7 harg7 arg9 arg11 arg12 arg13 hc0 x0 x1 x2 x3 x4)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1)) :=
    (View.readAt_full arg11.view _ inb_S128x640_S128x640_0_0).trans (congrArg (arg11.view.read (Elt Ideal)) (read_after arg11.view arg11.view.junk (kernelRun0_C.sl.HS2_2 (F := Ideal) c i arg3 harg3 arg4 harg4 arg5 harg5 arg6 harg6 arg7 harg7 arg9 arg11 arg12 arg13 hc0 x0 x1 x2 x3 x4) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.1 (rest_C c i arg3 harg3 arg4 harg4 arg5 harg5 arg6 harg6 arg7 harg7 arg8 harg8 arg9 harg9 arg10 harg10 arg11 harg11 arg12 harg12 arg13 harg13 hc0 x0 x1 x2 x3 x4).2.2.2.1 (congrArg (fun x => x.2.2.2.1) (rest_nil_C c i arg3 harg3 arg4 harg4 arg5 harg5 arg6 harg6 arg7 harg7 arg8 harg8 arg9 harg9 arg10 harg10 arg11 harg11 arg12 harg12 arg13 harg13 hc0 x0 x1 x2 x3 x4))))
  have pW : (arg12.view.writes (Elt Ideal) arg12.view.junk ((rest_C c i arg3 harg3 arg4 harg4 arg5 harg5 arg6 harg6 arg7 harg7 arg8 harg8 arg9 harg9 arg10 harg10 arg11 harg11 arg12 harg12 arg13 harg13 hc0 x0 x1 x2 x3 x4).2.2.2.2.1 ++ ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 ++ (kernelRun0_C.sl.HS3_3 (F := Ideal) c i arg3 harg3 arg4 harg4 arg5 harg5 arg6 harg6 hc0 x0 x1 x2 x3)))) = (arg12.view.writes (Elt Ideal) (arg12.view.writes (Elt Ideal) arg12.view.junk (kernelRun0_C.sl.HS3_3 (F := Ideal) c i arg3 harg3 arg4 harg4 arg5 harg5 arg6 harg6 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) :=
    read_after arg12.view arg12.view.junk (kernelRun0_C.sl.HS3_3 (F := Ideal) c i arg3 harg3 arg4 harg4 arg5 harg5 arg6 harg6 hc0 x0 x1 x2 x3) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 (rest_C c i arg3 harg3 arg4 harg4 arg5 harg5 arg6 harg6 arg7 harg7 arg8 harg8 arg9 harg9 arg10 harg10 arg11 harg11 arg12 harg12 arg13 harg13 hc0 x0 x1 x2 x3 x4).2.2.2.2.1 (congrArg (fun x => x.2.2.2.2.1) (rest_nil_C c i arg3 harg3 arg4 harg4 arg5 harg5 arg6 harg6 arg7 harg7 arg8 harg8 arg9 harg9 arg10 harg10 arg11 harg11 arg12 harg12 arg13 harg13 hc0 x0 x1 x2 x3 x4))
  rw [← pW] at hs
  rw [← p0, ← p1, ← p2, show 2 * (((i 2).val - 1) / 2) + 1 = (i 2).val - 1 by omega] at hk
  rw [show 2 * (((i 2).val - 1) / 2) + 1 = (i 2).val - 1 by omega] at hs
  have hi : (i 2).val < 13 := (i 2).isLt
  have hr := (hs.rows inb_S3x640x640_S1x64x640_1_0_0 inb_S3x640x640_S1x64x640_1_64_0 inb_S3x640x640_S1x64x640_1_128_0 inb_S3x640x640_S1x64x640_1_192_0 inb_S3x640x640_S1x64x640_1_256_0 inb_S3x640x640_S1x64x640_1_320_0 inb_S3x640x640_S1x64x640_1_384_0 inb_S3x640x640_S1x64x640_1_448_0 inb_S3x640x640_S1x64x640_1_512_0 inb_S3x640x640_S1x64x640_1_576_0).congr (g := fun s t => (masked x0 x1 x2 x3 (i 2).val) t (640 * ((i 2).val - 1) + s)) (fun s t => (masked_below _ _ _ _ _ _ _ (by omega) (by have := s.isLt; omega)).symm)
  have hv : ∀ (s : Fin 640) (d : Fin 128), (View.readAt (Elt Ideal) arg7.view (Rect.unit (s := S1x8320x128) (k0_off9 i) S1x640x128.size (k0_off9_inb i hc0 hc1)).toLoadRect (harg7.unread x4) (ix3 0 s d) : EReal)
      = value x4 d (640 * ((i 2).val - 1) + s.val) := by
    intro s d
    refine (value_block _ _ _ (640 * ((i 2).val - 1)) (by omega) (off9_eq i hi1) _ s d).trans ?_
    rw [Memref.IsWhole.read_unread]
  have h := hk.step hr _ hv (kernelRun0_C.sl.v1288 (F := Ideal) c i arg3 harg3 arg4 harg4 arg5 harg5 arg6 harg6 arg7 harg7 arg8 harg8 arg9 harg9 arg10 harg10 arg11 harg11 arg12 harg12 arg13 harg13 hc0 x0 x1 x2 x3 x4) (m' := (kernelRun0_C.sl.v1148 (F := Ideal) c i arg3 harg3 arg4 harg4 arg5 harg5 arg6 harg6 arg7 harg7 arg8 harg8 arg9 harg9 arg10 harg10 arg11 harg11 arg12 harg12 arg13 harg13 hc0 x0 x1 x2 x3 x4)) rfl ?_
  · have e1 : (kernelRun0_C.sl.v611 (F := Ideal) c i arg3 harg3 arg4 harg4 arg5 harg5 arg6 harg6 arg7 harg7 arg8 harg8 arg9 harg9 arg10 harg10 arg11 harg11 arg12 harg12 arg13 harg13 hc0 x0 x1 x2 x3 x4) = _ := (View.readCov_full arg10.view _ _ _ _).trans (shapeCast_self _ _)
    have e2 : (kernelRun0_C.sl.v621 (F := Ideal) c i arg3 harg3 arg4 harg4 arg5 harg5 arg6 harg6 arg7 harg7 arg8 harg8 arg9 harg9 arg10 harg10 arg11 harg11 arg12 harg12 arg13 harg13 hc0 hc1 x0 x1 x2 x3 x4) = _ := (View.readCov_full arg11.view _ _ _ _).trans (shapeCast_self _ _)
    rw [e1, e2]
    exact h
  · intro s t
    refine (congrFun (View.readAt_full arg13.view _ inb_S640x640_S640x640_0_0) (ix2 s t)).trans ?_
    exact stored_rows arg13.view _ (fun s t => wt ((kernelRun0_C.sl.v1148 (F := Ideal) c i arg3 harg3 arg4 harg4 arg5 harg5 arg6 harg6 arg7 harg7 arg8 harg8 arg9 harg9 arg10 harg10 arg11 harg11 arg12 harg12 arg13 harg13 hc0 x0 x1 x2 x3 x4) (ix2 0 t)) ((masked x0 x1 x2 x3 (i 2).val) t (640 * ((i 2).val - 1) + s))) _ _ _ _ _ _ _ _ _ _ _
      _ _ _ _ _ _ _ _ _ _ (hr.stored _) s t

/-- What is kept at the end. -/
theorem kept_C (hc1 : cond0_1 i) (hi1 : 1 ≤ (i 2).val) (hev : (i 2).val % 2 = 0) : Kept (masked x0 x1 x2 x3 (i 2).val) (value x4) (640 * (i 2).val + 640) (kernelRun0_C.sl.r_35 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_C.sl.v637 (F := Ideal) c i arg3 harg3 arg4 harg4 arg5 harg5 arg6 harg6 arg7 harg7 arg8 harg8 arg9 harg9 arg10 harg10 arg11 harg11 arg12 harg12 arg13 harg13 hc0 x0 x1 x2 x3 x4) (kernelRun0_C.sl.v636 (F := Ideal) c i arg3 harg3 arg4 harg4 arg5 harg5 arg6 harg6 arg7 harg7 arg8 harg8 arg9 harg9 arg10 harg10 arg11 harg11 arg12 harg12 arg13 harg13 hc0 hc1 x0 x1 x2 x3 x4) := by
  have hi : (i 2).val < 13 := (i 2).isLt
  obtain ⟨-, -, hs⟩ := after_C c i arg3 harg3 arg4 harg4 arg5 harg5 arg6 harg6 arg7 harg7 arg8 harg8 arg9 harg9 arg10 harg10 arg11 harg11 arg12 harg12 arg13 harg13 hc0 x0 x1 x2 x3 x4 hi1
  have pW : (arg12.view.writes (Elt Ideal) arg12.view.junk ((rest_C c i arg3 harg3 arg4 harg4 arg5 harg5 arg6 harg6 arg7 harg7 arg8 harg8 arg9 harg9 arg10 harg10 arg11 harg11 arg12 harg12 arg13 harg13 hc0 x0 x1 x2 x3 x4).2.2.2.2.1 ++ ((loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 ++ (kernelRun0_C.sl.HS3_3 (F := Ideal) c i arg3 harg3 arg4 harg4 arg5 harg5 arg6 harg6 hc0 x0 x1 x2 x3)))) = (arg12.view.writes (Elt Ideal) (arg12.view.writes (Elt Ideal) arg12.view.junk (kernelRun0_C.sl.HS3_3 (F := Ideal) c i arg3 harg3 arg4 harg4 arg5 harg5 arg6 harg6 hc0 x0 x1 x2 x3)) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1) :=
    read_after arg12.view arg12.view.junk (kernelRun0_C.sl.HS3_3 (F := Ideal) c i arg3 harg3 arg4 harg4 arg5 harg5 arg6 harg6 hc0 x0 x1 x2 x3) (loop_C c i arg3 harg3 arg4 harg4 arg5 harg5 arg6 harg6 arg7 harg7 arg8 harg8 arg9 harg9 arg10 harg10 arg11 harg11 arg12 harg12 arg13 harg13 hc0 x0 x1 x2 x3 x4 (k0_t1_loop i).trips).2.2.2.2.1 (rest_C c i arg3 harg3 arg4 harg4 arg5 harg5 arg6 harg6 arg7 harg7 arg8 harg8 arg9 harg9 arg10 harg10 arg11 harg11 arg12 harg12 arg13 harg13 hc0 x0 x1 x2 x3 x4).2.2.2.2.1 (congrArg (fun x => x.2.2.2.2.1) (rest_nil_C c i arg3 harg3 arg4 harg4 arg5 harg5 arg6 harg6 arg7 harg7 arg8 harg8 arg9 harg9 arg10 harg10 arg11 harg11 arg12 harg12 arg13 harg13 hc0 x0 x1 x2 x3 x4))
  rw [← pW] at hs
  have hk := tail_C c i arg3 harg3 arg4 harg4 arg5 harg5 arg6 harg6 arg7 harg7 arg8 harg8 arg9 harg9 arg10 harg10 arg11 harg11 arg12 harg12 arg13 harg13 hc0 x0 x1 x2 x3 x4 hc1 hi1 hev
  have q0 : (kernelRun0_C.sl.v284 (F := Ideal) c i arg3 harg3 arg4 harg4 arg5 harg5 arg6 harg6 arg7 harg7 arg8 harg8 arg9 harg9 arg10 harg10 arg11 harg11 arg12 harg12 arg13 harg13 hc0 x0 x1 x2 x3 x4) = (kernelRun0_C.sl.v1148 (F := Ideal) c i arg3 harg3 arg4 harg4 arg5 harg5 arg6 harg6 arg7 harg7 arg8 harg8 arg9 harg9 arg10 harg10 arg11 harg11 arg12 harg12 arg13 harg13 hc0 x0 x1 x2 x3 x4) := (View.readCov_full arg9.view _ _ _ _).trans (shapeCast_self _ _)
  rw [← q0, show 640 * ((i 2).val - 1) + 640 = 640 * (i 2).val by omega] at hk
  have hr := ((hs.rows inb_S3x640x640_S1x64x640_2_0_0 inb_S3x640x640_S1x64x640_2_64_0 inb_S3x640x640_S1x64x640_2_128_0 inb_S3x640x640_S1x64x640_2_192_0 inb_S3x640x640_S1x64x640_2_256_0 inb_S3x640x640_S1x64x640_2_320_0 inb_S3x640x640_S1x64x640_2_384_0 inb_S3x640x640_S1x64x640_2_448_0 inb_S3x640x640_S1x64x640_2_512_0 inb_S3x640x640_S1x64x640_2_576_0).causal (i 2).val (i 2).isLt).congr (g := fun s t => (masked x0 x1 x2 x3 (i 2).val) t (640 * (i 2).val + s)) (fun s t => masked_last _ _ _ _ _ _ _)
  have hv : ∀ (s : Fin 640) (d : Fin 128), (View.readAt (Elt Ideal) arg7.view (Rect.unit (s := S1x8320x128) (k0_off1 i) S1x640x128.size (k0_off1_inb i)).toLoadRect (harg7.unread x4) (ix3 0 s d) : EReal)
      = value x4 d (640 * (i 2).val + s.val) := by
    intro s d
    refine (value_block _ _ _ (640 * (i 2).val) (by omega) (off1_eq i) _ s d).trans ?_
    rw [Memref.IsWhole.read_unread]
  have h := hk.step hr _ hv (kernelRun0_C.sl.v627 (F := Ideal) c i arg3 harg3 arg4 harg4 arg5 harg5 arg6 harg6 arg7 harg7 arg8 harg8 arg9 harg9 arg10 harg10 arg11 harg11 arg12 harg12 arg13 harg13 hc0 x0 x1 x2 x3 x4) (m' := (kernelRun0_C.sl.r_35 (F := Ideal) c i arg3 harg3 arg4 harg4 arg5 harg5 arg6 harg6 arg7 harg7 arg8 harg8 arg9 harg9 arg10 harg10 arg11 harg11 arg12 harg12 arg13 harg13 hc0 x0 x1 x2 x3 x4)) rfl ?_
  · have e1 : (kernelRun0_C.sl.v637 (F := Ideal) c i arg3 harg3 arg4 harg4 arg5 harg5 arg6 harg6 arg7 harg7 arg8 harg8 arg9 harg9 arg10 harg10 arg11 harg11 arg12 harg12 arg13 harg13 hc0 x0 x1 x2 x3 x4) = _ := (View.readCov_full arg10.view _ _ _ _).trans (shapeCast_self _ _)
    have e2 : (kernelRun0_C.sl.v636 (F := Ideal) c i arg3 harg3 arg4 harg4 arg5 harg5 arg6 harg6 arg7 harg7 arg8 harg8 arg9 harg9 arg10 harg10 arg11 harg11 arg12 harg12 arg13 harg13 hc0 hc1 x0 x1 x2 x3 x4) = _ := (View.readCov_full arg11.view _ _ _ _).trans (shapeCast_self _ _)
    rw [e1, e2]
    exact h
  · intro s t
    refine (congrFun (View.readAt_full arg13.view _ inb_S640x640_S640x640_0_0) (ix2 s t)).trans ?_
    exact stored_rows arg13.view _ (fun s t => wt ((kernelRun0_C.sl.r_35 (F := Ideal) c i arg3 harg3 arg4 harg4 arg5 harg5 arg6 harg6 arg7 harg7 arg8 harg8 arg9 harg9 arg10 harg10 arg11 harg11 arg12 harg12 arg13 harg13 hc0 x0 x1 x2 x3 x4) (ix2 0 t)) ((masked x0 x1 x2 x3 (i 2).val) t (640 * (i 2).val + s))) _ _ _ _ _ _ _ _ _ _ _
      _ _ _ _ _ _ _ _ _ _ (hr.stored _) s t

/-- The block of results written. -/
theorem result_C (hc1 : cond0_1 i) (hi1 : 1 ≤ (i 2).val) (hev : (i 2).val % 2 = 0)  : Result (masked x0 x1 x2 x3 (i 2).val) (value x4) (640 * (i 2).val + 640)
    (out0_C_5 (F := Ideal) c i arg3 harg3 arg4 harg4 arg5 harg5 arg6 harg6 arg7 harg7 arg8 harg8 arg9 harg9 arg10 harg10 arg11 harg11 arg12 harg12 arg13 harg13 hc0 hc1 x0 x1 x2 x3 x4) := by
  have e : out0_C_5 (F := Ideal) c i arg3 harg3 arg4 harg4 arg5 harg5 arg6 harg6 arg7 harg7 arg8 harg8 arg9 harg9 arg10 harg10 arg11 harg11 arg12 harg12 arg13 harg13 hc0 hc1 x0 x1 x2 x3 x4 = k0_pay1 (F := Ideal) (k0_pay285 (F := Ideal) (kernelRun0_C.sl.v636 (F := Ideal) c i arg3 harg3 arg4 harg4 arg5 harg5 arg6 harg6 arg7 harg7 arg8 harg8 arg9 harg9 arg10 harg10 arg11 harg11 arg12 harg12 arg13 harg13 hc0 hc1 x0 x1 x2 x3 x4) (kernelRun0_C.sl.v637 (F := Ideal) c i arg3 harg3 arg4 harg4 arg5 harg5 arg6 harg6 arg7 harg7 arg8 harg8 arg9 harg9 arg10 harg10 arg11 harg11 arg12 harg12 arg13 harg13 hc0 x0 x1 x2 x3 x4)) := by
    unfold out0_C_5 kernelRun0_C
    exact View.read_writes_full _ _ _ _ []
  rw [e]
  exact (kept_C c i arg3 harg3 arg4 harg4 arg5 harg5 arg6 harg6 arg7 harg7 arg8 harg8 arg9 harg9 arg10 harg10 arg11 harg11 arg12 harg12 arg13 harg13 hc0 x0 x1 x2 x3 x4 hc1 hi1 hev).result

end Cert.Fox
-- ==== Proof.FoxWhole.lean ====
module

public import proofs.«01_k».proof.Proof.FoxMath
public import Idealize.ShloMosaic.Lib.ValueIdx

/-!
# Causal attention of one row

The logit of query `T` against key `s` is the product of their head's slices of the projections and of the bias columns.
A key after the query has no weight, nor has a key of the padding unless it is the query itself.
-/

@[expose] public section

noncomputable section

namespace Cert.Fox

open Idealize.ShloMosaic

/-- The weighted mean of the values, its weights powers of two, as numbers: the sum of the products times one over the sum of the weights. -/
def attend (X V : ℕ → EReal) (n : ℕ) : EReal :=
  (∑ s ∈ Finset.range n, wt ((Finset.range n).sup X) (X s) * V s)
    * Ideal.div (Ideal.ofBits .f32 0x3F800000#32) (∑ s ∈ Finset.range n, wt ((Finset.range n).sup X) (X s))

theorem Seen.value {X V : ℕ → EReal} {n : ℕ} {m l a : EReal} (h : Seen X V n m l a) :
    a * Ideal.div (Ideal.ofBits .f32 0x3F800000#32) l = attend X V n := by
  rw [h.acc, h.sum, h.top, attend]

/-- The arrays the call reads: the projections' columns and the two arrays of bias columns. -/
abbrev Cols := (⟨3, ![2, 8320, 6272]⟩ : Shape).Idx → EReal
abbrev Bias := (⟨3, ![2, 8320, 1024]⟩ : Shape).Idx → EReal

/-- Column `d` of head `h` of query or key `s` in the part of the projections that begins at column `o`. -/
def part (P : Cols) (o : ℕ) (ho : o ≤ 5120) (b : Fin 2) (h : Fin 8) (s : Fin 8320) (d : Fin 128) : EReal :=
  P (ix3 b s ⟨o + (h.val * 128 + d.val), by have := h.isLt; have := d.isLt; omega⟩)

/-- Column `d` of head `h` in an array of bias columns. -/
def biasAt (Q : Bias) (b : Fin 2) (h : Fin 8) (s : Fin 8320) (d : Fin 128) : EReal :=
  Q (ix3 b s ⟨h.val * 128 + d.val, by have := h.isLt; have := d.isLt; omega⟩)

/-- A query's logit against a key. -/
def product (P : Cols) (Q K : Bias) (b : Fin 2) (h : Fin 8) (T s : Fin 8320) : EReal :=
  (∑ d : Fin 128, part P 2048 (by omega) b h T d * part P 3072 (by omega) b h s d) + ∑ d : Fin 128, biasAt Q b h T d * biasAt K b h s d

/-- The same with the keys that are out of reach at `⊥`. -/
def score (P : Cols) (Q K : Bias) (b : Fin 2) (h : Fin 8) (T : Fin 8320) (s : ℕ) : EReal :=
  if e : s < 8320 then if s ≤ T.val ∧ (112 ≤ s ∨ s = T.val) then product P Q K b h T ⟨s, e⟩ else ⊥ else ⊥

/-- A key's value. -/
def valueAt (P : Cols) (b : Fin 2) (h : Fin 8) (d : Fin 128) (s : ℕ) : EReal :=
  if e : s < 8320 then part P 4096 (by omega) b h ⟨s, e⟩ d else 0

/-- Query `T`'s row of results: head `h`, column `d`. -/
def attention (P : Cols) (Q K : Bias) (b : Fin 2) (T : Fin 8320) (h : Fin 8) (d : Fin 128) : EReal :=
  attend (score P Q K b h T) (valueAt P b h d) 8320

end Cert.Fox

end
-- ==== Proof.FoxArray.lean ====
module

public import proofs.«01_k».proof.Proof.FoxRunA
public import proofs.«01_k».proof.Proof.FoxRunB
public import proofs.«01_k».proof.Proof.FoxRunC
public import proofs.«01_k».proof.Proof.FoxWhole
public import Idealize.ShloMosaic.Lib.Pipeline.Value

/-!
# What the attention kernel's result array holds

Each point of the grid writes the rows of one block of queries of one head. The keys that lie after the block have no
weight, so its rows are those of the whole attention.
-/

@[expose] public section

set_option maxRecDepth 16384
set_option maxHeartbeats 1000000

noncomputable section

open Idealize.ShloMosaic Idealize.ShloMosaic.TcCoe Idealize.SL.Sem
open Idealize.ShloMosaic.Pipeline (Dat)

namespace Cert.Fox

open Cert.KernelFoxIdeal Cert.KernelFoxIdeal.Gen

variable (m : (ℓ : Loc nD τ sig) → Buf (Elt Ideal) ℓ) (c : Dev nD)

/-- The three argument arrays, as numbers. -/
abbrev argP : FVec Ideal S2x8320x6272 .bf16 := m (c.tc.loc main_arg0)
abbrev argQ : FVec Ideal S2x8320x1024 .bf16 := m (c.tc.loc main_arg1)
abbrev argK : FVec Ideal S2x8320x1024 .bf16 := m (c.tc.loc main_arg2)

theorem index_facts : ∀ t : Fin cfg0.N,
    (win0_0.index t 0 = t.val / 104 ∧ win0_0.index t 1 = t.val % 13 ∧ win0_0.index t 2 = 16 + t.val / 13 % 8)
    ∧ (win0_1.index t 0 = t.val / 104 ∧ win0_1.index t 1 = t.val % 13 ∧ win0_1.index t 2 = t.val / 13 % 8)
    ∧ (win0_2.index t 0 = t.val / 104 ∧ win0_2.index t 1 = 0 ∧ win0_2.index t 2 = 24 + t.val / 13 % 8)
    ∧ (win0_3.index t 0 = t.val / 104 ∧ win0_3.index t 1 = 0 ∧ win0_3.index t 2 = t.val / 13 % 8)
    ∧ (win0_4.index t 0 = t.val / 104 ∧ win0_4.index t 1 = 0 ∧ win0_4.index t 2 = 32 + t.val / 13 % 8)
    ∧ (win0_5.index t 0 = t.val / 104 ∧ win0_5.index t 1 = t.val % 13 ∧ win0_5.index t 2 = t.val / 13 % 8)
    ∧ win0_5.flush t = true ∧ (grid0.coords t 2).val = t.val % 13 :=
  (by decide +kernel : ∀ t : Fin grid0.N, _)

section

variable (t : Fin cfg0.N) (b : Fin 2) (h : Fin 8) (hb : b.val = t.val / 104) (hh : h.val = t.val / 13 % 8)

include hb hh

theorem queries_at (r : Fin 640) (T : Fin 8320) (hT : T.val = 640 * (t.val % 13) + r.val) (d : Fin 128) :
    ((iblk m c 0 t : Vec Ideal S1x640x128 .bf16) (ix3 0 r d) : EReal) = part (argP m c) 2048 (by omega) b h T d := by
  have hi := (index_facts t).1
  unfold iblk part
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [hi.1]; omega
  | ⟨1, _⟩ => show win0_0.index t 1 * 640 + 1 * r.val = T.val; rw [hi.2.1]; omega
  | ⟨2, _⟩ => show win0_0.index t 2 * 128 + 1 * d.val = 2048 + (h.val * 128 + d.val); rw [hi.2.2]; omega

theorem biasQ_at (r : Fin 640) (T : Fin 8320) (hT : T.val = 640 * (t.val % 13) + r.val) (d : Fin 128) :
    ((iblk m c 1 t : Vec Ideal S1x640x128 .bf16) (ix3 0 r d) : EReal) = biasAt (argQ m c) b h T d := by
  have hi := (index_facts t).2.1
  unfold iblk biasAt
  rw [View.read_apply]
  show V m c main_arg1 _ = m (c.tc.loc main_arg1) _
  rw [V_main_arg1]
  congr 1
  funext a
  apply Fin.ext
  match a with
  | ⟨0, _⟩ => show win0_1.index t 0 * 1 + 1 * 0 = b.val; rw [hi.1]; omega
  | ⟨1, _⟩ => show win0_1.index t 1 * 640 + 1 * r.val = T.val; rw [hi.2.1]; omega
  | ⟨2, _⟩ => show win0_1.index t 2 * 128 + 1 * d.val = h.val * 128 + d.val; rw [hi.2.2]; omega

theorem keys_at (s : Fin 8320) (d : Fin 128) :
    ((iblk m c 2 t : Vec Ideal S1x8320x128 .bf16) (ix3 0 s d) : EReal) = part (argP m c) 3072 (by omega) b h s d := by
  have hi := (index_facts t).2.2.1
  unfold iblk part
  rw [View.read_apply]
  show V m c main_arg0 _ = m (c.tc.loc main_arg0) _
  rw [V_main_arg0]
  congr 1
  funext a
  apply Fin.ext
  match a with
  | ⟨0, _⟩ => show win0_2.index t 0 * 1 + 1 * 0 = b.val; rw [hi.1]; omega
  | ⟨1, _⟩ => show win0_2.index t 1 * 8320 + 1 * s.val = s.val; rw [hi.2.1]; omega
  | ⟨2, _⟩ => show win0_2.index t 2 * 128 + 1 * d.val = 3072 + (h.val * 128 + d.val); rw [hi.2.2]; omega

theorem biasK_at (s : Fin 8320) (d : Fin 128) :
    ((iblk m c 3 t : Vec Ideal S1x8320x128 .bf16) (ix3 0 s d) : EReal) = biasAt (argK m c) b h s d := by
  have hi := (index_facts t).2.2.2.1
  unfold iblk biasAt
  rw [View.read_apply]
  show V m c main_arg2 _ = m (c.tc.loc main_arg2) _
  rw [V_main_arg2]
  congr 1
  funext a
  apply Fin.ext
  match a with
  | ⟨0, _⟩ => show win0_3.index t 0 * 1 + 1 * 0 = b.val; rw [hi.1]; omega
  | ⟨1, _⟩ => show win0_3.index t 1 * 8320 + 1 * s.val = s.val; rw [hi.2.1]; omega
  | ⟨2, _⟩ => show win0_3.index t 2 * 128 + 1 * d.val = h.val * 128 + d.val; rw [hi.2.2]; omega

theorem values_at (s : Fin 8320) (d : Fin 128) :
    ((iblk m c 4 t : Vec Ideal S1x8320x128 .bf16) (ix3 0 s d) : EReal) = part (argP m c) 4096 (by omega) b h s d := by
  have hi := (index_facts t).2.2.2.2.1
  unfold iblk part
  rw [View.read_apply]
  show V m c main_arg0 _ = m (c.tc.loc main_arg0) _
  rw [V_main_arg0]
  congr 1
  funext a
  apply Fin.ext
  match a with
  | ⟨0, _⟩ => show win0_4.index t 0 * 1 + 1 * 0 = b.val; rw [hi.1]; omega
  | ⟨1, _⟩ => show win0_4.index t 1 * 8320 + 1 * s.val = s.val; rw [hi.2.1]; omega
  | ⟨2, _⟩ => show win0_4.index t 2 * 128 + 1 * d.val = 4096 + (h.val * 128 + d.val); rw [hi.2.2]; omega

/-- A row of a block's logits is that row of the whole. -/
theorem masked_at (r : Fin 640) (T : Fin 8320) (hT : T.val = 640 * (t.val % 13) + r.val) :
    masked (iblk m c 0 t) (iblk m c 1 t) (iblk m c 2 t) (iblk m c 3 t) (t.val % 13) r = score (argP m c) (argQ m c) (argK m c) b h T := by
  have hTl := T.isLt
  funext s
  unfold masked score
  rw [← hT]
  by_cases e : s < 8320
  · rw [dif_pos e]
    refine if_congr Iff.rfl ?_ rfl
    unfold raw product
    rw [dif_pos e]
    refine congrArg₂ (· + ·) (Finset.sum_congr rfl fun d _ => ?_) (Finset.sum_congr rfl fun d _ => ?_)
    · exact (congrArg₂ (fun x y : EReal => x * y) (keys_at m c t b h hb hh ⟨s, e⟩ d) (queries_at m c t b h hb hh r T hT d)).trans (mul_comm _ _)
    · exact (congrArg₂ (fun x y : EReal => x * y) (biasK_at m c t b h hb hh ⟨s, e⟩ d) (biasQ_at m c t b h hb hh r T hT d)).trans (mul_comm _ _)
  · rw [dif_neg e, if_neg (by omega)]

theorem value_at (d : Fin 128) : value (iblk m c 4 t) d = valueAt (argP m c) b h d := by
  funext s
  unfold value valueAt
  by_cases e : s < 8320
  · rw [dif_pos e, dif_pos e]
    exact values_at m c t b h hb hh ⟨s, e⟩ d
  · rw [dif_neg e, dif_neg e]

end

/-- What a point writes. -/
theorem point_result (t : Fin cfg0.N) :
    Result (masked (iblk m c 0 t) (iblk m c 1 t) (iblk m c 2 t) (iblk m c 3 t) (t.val % 13)) (value (iblk m c 4 t)) (640 * (t.val % 13) + 640)
      (outsAt0 m c t.val t.isLt) := by
  have hc := (index_facts t).2.2.2.2.2.2.2
  suffices H : ∀ i : ℕ, i = t.val % 13 → Result (masked (iblk m c 0 t) (iblk m c 1 t) (iblk m c 2 t) (iblk m c 3 t) i) (value (iblk m c 4 t)) (640 * i + 640)
      (outsAt0 m c t.val t.isLt) from H _ rfl
  intro i hi
  by_cases h0 : 1 ≤ t.val % 13
  · obtain rfl := hi.trans hc.symm
    by_cases h1 : ¬(t.val % 13 = 1 ∨ t.val % 13 = 3 ∨ t.val % 13 = 5 ∨ t.val % 13 = 7 ∨ t.val % 13 = 9 ∨ t.val % 13 = 11)
    · rw [outsAt0_C m c t h0 h1]
      intro r d
      refine result_C (hi1 := ?_) (hev := ?_) .. <;> omega
    · rw [outsAt0_B m c t h0 h1]
      intro r d
      refine result_B (hodd := ?_) ..
      omega
  · obtain rfl : i = 0 := by omega
    rw [outsAt0_A m c t h0]
    intro r d
    refine result_A (h0 := ?_) ..
    omega

/-- The same, as the attention of the rows. -/
theorem point_at (t : Fin cfg0.N) (b : Fin 2) (h : Fin 8) (hb : b.val = t.val / 104) (hh : h.val = t.val / 13 % 8)
    (r : Fin 640) (T : Fin 8320) (hT : T.val = 640 * (t.val % 13) + r.val) (d : Fin 128) :
    ((outsAt0 m c t.val t.isLt : Vec Ideal S1x640x128 .bf16) (ix3 0 r d) : EReal) = attention (argP m c) (argQ m c) (argK m c) b T h d := by
  obtain ⟨_, _, _, hs, ho⟩ := point_result m c t r d
  rw [masked_at m c t b h hb hh r T hT, value_at m c t b h hb hh d] at hs
  have hTl := T.isLt
  have h2 := hs.masked (8320 - (640 * (t.val % 13) + 640)) fun s _ => by
    unfold score
    by_cases e : 640 * (t.val % 13) + 640 + s < 8320
    · rw [dif_pos e, if_neg (by have := r.isLt; omega)]
    · rw [dif_neg e]
  rw [show 640 * (t.val % 13) + 640 + (8320 - (640 * (t.val % 13) + 640)) = 8320 by omega] at h2
  exact ho.trans h2.value

/-- The result array after the run. -/
def out : FVec Ideal S2x8320x1024 .bf16 := (dats m 0 c).arrAt 5 cfg0.N

theorem out_at (b : Fin 2) (T : Fin 8320) (j : Fin 1024) :
    (out m c (ix3 b T j) : EReal) = attention (argP m c) (argQ m c) (argK m c) b T ⟨j.val / 128, by omega⟩ ⟨j.val % 128, by omega⟩ := by
  refine Dat.arrAt_forall_of_cover (dats m 0 c) 5
    (fun i v => (v : EReal) = attention (argP m c) (argQ m c) (argK m c) (i 0) (i 1) ⟨(i 2).val / 128, by have : (i 2).val < 1024 := (i 2).isLt; omega⟩ ⟨(i 2).val % 128, by omega⟩) ?_ ?_ (ix3 b T j)
  · intro t hf y
    have ht : t.val < 208 := lt_of_lt_of_eq t.isLt N_0
    have hi := (index_facts t).2.2.2.2.2.1
    have hy0 : (y 0).val < 1 := (y 0).isLt
    have hy1 : (y 1).val < 640 := (y 1).isLt
    have hy2 : (y 2).val < 128 := (y 2).isLt
    have e0 : (((cfg0.win 5).blk t).view.emb y 0).val = t.val / 104 := by
      show win0_5.index t 0 * 1 + 1 * (y 0).val = _; rw [hi.1]; omega
    have e1 : (((cfg0.win 5).blk t).view.emb y 1).val = 640 * (t.val % 13) + (y 1).val := by
      show win0_5.index t 1 * 640 + 1 * (y 1).val = _; rw [hi.2.1]; omega
    have e2 : (((cfg0.win 5).blk t).view.emb y 2).val = 128 * (t.val / 13 % 8) + (y 2).val := by
      show win0_5.index t 2 * 128 + 1 * (y 2).val = _; rw [hi.2.2]; omega
    have ey : y = ix3 (0 : Fin 1) (⟨(y 1).val, hy1⟩ : Fin 640) (⟨(y 2).val, hy2⟩ : Fin 128) := by
      funext a
      apply Fin.ext
      match a with
      | ⟨0, _⟩ => show (y 0).val = 0; omega
      | ⟨1, _⟩ => rfl
      | ⟨2, _⟩ => rfl
    have hp := point_at m c t ⟨t.val / 104, by omega⟩ ⟨t.val / 13 % 8, by omega⟩ rfl rfl ⟨(y 1).val, hy1⟩ (((cfg0.win 5).blk t).view.emb y 1) e1 ⟨(y 2).val, hy2⟩
    rw [← ey] at hp
    refine Eq.trans hp ?_
    have f0 : (⟨t.val / 104, by omega⟩ : Fin 2) = ((cfg0.win 5).blk t).view.emb y 0 := Fin.ext e0.symm
    have f1 : (⟨t.val / 13 % 8, by omega⟩ : Fin 8) = ⟨(((cfg0.win 5).blk t).view.emb y 2).val / 128, by omega⟩ := Fin.ext (by show t.val / 13 % 8 = (((cfg0.win 5).blk t).view.emb y 2).val / 128; rw [e2]; omega)
    have f2 : (⟨(y 2).val, hy2⟩ : Fin 128) = ⟨(((cfg0.win 5).blk t).view.emb y 2).val % 128, by omega⟩ := Fin.ext (by show (y 2).val = (((cfg0.win 5).blk t).view.emb y 2).val % 128; rw [e2]; omega)
    rw [f0, f1, f2]
  · intro i
    have hb : (i 0).val < 2 := (i 0).isLt
    have hT : (i 1).val < 8320 := (i 1).isLt
    have hj : (i 2).val < 1024 := (i 2).isLt
    obtain ⟨t, ht⟩ : ∃ t : Fin cfg0.N, t.val = 104 * (i 0).val + 13 * ((i 2).val / 128) + (i 1).val / 640 :=
      ⟨⟨_, lt_of_lt_of_eq (by omega : 104 * (i 0).val + 13 * ((i 2).val / 128) + (i 1).val / 640 < 208) N_0.symm⟩, rfl⟩
    have hi := (index_facts t).2.2.2.2.2.1
    refine ⟨t, (index_facts t).2.2.2.2.2.2.1, ?_⟩
    have hx : ((cfg0.win 5).blk t).view.emb (ix3 (0 : Fin 1) (⟨(i 1).val % 640, Nat.mod_lt _ (by decide)⟩ : Fin 640) (⟨(i 2).val % 128, Nat.mod_lt _ (by decide)⟩ : Fin 128)) = i := by
      funext a
      apply Fin.ext
      match a with
      | ⟨0, _⟩ => show win0_5.index t 0 * 1 + 1 * 0 = (i 0).val; rw [hi.1]; omega
      | ⟨1, _⟩ => show win0_5.index t 1 * 640 + 1 * ((i 1).val % 640) = (i 1).val; rw [hi.2.1]; omega
      | ⟨2, _⟩ => show win0_5.index t 2 * 128 + 1 * ((i 2).val % 128) = (i 2).val; rw [hi.2.2]; omega
    rw [← hx]
    exact View.emb_mem_set _ _

end Cert.Fox

end
-- ==== Proof.FoxReference.lean ====
module

public import proofs.«01_k».proof.Proof.Gen.ReferenceFoxIdeal.Run
public import proofs.«01_k».proof.Proof.FoxWhole
public import Idealize.ShloMosaic.Lib.KernelVsHost
public import Idealize.ShloMosaic.Lib.WordCmp

/-!
# What the reference's attention computes

The reference's lines are cut into the logits, the weights and the rows, each read at an entry as the numbers of
`FoxWhole`.
-/

@[expose] public section

set_option maxRecDepth 16384
set_option maxHeartbeats 1000000

noncomputable section

open Idealize.ShloMosaic Idealize.ShloMosaic.TcCoe Idealize.SL.Sem

namespace Cert.FoxR

open Cert.ReferenceFoxIdeal Cert.ReferenceFoxIdeal.Value Cert.Fox

/-- The keys in reach of each query. -/
def reach : IVec S8320x8320 1 :=
  andi (cmpi .sle (broadcastInDim S8320x8320 ![0, 1] Gen.bcast_S1x8320_S8320x8320_0_1 (broadcastInDim S1x8320 ![1] Gen.bcast_S8320_S1x8320_1 (iotaInDim S8320 32 0)))
      (broadcastInDim S8320x8320 ![0, 1] Gen.bcast_S8320x1_S8320x8320_0_1 (broadcastInDim S8320x1 ![0] Gen.bcast_S8320_S8320x1_0 (iotaInDim S8320 32 0))))
    (ori (broadcastInDim S8320x8320 ![0, 1] Gen.bcast_S1x8320_S8320x8320_0_1 (cmpi .sge (broadcastInDim S1x8320 ![1] Gen.bcast_S8320_S1x8320_1 (iotaInDim S8320 32 0))
        (broadcastInDim S1x8320 ![] Gen.bcast_S_S1x8320 (constantI S_ 32 112#32))))
      (cmpi .eq (broadcastInDim S8320x8320 ![0, 1] Gen.bcast_S1x8320_S8320x8320_0_1 (broadcastInDim S1x8320 ![1] Gen.bcast_S8320_S1x8320_1 (iotaInDim S8320 32 0)))
        (broadcastInDim S8320x8320 ![0, 1] Gen.bcast_S8320x1_S8320x8320_0_1 (broadcastInDim S8320x1 ![0] Gen.bcast_S8320_S8320x1_0 (iotaInDim S8320 32 0)))))

/-- A thousand columns of the projections, by head. -/
def cut2 (P : FVec Ideal S2x8320x6272 .bf16) : FVec Ideal S2x8320x8x128 .bf16 :=
  shapeCast _ (extractStridedSlice S2x8320x1024 ![0, 0, 2048] P Gen.slices_S2x8320x6272_S2x8320x1024_0_0_2048) Gen.shapeCasts_S2x8320x1024_S2x8320x8x128
def cut3 (P : FVec Ideal S2x8320x6272 .bf16) : FVec Ideal S2x8320x8x128 .bf16 :=
  shapeCast _ (extractStridedSlice S2x8320x1024 ![0, 0, 3072] P Gen.slices_S2x8320x6272_S2x8320x1024_0_0_3072) Gen.shapeCasts_S2x8320x1024_S2x8320x8x128
def cut4 (P : FVec Ideal S2x8320x6272 .bf16) : FVec Ideal S2x8320x8x128 .bf16 :=
  shapeCast _ (extractStridedSlice S2x8320x1024 ![0, 0, 4096] P Gen.slices_S2x8320x6272_S2x8320x1024_0_0_4096) Gen.shapeCasts_S2x8320x1024_S2x8320x8x128
def byHead (Q : FVec Ideal S2x8320x1024 .bf16) : FVec Ideal S2x8320x8x128 .bf16 :=
  shapeCast _ Q Gen.shapeCasts_S2x8320x1024_S2x8320x8x128

/-- Every pair's product. -/
def pairs (x y : FVec Ideal S2x8320x8x128 .bf16) : FVec Ideal S2x8x8320x8320 .f32 :=
  Host.dotGeneral dot_S2x8320x8x128_S2x8320x8x128_S2x8x8320x8320_3_3_1_1_02_02 none x y

/-- The logits. -/
def logits (P : FVec Ideal S2x8320x6272 .bf16) (Q K : FVec Ideal S2x8320x1024 .bf16) : FVec Ideal S2x8x8320x8320 .f32 :=
  select (broadcastInDim S2x8x8320x8320 ![2, 3] Gen.bcast_S8320x8320_S2x8x8320x8320_2_3 reach)
    (addf (pairs (cut2 P) (cut3 P)) (pairs (byHead Q) (byHead K)))
    (broadcastInDim S2x8x8320x8320 ![] Gen.bcast_S_S2x8x8320x8320 (id (constant S_ .f32 0xFF800000#32)))

/-- Each row's greatest logit. -/
def greatest (x : FVec Ideal S2x8x8320x8320 .f32) : FVec Ideal S2x8x8320 .f32 :=
  Host.reduce FloatOps.maximumf x (constant S_ .f32 0xFF800000#32) Gen.reducesTo_S2x8x8320x8320_S2x8x8320_d3 Gen.h_S_

/-- The weights. -/
def weightArr (x : FVec Ideal S2x8x8320x8320 .f32) : FVec Ideal S2x8x8320x8320 .f32 :=
  Host.exp (mulf (subf x (broadcastInDim S2x8x8320x8320 ![0, 1, 2, 3] Gen.bcast_S2x8x8320x1_S2x8x8320x8320_0_1_2_3
      (broadcastInDim S2x8x8320x1 ![0, 1, 2] Gen.bcast_S2x8x8320_S2x8x8320x1_0_1_2 (greatest x))))
    (broadcastInDim S2x8x8320x8320 ![] Gen.bcast_S_S2x8x8320x8320 (Host.log (constant S_ .f32 0x40000000#32))))

/-- Each row's sum of weights. -/
def total (w : FVec Ideal S2x8x8320x8320 .f32) : FVec Ideal S2x8x8320 .f32 :=
  Host.reduceAdd w (constant S_ .f32 0x00000000#32) Gen.reducesTo_S2x8x8320x8320_S2x8x8320_d3 Gen.h_S_

/-- The weights' products with the values. -/
def mixed (w : FVec Ideal S2x8x8320x8320 .f32) (v : FVec Ideal S2x8320x8x128 .bf16) : FVec Ideal S2x8x8320x128 .f32 :=
  Host.dotGeneral dot_S2x8x8320x8320_S2x8320x8x128_S2x8x8320x128_3_1_2_3_01_02 none (truncf .bf16 w Gen.bitsLt_bf16_f32) v

/-- The rows. -/
def rowArr (w : FVec Ideal S2x8x8320x8320 .f32) (v : FVec Ideal S2x8320x8x128 .bf16) : FVec Ideal S2x8320x1024 .bf16 :=
  shapeCast _ (transpose S2x8320x8x128 [0, 2, 1, 3] (truncf .bf16 (mulf (mixed w v)
    (broadcastInDim S2x8x8320x128 ![0, 1, 2, 3] Gen.bcast_S2x8x8320x1_S2x8x8320x128_0_1_2_3
      (Host.divf (broadcastInDim S2x8x8320x1 ![] Gen.bcast_S_S2x8x8320x1 (constant S_ .f32 0x3F800000#32))
        (broadcastInDim S2x8x8320x1 ![0, 1, 2] Gen.bcast_S2x8x8320_S2x8x8320x1_0_1_2 (total w)))))
    Gen.bitsLt_bf16_f32) Gen.transposes_S2x8x8320x128_S2x8320x8x128_0_2_1_3) Gen.shapeCasts_S2x8320x8x128_S2x8320x1024

theorem result_eq (m : (ℓ : Loc nD τ sig) → Buf (Elt Ideal) ℓ) (c : Dev nD) :
    (res_main_v44 (F := Ideal) m c : FVec Ideal S2x8320x1024 .bf16) =
      rowArr (weightArr (logits (m (c.tc.loc main_arg0)) (m (c.tc.loc main_arg1)) (m (c.tc.loc main_arg2)))) (cut4 (m (c.tc.loc main_arg0))) := by
  unfold res_main_v44
  rfl

theorem cut2_at (P : FVec Ideal S2x8320x6272 .bf16) (b : Fin 2) (s : Fin 8320) (h : Fin 8) (d : Fin 128) :
    (cut2 P (ix4 b s h d) : EReal) = part P 2048 (by omega) b h s d := by
  pointwise [cut2, part]

theorem byHead_at (P : FVec Ideal S2x8320x1024 .bf16) (b : Fin 2) (s : Fin 8320) (h : Fin 8) (d : Fin 128) :
    (byHead P (ix4 b s h d) : EReal) = biasAt P b h s d := by
  pointwise [byHead, biasAt]

theorem pairs_at (x y : FVec Ideal S2x8320x8x128 .bf16) (b : Fin 2) (h : Fin 8) (t s : Fin 8320) :
    (pairs x y (ix4 b h t s) : EReal) = ∑ d : Fin 128, (x (ix4 b t h d) : EReal) * y (ix4 b s h d) := by
  pointwise [pairs]

theorem mixed_at (w : FVec Ideal S2x8x8320x8320 .f32) (v : FVec Ideal S2x8320x8x128 .bf16) (b : Fin 2) (h : Fin 8) (t : Fin 8320) (d : Fin 128) :
    (mixed w v (ix4 b h t d) : EReal) = ∑ s : Fin 8320, (w (ix4 b h t s) : EReal) * v (ix4 b s h d) := by
  pointwise [mixed]

theorem total_at (w : FVec Ideal S2x8x8320x8320 .f32) (b : Fin 2) (h : Fin 8) (t : Fin 8320) :
    (total w (ix3 b h t) : EReal) = ∑ s : Fin 8320, (w (ix4 b h t s) : EReal) := by
  pointwise [total]

theorem rowArr_at (w : FVec Ideal S2x8x8320x8320 .f32) (v : FVec Ideal S2x8320x8x128 .bf16) (b : Fin 2) (t : Fin 8320) (j : Fin 1024) :
    (rowArr w v (ix3 b t j) : EReal) = mixed w v (ix4 b ⟨j.val / 128, by omega⟩ t ⟨j.val % 128, by omega⟩)
      * Ideal.div (Ideal.ofBits .f32 0x3F800000#32) (total w (ix3 b ⟨j.val / 128, by omega⟩ t)) := by
  pointwise [rowArr]

theorem weightArr_at (x : FVec Ideal S2x8x8320x8320 .f32) (b : Fin 2) (h : Fin 8) (t s : Fin 8320) :
    (weightArr x (ix4 b h t s) : EReal) = Ideal.exp ((x (ix4 b h t s) - greatest x (ix3 b h t)) * Ideal.log (Ideal.ofBits .f32 0x40000000#32)) := by
  pointwise [weightArr]

theorem cut3_at (P : FVec Ideal S2x8320x6272 .bf16) (b : Fin 2) (s : Fin 8320) (h : Fin 8) (d : Fin 128) :
    (cut3 P (ix4 b s h d) : EReal) = part P 3072 (by omega) b h s d := by
  pointwise [cut3, part]

theorem cut4_at (P : FVec Ideal S2x8320x6272 .bf16) (b : Fin 2) (s : Fin 8320) (h : Fin 8) (d : Fin 128) :
    (cut4 P (ix4 b s h d) : EReal) = part P 4096 (by omega) b h s d := by
  pointwise [cut4, part]

theorem reduces_top : S2x8x8320x8320.Reduces [3] S2x8x8320 := by decide

theorem lift_top (b : Fin 2) (h : Fin 8) (t s : Fin 8320) : reduces_top.lift (ix3 b h t) s = ix4 b h t s := by
  funext a; fin_cases a <;> rfl

theorem low_word : Ideal.ofBits .f32 0xFF800000#32 = (⊥ : EReal) := by
  show Ideal.ieee 8 23 (0xFF800000#32) = ⊥
  unfold Ideal.ieee
  rw [if_pos (by decide), if_pos (by decide), if_pos (by decide)]

theorem greatest_at (x : FVec Ideal S2x8x8320x8320 .f32) (b : Fin 2) (h : Fin 8) (t : Fin 8320) :
    (greatest x (ix3 b h t) : EReal) = Finset.univ.sup fun s : Fin 8320 => (x (ix4 b h t s) : EReal) := by
  unfold greatest
  refine (congrFun (hostReduce_maximumf_eq_multiReduction x _ _ _ reduces_top (.inl rfl) rfl) _).trans ?_
  refine (Ideal.multiReduction_maximumf_single _ _ reduces_top _ _ _).trans ?_
  show Finset.fold max (Ideal.ofBits .f32 0xFF800000#32) _ _ = Finset.fold max ⊥ _ _
  rw [low_word]
  exact Finset.fold_congr fun s _ => congrArg _ (lift_top b h t s)

theorem bits_three (p q r : Prop) [Decidable p] [Decidable q] [Decidable r] :
    IntOp.andi (BitVec.ofBool (decide p)) (IntOp.ori (BitVec.ofBool (decide q)) (BitVec.ofBool (decide r))) = if p ∧ (q ∨ r) then 1#1 else 0#1 := by
  by_cases h1 : p <;> by_cases h2 : q <;> by_cases h3 : r <;> simp [IntOp.andi, IntOp.ori, h1, h2, h3]

theorem reach_at (t s : Fin 8320) : reach (ix2 t s) = (if s.val ≤ t.val ∧ (112 ≤ s.val ∨ s.val = t.val) then 1#1 else 0#1) := by
  pointwise [reach]
  rw [WordCmp.cmpi_sge_ofNat (by omega) (by decide), WordCmp.cmpi_sle_ofNat (by omega) (by omega), WordCmp.cmpi_eq_ofNat (by omega) (by omega)]
  exact bits_three _ _ _

/-- The logits are the scores. -/
theorem logits_at (P : FVec Ideal S2x8320x6272 .bf16) (Q K : FVec Ideal S2x8320x1024 .bf16) (b : Fin 2) (h : Fin 8) (t s : Fin 8320) :
    (logits P Q K (ix4 b h t s) : EReal) = score P Q K b h t s.val := by
  have e : logits P Q K (ix4 b h t s) = Scalar.select (reach (ix2 t s)) (pairs (cut2 P) (cut3 P) (ix4 b h t s) + pairs (byHead Q) (byHead K) (ix4 b h t s) : EReal)
      (Ideal.ofBits .f32 0xFF800000#32) := by
    pointwise [logits]
    rfl
  rw [e, reach_at, low_word, score, dif_pos s.isLt, product, pairs_at, pairs_at]
  have e1 : ∀ d : Fin 128, (cut2 P (ix4 b t h d) : EReal) * cut3 P (ix4 b s h d) = part P 2048 (by omega) b h t d * part P 3072 (by omega) b h s d := fun d =>
    congrArg₂ (fun x y : EReal => x * y) (cut2_at P b t h d) (cut3_at P b s h d)
  have e2 : ∀ d : Fin 128, (byHead Q (ix4 b t h d) : EReal) * byHead K (ix4 b s h d) = biasAt Q b h t d * biasAt K b h s d := fun d =>
    congrArg₂ (fun x y : EReal => x * y) (byHead_at Q b t h d) (byHead_at K b s h d)
  rw [Finset.sum_congr rfl fun d _ => e1 d, Finset.sum_congr rfl fun d _ => e2 d]
  by_cases hm : s.val ≤ t.val ∧ (112 ≤ s.val ∨ s.val = t.val)
  · rw [if_pos hm, if_pos hm]; rfl
  · rw [if_neg hm, if_neg hm]; rfl

theorem two_word : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]
    norm_num
  rw [e, Ideal.log_coe, if_neg (by norm_num)]

/-- The greatest score of a row. -/
theorem top_at (P : FVec Ideal S2x8320x6272 .bf16) (Q K : FVec Ideal S2x8320x1024 .bf16) (b : Fin 2) (h : Fin 8) (t : Fin 8320) :
    (greatest (logits P Q K) (ix3 b h t) : EReal) = (Finset.range 8320).sup (score P Q K b h t) := by
  refine (greatest_at _ b h t).trans ?_
  refine le_antisymm (Finset.sup_le fun s _ => ?_) (Finset.sup_le fun s hs => ?_)
  · exact (logits_at P Q K b h t s).le.trans (Finset.le_sup (f := score P Q K b h t) (Finset.mem_range.mpr s.isLt))
  · exact (logits_at P Q K b h t ⟨s, Finset.mem_range.mp hs⟩).ge.trans
      (Finset.le_sup (f := fun s : Fin 8320 => (logits P Q K (ix4 b h t s) : EReal)) (Finset.mem_univ _))

/-- The weights are powers of two. -/
theorem weight_at (P : FVec Ideal S2x8320x6272 .bf16) (Q K : FVec Ideal S2x8320x1024 .bf16) (b : Fin 2) (h : Fin 8) (t s : Fin 8320) :
    (weightArr (logits P Q K) (ix4 b h t s) : EReal) = wt ((Finset.range 8320).sup (score P Q K b h t)) (score P Q K b h t s.val) := by
  rw [weightArr_at, two_word, exp_log_two, top_at, logits_at]
  rfl

/-- The reference's result. -/
theorem result_at (P : FVec Ideal S2x8320x6272 .bf16) (Q K : FVec Ideal S2x8320x1024 .bf16) (b : Fin 2) (t : Fin 8320) (j : Fin 1024) :
    (rowArr (weightArr (logits P Q K)) (cut4 P) (ix3 b t j) : EReal)
      = attention P Q K b t ⟨j.val / 128, by omega⟩ ⟨j.val % 128, by omega⟩ := by
  rw [rowArr_at, mixed_at, total_at, attention, attend, Finset.sum_range, Finset.sum_range]
  refine congrArg₂ (fun x y : EReal => x * Ideal.div (Ideal.ofBits .f32 0x3F800000#32) y) (Finset.sum_congr rfl fun s _ => ?_) (Finset.sum_congr rfl fun s _ => weight_at P Q K b _ t s)
  refine congrArg₂ (fun x y : EReal => x * y) (weight_at P Q K b _ t s) ((cut4_at P b s _ _).trans ?_)
  rw [valueAt, dif_pos s.isLt]

end Cert.FoxR

end
-- ==== Proof.FoxClaims.lean ====
module

public import proofs.«01_k».proof.Defs
public import proofs.«01_k».proof.Proof.FoxArray
public import proofs.«01_k».proof.Proof.FoxReference
public import Idealize.ShloMosaic.Lib.Claim

/-!
# The forgetting attention: kernel and reference agree

Over the extended reals, with the kernel's mask read as −∞, the kernel's result array and the reference's are the same
numbers.
-/

@[expose] public section

set_option maxRecDepth 16384

noncomputable section

open Idealize.ShloMosaic Idealize.ShloMosaic.TcCoe Idealize.SL.Sem

namespace Cert.FoxClaims

open Cert.Fox

theorem results_agree
    (m : (ℓ : Loc Cert.KernelFoxIdeal.nD Cert.KernelFoxIdeal.τ Cert.KernelFoxIdeal.sig) → Buf (Elt Ideal) ℓ) (c : Dev Cert.KernelFoxIdeal.nD)
    (m' : (ℓ : Loc Cert.ReferenceFoxIdeal.nD Cert.ReferenceFoxIdeal.τ Cert.ReferenceFoxIdeal.sig) → Buf (Elt Ideal) ℓ) (c' : Dev Cert.ReferenceFoxIdeal.nD)
    (h0 : (m' (c'.tc.loc Cert.ReferenceFoxIdeal.main_arg0) : FVec Ideal Cert.KernelFoxIdeal.S2x8320x6272 .bf16) = argP m c)
    (h1 : (m' (c'.tc.loc Cert.ReferenceFoxIdeal.main_arg1) : FVec Ideal Cert.KernelFoxIdeal.S2x8320x1024 .bf16) = argQ m c)
    (h2 : (m' (c'.tc.loc Cert.ReferenceFoxIdeal.main_arg2) : FVec Ideal Cert.KernelFoxIdeal.S2x8320x1024 .bf16) = argK m c) :
    (Cert.ReferenceFoxIdeal.Value.res_main_v44 (F := Ideal) m' c' : FVec Ideal Cert.KernelFoxIdeal.S2x8320x1024 .bf16) = out m c := by
  funext i
  rw [eq_ix3 i]
  refine Eq.trans ?_ (out_at m c (i 0) (i 1) (i 2)).symm
  rw [Cert.FoxR.result_eq m' c']
  refine (Cert.FoxR.result_at _ _ _ (i 0) (i 1) (i 2)).trans ?_
  rw [← h0, ← h1, ← h2]

theorem algebraic : Cert.algebraic_KernelFoxIdeal_ReferenceFoxIdeal := by
  intro m ρ m' ρ' _ hagree
  refine ⟨fun c => out m c,
    (θ_run Cert.KernelFoxIdeal.defs _ _).mono (fun _ h c => ⟨(h.2.1 c).1 5, h.1.1 c⟩)
      (θ_run_and (Cert.KernelFoxIdeal.Gen.frame m ρ) (Cert.KernelFoxIdeal.Gen.run_main_quiescent m ρ)), ?_⟩
  refine (θ_run Cert.ReferenceFoxIdeal.defs _ _).mono (fun _ h c => ⟨(h c).1.trans ?_, (h c).2⟩) (Cert.ReferenceFoxIdeal.Value.run (F := Ideal) m' ρ')
  obtain ⟨h0, h1, h2⟩ := hagree c
  exact results_agree m c m' c h0 h1 h2

theorem preserves : Cert.preserves_KernelFox_KernelFoxIdeal :=
  IdealRules.named_const.statement Cert.KernelFoxIdeal.κ "mask" .f32 0xF149F2CA#32 ⊥ rfl

end Cert.FoxClaims

end
-- ==== Proof.lean ====
module

public import proofs.«01_k».proof.Defs
public import proofs.«01_k».proof.Proof.DsaLaunch
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.KernelHalf.Frame
public import proofs.«01_k».proof.Proof.Gen.KernelHalfIdeal.Value
public import proofs.«01_k».proof.Proof.Gen.ReferenceHalfIdeal.Run
public import proofs.«01_k».proof.Proof.Gen.KernelMerge.Frame
public import proofs.«01_k».proof.Proof.Gen.KernelMergeIdeal.Value
public import proofs.«01_k».proof.Proof.Gen.ReferenceMergeIdeal.Run
public import proofs.«01_k».proof.Proof.Gen.KernelRes.Frame
public import proofs.«01_k».proof.Proof.Gen.KernelResIdeal.Value
public import proofs.«01_k».proof.Proof.Gen.ReferenceResIdeal.Run
public import proofs.«01_k».proof.Proof.ProjLaunchBits
public import proofs.«01_k».proof.Proof.Gen.KernelProj.Frame
public import proofs.«01_k».proof.Proof.Gen.KernelProj.Launch
public import proofs.«01_k».proof.Proof.Gen.KernelProj.Points
public import proofs.«01_k».proof.Proof.Gen.KernelProj.Skeleton
public import proofs.«01_k».proof.Proof.Gen.KernelProjIdeal.Frame
public import proofs.«01_k».proof.Proof.Gen.KernelProjIdeal.Launch
public import proofs.«01_k».proof.Proof.Gen.KernelProjIdeal.Points
public import proofs.«01_k».proof.Proof.Gen.KernelProjIdeal.Skeleton
public import proofs.«01_k».proof.Proof.Gen.ReferenceProjIdeal.Run
public import proofs.«01_k».proof.Proof.Gen.KernelFox.Frame
public import proofs.«01_k».proof.Proof.Gen.KernelFox.Launch
public import proofs.«01_k».proof.Proof.Gen.KernelFox.Points
public import proofs.«01_k».proof.Proof.Gen.KernelFox.Skeleton
public import proofs.«01_k».proof.Proof.Gen.KernelFoxIdeal.Frame
public import proofs.«01_k».proof.Proof.Gen.KernelFoxIdeal.Launch
public import proofs.«01_k».proof.Proof.Gen.KernelFoxIdeal.Points
public import proofs.«01_k».proof.Proof.Gen.KernelFoxIdeal.Skeleton
public import proofs.«01_k».proof.Proof.Gen.ReferenceFoxIdeal.Run
public import proofs.«01_k».proof.Proof.FfnClaims
public import proofs.«01_k».proof.Proof.HalfClaims
public import proofs.«01_k».proof.Proof.MergeClaims
public import proofs.«01_k».proof.Proof.ResClaims
public import proofs.«01_k».proof.Proof.ProjClaims
public import proofs.«01_k».proof.Proof.FoxClaims
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The sparse-attention call ends at rest with its argument arrays as they were. Window 3 is the array of the fused
    projections (windows 0 and 1 are further views of it), window 2 the small projections, windows 4 and 5 the latent
    keys and their transpose, 6 and 7 the two latent weights, 8 the relative bias. -/
theorem frame_kernel : Cert.quiescent_Kernel := fun m ρ _ =>
  (θ_run Cert.Kernel.defs _ _).mono
    (fun _ h => ⟨fun c => ⟨h.1.arr_in c 3 rfl, h.1.arr_in c 2 rfl, h.1.arr_in c 4 rfl, h.1.arr_in c 5 rfl,
      h.1.arr_in c 6 rfl, h.1.arr_in c 7 rfl, h.1.arr_in c 8 rfl⟩, h.2⟩)
    (Cert.Dsa.run_main (F := Bits) m ρ)

/-! ## The last feed-forward half step: kernel and reference end at rest -/

theorem frame_kernelFfn : Cert.quiescent_KernelFfn := fun m ρ _ => Cert.KernelFfn.Gen.frame m ρ
theorem frame_kernelFfnIdeal : Cert.quiescent_KernelFfnIdeal := fun m ρ _ => Cert.KernelFfnIdeal.Gen.frame m ρ
theorem frame_referenceFfnIdeal : Cert.quiescent_ReferenceFfnIdeal := fun m ρ _ =>
  (θ_run Cert.ReferenceFfnIdeal.defs _ _).mono
    (fun r h => ⟨fun c => (h c).2, Idealize.ShloMosaic.sem_eq_zero_of_no_sems (by decide) r.2⟩)
    (Cert.ReferenceFfnIdeal.Value.run (F := Ideal) m ρ)

/-! ## The first feed-forward half step: kernel and reference end at rest -/

theorem frame_kernelHalf : Cert.quiescent_KernelHalf := fun m ρ _ => Cert.KernelHalf.Gen.frame m ρ
theorem frame_kernelHalfIdeal : Cert.quiescent_KernelHalfIdeal := fun m ρ _ => Cert.KernelHalfIdeal.Gen.frame m ρ
theorem frame_referenceHalfIdeal : Cert.quiescent_ReferenceHalfIdeal := fun m ρ _ =>
  (θ_run Cert.ReferenceHalfIdeal.defs _ _).mono
    (fun r h => ⟨fun c => (h c).2, Idealize.ShloMosaic.sem_eq_zero_of_no_sems (by decide) r.2⟩)
    (Cert.ReferenceHalfIdeal.Value.run (F := Ideal) m ρ)

/-! ## The mix of the three branches: kernel and reference end at rest -/

theorem frame_kernelMerge : Cert.quiescent_KernelMerge := fun m ρ _ => Cert.KernelMerge.Gen.frame m ρ
theorem frame_kernelMergeIdeal : Cert.quiescent_KernelMergeIdeal := fun m ρ _ => Cert.KernelMergeIdeal.Gen.frame m ρ
theorem frame_referenceMergeIdeal : Cert.quiescent_ReferenceMergeIdeal := fun m ρ _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m ρ)

/-! ## The output projection: kernel and reference end at rest -/

theorem frame_kernelRes : Cert.quiescent_KernelRes := fun m ρ _ => Cert.KernelRes.Gen.frame m ρ
theorem frame_kernelResIdeal : Cert.quiescent_KernelResIdeal := fun m ρ _ => Cert.KernelResIdeal.Gen.frame m ρ
theorem frame_referenceResIdeal : Cert.quiescent_ReferenceResIdeal := fun m ρ _ =>
  (θ_run Cert.ReferenceResIdeal.defs _ _).mono
    (fun r h => ⟨fun c => (h c).2, Idealize.ShloMosaic.sem_eq_zero_of_no_sems (by decide) r.2⟩)
    (Cert.ReferenceResIdeal.Value.run (F := Ideal) m ρ)

/-! ## The input projections: kernel and reference end at rest -/

theorem frame_kernelProj : Cert.quiescent_KernelProj := fun m ρ _ =>
  θ_run_and (Cert.ProjB.args_kept (F := Bits) m ρ) ((θ_run Cert.KernelProj.defs _ _).mono (fun _ h => h.2) (Cert.ProjB.run_quiet (F := Bits) m ρ))
theorem frame_kernelProjIdeal : Cert.quiescent_KernelProjIdeal := fun m ρ _ =>
  θ_run_and (Cert.ProjK.args_kept (F := Ideal) m ρ) ((θ_run Cert.KernelProjIdeal.defs _ _).mono (fun _ h => h.2) (Cert.ProjK.run_quiet (F := Ideal) m ρ))
theorem frame_referenceProjIdeal : Cert.quiescent_ReferenceProjIdeal := fun m ρ _ =>
  (θ_run Cert.ReferenceProjIdeal.defs _ _).mono
    (fun r h => ⟨fun c => (h c).2.2.2, Idealize.ShloMosaic.sem_eq_zero_of_no_sems (by decide) r.2⟩)
    (Cert.ReferenceProjIdeal.Value.run (F := Ideal) m ρ)

/-! ## The forgetting attention: kernel and reference end at rest -/

theorem frame_kernelFox : Cert.quiescent_KernelFox := fun m ρ _ => Cert.KernelFox.Gen.frame m ρ
theorem frame_kernelFoxIdeal : Cert.quiescent_KernelFoxIdeal := fun m ρ _ => Cert.KernelFoxIdeal.Gen.frame m ρ
theorem frame_referenceFoxIdeal : Cert.quiescent_ReferenceFoxIdeal := fun m ρ _ =>
  (θ_run Cert.ReferenceFoxIdeal.defs _ _).mono
    (fun r h => ⟨fun c => (h c).2, Idealize.ShloMosaic.sem_eq_zero_of_no_sems (by decide) r.2⟩)
    (Cert.ReferenceFoxIdeal.Value.run (F := Ideal) m ρ)

theorem claim : Cert.Claim :=
  ⟨Cert.Kernel.Gen.facts, Cert.KernelFfn.Gen.facts, Cert.KernelFfnIdeal.Gen.facts,
    Cert.ReferenceFfnIdeal.Gen.facts, Cert.KernelHalf.Gen.facts, Cert.KernelHalfIdeal.Gen.facts,
    Cert.ReferenceHalfIdeal.Gen.facts, Cert.KernelMerge.Gen.facts, Cert.KernelMergeIdeal.Gen.facts,
    Cert.ReferenceMergeIdeal.Gen.facts, Cert.KernelRes.Gen.facts, Cert.KernelResIdeal.Gen.facts,
    Cert.ReferenceResIdeal.Gen.facts, Cert.KernelProj.Gen.facts, Cert.KernelProjIdeal.Gen.facts,
    Cert.ReferenceProjIdeal.Gen.facts, Cert.KernelFox.Gen.facts, Cert.KernelFoxIdeal.Gen.facts,
    Cert.ReferenceFoxIdeal.Gen.facts,
    frame_kernel, frame_kernelFfn, frame_kernelFfnIdeal, frame_referenceFfnIdeal, frame_kernelHalf,
    frame_kernelHalfIdeal, frame_referenceHalfIdeal, frame_kernelMerge, frame_kernelMergeIdeal,
    frame_referenceMergeIdeal, frame_kernelRes, frame_kernelResIdeal, frame_referenceResIdeal, frame_kernelProj,
    frame_kernelProjIdeal, frame_referenceProjIdeal, frame_kernelFox, frame_kernelFoxIdeal, frame_referenceFoxIdeal,
    trivial, Cert.FfnClaims.algebraic, trivial, Cert.HalfClaims.algebraic, trivial, Cert.MergeClaims.algebraic,
    trivial, Cert.ResClaims.algebraic, trivial, Cert.ProjClaims.algebraic,
    Cert.FoxClaims.preserves, Cert.FoxClaims.algebraic⟩

end Cert.Proof
